-- ==== Defs.lean ====
def Pre_Kernel (m : (ℓ : Loc Cert.Kernel.nD Cert.Kernel.τ Cert.Kernel.sig) → Buf (Elt Bits) ℓ) : Prop :=
  True

def Pre_Kernel_real_step [hPre_real_step : Cert.Pre_real_step.Facts] (m : (ℓ : Loc Cert.Kernel.nD Cert.Kernel.τ Cert.Kernel.sig) → Buf (Elt Bits) ℓ) : Prop :=
  ∀ c : Dev Cert.Kernel.nD,
    (Cert.Pre_real_step.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal (m : (ℓ : Loc Cert.KernelIdeal.nD Cert.KernelIdeal.τ Cert.KernelIdeal.sig) → Buf (Elt Ideal) ℓ) : Prop :=
  True

def Pre_KernelIdeal_real_step [hPre_real_step : Cert.Pre_real_step.Facts] (m : (ℓ : Loc Cert.KernelIdeal.nD Cert.KernelIdeal.τ Cert.KernelIdeal.sig) → Buf (Elt Ideal) ℓ) : Prop :=
  ∀ c : Dev Cert.KernelIdeal.nD,
    (Cert.Pre_real_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_step [hPre_real_step : Cert.Pre_real_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_device_index : Cert.Pre_device_index.Facts] (m : (ℓ : Loc Cert.Kernel12.nD Cert.Kernel12.τ Cert.Kernel12.sig) → Buf (Elt Bits) ℓ) : Prop :=
  ∀ c : Dev Cert.Kernel12.nD,
    (Cert.Pre_device_index.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3))) = (fun _ => 1#1)

def Pre_Kernel12Ideal [hPre_device_index : Cert.Pre_device_index.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_device_index.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_device_index [hPre_device_index : Cert.Pre_device_index.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_device_index.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 [hPre_device_index_square : Cert.Pre_device_index_square.Facts] (m : (ℓ : Loc Cert.Kernel13.nD Cert.Kernel13.τ Cert.Kernel13.sig) → Buf (Elt Bits) ℓ) : Prop :=
  ∀ c : Dev Cert.Kernel13.nD,
    (Cert.Pre_device_index_square.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3))) = (fun _ => 1#1)

def Pre_Kernel13Ideal [hPre_device_index_square : Cert.Pre_device_index_square.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_device_index_square.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_device_index_square [hPre_device_index_square : Cert.Pre_device_index_square.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_device_index_square.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 [hPre_device_index_ffn : Cert.Pre_device_index_ffn.Facts] (m : (ℓ : Loc Cert.Kernel14.nD Cert.Kernel14.τ Cert.Kernel14.sig) → Buf (Elt Bits) ℓ) : Prop :=
  ∀ c : Dev Cert.Kernel14.nD,
    (Cert.Pre_device_index_ffn.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3))) = (fun _ => 1#1)

def Pre_Kernel14Ideal [hPre_device_index_ffn : Cert.Pre_device_index_ffn.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_device_index_ffn.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_device_index_ffn [hPre_device_index_ffn : Cert.Pre_device_index_ffn.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_device_index_ffn.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel_pre_real_step [hKernel : Cert.Kernel.Facts] [hPre_real_step : Cert.Pre_real_step.Facts] : Prop :=
  ∀ (m : (ℓ : Loc Cert.Kernel.nD Cert.Kernel.τ Cert.Kernel.sig) → Buf (Elt Bits) ℓ) (g : Dev Cert.Kernel.nD → PrngReg), Pre_Kernel_real_step m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_real_step [hKernelIdeal : Cert.KernelIdeal.Facts] [hPre_real_step : Cert.Pre_real_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_real_step [hReferenceIdeal : Cert.ReferenceIdeal.Facts] [hPre_real_step : Cert.Pre_real_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28))
      ∧ r.2.sem = fun _ => 0)

def quiescent_Kernel12 [hKernel12 : Cert.Kernel12.Facts] [hPre_device_index : Cert.Pre_device_index.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] [hPre_device_index : Cert.Pre_device_index.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_device_index [hReference12Ideal : Cert.Reference12Ideal.Facts] [hPre_device_index : Cert.Pre_device_index.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_device_index m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] [hPre_device_index_square : Cert.Pre_device_index_square.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] [hPre_device_index_square : Cert.Pre_device_index_square.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_device_index_square [hReference13Ideal : Cert.Reference13Ideal.Facts] [hPre_device_index_square : Cert.Pre_device_index_square.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_device_index_square m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] [hPre_device_index_ffn : Cert.Pre_device_index_ffn.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] [hPre_device_index_ffn : Cert.Pre_device_index_ffn.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_device_index_ffn [hReference14Ideal : Cert.Reference14Ideal.Facts] [hPre_device_index_ffn : Cert.Pre_device_index_ffn.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_device_index_ffn m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_real_step [hKernelIdeal : Cert.KernelIdeal.Facts] [hReferenceIdeal : Cert.ReferenceIdeal.Facts] [hPre_real_step : Cert.Pre_real_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v146) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_v15) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)) (v9 : (c : Dev Cert.Kernel11Ideal.nD) → Buf (Elt Ideal) ((c.tc : Thread Cert.Kernel11Ideal.nD Cert.Kernel11Ideal.τ).loc Cert.Kernel11Ideal.main_v0_9)) (v10 : (c : Dev Cert.Kernel11Ideal.nD) → Buf (Elt Ideal) ((c.tc : Thread Cert.Kernel11Ideal.nD Cert.Kernel11Ideal.τ).loc Cert.Kernel11Ideal.main_v0_10)) (v11 : (c : Dev Cert.Kernel11Ideal.nD) → Buf (Elt Ideal) ((c.tc : Thread Cert.Kernel11Ideal.nD Cert.Kernel11Ideal.τ).loc Cert.Kernel11Ideal.main_v0_11)) (v12 : (c : Dev Cert.Kernel11Ideal.nD) → Buf (Elt Ideal) ((c.tc : Thread Cert.Kernel11Ideal.nD Cert.Kernel11Ideal.τ).loc Cert.Kernel11Ideal.main_v0_12)) (v13 : (c : Dev Cert.Kernel11Ideal.nD) → Buf (Elt Ideal) ((c.tc : Thread Cert.Kernel11Ideal.nD Cert.Kernel11Ideal.τ).loc Cert.Kernel11Ideal.main_v0_13)) (v14 : (c : Dev Cert.Kernel11Ideal.nD) → Buf (Elt Ideal) ((c.tc : Thread Cert.Kernel11Ideal.nD Cert.Kernel11Ideal.τ).loc Cert.Kernel11Ideal.main_v0_14)) (v15 : (c : Dev Cert.Kernel11Ideal.nD) → Buf (Elt Ideal) ((c.tc : Thread Cert.Kernel11Ideal.nD Cert.Kernel11Ideal.τ).loc Cert.Kernel11Ideal.main_v0_15)) (v16 : (c : Dev Cert.Kernel11Ideal.nD) → Buf (Elt Ideal) ((c.tc : Thread Cert.Kernel11Ideal.nD Cert.Kernel11Ideal.τ).loc Cert.Kernel11Ideal.main_v0_16)) (v17 : (c : Dev Cert.Kernel11Ideal.nD) → Buf (Elt Ideal) ((c.tc : Thread Cert.Kernel11Ideal.nD Cert.Kernel11Ideal.τ).loc Cert.Kernel11Ideal.main_v0_17)) (v18 : (c : Dev Cert.Kernel11Ideal.nD) → Buf (Elt Ideal) ((c.tc : Thread Cert.Kernel11Ideal.nD Cert.Kernel11Ideal.τ).loc Cert.Kernel11Ideal.main_v0_18)) (v19 : (c : Dev Cert.Kernel11Ideal.nD) → Buf (Elt Ideal) ((c.tc : Thread Cert.Kernel11Ideal.nD Cert.Kernel11Ideal.τ).loc Cert.Kernel11Ideal.main_v0_19)) (v20 : (c : Dev Cert.Kernel11Ideal.nD) → Buf (Elt Ideal) ((c.tc : Thread Cert.Kernel11Ideal.nD Cert.Kernel11Ideal.τ).loc Cert.Kernel11Ideal.main_v0_20)) (v21 : (c : Dev Cert.Kernel11Ideal.nD) → Buf (Elt Ideal) ((c.tc : Thread Cert.Kernel11Ideal.nD Cert.Kernel11Ideal.τ).loc Cert.Kernel11Ideal.main_v0_21)) (v22 : (c : Dev Cert.Kernel11Ideal.nD) → Buf (Elt Ideal) ((c.tc : Thread Cert.Kernel11Ideal.nD Cert.Kernel11Ideal.τ).loc Cert.Kernel11Ideal.main_v0_22)) (v23 : (c : Dev Cert.Kernel11Ideal.nD) → Buf (Elt Ideal) ((c.tc : Thread Cert.Kernel11Ideal.nD Cert.Kernel11Ideal.τ).loc Cert.Kernel11Ideal.main_v0_23)) (v24 : (c : Dev Cert.Kernel11Ideal.nD) → Buf (Elt Ideal) ((c.tc : Thread Cert.Kernel11Ideal.nD Cert.Kernel11Ideal.τ).loc Cert.Kernel11Ideal.main_v0_24)) (v25 : (c : Dev Cert.Kernel11Ideal.nD) → Buf (Elt Ideal) ((c.tc : Thread Cert.Kernel11Ideal.nD Cert.Kernel11Ideal.τ).loc Cert.Kernel11Ideal.main_v0_25)) (v26 : (c : Dev Cert.Kernel11Ideal.nD) → Buf (Elt Ideal) ((c.tc : Thread Cert.Kernel11Ideal.nD Cert.Kernel11Ideal.τ).loc Cert.Kernel11Ideal.main_v0_26)) (v27 : (c : Dev Cert.Kernel11Ideal.nD) → Buf (Elt Ideal) ((c.tc : Thread Cert.Kernel11Ideal.nD Cert.Kernel11Ideal.τ).loc Cert.Kernel11Ideal.main_v0_27)) (v28 : (c : Dev Cert.Kernel11Ideal.nD) → Buf (Elt Ideal) ((c.tc : Thread Cert.Kernel11Ideal.nD Cert.Kernel11Ideal.τ).loc Cert.Kernel11Ideal.main_v0_28)) (v29 : (c : Dev Cert.Kernel11Ideal.nD) → Buf (Elt Ideal) ((c.tc : Thread Cert.Kernel11Ideal.nD Cert.Kernel11Ideal.τ).loc Cert.Kernel11Ideal.main_v0_29)) (v30 : (c : Dev Cert.Kernel11Ideal.nD) → Buf (Elt Ideal) ((c.tc : Thread Cert.Kernel11Ideal.nD Cert.Kernel11Ideal.τ).loc Cert.Kernel11Ideal.main_v0_30)) (v31 : (c : Dev Cert.Kernel11Ideal.nD) → Buf (Elt Ideal) ((c.tc : Thread Cert.Kernel11Ideal.nD Cert.Kernel11Ideal.τ).loc Cert.Kernel11Ideal.main_v0_31)) (v32 : (c : Dev Cert.Kernel11Ideal.nD) → Buf (Elt Ideal) ((c.tc : Thread Cert.Kernel11Ideal.nD Cert.Kernel11Ideal.τ).loc Cert.Kernel11Ideal.main_v0_32)) (v33 : (c : Dev Cert.Kernel11Ideal.nD) → Buf (Elt Ideal) ((c.tc : Thread Cert.Kernel11Ideal.nD Cert.Kernel11Ideal.τ).loc Cert.Kernel11Ideal.main_v0_33)) (v34 : (c : Dev Cert.Kernel11Ideal.nD) → Buf (Elt Ideal) ((c.tc : Thread Cert.Kernel11Ideal.nD Cert.Kernel11Ideal.τ).loc Cert.Kernel11Ideal.main_v0_34)) (v35 : (c : Dev Cert.Kernel11Ideal.nD) → Buf (Elt Ideal) ((c.tc : Thread Cert.Kernel11Ideal.nD Cert.Kernel11Ideal.τ).loc Cert.Kernel11Ideal.main_v0_35)) (v36 : (c : Dev Cert.Kernel11Ideal.nD) → Buf (Elt Ideal) ((c.tc : Thread Cert.Kernel11Ideal.nD Cert.Kernel11Ideal.τ).loc Cert.Kernel11Ideal.main_v0_36)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_v0_9) = v9 c
          ∧ r.2.mem ((c.tc : Thread Cert.Kernel11Ideal.nD Cert.Kernel11Ideal.τ).loc Cert.Kernel11Ideal.main_v0_10) = v10 c
          ∧ r.2.mem ((c.tc : Thread Cert.Kernel11Ideal.nD Cert.Kernel11Ideal.τ).loc Cert.Kernel11Ideal.main_v0_11) = v11 c
          ∧ r.2.mem ((c.tc : Thread Cert.Kernel11Ideal.nD Cert.Kernel11Ideal.τ).loc Cert.Kernel11Ideal.main_v0_12) = v12 c
          ∧ r.2.mem ((c.tc : Thread Cert.Kernel11Ideal.nD Cert.Kernel11Ideal.τ).loc Cert.Kernel11Ideal.main_v0_13) = v13 c
          ∧ r.2.mem ((c.tc : Thread Cert.Kernel11Ideal.nD Cert.Kernel11Ideal.τ).loc Cert.Kernel11Ideal.main_v0_14) = v14 c
          ∧ r.2.mem ((c.tc : Thread Cert.Kernel11Ideal.nD Cert.Kernel11Ideal.τ).loc Cert.Kernel11Ideal.main_v0_15) = v15 c
          ∧ r.2.mem ((c.tc : Thread Cert.Kernel11Ideal.nD Cert.Kernel11Ideal.τ).loc Cert.Kernel11Ideal.main_v0_16) = v16 c
          ∧ r.2.mem ((c.tc : Thread Cert.Kernel11Ideal.nD Cert.Kernel11Ideal.τ).loc Cert.Kernel11Ideal.main_v0_17) = v17 c
          ∧ r.2.mem ((c.tc : Thread Cert.Kernel11Ideal.nD Cert.Kernel11Ideal.τ).loc Cert.Kernel11Ideal.main_v0_18) = v18 c
          ∧ r.2.mem ((c.tc : Thread Cert.Kernel11Ideal.nD Cert.Kernel11Ideal.τ).loc Cert.Kernel11Ideal.main_v0_19) = v19 c
          ∧ r.2.mem ((c.tc : Thread Cert.Kernel11Ideal.nD Cert.Kernel11Ideal.τ).loc Cert.Kernel11Ideal.main_v0_20) = v20 c
          ∧ r.2.mem ((c.tc : Thread Cert.Kernel11Ideal.nD Cert.Kernel11Ideal.τ).loc Cert.Kernel11Ideal.main_v0_21) = v21 c
          ∧ r.2.mem ((c.tc : Thread Cert.Kernel11Ideal.nD Cert.Kernel11Ideal.τ).loc Cert.Kernel11Ideal.main_v0_22) = v22 c
          ∧ r.2.mem ((c.tc : Thread Cert.Kernel11Ideal.nD Cert.Kernel11Ideal.τ).loc Cert.Kernel11Ideal.main_v0_23) = v23 c
          ∧ r.2.mem ((c.tc : Thread Cert.Kernel11Ideal.nD Cert.Kernel11Ideal.τ).loc Cert.Kernel11Ideal.main_v0_24) = v24 c
          ∧ r.2.mem ((c.tc : Thread Cert.Kernel11Ideal.nD Cert.Kernel11Ideal.τ).loc Cert.Kernel11Ideal.main_v0_25) = v25 c
          ∧ r.2.mem ((c.tc : Thread Cert.Kernel11Ideal.nD Cert.Kernel11Ideal.τ).loc Cert.Kernel11Ideal.main_v0_26) = v26 c
          ∧ r.2.mem ((c.tc : Thread Cert.Kernel11Ideal.nD Cert.Kernel11Ideal.τ).loc Cert.Kernel11Ideal.main_v0_27) = v27 c
          ∧ r.2.mem ((c.tc : Thread Cert.Kernel11Ideal.nD Cert.Kernel11Ideal.τ).loc Cert.Kernel11Ideal.main_v0_28) = v28 c
          ∧ r.2.mem ((c.tc : Thread Cert.Kernel11Ideal.nD Cert.Kernel11Ideal.τ).loc Cert.Kernel11Ideal.main_v0_29) = v29 c
          ∧ r.2.mem ((c.tc : Thread Cert.Kernel11Ideal.nD Cert.Kernel11Ideal.τ).loc Cert.Kernel11Ideal.main_v0_30) = v30 c
          ∧ r.2.mem ((c.tc : Thread Cert.Kernel11Ideal.nD Cert.Kernel11Ideal.τ).loc Cert.Kernel11Ideal.main_v0_31) = v31 c
          ∧ r.2.mem ((c.tc : Thread Cert.Kernel11Ideal.nD Cert.Kernel11Ideal.τ).loc Cert.Kernel11Ideal.main_v0_32) = v32 c
          ∧ r.2.mem ((c.tc : Thread Cert.Kernel11Ideal.nD Cert.Kernel11Ideal.τ).loc Cert.Kernel11Ideal.main_v0_33) = v33 c
          ∧ r.2.mem ((c.tc : Thread Cert.Kernel11Ideal.nD Cert.Kernel11Ideal.τ).loc Cert.Kernel11Ideal.main_v0_34) = v34 c
          ∧ r.2.mem ((c.tc : Thread Cert.Kernel11Ideal.nD Cert.Kernel11Ideal.τ).loc Cert.Kernel11Ideal.main_v0_35) = v35 c
          ∧ r.2.mem ((c.tc : Thread Cert.Kernel11Ideal.nD Cert.Kernel11Ideal.τ).loc Cert.Kernel11Ideal.main_v0_36) = v36 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v240) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_v18) = v4 c
          ∧ r.2.mem ((c.tc : Thread Cert.Reference11Ideal.nD Cert.Reference11Ideal.τ).loc Cert.Reference11Ideal.main_v19) = v5 c
          ∧ r.2.mem ((c.tc : Thread Cert.Reference11Ideal.nD Cert.Reference11Ideal.τ).loc Cert.Reference11Ideal.main_v20) = v6 c
          ∧ r.2.mem ((c.tc : Thread Cert.Reference11Ideal.nD Cert.Reference11Ideal.τ).loc Cert.Reference11Ideal.main_v21) = v7 c
          ∧ r.2.mem ((c.tc : Thread Cert.Reference11Ideal.nD Cert.Reference11Ideal.τ).loc Cert.Reference11Ideal.main_v22) = v8 c
          ∧ r.2.mem ((c.tc : Thread Cert.Reference11Ideal.nD Cert.Reference11Ideal.τ).loc Cert.Reference11Ideal.main_v23) = v9 c
          ∧ r.2.mem ((c.tc : Thread Cert.Reference11Ideal.nD Cert.Reference11Ideal.τ).loc Cert.Reference11Ideal.main_v47) = v10 c
          ∧ r.2.mem ((c.tc : Thread Cert.Reference11Ideal.nD Cert.Reference11Ideal.τ).loc Cert.Reference11Ideal.main_v71) = v11 c
          ∧ r.2.mem ((c.tc : Thread Cert.Reference11Ideal.nD Cert.Reference11Ideal.τ).loc Cert.Reference11Ideal.main_v95) = v12 c
          ∧ r.2.mem ((c.tc : Thread Cert.Reference11Ideal.nD Cert.Reference11Ideal.τ).loc Cert.Reference11Ideal.main_v119) = v13 c
          ∧ r.2.mem ((c.tc : Thread Cert.Reference11Ideal.nD Cert.Reference11Ideal.τ).loc Cert.Reference11Ideal.main_v143) = v14 c
          ∧ r.2.mem ((c.tc : Thread Cert.Reference11Ideal.nD Cert.Reference11Ideal.τ).loc Cert.Reference11Ideal.main_v167) = v15 c
          ∧ r.2.mem ((c.tc : Thread Cert.Reference11Ideal.nD Cert.Reference11Ideal.τ).loc Cert.Reference11Ideal.main_v191) = v16 c
          ∧ r.2.mem ((c.tc : Thread Cert.Reference11Ideal.nD Cert.Reference11Ideal.τ).loc Cert.Reference11Ideal.main_v215) = v17 c
          ∧ r.2.mem ((c.tc : Thread Cert.Reference11Ideal.nD Cert.Reference11Ideal.τ).loc Cert.Reference11Ideal.main_v239) = v18 c
          ∧ r.2.mem ((c.tc : Thread Cert.Reference11Ideal.nD Cert.Reference11Ideal.τ).loc Cert.Reference11Ideal.main_v28) = v19 c
          ∧ r.2.mem ((c.tc : Thread Cert.Reference11Ideal.nD Cert.Reference11Ideal.τ).loc Cert.Reference11Ideal.main_v52) = v20 c
          ∧ r.2.mem ((c.tc : Thread Cert.Reference11Ideal.nD Cert.Reference11Ideal.τ).loc Cert.Reference11Ideal.main_v76) = v21 c
          ∧ r.2.mem ((c.tc : Thread Cert.Reference11Ideal.nD Cert.Reference11Ideal.τ).loc Cert.Reference11Ideal.main_v100) = v22 c
          ∧ r.2.mem ((c.tc : Thread Cert.Reference11Ideal.nD Cert.Reference11Ideal.τ).loc Cert.Reference11Ideal.main_v124) = v23 c
          ∧ r.2.mem ((c.tc : Thread Cert.Reference11Ideal.nD Cert.Reference11Ideal.τ).loc Cert.Reference11Ideal.main_v148) = v24 c
          ∧ r.2.mem ((c.tc : Thread Cert.Reference11Ideal.nD Cert.Reference11Ideal.τ).loc Cert.Reference11Ideal.main_v172) = v25 c
          ∧ r.2.mem ((c.tc : Thread Cert.Reference11Ideal.nD Cert.Reference11Ideal.τ).loc Cert.Reference11Ideal.main_v196) = v26 c
          ∧ r.2.mem ((c.tc : Thread Cert.Reference11Ideal.nD Cert.Reference11Ideal.τ).loc Cert.Reference11Ideal.main_v220) = v27 c
          ∧ r.2.mem ((c.tc : Thread Cert.Reference11Ideal.nD Cert.Reference11Ideal.τ).loc Cert.Reference11Ideal.main_v34) = v28 c
          ∧ r.2.mem ((c.tc : Thread Cert.Reference11Ideal.nD Cert.Reference11Ideal.τ).loc Cert.Reference11Ideal.main_v58) = v29 c
          ∧ r.2.mem ((c.tc : Thread Cert.Reference11Ideal.nD Cert.Reference11Ideal.τ).loc Cert.Reference11Ideal.main_v82) = v30 c
          ∧ r.2.mem ((c.tc : Thread Cert.Reference11Ideal.nD Cert.Reference11Ideal.τ).loc Cert.Reference11Ideal.main_v106) = v31 c
          ∧ r.2.mem ((c.tc : Thread Cert.Reference11Ideal.nD Cert.Reference11Ideal.τ).loc Cert.Reference11Ideal.main_v130) = v32 c
          ∧ r.2.mem ((c.tc : Thread Cert.Reference11Ideal.nD Cert.Reference11Ideal.τ).loc Cert.Reference11Ideal.main_v154) = v33 c
          ∧ r.2.mem ((c.tc : Thread Cert.Reference11Ideal.nD Cert.Reference11Ideal.τ).loc Cert.Reference11Ideal.main_v178) = v34 c
          ∧ r.2.mem ((c.tc : Thread Cert.Reference11Ideal.nD Cert.Reference11Ideal.τ).loc Cert.Reference11Ideal.main_v202) = v35 c
          ∧ r.2.mem ((c.tc : Thread Cert.Reference11Ideal.nD Cert.Reference11Ideal.τ).loc Cert.Reference11Ideal.main_v226) = v36 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28))

def preserves_Kernel12_Kernel12Ideal : Prop :=
  True

def algebraic_Kernel12Ideal_Reference12Ideal [hKernel12Ideal : Cert.Kernel12Ideal.Facts] [hReference12Ideal : Cert.Reference12Ideal.Facts] [hPre_device_index : Cert.Pre_device_index.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v46) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] [hPre_device_index_square : Cert.Pre_device_index_square.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v46) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] [hPre_device_index_ffn : Cert.Pre_device_index_ffn.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v46) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_real_step : Cert.Pre_real_step.Facts) (hPre_device_index : Cert.Pre_device_index.Facts) (hPre_device_index_square : Cert.Pre_device_index_square.Facts) (hPre_device_index_ffn : Cert.Pre_device_index_ffn.Facts),
    quiescent_Kernel (hKernel := hKernel)
    ∧ quiescent_Kernel_pre_real_step (hKernel := hKernel) (hPre_real_step := hPre_real_step)
    ∧ quiescent_KernelIdeal (hKernelIdeal := hKernelIdeal)
    ∧ quiescent_KernelIdeal_pre_real_step (hKernelIdeal := hKernelIdeal) (hPre_real_step := hPre_real_step)
    ∧ quiescent_ReferenceIdeal (hReferenceIdeal := hReferenceIdeal)
    ∧ quiescent_ReferenceIdeal_pre_real_step (hReferenceIdeal := hReferenceIdeal) (hPre_real_step := hPre_real_step)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_device_index := hPre_device_index)
    ∧ quiescent_Kernel12Ideal (hKernel12Ideal := hKernel12Ideal) (hPre_device_index := hPre_device_index)
    ∧ quiescent_Reference12Ideal (hReference12Ideal := hReference12Ideal)
    ∧ quiescent_Reference12Ideal_pre_device_index (hReference12Ideal := hReference12Ideal) (hPre_device_index := hPre_device_index)
    ∧ quiescent_Kernel13 (hKernel13 := hKernel13) (hPre_device_index_square := hPre_device_index_square)
    ∧ quiescent_Kernel13Ideal (hKernel13Ideal := hKernel13Ideal) (hPre_device_index_square := hPre_device_index_square)
    ∧ quiescent_Reference13Ideal (hReference13Ideal := hReference13Ideal)
    ∧ quiescent_Reference13Ideal_pre_device_index_square (hReference13Ideal := hReference13Ideal) (hPre_device_index_square := hPre_device_index_square)
    ∧ quiescent_Kernel14 (hKernel14 := hKernel14) (hPre_device_index_ffn := hPre_device_index_ffn)
    ∧ quiescent_Kernel14Ideal (hKernel14Ideal := hKernel14Ideal) (hPre_device_index_ffn := hPre_device_index_ffn)
    ∧ quiescent_Reference14Ideal (hReference14Ideal := hReference14Ideal)
    ∧ quiescent_Reference14Ideal_pre_device_index_ffn (hReference14Ideal := hReference14Ideal) (hPre_device_index_ffn := hPre_device_index_ffn)
    ∧ preserves_Kernel_KernelIdeal
    ∧ algebraic_KernelIdeal_ReferenceIdeal_pre_real_step (hKernelIdeal := hKernelIdeal) (hReferenceIdeal := hReferenceIdeal) (hPre_real_step := hPre_real_step)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_device_index := hPre_device_index)
    ∧ preserves_Kernel13_Kernel13Ideal
    ∧ algebraic_Kernel13Ideal_Reference13Ideal (hKernel13Ideal := hKernel13Ideal) (hReference13Ideal := hReference13Ideal) (hPre_device_index_square := hPre_device_index_square)
    ∧ preserves_Kernel14_Kernel14Ideal
    ∧ algebraic_Kernel14Ideal_Reference14Ideal (hKernel14Ideal := hKernel14Ideal) (hReference14Ideal := hReference14Ideal) (hPre_device_index_ffn := hPre_device_index_ffn)
-- ==== Pre_device_index.lean ====
abbrev S7x352x1024 : Shape := ⟨3, ![7, 352, 1024]⟩
abbrev S2816x1024 : Shape := ⟨2, ![2816, 1024]⟩
abbrev S_ : Shape := ⟨0, ![]⟩

class Facts : Prop where

variable [Facts]

def fn {F : FTy → Type} [FloatOps F] (main_arg0 : FVec F S7x352x1024 .bf16) (main_arg1 : FVec F S2816x1024 .bf16) (main_arg2 : IVec S_ 32) (main_arg3 : IVec S_ 32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  let main_c_1 : IVec S_ 32 := constantI S_ 32 0#32
  let main_v3 : IVec S_ 1 := cmpi .sge main_arg3 main_c_1
  let main_c_2 : IVec S_ 32 := constantI S_ 32 2#32
  let main_v4 : IVec S_ 1 := cmpi .slt main_arg3 main_c_2
  let main_v5 : IVec S_ 1 := andi main_v3 main_v4
  let main_v6 : IVec S_ 1 := andi main_v2 main_v5
  main_v6
-- ==== Pre_device_index_ffn.lean ====
abbrev S7x512x1408 : Shape := ⟨3, ![7, 512, 1408]⟩
abbrev S1024x5632 : Shape := ⟨2, ![1024, 5632]⟩
abbrev S_ : Shape := ⟨0, ![]⟩

class Facts : Prop where

variable [Facts]

def fn {F : FTy → Type} [FloatOps F] (main_arg0 : FVec F S7x512x1408 .bf16) (main_arg1 : FVec F S1024x5632 .bf16) (main_arg2 : IVec S_ 32) (main_arg3 : IVec S_ 32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  let main_c_1 : IVec S_ 32 := constantI S_ 32 0#32
  let main_v3 : IVec S_ 1 := cmpi .sge main_arg3 main_c_1
  let main_c_2 : IVec S_ 32 := constantI S_ 32 2#32
  let main_v4 : IVec S_ 1 := cmpi .slt main_arg3 main_c_2
  let main_v5 : IVec S_ 1 := andi main_v3 main_v4
  let main_v6 : IVec S_ 1 := andi main_v2 main_v5
  main_v6
-- ==== Pre_device_index_square.lean ====
abbrev S7x128x1024 : Shape := ⟨3, ![7, 128, 1024]⟩
abbrev S1024x1024 : Shape := ⟨2, ![1024, 1024]⟩
abbrev S_ : Shape := ⟨0, ![]⟩

class Facts : Prop where

variable [Facts]

def fn {F : FTy → Type} [FloatOps F] (main_arg0 : FVec F S7x128x1024 .bf16) (main_arg1 : FVec F S1024x1024 .bf16) (main_arg2 : IVec S_ 32) (main_arg3 : IVec S_ 32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  let main_c_1 : IVec S_ 32 := constantI S_ 32 0#32
  let main_v3 : IVec S_ 1 := cmpi .sge main_arg3 main_c_1
  let main_c_2 : IVec S_ 32 := constantI S_ 32 2#32
  let main_v4 : IVec S_ 1 := cmpi .slt main_arg3 main_c_2
  let main_v5 : IVec S_ 1 := andi main_v3 main_v4
  let main_v6 : IVec S_ 1 := andi main_v2 main_v5
  main_v6
-- ==== Pre_real_step.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v33 : IVec S2816x1024 1) (main_c_11 : IVec S_ 1) : IVec S_ 1 :=
  let main_v34 : IVec S_ 1 := (fun x v => Host.reduce IntOp.andi x v reducesTo_S2816x1024_S_d0_1 h_S_) main_v33 main_c_11
  let main_v35 : IVec S_ 1 := andi main_v29 main_v34
  main_v35

def fn_part1 {F : FTy → Type} [FloatOps F] (main_arg4 : FVec F S1x1024 .f32) (main_arg5 : FVec F S1024x5632 .bf16) (main_arg6 : FVec F S2816x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5632 .f32 := (extf .f32 · bitsLt_bf16_f32) main_arg5
  let main_v25 : FVec F S1024x5632 .f32 := Host.absf main_v24
  let main_cst_8 : FVec F S_ .f32 := constant S_ .f32 0x7F800000#32
  let main_v26 : FVec F S1024x5632 .f32 := broadcastInDim S1024x5632 ![] bcast_S_S1024x5632 main_cst_8
  let main_v27 : IVec S1024x5632 1 := cmpf .olt main_v25 main_v26
  let main_c_9 : IVec S_ 1 := constantI S_ 1 1#1
  let main_v28 : IVec S_ 1 := (fun x v => Host.reduce IntOp.andi x v reducesTo_S1024x5632_S_d0_1 h_S_) main_v27 main_c_9
  let main_v29 : IVec S_ 1 := andi main_v23 main_v28
  let main_v30 : FVec F S2816x1024 .f32 := (extf .f32 · bitsLt_bf16_f32) main_arg6
  let main_v31 : FVec F S2816x1024 .f32 := Host.absf main_v30
  let main_cst_10 : FVec F S_ .f32 := constant S_ .f32 0x7F800000#32
  let main_v32 : FVec F S2816x1024 .f32 := broadcastInDim S2816x1024 ![] bcast_S_S2816x1024 main_cst_10
  let main_v33 : IVec S2816x1024 1 := cmpf .olt main_v31 main_v32
  let main_c_11 : IVec S_ 1 := constantI S_ 1 1#1
  fn_part2 (F := F) main_v29 main_v33 main_c_11

def fn {F : FTy → Type} [FloatOps F] (main_arg0 : FVec F S8192x1024 .f32) (main_arg1 : FVec F S8192x1024 .f32) (main_arg2 : FVec F S1x6144 .f32) (main_arg3 : FVec F S1x1024 .f32) (main_arg4 : FVec F S1x1024 .f32) (main_arg5 : FVec F S1024x5632 .bf16) (main_arg6 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x6144 .f32 := Host.absf main_arg2
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Kernel.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S8192x2816 : Shape := ⟨2, ![8192, 2816]⟩
abbrev S8192x5632 : Shape := ⟨2, ![8192, 5632]⟩
abbrev S48x1024 : Shape := ⟨2, ![48, 1024]⟩
abbrev S256x1024 : Shape := ⟨2, ![256, 1024]⟩
abbrev S256x2816 : Shape := ⟨2, ![256, 2816]⟩
abbrev S256x5632 : Shape := ⟨2, ![256, 5632]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1024x2816 : Shape := ⟨2, ![1024, 2816]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S8192x1024, .bf16⟩
  | .hbm, ⟨8, _⟩ => ⟨S8192x2816, .bf16⟩
  | .hbm, ⟨9, _⟩ => ⟨S8192x1024, .bf16⟩
  | .hbm, ⟨10, _⟩ => ⟨S8192x5632, .bf16⟩
  | .hbm, ⟨11, _⟩ => ⟨S8192x1024, .f32⟩
  | .hbm, ⟨12, _⟩ => ⟨S48x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6144, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x1024, .f32⟩
  | .local _ .vmem, ⟨16, _⟩ => ⟨S256x1024, .f32⟩
  | .local _ .vmem, ⟨17, _⟩ => ⟨S48x1024, .f32⟩
  | .local _ .vmem, ⟨18, _⟩ => ⟨S1024x5632, .bf16⟩
  | .local _ .vmem, ⟨19, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S48x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S3x1024 : Shape := ⟨2, ![3, 1024]⟩
abbrev S38x1024 : Shape := ⟨2, ![38, 1024]⟩
abbrev S48x1024 : Shape := ⟨2, ![48, 1024]⟩

abbrev nBuf : Space → Nat
  | .hbm => 209
  | .vmem => 0
  | .smem => 0
  | _ => 0

abbrev hbmTy0_0 (i : Nat) : BufTy := match i % 128 with
  | 0 => ⟨S8192x1024, .f32⟩
  | 1 => ⟨S8192x1024, .f32⟩
  | 2 => ⟨S1x6144, .f32⟩
  | 3 => ⟨S1x1024, .f32⟩
  | 4 => ⟨S1x1024, .f32⟩
  | 5 => ⟨S1024x5632, .bf16⟩
  | 6 => ⟨S2816x1024, .bf16⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1024x5632, .f32⟩
  | 14 => ⟨S2816x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S1x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S8192x5632, .f32⟩
  | 42 => ⟨S8192x2816, .f32⟩
  | 43 => ⟨S8192x2816, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S_, .f32⟩
  | 107 => ⟨S8192, .f32⟩
  | 108 => ⟨S_, .f32⟩
  | 109 => ⟨S8192, .f32⟩
  | 110 => ⟨S8192, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S8192, .f32⟩
  | 119 => ⟨S_, .f32⟩
  | 120 => ⟨S8192, .f32⟩
  | 121 => ⟨S8192, .f32⟩
  | 122 => ⟨S8192x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x2816, .f32⟩
  | 26 => ⟨S8192x2816, .f32⟩
  | 27 => ⟨S8192x2816, .f32⟩
  | 28 => ⟨S8192x2816, .f32⟩
  | 29 => ⟨S8192x2816, .f32⟩
  | 30 => ⟨S8192x2816, .f32⟩
  | 31 => ⟨S8192x2816, .f32⟩
  | 32 => ⟨S8192x5632, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S8192x1024, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S3x1024, .f32⟩
  | 68 => ⟨S_, .f32⟩
  | 69 => ⟨S38x1024, .f32⟩
  | 70 => ⟨S_, .f32⟩
  | 71 => ⟨S1024, .f32⟩
  | 72 => ⟨S1x1024, .f32⟩
  | 73 => ⟨S_, .f32⟩
  | 74 => ⟨S1x1024, .f32⟩
  | 75 => ⟨S48x1024, .f32⟩
  | 76 => ⟨S8192x1024, .bf16⟩
  | 77 => ⟨S8192x2816, .bf16⟩
  | 78 => ⟨S8192x1024, .bf16⟩
  | 79 => ⟨S8192x5632, .bf16⟩
  | 80 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v32_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v32_1 : Ref sig .tc := ⟨.hbm, 55, rfl⟩
abbrev main_v32_0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_cst_16 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_27 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_28 : Ref sig .tc := ⟨.hbm, 184, rfl⟩
abbrev main_v133 : Ref sig .tc := ⟨.hbm, 185, rfl⟩
abbrev main_v134 : Ref sig .tc := ⟨.hbm, 186, rfl⟩
abbrev main_cst_29 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_30 : Ref sig .tc := ⟨.hbm, 194, rfl⟩
abbrev main_v141 : Ref sig .tc := ⟨.hbm, 195, rfl⟩
abbrev main_cst_31 : Ref sig .tc := ⟨.hbm, 196, rfl⟩
abbrev main_v142 : Ref sig .tc := ⟨.hbm, 197, rfl⟩
abbrev main_cst_32 : Ref sig .tc := ⟨.hbm, 198, rfl⟩
abbrev main_v143 : Ref sig .tc := ⟨.hbm, 199, rfl⟩
abbrev main_v144 : Ref sig .tc := ⟨.hbm, 200, rfl⟩
abbrev main_cst_33 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩

abbrev nD : Nat := 1
abbrev τ : Topo := Topo.v7x

variable {F : FTy → Type} [FloatOps F]
-- ==== Kernel2.lean ====
abbrev S8192x7168 : Shape := ⟨2, ![8192, 7168]⟩
abbrev S8192x1024 : Shape := ⟨2, ![8192, 1024]⟩
abbrev S1x6144 : Shape := ⟨2, ![1, 6144]⟩
abbrev S1x1024 : Shape := ⟨2, ![1, 1024]⟩
abbrev S1024x7168 : Shape := ⟨2, ![1024, 7168]⟩
abbrev S48x1024 : Shape := ⟨2, ![48, 1024]⟩
abbrev S512x7168 : Shape := ⟨2, ![512, 7168]⟩
abbrev S512x1024 : Shape := ⟨2, ![512, 1024]⟩
abbrev S1 : Shape := ⟨1, ![1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8192x1024, .f32⟩
  | .hbm, ⟨3, _⟩ => ⟨S1x6144, .f32⟩
  | .hbm, ⟨4, _⟩ => ⟨S1x1024, .f32⟩
  | .hbm, ⟨5, _⟩ => ⟨S1024x7168, .bf16⟩
  | .hbm, ⟨6, _⟩ => ⟨S8192x1024, .f32⟩
  | .hbm, ⟨7, _⟩ => ⟨S48x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x6144, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S48x1024, .f32⟩
  | .local _ .vmem, ⟨11, _⟩ => ⟨S1024x7168, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x7168 : Shape := ⟨2, ![8192, 7168]⟩
abbrev S8192x1024 : Shape := ⟨2, ![8192, 1024]⟩
abbrev S1x6144 : Shape := ⟨2, ![1, 6144]⟩
abbrev S1x1024 : Shape := ⟨2, ![1, 1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S41x1024 : Shape := ⟨2, ![41, 1024]⟩
abbrev S48x1024 : Shape := ⟨2, ![48, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8192x1024, .f32⟩
  | .hbm, ⟨3, _⟩ => ⟨S1x6144, .f32⟩
  | .hbm, ⟨4, _⟩ => ⟨S1x1024, .f32⟩
  | .hbm, ⟨5, _⟩ => ⟨S1024x7168, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x7168, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x7168, .f32⟩
  | .hbm, ⟨40, _⟩ => ⟨S8192x7168, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S4x1024, .f32⟩
  | .hbm, ⟨76, _⟩ => ⟨S_, .f32⟩
  | .hbm, ⟨77, _⟩ => ⟨S41x1024, .f32⟩
  | .hbm, ⟨78, _⟩ => ⟨S48x1024, .f32⟩
  | .hbm, ⟨79, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S8192x512 : Shape := ⟨2, ![8192, 512]⟩
abbrev S1024x512 : Shape := ⟨2, ![1024, 512]⟩
abbrev S1 : Shape := ⟨1, ![1]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S8192x512, .bf16⟩
  | .local _ .vmem, ⟨1, _⟩ => ⟨S8192x512, .bf16⟩
  | .local _ .vmem, ⟨2, _⟩ => ⟨S1024x512, .bf16⟩
  | .local _ .vmem, ⟨3, _⟩ => ⟨S1024x512, .bf16⟩
  | .local _ .vmem, ⟨4, _⟩ => ⟨S8192x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S2816x1024 : Shape := ⟨2, ![2816, 1024]⟩
abbrev S8192x256 : Shape := ⟨2, ![8192, 256]⟩
abbrev S256x1024 : Shape := ⟨2, ![256, 1024]⟩
abbrev S1 : Shape := ⟨1, ![1]⟩
abbrev S_ : Shape := ⟨0, ![]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S256x1024, .bf16⟩
  | .local _ .vmem, ⟨3, _⟩ => ⟨S256x1024, .bf16⟩
  | .local _ .vmem, ⟨4, _⟩ => ⟨S8192x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x3072 : Shape := ⟨2, ![8192, 3072]⟩
abbrev S1024x3072 : Shape := ⟨2, ![1024, 3072]⟩
abbrev S8192x1024 : Shape := ⟨2, ![8192, 1024]⟩
abbrev S8192x256 : Shape := ⟨2, ![8192, 256]⟩
abbrev S1024x256 : Shape := ⟨2, ![1024, 256]⟩
abbrev S8x128 : Shape := ⟨2, ![8, 128]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S1024x3072, .bf16⟩
  | .local _ .vmem, ⟨0, _⟩ => ⟨S8192x1024, .bf16⟩
  | .local _ .vmem, ⟨1, _⟩ => ⟨S8192x1024, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .bf16⟩
  | .local _ .vmem, ⟨5, _⟩ => ⟨S1024x256, .bf16⟩
  | .local _ .vmem, ⟨6, _⟩ => ⟨S8x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x3072 : Shape := ⟨2, ![8192, 3072]⟩
abbrev S8192x1024 : Shape := ⟨2, ![8192, 1024]⟩
abbrev S_ : Shape := ⟨0, ![]⟩
abbrev S1024x1024 : Shape := ⟨2, ![1024, 1024]⟩
abbrev S1024x3072 : Shape := ⟨2, ![1024, 3072]⟩

abbrev nBuf : Space → Nat
  | .hbm => 33
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S1024x1024, .f32⟩
  | .hbm, ⟨12, _⟩ => ⟨S8192x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S1024x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024x1024, .f32⟩
  | .hbm, ⟨28, _⟩ => ⟨S8192x1024, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S1024x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel6.lean ====
abbrev S1024x1792 : Shape := ⟨2, ![1024, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1536 : Shape := ⟨2, ![1024, 1536]⟩
abbrev S1024x128 : Shape := ⟨2, ![1024, 128]⟩
abbrev S128x1536 : Shape := ⟨2, ![128, 1536]⟩
abbrev S256x1536 : Shape := ⟨2, ![256, 1536]⟩
abbrev S256x128 : Shape := ⟨2, ![256, 128]⟩

abbrev nBuf : Space → Nat
  | .hbm => 9
  | .vmem => 17
  | .smem => 0
  | _ => 0

abbrev bufTy : (tb : Table) → Fin (tcTables nBuf tb) → BufTy
  | .hbm, ⟨0, _⟩ => ⟨S1024x1536, .f32⟩
  | .hbm, ⟨1, _⟩ => ⟨S1024x128, .f32⟩
  | .hbm, ⟨2, _⟩ => ⟨S128x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S128x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S1024x1536 : Shape := ⟨2, ![1024, 1536]⟩
abbrev S1024x128 : Shape := ⟨2, ![1024, 128]⟩
abbrev S128x1536 : Shape := ⟨2, ![128, 1536]⟩
abbrev S128x1024 : Shape := ⟨2, ![128, 1024]⟩
abbrev S_ : Shape := ⟨0, ![]⟩
abbrev S1536x1024 : Shape := ⟨2, ![1536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x128, .f32⟩
  | .hbm, ⟨2, _⟩ => ⟨S128x1536, .f32⟩
  | .hbm, ⟨3, _⟩ => ⟨S1024x1536, .f32⟩
  | .hbm, ⟨4, _⟩ => ⟨S1024x1536, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1536, .f32⟩
  | .hbm, ⟨16, _⟩ => ⟨S1536x1024, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S1024x1536, .f32⟩
  | .hbm, ⟨21, _⟩ => ⟨S_, .f32⟩
  | .hbm, ⟨22, _⟩ => ⟨S1024x1536, .f32⟩
  | .hbm, ⟨23, _⟩ => ⟨S1024x1536, .f32⟩
  | .hbm, ⟨24, _⟩ => ⟨S1024x1536, .f32⟩
  | .hbm, ⟨25, _⟩ => ⟨S_, .f32⟩
  | .hbm, ⟨26, _⟩ => ⟨S1024x1536, .f32⟩
  | .hbm, ⟨27, _⟩ => ⟨S1024x1536, .f32⟩
  | .hbm, ⟨28, _⟩ => ⟨S1024x1536, .f32⟩
  | .hbm, ⟨29, _⟩ => ⟨S_, .f32⟩
  | .hbm, ⟨30, _⟩ => ⟨S1024x1536, .f32⟩
  | .hbm, ⟨31, _⟩ => ⟨S1024x1536, .f32⟩
  | .hbm, ⟨32, _⟩ => ⟨S1024x1536, .f32⟩
  | .hbm, ⟨33, _⟩ => ⟨S_, .f32⟩
  | .hbm, ⟨34, _⟩ => ⟨S1024x1536, .f32⟩
  | .hbm, ⟨35, _⟩ => ⟨S1024x1536, .f32⟩
  | .hbm, ⟨36, _⟩ => ⟨S_, .f32⟩
  | .hbm, ⟨37, _⟩ => ⟨S1024x1536, .f32⟩
  | .hbm, ⟨38, _⟩ => ⟨S1024x1536, .f32⟩
  | .hbm, ⟨39, _⟩ => ⟨S1024x1536, .f32⟩
  | .hbm, ⟨40, _⟩ => ⟨S_, .f32⟩
  | .hbm, ⟨41, _⟩ => ⟨S1024x1536, .f32⟩
  | .hbm, ⟨42, _⟩ => ⟨S1024x1536, .f32⟩
  | .hbm, ⟨43, _⟩ => ⟨S1024x1536, .f32⟩
  | .hbm, ⟨44, _⟩ => ⟨S_, .f32⟩
  | .hbm, ⟨45, _⟩ => ⟨S1024x1536, .f32⟩
  | .hbm, ⟨46, _⟩ => ⟨S1024x1536, .f32⟩
  | .hbm, ⟨47, _⟩ => ⟨S1024x1536, .f32⟩
  | .hbm, ⟨48, _⟩ => ⟨S_, .f32⟩
  | .hbm, ⟨49, _⟩ => ⟨S1024x1536, .f32⟩
  | .hbm, ⟨50, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Kernel11.lean ====
abbrev S8x48x1024 : Shape := ⟨3, ![8, 48, 1024]⟩
abbrev S1x128 : Shape := ⟨2, ![1, 128]⟩
abbrev S1x6144 : Shape := ⟨2, ![1, 6144]⟩
abbrev S1x1024 : Shape := ⟨2, ![1, 1024]⟩
abbrev S1x3x256 : Shape := ⟨3, ![1, 3, 256]⟩
abbrev S1x31x256 : Shape := ⟨3, ![1, 31, 256]⟩
abbrev S8x128 : Shape := ⟨2, ![8, 128]⟩
abbrev S1x48x1024 : Shape := ⟨3, ![1, 48, 1024]⟩
abbrev S48x1024 : Shape := ⟨2, ![48, 1024]⟩
abbrev S1x1x1024 : Shape := ⟨3, ![1, 1, 1024]⟩
abbrev S1 : Shape := ⟨1, ![1]⟩
abbrev S1x1x1 : Shape := ⟨3, ![1, 1, 1]⟩
abbrev S3x256 : Shape := ⟨2, ![3, 256]⟩
abbrev S1x1 : Shape := ⟨2, ![1, 1]⟩
abbrev S31x256 : Shape := ⟨2, ![31, 256]⟩

abbrev nBuf : Space → Nat
  | .hbm => 66
  | .vmem => 66
  | .smem => 0
  | _ => 0

abbrev bufTy : (tb : Table) → Fin (tcTables nBuf tb) → BufTy
  | .hbm, ⟨0, _⟩ => ⟨S8x48x1024, .f32⟩
  | .hbm, ⟨1, _⟩ => ⟨S1x128, .f32⟩
  | .hbm, ⟨2, _⟩ => ⟨S1x6144, .f32⟩
  | .hbm, ⟨3, _⟩ => ⟨S1x1024, .f32⟩
  | .hbm, ⟨4, _⟩ => ⟨S1x3x256, .f32⟩
  | .hbm, ⟨5, _⟩ => ⟨S1x31x256, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x6144, .f32⟩
  | .hbm, ⟨12, _⟩ => ⟨S1x1024, .f32⟩
  | .hbm, ⟨13, _⟩ => ⟨S1x3x256, .f32⟩
  | .hbm, ⟨14, _⟩ => ⟨S1x31x256, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x6144, .f32⟩
  | .hbm, ⟨21, _⟩ => ⟨S1x1024, .f32⟩
  | .hbm, ⟨22, _⟩ => ⟨S1x3x256, .f32⟩
  | .hbm, ⟨23, _⟩ => ⟨S1x31x256, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8x128, .f32⟩
  | .hbm, ⟨30, _⟩ => ⟨S1x6144, .f32⟩
  | .hbm, ⟨31, _⟩ => ⟨S1x1024, .f32⟩
  | .hbm, ⟨32, _⟩ => ⟨S1x3x256, .f32⟩
  | .hbm, ⟨33, _⟩ => ⟨S1x31x256, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x6144, .f32⟩
  | .hbm, ⟨40, _⟩ => ⟨S1x1024, .f32⟩
  | .hbm, ⟨41, _⟩ => ⟨S1x3x256, .f32⟩
  | .hbm, ⟨42, _⟩ => ⟨S1x31x256, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x6144, .f32⟩
  | .hbm, ⟨49, _⟩ => ⟨S1x1024, .f32⟩
  | .hbm, ⟨50, _⟩ => ⟨S1x3x256, .f32⟩
  | .hbm, ⟨51, _⟩ => ⟨S1x31x256, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x6144, .f32⟩
  | .hbm, ⟨58, _⟩ => ⟨S1x1024, .f32⟩
  | .hbm, ⟨59, _⟩ => ⟨S1x3x256, .f32⟩
  | .hbm, ⟨60, _⟩ => ⟨S1x31x256, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .local _ .vmem, ⟨0, _⟩ => ⟨S8x48x1024, .f32⟩
  | .local _ .vmem, ⟨1, _⟩ => ⟨S1x128, .f32⟩
  | .local _ .vmem, ⟨2, _⟩ => ⟨S1x6144, .f32⟩
  | .local _ .vmem, ⟨3, _⟩ => ⟨S1x1024, .f32⟩
  | .local _ .vmem, ⟨4, _⟩ => ⟨S1x3x256, .f32⟩
  | .local _ .vmem, ⟨5, _⟩ => ⟨S1x31x256, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x6144, .f32⟩
  | .local _ .vmem, ⟨12, _⟩ => ⟨S1x1024, .f32⟩
  | .local _ .vmem, ⟨13, _⟩ => ⟨S1x3x256, .f32⟩
  | .local _ .vmem, ⟨14, _⟩ => ⟨S1x31x256, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x6144, .f32⟩
  | .local _ .vmem, ⟨21, _⟩ => ⟨S1x1024, .f32⟩
  | .local _ .vmem, ⟨22, _⟩ => ⟨S1x3x256, .f32⟩
  | .local _ .vmem, ⟨23, _⟩ => ⟨S1x31x256, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S8x128, .f32⟩
  | .local _ .vmem, ⟨30, _⟩ => ⟨S1x6144, .f32⟩
  | .local _ .vmem, ⟨31, _⟩ => ⟨S1x1024, .f32⟩
  | .local _ .vmem, ⟨32, _⟩ => ⟨S1x3x256, .f32⟩
  | .local _ .vmem, ⟨33, _⟩ => ⟨S1x31x256, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x6144, .f32⟩
  | .local _ .vmem, ⟨40, _⟩ => ⟨S1x1024, .f32⟩
  | .local _ .vmem, ⟨41, _⟩ => ⟨S1x3x256, .f32⟩
  | .local _ .vmem, ⟨42, _⟩ => ⟨S1x31x256, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x6144, .f32⟩
  | .local _ .vmem, ⟨49, _⟩ => ⟨S1x1024, .f32⟩
  | .local _ .vmem, ⟨50, _⟩ => ⟨S1x3x256, .f32⟩
  | .local _ .vmem, ⟨51, _⟩ => ⟨S1x31x256, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x6144, .f32⟩
  | .local _ .vmem, ⟨58, _⟩ => ⟨S1x1024, .f32⟩
  | .local _ .vmem, ⟨59, _⟩ => ⟨S1x3x256, .f32⟩
  | .local _ .vmem, ⟨60, _⟩ => ⟨S1x31x256, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev main_v0_29 : Ref sig .tc := ⟨.hbm, 58, rfl⟩
abbrev main_v0_30 : Ref sig .tc := ⟨.hbm, 59, rfl⟩
abbrev main_v0_31 : Ref sig .tc := ⟨.hbm, 60, rfl⟩
abbrev main_v0_32 : Ref sig .tc := ⟨.hbm, 61, rfl⟩
abbrev main_v0_33 : Ref sig .tc := ⟨.hbm, 62, rfl⟩
abbrev main_v0_34 : Ref sig .tc := ⟨.hbm, 63, rfl⟩
abbrev main_v0_35 : Ref sig .tc := ⟨.hbm, 64, rfl⟩
abbrev main_v0_36 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x31x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x6144 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x3x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x31x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x6144 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x3x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x31x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x6144 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x3x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x31x256 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x6144 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x3x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x31x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x6144 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x3x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x31x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))
-- ==== Reference11Ideal.lean ====
abbrev S8x48x1024 : Shape := ⟨3, ![8, 48, 1024]⟩
abbrev S1x128 : Shape := ⟨2, ![1, 128]⟩
abbrev S1x6144 : Shape := ⟨2, ![1, 6144]⟩
abbrev S1x1024 : Shape := ⟨2, ![1, 1024]⟩
abbrev S1x3x256 : Shape := ⟨3, ![1, 3, 256]⟩
abbrev S1x31x256 : Shape := ⟨3, ![1, 31, 256]⟩
abbrev S_ : Shape := ⟨0, ![]⟩
abbrev S48x1024 : Shape := ⟨2, ![48, 1024]⟩
abbrev S1024 : Shape := ⟨1, ![1024]⟩
abbrev S1x4 : Shape := ⟨2, ![1, 4]⟩
abbrev S4 : Shape := ⟨1, ![4]⟩
abbrev S6x1024 : Shape := ⟨2, ![6, 1024]⟩
abbrev S3x1024 : Shape := ⟨2, ![3, 1024]⟩
abbrev S3x4x256 : Shape := ⟨3, ![3, 4, 256]⟩
abbrev S3x256 : Shape := ⟨2, ![3, 256]⟩
abbrev S31x1024 : Shape := ⟨2, ![31, 1024]⟩
abbrev S31x4x256 : Shape := ⟨3, ![31, 4, 256]⟩
abbrev S31x256 : Shape := ⟨2, ![31, 256]⟩
abbrev S8x128 : Shape := ⟨2, ![8, 128]⟩

abbrev nBuf : Space → Nat
  | .hbm => 355
  | .vmem => 0
  | .smem => 0
  | _ => 0

abbrev hbmTy0_0 (i : Nat) : BufTy := match i % 128 with
  | 0 => ⟨S8x48x1024, .f32⟩
  | 1 => ⟨S1x128, .f32⟩
  | 2 => ⟨S1x6144, .f32⟩
  | 3 => ⟨S1x1024, .f32⟩
  | 4 => ⟨S1x3x256, .f32⟩
  | 5 => ⟨S1x31x256, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x6144, .f32⟩
  | 12 => ⟨S1x1024, .f32⟩
  | 13 => ⟨S1x3x256, .f32⟩
  | 14 => ⟨S1x31x256, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x6144, .f32⟩
  | 21 => ⟨S1x1024, .f32⟩
  | 22 => ⟨S1x3x256, .f32⟩
  | 23 => ⟨S1x31x256, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S_, .f32⟩
  | 30 => ⟨S48x1024, .f32⟩
  | 31 => ⟨S1x1024, .f32⟩
  | 32 => ⟨S1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1x4, .f32⟩
  | 40 => ⟨S4, .f32⟩
  | 41 => ⟨S6x1024, .f32⟩
  | 42 => ⟨S1x6144, .f32⟩
  | 43 => ⟨S1x1024, .f32⟩
  | 44 => ⟨S3x1024, .f32⟩
  | 45 => ⟨S3x4x256, .f32⟩
  | 46 => ⟨S3x256, .f32⟩
  | 47 => ⟨S1x3x256, .f32⟩
  | 48 => ⟨S31x1024, .f32⟩
  | 49 => ⟨S31x4x256, .f32⟩
  | 50 => ⟨S31x256, .f32⟩
  | 51 => ⟨S1x31x256, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S_, .f32⟩
  | 58 => ⟨S1x6144, .f32⟩
  | 59 => ⟨S1x6144, .f32⟩
  | 60 => ⟨S_, .f32⟩
  | 61 => ⟨S1x6144, .f32⟩
  | 62 => ⟨S1x6144, .f32⟩
  | 63 => ⟨S1x6144, .f32⟩
  | 64 => ⟨S_, .f32⟩
  | 65 => ⟨S1x6144, .f32⟩
  | 66 => ⟨S1x6144, .f32⟩
  | 67 => ⟨S1x6144, .f32⟩
  | 68 => ⟨S_, .f32⟩
  | 69 => ⟨S1x6144, .f32⟩
  | 70 => ⟨S1x6144, .f32⟩
  | 71 => ⟨S1x6144, .f32⟩
  | 72 => ⟨S_, .f32⟩
  | 73 => ⟨S1x6144, .f32⟩
  | 74 => ⟨S1x6144, .f32⟩
  | 75 => ⟨S_, .f32⟩
  | 76 => ⟨S1x6144, .f32⟩
  | 77 => ⟨S1x6144, .f32⟩
  | 78 => ⟨S1x6144, .f32⟩
  | 79 => ⟨S_, .f32⟩
  | 80 => ⟨S1x6144, .f32⟩
  | 81 => ⟨S1x6144, .f32⟩
  | 82 => ⟨S1x6144, .f32⟩
  | 83 => ⟨S_, .f32⟩
  | 84 => ⟨S1x6144, .f32⟩
  | 85 => ⟨S1x6144, .f32⟩
  | 86 => ⟨S1x6144, .f32⟩
  | 87 => ⟨S_, .f32⟩
  | 88 => ⟨S1x6144, .f32⟩
  | 89 => ⟨S1x6144, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x3x256, .f32⟩
  | 125 => ⟨S1x3x256, .f32⟩
  | 126 => ⟨S_, .f32⟩
  | 127 => ⟨S1x3x256, .f32⟩
  | _ => ⟨S8x48x1024, .f32⟩

abbrev hbmTy0_1 (i : Nat) : BufTy := match i % 128 with
  | 0 => ⟨S1x3x256, .f32⟩
  | 1 => ⟨S1x3x256, .f32⟩
  | 2 => ⟨S_, .f32⟩
  | 3 => ⟨S1x3x256, .f32⟩
  | 4 => ⟨S1x3x256, .f32⟩
  | 5 => ⟨S1x3x256, .f32⟩
  | 6 => ⟨S_, .f32⟩
  | 7 => ⟨S1x3x256, .f32⟩
  | 8 => ⟨S1x3x256, .f32⟩
  | 9 => ⟨S1x3x256, .f32⟩
  | 10 => ⟨S_, .f32⟩
  | 11 => ⟨S1x3x256, .f32⟩
  | 12 => ⟨S1x3x256, .f32⟩
  | 13 => ⟨S_, .f32⟩
  | 14 => ⟨S1x3x256, .f32⟩
  | 15 => ⟨S1x3x256, .f32⟩
  | 16 => ⟨S1x3x256, .f32⟩
  | 17 => ⟨S_, .f32⟩
  | 18 => ⟨S1x3x256, .f32⟩
  | 19 => ⟨S1x3x256, .f32⟩
  | 20 => ⟨S1x3x256, .f32⟩
  | 21 => ⟨S_, .f32⟩
  | 22 => ⟨S1x3x256, .f32⟩
  | 23 => ⟨S1x3x256, .f32⟩
  | 24 => ⟨S1x3x256, .f32⟩
  | 25 => ⟨S_, .f32⟩
  | 26 => ⟨S1x3x256, .f32⟩
  | 27 => ⟨S1x3x256, .f32⟩
  | 28 => ⟨S_, .f32⟩
  | 29 => ⟨S1x31x256, .f32⟩
  | 30 => ⟨S1x31x256, .f32⟩
  | 31 => ⟨S_, .f32⟩
  | 32 => ⟨S1x31x256, .f32⟩
  | 33 => ⟨S1x31x256, .f32⟩
  | 34 => ⟨S1x31x256, .f32⟩
  | 35 => ⟨S_, .f32⟩
  | 36 => ⟨S1x31x256, .f32⟩
  | 37 => ⟨S1x31x256, .f32⟩
  | 38 => ⟨S1x31x256, .f32⟩
  | 39 => ⟨S_, .f32⟩
  | 40 => ⟨S1x31x256, .f32⟩
  | 41 => ⟨S1x31x256, .f32⟩
  | 42 => ⟨S1x31x256, .f32⟩
  | 43 => ⟨S_, .f32⟩
  | 44 => ⟨S1x31x256, .f32⟩
  | 45 => ⟨S1x31x256, .f32⟩
  | 46 => ⟨S_, .f32⟩
  | 47 => ⟨S1x31x256, .f32⟩
  | 48 => ⟨S1x31x256, .f32⟩
  | 49 => ⟨S1x31x256, .f32⟩
  | 50 => ⟨S_, .f32⟩
  | 51 => ⟨S1x31x256, .f32⟩
  | 52 => ⟨S1x31x256, .f32⟩
  | 53 => ⟨S1x31x256, .f32⟩
  | 54 => ⟨S_, .f32⟩
  | 55 => ⟨S1x31x256, .f32⟩
  | 56 => ⟨S1x31x256, .f32⟩
  | 57 => ⟨S1x31x256, .f32⟩
  | 58 => ⟨S_, .f32⟩
  | 59 => ⟨S1x31x256, .f32⟩
  | 60 => ⟨S1x31x256, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S8x48x1024, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S8x128, .f32⟩
  | _ => ⟨S8x48x1024, .f32⟩

abbrev hbmTy (i : Nat) : BufTy := match i / 128 with
  | 0 => hbmTy0_0 i
  | 1 => hbmTy0_1 i
  | 2 => hbmTy0_2 i
  | _ => ⟨S8x48x1024, .f32⟩

abbrev bufTy : (tb : Table) → Fin (tcTables nBuf tb) → BufTy
  | .hbm, ⟨i, _⟩ => hbmTy i
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_cst_1 : Ref sig .tc := ⟨.hbm, 35, rfl⟩
abbrev main_v4 : Ref sig .tc := ⟨.hbm, 36, rfl⟩
abbrev main_cst_2 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_cst_4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_10 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_11 : Ref sig .tc := ⟨.hbm, 87, rfl⟩
abbrev main_v46 : Ref sig .tc := ⟨.hbm, 88, rfl⟩
abbrev main_v47 : Ref sig .tc := ⟨.hbm, 89, rfl⟩
abbrev main_cst_12 : Ref sig .tc := ⟨.hbm, 90, rfl⟩
abbrev main_v48 : Ref sig .tc := ⟨.hbm, 91, rfl⟩
abbrev main_v49 : Ref sig .tc := ⟨.hbm, 92, rfl⟩
abbrev main_cst_13 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_14 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_15 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_16 : Ref sig .tc := ⟨.hbm, 105, rfl⟩
abbrev main_v59 : Ref sig .tc := ⟨.hbm, 106, rfl⟩
abbrev main_v60 : Ref sig .tc := ⟨.hbm, 107, rfl⟩
abbrev main_cst_17 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_18 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_19 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_20 : Ref sig .tc := ⟨.hbm, 120, rfl⟩
abbrev main_v70 : Ref sig .tc := ⟨.hbm, 121, rfl⟩
abbrev main_v71 : Ref sig .tc := ⟨.hbm, 122, rfl⟩
abbrev main_cst_21 : Ref sig .tc := ⟨.hbm, 123, rfl⟩
abbrev main_v72 : Ref sig .tc := ⟨.hbm, 124, rfl⟩
abbrev main_v73 : Ref sig .tc := ⟨.hbm, 125, rfl⟩
abbrev main_cst_22 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_23 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_24 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_25 : Ref sig .tc := ⟨.hbm, 138, rfl⟩
abbrev main_v83 : Ref sig .tc := ⟨.hbm, 139, rfl⟩
abbrev main_v84 : Ref sig .tc := ⟨.hbm, 140, rfl⟩
abbrev main_cst_26 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_27 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_28 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_29 : Ref sig .tc := ⟨.hbm, 153, rfl⟩
abbrev main_v94 : Ref sig .tc := ⟨.hbm, 154, rfl⟩
abbrev main_v95 : Ref sig .tc := ⟨.hbm, 155, rfl⟩
abbrev main_cst_30 : Ref sig .tc := ⟨.hbm, 156, rfl⟩
abbrev main_v96 : Ref sig .tc := ⟨.hbm, 157, rfl⟩
abbrev main_v97 : Ref sig .tc := ⟨.hbm, 158, rfl⟩
abbrev main_cst_31 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_32 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_33 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_34 : Ref sig .tc := ⟨.hbm, 171, rfl⟩
abbrev main_v107 : Ref sig .tc := ⟨.hbm, 172, rfl⟩
abbrev main_v108 : Ref sig .tc := ⟨.hbm, 173, rfl⟩
abbrev main_cst_35 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_36 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_37 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_38 : Ref sig .tc := ⟨.hbm, 186, rfl⟩
abbrev main_v118 : Ref sig .tc := ⟨.hbm, 187, rfl⟩
abbrev main_v119 : Ref sig .tc := ⟨.hbm, 188, rfl⟩
abbrev main_cst_39 : Ref sig .tc := ⟨.hbm, 189, rfl⟩
abbrev main_v120 : Ref sig .tc := ⟨.hbm, 190, rfl⟩
abbrev main_v121 : Ref sig .tc := ⟨.hbm, 191, rfl⟩
abbrev main_cst_40 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_41 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_42 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_43 : Ref sig .tc := ⟨.hbm, 204, rfl⟩
abbrev main_v131 : Ref sig .tc := ⟨.hbm, 205, rfl⟩
abbrev main_v132 : Ref sig .tc := ⟨.hbm, 206, rfl⟩
abbrev main_cst_44 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_45 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_46 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_47 : Ref sig .tc := ⟨.hbm, 219, rfl⟩
abbrev main_v142 : Ref sig .tc := ⟨.hbm, 220, rfl⟩
abbrev main_v143 : Ref sig .tc := ⟨.hbm, 221, rfl⟩
abbrev main_cst_48 : Ref sig .tc := ⟨.hbm, 222, rfl⟩
abbrev main_v144 : Ref sig .tc := ⟨.hbm, 223, rfl⟩
abbrev main_v145 : Ref sig .tc := ⟨.hbm, 224, rfl⟩
abbrev main_cst_49 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_cst_50 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_51 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_cst_52 : Ref sig .tc := ⟨.hbm, 237, rfl⟩
abbrev main_v155 : Ref sig .tc := ⟨.hbm, 238, rfl⟩
abbrev main_v156 : Ref sig .tc := ⟨.hbm, 239, rfl⟩
abbrev main_cst_53 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_cst_54 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_cst_55 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_cst_56 : Ref sig .tc := ⟨.hbm, 252, rfl⟩
abbrev main_v166 : Ref sig .tc := ⟨.hbm, 253, rfl⟩
abbrev main_v167 : Ref sig .tc := ⟨.hbm, 254, rfl⟩
abbrev main_cst_57 : Ref sig .tc := ⟨.hbm, 255, rfl⟩
abbrev main_v168 : Ref sig .tc := ⟨.hbm, 256, rfl⟩
abbrev main_v169 : Ref sig .tc := ⟨.hbm, 257, rfl⟩
abbrev main_cst_58 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_cst_59 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_cst_60 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_cst_61 : Ref sig .tc := ⟨.hbm, 270, rfl⟩
abbrev main_v179 : Ref sig .tc := ⟨.hbm, 271, rfl⟩
abbrev main_v180 : Ref sig .tc := ⟨.hbm, 272, rfl⟩
abbrev main_cst_62 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_63 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_cst_64 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_cst_65 : Ref sig .tc := ⟨.hbm, 285, rfl⟩
abbrev main_v190 : Ref sig .tc := ⟨.hbm, 286, rfl⟩
abbrev main_v191 : Ref sig .tc := ⟨.hbm, 287, rfl⟩
abbrev main_cst_66 : Ref sig .tc := ⟨.hbm, 288, rfl⟩
abbrev main_v192 : Ref sig .tc := ⟨.hbm, 289, rfl⟩
abbrev main_v193 : Ref sig .tc := ⟨.hbm, 290, rfl⟩
abbrev main_cst_67 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_cst_68 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_cst_69 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_cst_70 : Ref sig .tc := ⟨.hbm, 303, rfl⟩
abbrev main_v203 : Ref sig .tc := ⟨.hbm, 304, rfl⟩
abbrev main_v204 : Ref sig .tc := ⟨.hbm, 305, rfl⟩
abbrev main_cst_71 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_cst_72 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_cst_73 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_cst_74 : Ref sig .tc := ⟨.hbm, 318, rfl⟩
abbrev main_v214 : Ref sig .tc := ⟨.hbm, 319, rfl⟩
abbrev main_v215 : Ref sig .tc := ⟨.hbm, 320, rfl⟩
abbrev main_cst_75 : Ref sig .tc := ⟨.hbm, 321, rfl⟩
abbrev main_v216 : Ref sig .tc := ⟨.hbm, 322, rfl⟩
abbrev main_v217 : Ref sig .tc := ⟨.hbm, 323, rfl⟩
abbrev main_cst_76 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_cst_77 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_cst_78 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_cst_79 : Ref sig .tc := ⟨.hbm, 336, rfl⟩
abbrev main_v227 : Ref sig .tc := ⟨.hbm, 337, rfl⟩
abbrev main_v228 : Ref sig .tc := ⟨.hbm, 338, rfl⟩
abbrev main_cst_80 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_cst_81 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_cst_82 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_cst_83 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩

abbrev nD : Nat := 1
abbrev τ : Topo := Topo.v7x

variable {F : FTy → Type} [FloatOps F]
-- ==== Kernel12.lean ====
abbrev S7x352x1024 : Shape := ⟨3, ![7, 352, 1024]⟩
abbrev S2816x1024 : Shape := ⟨2, ![2816, 1024]⟩
abbrev S_ : Shape := ⟨0, ![]⟩
abbrev S1 : Shape := ⟨1, ![1]⟩
abbrev S2 : Shape := ⟨1, ![2]⟩
abbrev S704x1024 : Shape := ⟨2, ![704, 1024]⟩
abbrev S176x1024 : Shape := ⟨2, ![176, 1024]⟩
abbrev S7x176x1024 : Shape := ⟨3, ![7, 176, 1024]⟩
abbrev S1x176x1024 : Shape := ⟨3, ![1, 176, 1024]⟩
abbrev S352x1024 : Shape := ⟨2, ![352, 1024]⟩

abbrev nBuf : Space → Nat
  | .hbm => 12
  | .vmem => 6
  | .smem => 1
  | _ => 0

abbrev bufTy : (tb : Table) → Fin (tcTables nBuf tb) → BufTy
  | .hbm, ⟨0, _⟩ => ⟨S7x352x1024, .bf16⟩
  | .hbm, ⟨1, _⟩ => ⟨S2816x1024, .bf16⟩
  | .hbm, ⟨2, _⟩ => ⟨S_, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S704x1024, .f32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S352x1024, .f32⟩
  | .hbm, ⟨11, _⟩ => ⟨S352x1024, .f32⟩
  | .local _ .vmem, ⟨0, _⟩ => ⟨S176x1024, .bf16⟩
  | .local _ .vmem, ⟨1, _⟩ => ⟨S176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S176x1024, .f32⟩
  | .local _ .vmem, ⟨5, _⟩ => ⟨S176x1024, .f32⟩
  | .local _ .smem, ⟨0, _⟩ => ⟨S2, .i32⟩
  | _, _ => ⟨S7x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.muli c2_i32 v0
  let c1 : Index := 1#32
  let v2 : BitVec 32 := pf.at 0 (Rect.unit (s := S2) ![1] S1.size inb_S2_S1_1) numel1_S1
  let v3 : BitVec 32 := Scalar.addi v1 v2
  let c2_i32_0 : BitVec 32 := 2#32
  let v4 : BitVec 32 := Scalar.muli v3 c2_i32_0
  let v5 : BitVec 32 := Scalar.addi v4 arg0
  let c0_i32 : BitVec 32 := 0#32
  let c0_i32_1 : BitVec 32 := 0#32
  ![v5.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S7x352x1024 : Shape := ⟨3, ![7, 352, 1024]⟩
abbrev S2816x1024 : Shape := ⟨2, ![2816, 1024]⟩
abbrev S_ : Shape := ⟨0, ![]⟩
abbrev S352x1024 : Shape := ⟨2, ![352, 1024]⟩

abbrev nBuf : Space → Nat
  | .hbm => 66
  | .vmem => 0
  | .smem => 0
  | _ => 0

abbrev bufTy : (tb : Table) → Fin (tcTables nBuf tb) → BufTy
  | .hbm, ⟨0, _⟩ => ⟨S7x352x1024, .bf16⟩
  | .hbm, ⟨1, _⟩ => ⟨S2816x1024, .bf16⟩
  | .hbm, ⟨2, _⟩ => ⟨S_, .i32⟩
  | .hbm, ⟨3, _⟩ => ⟨S_, .i32⟩
  | .hbm, ⟨4, _⟩ => ⟨S352x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S352x1024, .i1⟩
  | .hbm, ⟨11, _⟩ => ⟨S352x1024, .bf16⟩
  | .hbm, ⟨12, _⟩ => ⟨S352x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S352x1024, .i1⟩
  | .hbm, ⟨19, _⟩ => ⟨S352x1024, .bf16⟩
  | .hbm, ⟨20, _⟩ => ⟨S352x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S352x1024, .i1⟩
  | .hbm, ⟨27, _⟩ => ⟨S352x1024, .bf16⟩
  | .hbm, ⟨28, _⟩ => ⟨S352x1024, .bf16⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S352x1024, .i1⟩
  | .hbm, ⟨35, _⟩ => ⟨S352x1024, .bf16⟩
  | .hbm, ⟨36, _⟩ => ⟨S352x1024, .bf16⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S352x1024, .i1⟩
  | .hbm, ⟨43, _⟩ => ⟨S352x1024, .bf16⟩
  | .hbm, ⟨44, _⟩ => ⟨S352x1024, .bf16⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S352x1024, .i1⟩
  | .hbm, ⟨51, _⟩ => ⟨S352x1024, .bf16⟩
  | .hbm, ⟨52, _⟩ => ⟨S352x1024, .bf16⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S352x1024, .i1⟩
  | .hbm, ⟨59, _⟩ => ⟨S352x1024, .bf16⟩
  | .hbm, ⟨60, _⟩ => ⟨S352x1024, .bf16⟩
  | .hbm, ⟨61, _⟩ => ⟨S352x1024, .f32⟩
  | .hbm, ⟨62, _⟩ => ⟨S7x352x1024, .f32⟩
  | .hbm, ⟨63, _⟩ => ⟨S_, .f32⟩
  | .hbm, ⟨64, _⟩ => ⟨S352x1024, .f32⟩
  | .hbm, ⟨65, _⟩ => ⟨S352x1024, .f32⟩
  | _, _ => ⟨S7x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel13.lean ====
abbrev S7x128x1024 : Shape := ⟨3, ![7, 128, 1024]⟩
abbrev S1024x1024 : Shape := ⟨2, ![1024, 1024]⟩
abbrev S_ : Shape := ⟨0, ![]⟩
abbrev S1 : Shape := ⟨1, ![1]⟩
abbrev S2 : Shape := ⟨1, ![2]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 12
  | .vmem => 3
  | .smem => 1
  | _ => 0

abbrev bufTy : (tb : Table) → Fin (tcTables nBuf tb) → BufTy
  | .hbm, ⟨0, _⟩ => ⟨S7x128x1024, .bf16⟩
  | .hbm, ⟨1, _⟩ => ⟨S1024x1024, .bf16⟩
  | .hbm, ⟨2, _⟩ => ⟨S_, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S256x1024, .f32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .bf16⟩
  | .local _ .vmem, ⟨1, _⟩ => ⟨S7x128x1024, .bf16⟩
  | .local _ .vmem, ⟨2, _⟩ => ⟨S128x1024, .f32⟩
  | .local _ .smem, ⟨0, _⟩ => ⟨S2, .i32⟩
  | _, _ => ⟨S7x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.muli c2_i32 v0
  let c1 : Index := 1#32
  let v2 : BitVec 32 := pf.at 0 (Rect.unit (s := S2) ![1] S1.size inb_S2_S1_1) numel1_S1
  let v3 : BitVec 32 := Scalar.addi v1 v2
  let c1_i32 : BitVec 32 := 1#32
  let v4 : BitVec 32 := Scalar.muli v3 c1_i32
  let v5 : BitVec 32 := Scalar.addi v4 arg0
  let c0_i32 : BitVec 32 := 0#32
  let c0_i32_0 : BitVec 32 := 0#32
  ![v5.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference13Ideal.lean ====
abbrev S7x128x1024 : Shape := ⟨3, ![7, 128, 1024]⟩
abbrev S1024x1024 : Shape := ⟨2, ![1024, 1024]⟩
abbrev S_ : Shape := ⟨0, ![]⟩
abbrev S128x1024 : Shape := ⟨2, ![128, 1024]⟩

abbrev nBuf : Space → Nat
  | .hbm => 66
  | .vmem => 0
  | .smem => 0
  | _ => 0

abbrev bufTy : (tb : Table) → Fin (tcTables nBuf tb) → BufTy
  | .hbm, ⟨0, _⟩ => ⟨S7x128x1024, .bf16⟩
  | .hbm, ⟨1, _⟩ => ⟨S1024x1024, .bf16⟩
  | .hbm, ⟨2, _⟩ => ⟨S_, .i32⟩
  | .hbm, ⟨3, _⟩ => ⟨S_, .i32⟩
  | .hbm, ⟨4, _⟩ => ⟨S128x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128x1024, .i1⟩
  | .hbm, ⟨11, _⟩ => ⟨S128x1024, .bf16⟩
  | .hbm, ⟨12, _⟩ => ⟨S128x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S128x1024, .i1⟩
  | .hbm, ⟨19, _⟩ => ⟨S128x1024, .bf16⟩
  | .hbm, ⟨20, _⟩ => ⟨S128x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S128x1024, .i1⟩
  | .hbm, ⟨27, _⟩ => ⟨S128x1024, .bf16⟩
  | .hbm, ⟨28, _⟩ => ⟨S128x1024, .bf16⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S128x1024, .i1⟩
  | .hbm, ⟨35, _⟩ => ⟨S128x1024, .bf16⟩
  | .hbm, ⟨36, _⟩ => ⟨S128x1024, .bf16⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S128x1024, .i1⟩
  | .hbm, ⟨43, _⟩ => ⟨S128x1024, .bf16⟩
  | .hbm, ⟨44, _⟩ => ⟨S128x1024, .bf16⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S128x1024, .i1⟩
  | .hbm, ⟨51, _⟩ => ⟨S128x1024, .bf16⟩
  | .hbm, ⟨52, _⟩ => ⟨S128x1024, .bf16⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S128x1024, .i1⟩
  | .hbm, ⟨59, _⟩ => ⟨S128x1024, .bf16⟩
  | .hbm, ⟨60, _⟩ => ⟨S128x1024, .bf16⟩
  | .hbm, ⟨61, _⟩ => ⟨S128x1024, .f32⟩
  | .hbm, ⟨62, _⟩ => ⟨S7x128x1024, .f32⟩
  | .hbm, ⟨63, _⟩ => ⟨S_, .f32⟩
  | .hbm, ⟨64, _⟩ => ⟨S128x1024, .f32⟩
  | .hbm, ⟨65, _⟩ => ⟨S128x1024, .f32⟩
  | _, _ => ⟨S7x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel14.lean ====
abbrev S7x512x1408 : Shape := ⟨3, ![7, 512, 1408]⟩
abbrev S1024x5632 : Shape := ⟨2, ![1024, 5632]⟩
abbrev S_ : Shape := ⟨0, ![]⟩
abbrev S1 : Shape := ⟨1, ![1]⟩
abbrev S2 : Shape := ⟨1, ![2]⟩
abbrev S1024x1408 : Shape := ⟨2, ![1024, 1408]⟩
abbrev S256x1408 : Shape := ⟨2, ![256, 1408]⟩
abbrev S7x256x1408 : Shape := ⟨3, ![7, 256, 1408]⟩
abbrev S1x256x1408 : Shape := ⟨3, ![1, 256, 1408]⟩
abbrev S512x1408 : Shape := ⟨2, ![512, 1408]⟩

abbrev nBuf : Space → Nat
  | .hbm => 12
  | .vmem => 6
  | .smem => 1
  | _ => 0

abbrev bufTy : (tb : Table) → Fin (tcTables nBuf tb) → BufTy
  | .hbm, ⟨0, _⟩ => ⟨S7x512x1408, .bf16⟩
  | .hbm, ⟨1, _⟩ => ⟨S1024x5632, .bf16⟩
  | .hbm, ⟨2, _⟩ => ⟨S_, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S1024x1408, .f32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S512x1408, .f32⟩
  | .hbm, ⟨11, _⟩ => ⟨S512x1408, .f32⟩
  | .local _ .vmem, ⟨0, _⟩ => ⟨S256x1408, .bf16⟩
  | .local _ .vmem, ⟨1, _⟩ => ⟨S256x1408, .bf16⟩
  | .local _ .vmem, ⟨2, _⟩ => ⟨S7x256x1408, .bf16⟩
  | .local _ .vmem, ⟨3, _⟩ => ⟨S7x256x1408, .bf16⟩
  | .local _ .vmem, ⟨4, _⟩ => ⟨S256x1408, .f32⟩
  | .local _ .vmem, ⟨5, _⟩ => ⟨S256x1408, .f32⟩
  | .local _ .smem, ⟨0, _⟩ => ⟨S2, .i32⟩
  | _, _ => ⟨S7x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0 : Index := 0#32
  let v3 : BitVec 32 := pf.at 0 (Rect.unit (s := S2) ![0] S1.size inb_S2_S1_0) numel1_S1
  let c0_i32 : BitVec 32 := 0#32
  ![v2.toNat, v3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S7x512x1408 : Shape := ⟨3, ![7, 512, 1408]⟩
abbrev S1024x5632 : Shape := ⟨2, ![1024, 5632]⟩
abbrev S_ : Shape := ⟨0, ![]⟩
abbrev S512x1408 : Shape := ⟨2, ![512, 1408]⟩

abbrev nBuf : Space → Nat
  | .hbm => 66
  | .vmem => 0
  | .smem => 0
  | _ => 0

abbrev bufTy : (tb : Table) → Fin (tcTables nBuf tb) → BufTy
  | .hbm, ⟨0, _⟩ => ⟨S7x512x1408, .bf16⟩
  | .hbm, ⟨1, _⟩ => ⟨S1024x5632, .bf16⟩
  | .hbm, ⟨2, _⟩ => ⟨S_, .i32⟩
  | .hbm, ⟨3, _⟩ => ⟨S_, .i32⟩
  | .hbm, ⟨4, _⟩ => ⟨S512x1408, .bf16⟩
  | .hbm, ⟨5, _⟩ => ⟨S512x1408, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S512x1408, .i1⟩
  | .hbm, ⟨12, _⟩ => ⟨S512x1408, .bf16⟩
  | .hbm, ⟨13, _⟩ => ⟨S512x1408, .bf16⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S512x1408, .i1⟩
  | .hbm, ⟨20, _⟩ => ⟨S512x1408, .bf16⟩
  | .hbm, ⟨21, _⟩ => ⟨S512x1408, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S512x1408, .i1⟩
  | .hbm, ⟨28, _⟩ => ⟨S512x1408, .bf16⟩
  | .hbm, ⟨29, _⟩ => ⟨S512x1408, .bf16⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S512x1408, .i1⟩
  | .hbm, ⟨36, _⟩ => ⟨S512x1408, .bf16⟩
  | .hbm, ⟨37, _⟩ => ⟨S512x1408, .bf16⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S512x1408, .i1⟩
  | .hbm, ⟨44, _⟩ => ⟨S512x1408, .bf16⟩
  | .hbm, ⟨45, _⟩ => ⟨S512x1408, .bf16⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S512x1408, .i1⟩
  | .hbm, ⟨52, _⟩ => ⟨S512x1408, .bf16⟩
  | .hbm, ⟨53, _⟩ => ⟨S512x1408, .bf16⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S512x1408, .i1⟩
  | .hbm, ⟨60, _⟩ => ⟨S512x1408, .bf16⟩
  | .hbm, ⟨61, _⟩ => ⟨S512x1408, .f32⟩
  | .hbm, ⟨62, _⟩ => ⟨S7x512x1408, .f32⟩
  | .hbm, ⟨63, _⟩ => ⟨S_, .f32⟩
  | .hbm, ⟨64, _⟩ => ⟨S512x1408, .f32⟩
  | .hbm, ⟨65, _⟩ => ⟨S512x1408, .f32⟩
  | _, _ => ⟨S7x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_c_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Common.lean ====
/-  Products read at an index, for the dimension numbers the kernels use: a product whose left operand is
    contracted over its rows (`[K,M]ᵀ × [K,N]`). -/
module

public import Idealize.ShloMosaic.Lib.MatmulPlain
public import Idealize.ShloMosaic.Lib.ValueIdx
public import Idealize.ShloMosaic.Lib.IdealHost
public import Idealize.ShloMosaic.Lib.VecWindow
public import Idealize.ShloMosaic.Lib.Pipeline.ValueKit.Acc
public import Idealize.ShloMosaic.Lib.Pipeline.ValueKit.Geometry

@[expose] public section

noncomputable section

namespace Cert.Proof.Common

open Idealize.ShloMosaic Idealize.ShloMosaic.ValueIdx
open scoped BigOperators

/-- Reading the whole shape back from one store of the whole shape. -/
theorem canon_whole {S : Shape} {e : EltTy} (x : S.Idx → Elt Ideal e) :
    View.canon (Val := Elt Ideal) [⟨Rect.whole S, x⟩] = x :=
  View.canon_cons_unit_lit (Val := Elt Ideal) (S := S) (e := e) (off := fun _ => 0) (fun a => by simp) x [] (fun _ => rfl)

/-- A load of the whole shape after one store of the whole shape. -/
theorem readCov_whole {sig : RefSig} {κ : Kind} {sp : Space} {S : Shape} {e : EltTy} (v : View sig κ sp S e)
    {off : Fin S.rank → ℕ} (inb : ∀ a, off a + S.size a ≤ S.size a) (x : S.Idx → Elt Ideal e) :
    v.readCov (Val := Elt Ideal) [⟨Rect.whole S, x⟩] (Rect.unit off (no_index S.size) inb).toLoadRect = x :=
  View.readCov_full (Val := Elt Ideal) v (off' := fun _ => 0) inb (fun a => by simp) x []

/-- Reading a view that spans its buffer. -/
theorem read_whole {sig : RefSig} {κ : Kind} {V : EltTy → Type} (b : Ref sig κ) (x : b.ty.Contents V) :
    View.read V (View.whole b) x = x := rfl

theorem same_apply {V : EltTy → Type} {s : Shape} {e : EltTy} (x : s.Idx → V e) :
    (ReadAs.same (s := s) (e := e)).apply x = x := rfl

theorem ix2_congr {n0 n1 : ℕ} {a a' : Fin n0} {b b' : Fin n1} (ha : a.val = a'.val) (hb : b.val = b'.val) : ix2 a b = ix2 a' b' := by
  rw [Fin.ext ha, Fin.ext hb]

/-- An index is the one with its coordinates. -/
theorem eq_ix2_of {n0 n1 : ℕ} {j : (⟨2, ![n0, n1]⟩ : Shape).Idx} {a : Fin n0} {b : Fin n1} (ha : (j 0).val = a.val) (hb : (j 1).val = b.val) :
    j = ix2 a b := (eq_ix2 j).trans (ix2_congr ha hb)

theorem ix2_zero {n0 n1 : ℕ} (a : Fin n0) (b : Fin n1) : (ix2 a b) 0 = a := rfl
theorem ix2_one {n0 n1 : ℕ} (a : Fin n0) (b : Fin n1) : (ix2 a b) 1 = b := rfl

/-- `[K,M]ᵀ × [K,N]`: both operands contracted over their rows. -/
def rows (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)), by simp⟩

theorem rows_contr_rank (M K N : ℕ) : (rows M K N).contr.rank = 1 := rfl
theorem rows_contr_size (M K N : ℕ) : (rows M K N).contr.size ⟨0, by rw [rows_contr_rank]; exact Nat.one_pos⟩ = K := rfl

/-- `[K,M]ᵀ × [K,N]` read at `(r, c)`: the accumulator plus `Σ_k lhs[k,r] · rhs[k,c]`. -/
theorem matmul_rows_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rows M K N) prec lhs rhs acc (ix2 r c) = acc (ix2 r c) + ∑ k : Fin K, lhs (ix2 k r) * rhs (ix2 k c) := by
  rw [Ideal.matmul_apply, ← Equiv.sum_comp (contrEquiv1 _ K (rows_contr_rank M K N) (rows_contr_size M K N)).symm]
  refine congrArg (acc (ix2 r c) + ·) (Finset.sum_congr rfl fun k _ => ?_)
  have hk := contrEquiv1_symm_val _ K (rows_contr_rank M K N) (rows_contr_size M K N) k
  have el : (rows M K N).lhsIdx (ix2 r c) ((contrEquiv1 _ K (rows_contr_rank M K N) (rows_contr_size M K N)).symm k) = ix2 k r := by
    funext a; apply Fin.ext
    match a with
    | ⟨0, _⟩ => exact hk
    | ⟨1, _⟩ => rfl
  have er : (rows M K N).rhsIdx (ix2 r c) ((contrEquiv1 _ K (rows_contr_rank M K N) (rows_contr_size M K N)).symm k) = ix2 k c := by
    funext a; apply Fin.ext
    match a with
    | ⟨0, _⟩ => exact hk
    | ⟨1, _⟩ => rfl
  rw [el, er]

end Cert.Proof.Common

end
-- ==== Proof.Rows.lean ====
/-  An array some of whose rows are stored one at a time: what stores and loads of single rows leave and read, and sums
    over rows taken block by block. -/
module

public import proofs.«01_k».proof.Proof.Common
public import Idealize.ShloMosaic.Lib.Pipeline.ValueKit.Tiles
public import Idealize.ShloMosaic.Lib.Pointwise

@[expose] public section

noncomputable section

namespace Cert.Proof.Rows

open Idealize.ShloMosaic Cert.Proof.Common
open scoped BigOperators

variable {M N : ℕ} {e : EltTy} {Val : EltTy → Type}

/-- `X` with row `r` replaced by `p`. -/
def put (X : (⟨2, ![M, N]⟩ : Shape).Idx → Val e) (r : ℕ) (p : (⟨2, ![1, N]⟩ : Shape).Idx → Val e) :
    (⟨2, ![M, N]⟩ : Shape).Idx → Val e :=
  fun i => if (i 0).val = r then p (ix2 (n0 := 1) (n1 := N) 0 (i 1)) else X i

theorem emb_row (r : ℕ) (inb : ∀ a, (![r, 0] : Fin 2 → ℕ) a + (⟨2, ![1, N]⟩ : Shape).size a ≤ (⟨2, ![M, N]⟩ : Shape).size a)
    (y : (⟨2, ![M, N]⟩ : Shape).Idx) (h : (y 0).val = r) :
    (Rect.unit (s := (⟨2, ![M, N]⟩ : Shape)) ![r, 0] (⟨2, ![1, N]⟩ : Shape).size inb).emb (ix2 (n0 := 1) (n1 := N) 0 (y 1)) = y := by
  funext a
  apply Fin.ext
  refine (Rect.idx_unit_val (s := (⟨2, ![M, N]⟩ : Shape)) ![r, 0] (⟨2, ![1, N]⟩ : Shape).size inb _ a).trans ?_
  match a with
  | ⟨0, _⟩ => show r + 0 = (y 0).val; omega
  | ⟨1, _⟩ => show 0 + (y 1).val = (y 1).val; omega

theorem row_of_emb (r : ℕ) (inb : ∀ a, (![r, 0] : Fin 2 → ℕ) a + (⟨2, ![1, N]⟩ : Shape).size a ≤ (⟨2, ![M, N]⟩ : Shape).size a)
    (y : (⟨2, ![M, N]⟩ : Shape).Idx) (h : y ∈ (Rect.unit (s := (⟨2, ![M, N]⟩ : Shape)) ![r, 0] (⟨2, ![1, N]⟩ : Shape).size inb).set) :
    (y 0).val = r := by
  obtain ⟨x, rfl⟩ := LoadRect.exists_idx_of_mem _ h
  refine (Rect.idx_unit_val (s := (⟨2, ![M, N]⟩ : Shape)) ![r, 0] (⟨2, ![1, N]⟩ : Shape).size inb x 0).trans ?_
  have hx : (x 0).val < 1 := (x 0).isLt
  show r + (x 0).val = r
  omega

theorem canon_row [∀ e, Nonempty (Val e)] (r : ℕ)
    (inb : ∀ a, (![r, 0] : Fin 2 → ℕ) a + (⟨2, ![1, N]⟩ : Shape).size a ≤ (⟨2, ![M, N]⟩ : Shape).size a)
    (p : (⟨2, ![1, N]⟩ : Shape).Idx → Val e) (L : List (View.Piece Val (⟨2, ![M, N]⟩ : Shape) e)) :
    View.canon ((⟨Rect.unit (s := (⟨2, ![M, N]⟩ : Shape)) ![r, 0] (⟨2, ![1, N]⟩ : Shape).size inb, p⟩ :
      View.Piece Val (⟨2, ![M, N]⟩ : Shape) e) :: L) = put (View.canon L) r p := by
  funext y
  unfold put
  split
  · next h =>
    conv_lhs => rw [← emb_row r inb y h]
    exact View.canon_cons_emb _ _ _ _
  · next h => exact View.canon_cons_of_not_mem _ _ fun hm => h (row_of_emb r inb y hm)

theorem emb_col (q W : ℕ) (inb : ∀ a, (![0, q] : Fin 2 → ℕ) a + (⟨2, ![M, W]⟩ : Shape).size a ≤ (⟨2, ![M, N]⟩ : Shape).size a)
    (y : (⟨2, ![M, N]⟩ : Shape).Idx) (k : Fin W) (h : (y 1).val = q + k.val) :
    (Rect.unit (s := (⟨2, ![M, N]⟩ : Shape)) ![0, q] (⟨2, ![M, W]⟩ : Shape).size inb).emb (ix2 (n0 := M) (n1 := W) (y 0) k) = y := by
  funext a
  apply Fin.ext
  refine (Rect.idx_unit_val (s := (⟨2, ![M, N]⟩ : Shape)) ![0, q] (⟨2, ![M, W]⟩ : Shape).size inb _ a).trans ?_
  match a with
  | ⟨0, _⟩ => exact Nat.zero_add _
  | ⟨1, _⟩ => exact h.symm

theorem col_of_mem (q W : ℕ) (inb : ∀ a, (![0, q] : Fin 2 → ℕ) a + (⟨2, ![M, W]⟩ : Shape).size a ≤ (⟨2, ![M, N]⟩ : Shape).size a)
    (y : (⟨2, ![M, N]⟩ : Shape).Idx) (h : y ∈ (Rect.unit (s := (⟨2, ![M, N]⟩ : Shape)) ![0, q] (⟨2, ![M, W]⟩ : Shape).size inb).set) : q ≤ (y 1).val := by
  obtain ⟨x, rfl⟩ := LoadRect.exists_idx_of_mem _ h
  exact (Nat.le_add_right _ _).trans (Rect.idx_unit_val (s := (⟨2, ![M, N]⟩ : Shape)) ![0, q] (⟨2, ![M, W]⟩ : Shape).size inb x 1).ge

/-- Two stores of column ranges, the later on the right, read back on the right. -/
theorem canon_right [∀ e, Nonempty (Val e)] (q W : ℕ) (inb : ∀ a, (![0, q] : Fin 2 → ℕ) a + (⟨2, ![M, W]⟩ : Shape).size a ≤ (⟨2, ![M, N]⟩ : Shape).size a)
    (p : (⟨2, ![M, W]⟩ : Shape).Idx → Val e) (L : List (View.Piece Val (⟨2, ![M, N]⟩ : Shape) e)) (y : (⟨2, ![M, N]⟩ : Shape).Idx) (k : Fin W)
    (h : (y 1).val = q + k.val) :
    View.canon ((⟨Rect.unit (s := (⟨2, ![M, N]⟩ : Shape)) ![0, q] (⟨2, ![M, W]⟩ : Shape).size inb, p⟩ : View.Piece Val (⟨2, ![M, N]⟩ : Shape) e) :: L) y
      = p (ix2 (n0 := M) (n1 := W) (y 0) k) := by
  conv_lhs => rw [← emb_col q W inb y k h]
  exact View.canon_cons_emb _ _ _ _

/-- A store of a column range read back on the left of it. -/
theorem canon_left [∀ e, Nonempty (Val e)] (q W : ℕ) (inb : ∀ a, (![0, q] : Fin 2 → ℕ) a + (⟨2, ![M, W]⟩ : Shape).size a ≤ (⟨2, ![M, N]⟩ : Shape).size a)
    (p : (⟨2, ![M, W]⟩ : Shape).Idx → Val e) (L : List (View.Piece Val (⟨2, ![M, N]⟩ : Shape) e)) (y : (⟨2, ![M, N]⟩ : Shape).Idx)
    (h : (y 1).val < q) :
    View.canon ((⟨Rect.unit (s := (⟨2, ![M, N]⟩ : Shape)) ![0, q] (⟨2, ![M, W]⟩ : Shape).size inb, p⟩ : View.Piece Val (⟨2, ![M, N]⟩ : Shape) e) :: L) y
      = View.canon L y :=
  View.canon_cons_of_not_mem _ _ fun hm => absurd (col_of_mem q W inb y hm) (Nat.not_le.mpr h)

theorem writes_row {sig : RefSig} {κ : Kind} {sp : Space} (v : View sig κ sp (⟨2, ![M, N]⟩ : Shape) e) (f : v.ty.Contents Val) (r : ℕ)
    (inb : ∀ a, (![r, 0] : Fin 2 → ℕ) a + (⟨2, ![1, N]⟩ : Shape).size a ≤ (⟨2, ![M, N]⟩ : Shape).size a)
    (p : (⟨2, ![1, N]⟩ : Shape).Idx → Val e) (L : List (View.Piece Val (⟨2, ![M, N]⟩ : Shape) e)) :
    v.read Val (v.writes Val f ((⟨Rect.unit (s := (⟨2, ![M, N]⟩ : Shape)) ![r, 0] (⟨2, ![1, N]⟩ : Shape).size inb, p⟩ :
      View.Piece Val (⟨2, ![M, N]⟩ : Shape) e) :: L)) = put (v.read Val (v.writes Val f L)) r p := by
  funext y
  unfold put
  split
  · next h =>
    conv_lhs => rw [← emb_row r inb y h]
    exact View.read_writes_cons_emb _ _ _ _ _ _
  · next h =>
    rw [View.writes_cons]
    exact View.read_slice_write_of_not_mem _ _ _ _ (by rw [Rect.map_emb_univ]; exact fun hm => h (row_of_emb r inb y hm))

theorem ld_row (X : (⟨2, ![M, N]⟩ : Shape).Idx → Val e) (r c W : ℕ)
    (inb : ∀ a, (![r, c] : Fin 2 → ℕ) a + (![1, W] : Fin 2 → ℕ) a ≤ (⟨2, ![M, N]⟩ : Shape).size a)
    (hr : r < M) (k : Fin W) (hc : c + k.val < N) :
    View.ld X (Rect.unit (s := (⟨2, ![M, N]⟩ : Shape)) ![r, c] ![1, W] inb) (ix2 (n0 := 1) (n1 := W) 0 k)
      = X (ix2 ⟨r, hr⟩ ⟨c + k.val, hc⟩) :=
  View.ld_unit_apply_of X ![r, c] ![1, W] inb _ _ (fun a => match a with
    | ⟨0, _⟩ => by show r = r + 0; omega
    | ⟨1, _⟩ => rfl)

theorem ld_cols (X : (⟨2, ![M, N]⟩ : Shape).Idx → Val e) (c W : ℕ)
    (inb : ∀ a, (![0, c] : Fin 2 → ℕ) a + (![M, W] : Fin 2 → ℕ) a ≤ (⟨2, ![M, N]⟩ : Shape).size a)
    (r : Fin M) (k : Fin W) (hc : c + k.val < N) :
    View.ld X (Rect.unit (s := (⟨2, ![M, N]⟩ : Shape)) ![0, c] ![M, W] inb) (ix2 (n0 := M) (n1 := W) r k) = X (ix2 r ⟨c + k.val, hc⟩) :=
  View.ld_unit_apply_of X ![0, c] ![M, W] inb _ _ (fun a => match a with
    | ⟨0, _⟩ => (Nat.zero_add _).symm
    | ⟨1, _⟩ => rfl)

theorem readCov_ld [∀ e, Nonempty (Val e)] {sig : RefSig} {κ : Kind} {sp : Space} {S : Shape} (v : View sig κ sp S e)
    (L : List (View.Piece Val S e)) (r : Rect S) : v.readCov L r.toLoadRect = View.ld (View.canon L) r :=
  View.readCov_eq_canon' v L r.toLoadRect

theorem put_same (X : (⟨2, ![M, N]⟩ : Shape).Idx → Val e) (r : ℕ) (p : (⟨2, ![1, N]⟩ : Shape).Idx → Val e) (hr : r < M) (k : Fin N) :
    put X r p (ix2 ⟨r, hr⟩ k) = p (ix2 (n0 := 1) (n1 := N) 0 k) := if_pos rfl

theorem put_other (X : (⟨2, ![M, N]⟩ : Shape).Idx → Val e) (r r' : ℕ) (p : (⟨2, ![1, N]⟩ : Shape).Idx → Val e) (hr : r < M) (h : r ≠ r') (k : Fin N) :
    put X r' p (ix2 ⟨r, hr⟩ k) = X (ix2 ⟨r, hr⟩ k) := if_neg h

theorem ld_put_other (X : (⟨2, ![M, N]⟩ : Shape).Idx → Val e) (r r' : ℕ) (p : (⟨2, ![1, N]⟩ : Shape).Idx → Val e)
    (inb : ∀ a, (![r, 0] : Fin 2 → ℕ) a + (![1, N] : Fin 2 → ℕ) a ≤ (⟨2, ![M, N]⟩ : Shape).size a) (h : r ≠ r') :
    View.ld (put X r' p) (Rect.unit (s := (⟨2, ![M, N]⟩ : Shape)) ![r, 0] ![1, N] inb)
      = View.ld X (Rect.unit (s := (⟨2, ![M, N]⟩ : Shape)) ![r, 0] ![1, N] inb) := by
  funext x
  refine if_neg ?_
  have e := Rect.idx_unit_val (s := (⟨2, ![M, N]⟩ : Shape)) ![r, 0] ![1, N] inb x 0
  have hx : (x 0).val < 1 := (x 0).isLt
  have e' : ((Rect.unit (s := (⟨2, ![M, N]⟩ : Shape)) ![r, 0] ![1, N] inb).idx x 0).val = r + (x 0).val := e
  omega

end Cert.Proof.Rows

end
-- ==== Proof.StepA.lean ====
/-  The feed-forward half with the loss: what one point of the kernel leaves in its outputs and in the array of small
    gradients, by its own operations. -/
module

public import proofs.«01_k».proof.Proof.Gen.KernelIdeal.Value
public import proofs.«01_k».proof.Defs
public import proofs.«01_k».proof.Proof.Rows
public import Idealize.ShloMosaic.Lib.Pipeline.ValueKit.Acc
public import Idealize.ShloMosaic.Lib.Pipeline.ValueKit.Geometry
public import Idealize.ShloMosaic.Lib.Pipeline.ValueKit.Tiles
public import Idealize.ShloMosaic.PureOps.Ideal.Laws

@[expose] public section

noncomputable section

namespace Cert.Proof.Step

open Cert.KernelIdeal Cert.KernelIdeal.Gen Idealize.ShloMosaic Idealize.ShloMosaic.TcCoe Idealize.SL.Sem
open Cert.Proof.Common Cert.Proof.Rows
open Idealize.ShloMosaic.Pipeline (Dat)
open scoped BigOperators

/-- Two halves side by side. -/
def cols (p q : S256x2816.Idx → EReal) : S256x5632.Idx → EReal := fun i =>
  if h : (i 1).val < 2816 then p (ix2 (n0 := 256) (n1 := 2816) (i 0) ⟨(i 1).val, h⟩)
  else q (ix2 (n0 := 256) (n1 := 2816) (i 0) ⟨(i 1).val - 2816, by have h1 : (i 1).val < 5632 := (i 1).isLt; omega⟩)

/-- A row of the small array replaced. -/
abbrev pt (X : S48x1024.Idx → EReal) (r : ℕ) (p : S1x1024.Idx → EReal) : S48x1024.Idx → EReal := put (Val := Elt Ideal) (e := .f32) X r p

/-- The shift, the scale and the gate of the second half of the modulation. -/
def shv (md : S1x6144.Idx → EReal) : S1x1024.Idx → EReal := View.ld (Val := Elt Ideal) (e' := .f32) md (Rect.unit (s := S1x6144) ![0, 3072] ![1, 1024] inb_S1x6144_S1x1024_0_3072)
def scv (md : S1x6144.Idx → EReal) : S1x1024.Idx → EReal := View.ld (Val := Elt Ideal) (e' := .f32) md (Rect.unit (s := S1x6144) ![0, 4096] ![1, 1024] inb_S1x6144_S1x1024_0_4096)
def gtv (md : S1x6144.Idx → EReal) : S1x1024.Idx → EReal := View.ld (Val := Elt Ideal) (e' := .f32) md (Rect.unit (s := S1x6144) ![0, 5120] ![1, 1024] inb_S1x6144_S1x1024_0_5120)

/-- The two halves of the first weight matrix. -/
def wav (wi : S1024x5632.Idx → EReal) : S1024x2816.Idx → EReal := View.ld (Val := Elt Ideal) (e' := .bf16) wi (Rect.unit (s := S1024x5632) ![0, 0] ![1024, 2816] inb_S1024x5632_S1024x2816_0_0)
def wbv (wi : S1024x5632.Idx → EReal) : S1024x2816.Idx → EReal := View.ld (Val := Elt Ideal) (e' := .bf16) wi (Rect.unit (s := S1024x5632) ![0, 2816] ![1024, 2816] inb_S1024x5632_S1024x2816_0_2816)

section
variable (x t : S256x1024.Idx → EReal) (md : S1x6144.Idx → EReal) (gn gf : S1x1024.Idx → EReal) (wi : S1024x5632.Idx → EReal) (wo : S2816x1024.Idx → EReal)

def bh2 : S256x1024.Idx → EReal := k0_pay6 (F := Ideal) x (shv md) (scv md) gn
def ba : S256x2816.Idx → EReal := k0_pay7 (F := Ideal) (bh2 x md gn) (wav wi)
def bb : S256x2816.Idx → EReal := k0_pay8 (F := Ideal) (bh2 x md gn) (wbv wi)
def bsa : S256x2816.Idx → EReal := k0_pay9 (F := Ideal) (bh2 x md gn) (wav wi)
def bsi : S256x2816.Idx → EReal := k0_pay10 (F := Ideal) (bh2 x md gn) (wav wi)
def bhid : S256x2816.Idx → EReal := k0_pay11 (F := Ideal) (bh2 x md gn) (wav wi) (wbv wi)
def bffn : S256x1024.Idx → EReal := k0_pay12 (F := Ideal) (bh2 x md gn) (wav wi) (wbv wi) wo
def bxn3 : S256x1024.Idx → EReal := k0_pay15 (F := Ideal) x (gtv md) (bh2 x md gn) (wav wi) (wbv wi) wo
def bdiff : S256x1024.Idx → EReal := k0_pay16 (F := Ideal) x (gtv md) gf (bh2 x md gn) (wav wi) (wbv wi) wo t
def bdy : S256x1024.Idx → EReal := k0_pay17 (F := Ideal) x (gtv md) gf (bh2 x md gn) (wav wi) (wbv wi) wo t
def bdx2 : S256x1024.Idx → EReal := k0_pay18 (F := Ideal) x (gtv md) gf (bh2 x md gn) (wav wi) (wbv wi) wo t
def bdf : S256x1024.Idx → EReal := k0_pay22 (F := Ideal) (gtv md) (bdx2 x t md gn gf wi wo)
def bdhid : S256x2816.Idx → EReal := k0_pay23 (F := Ideal) (gtv md) (bdx2 x t md gn gf wi wo) wo
def bgb : S256x2816.Idx → EReal := k0_pay24 (F := Ideal) (gtv md) (bb x md gn wi) (bdx2 x t md gn gf wi wo) wo
def bds : S256x2816.Idx → EReal := k0_pay25 (F := Ideal) (ba x md gn wi) (bsa x md gn wi)
def bda : S256x2816.Idx → EReal := k0_pay28 (F := Ideal) (bgb x t md gn gf wi wo) (bds x md gn wi)
def bdb : S256x2816.Idx → EReal := k0_pay29 (F := Ideal) (bsi x md gn wi) (bdhid x t md gn gf wi wo)
def bdh2 : S256x1024.Idx → EReal := k0_pay30 (F := Ideal) (bsi x md gn wi) (bdhid x t md gn gf wi wo) (bgb x t md gn gf wi wo) (bds x md gn wi) (wav wi) (wbv wi)
def bdx1 : S256x1024.Idx → EReal :=
  k0_pay2 (F := Ideal) (scv md) gn (k0_pay4 x) (k0_pay5 x) (bdx2 x t md gn gf wi wo) (bdh2 x t md gn gf wi wo)

/-- The two halves of the hidden gradient side by side. -/
def bdab : S256x5632.Idx → EReal := cols (bda x t md gn gf wi wo) (bdb x t md gn gf wi wo)

variable (X : S48x1024.Idx → EReal)

def row45 : S1x1024.Idx → EReal := k0_pay19 (F := Ideal) (bxn3 x md gn wi wo) (bdy x t md gn gf wi wo) (View.ld (Val := Elt Ideal) (e' := .f32) X (Rect.unit (s := S48x1024) ![45, 0] ![1, 1024] inb_S48x1024_S1x1024_45_0))
def row5 : S1x1024.Idx → EReal := k0_pay20 (F := Ideal) (bffn x md gn wi wo) (bdx2 x t md gn gf wi wo) (View.ld (Val := Elt Ideal) (e' := .f32) X (Rect.unit (s := S48x1024) ![5, 0] ![1, 1024] inb_S48x1024_S1x1024_5_0))
def row46 : S1x1024.Idx → EReal := k0_pay21 (F := Ideal) (bdiff x t md gn gf wi wo) (View.ld (Val := Elt Ideal) (e' := .f32) X (Rect.unit (s := S48x1024) ![46, 0] ![1, 1024] inb_S48x1024_S1x1024_46_0))
def row3 : S1x1024.Idx → EReal := k0_pay31 (F := Ideal) (bsi x md gn wi) (bdhid x t md gn gf wi wo) (bgb x t md gn gf wi wo) (bds x md gn wi) (wav wi) (wbv wi)
  (View.ld (Val := Elt Ideal) (e' := .f32) X (Rect.unit (s := S48x1024) ![3, 0] ![1, 1024] inb_S48x1024_S1x1024_3_0))
def row4 : S1x1024.Idx → EReal := k0_pay32 (F := Ideal) gn (k0_pay5 x) (bsi x md gn wi) (bdhid x t md gn gf wi wo) (bgb x t md gn gf wi wo) (bds x md gn wi) (wav wi) (wbv wi)
  (View.ld (Val := Elt Ideal) (e' := .f32) X (Rect.unit (s := S48x1024) ![4, 0] ![1, 1024] inb_S48x1024_S1x1024_4_0))
def row44 : S1x1024.Idx → EReal := k0_pay1 (F := Ideal) (k0_pay33 (View.ld (Val := Elt Ideal) (e' := .f32) X (Rect.unit (s := S48x1024) ![44, 0] ![1, 1024] inb_S48x1024_S1x1024_44_0)))
  (k0_pay34 (F := Ideal) (k0_pay5 x) (bsi x md gn wi) (bdhid x t md gn gf wi wo) (bgb x t md gn gf wi wo) (bds x md gn wi) (wav wi) (wbv wi)) (k0_pay35 (scv md))

/-- The array of small gradients after a point that finds `X` in it. -/
def step : S48x1024.Idx → EReal :=
  pt (pt (pt (pt (pt (pt X 45 (row45 x t md gn gf wi wo X)) 5 (row5 x t md gn gf wi wo X)) 46 (row46 x t md gn gf wi wo X))
    3 (row3 x t md gn gf wi wo X)) 4 (row4 x t md gn gf wi wo X)) 44 (row44 x t md gn gf wi wo X)

/-- What a point leaves: its five blocks, the small array, and the weights. -/
def pointOut : (S256x1024.Idx → EReal) × (S256x2816.Idx → EReal) × (S256x1024.Idx → EReal) × (S256x5632.Idx → EReal) × (S256x1024.Idx → EReal) ×
    (S48x1024.Idx → EReal) × (S1024x5632.Idx → EReal) × (S2816x1024.Idx → EReal) :=
  (bh2 x md gn, bhid x md gn wi, bdf x t md gn gf wi wo, bdab x t md gn gf wi wo, bdx1 x t md gn gf wi wo, step x t md gn gf wi wo X, wi, wo)
end

theorem canon_bdab (inb : ∀ a, (![0, 2816] : Fin 2 → ℕ) a + S256x2816.size a ≤ S256x5632.size a)
    (inb' : ∀ a, (![0, 0] : Fin 2 → ℕ) a + S256x2816.size a ≤ S256x5632.size a) (p q : S256x2816.Idx → EReal) :
    View.canon (Val := Elt Ideal) (e := .bf16) [(⟨Rect.unit (s := S256x5632) ![0, 2816] S256x2816.size inb, q⟩ : View.Piece (Elt Ideal) S256x5632 .bf16),
      (⟨Rect.unit (s := S256x5632) ![0, 0] S256x2816.size inb', p⟩ : View.Piece (Elt Ideal) S256x5632 .bf16)] = cols p q := by
  funext y
  have h1 : (y 1).val < 5632 := (y 1).isLt
  unfold cols
  split
  · next h =>
    refine (canon_left (M := 256) (N := 5632) (e := .bf16) (Val := Elt Ideal) 2816 2816 inb q _ y h).trans ?_
    exact canon_right (M := 256) (N := 5632) (e := .bf16) (Val := Elt Ideal) 0 2816 inb' p [] y ⟨_, h⟩ (Nat.zero_add _).symm
  · next h =>
    exact canon_right (M := 256) (N := 5632) (e := .bf16) (Val := Elt Ideal) 2816 2816 inb q _ y ⟨(y 1).val - 2816, by omega⟩ (by dsimp only; omega)

variable (m : (ℓ : Loc nD τ sig) → Buf (Elt Ideal) ℓ)

abbrev prev (c : Dev nD) (t : Fin cfg0.N) := outsAt0 m c (t.val - 1) (Nat.lt_of_le_of_lt (Nat.sub_le _ _) t.isLt)

set_option maxHeartbeats 1000000 in
theorem after_A (c : Dev nD) (t : Fin cfg0.N) (h : t.val % 32 = 0) :
    outsAt0 m c t.val t.isLt = pointOut (iblk m c 0 t) (iblk m c 1 t) (iblk m c 2 t) (iblk m c 3 t) (iblk m c 4 t) (V m c main_arg5) (V m c main_arg6) (k0_pay3 (F := Ideal)) := by
  rw [outsAt0_A m c t h h]
  frame_out
  simp only [readCov_whole]
  simp only [canon_whole, readCov_ld]
  have w5 : (ReadAs.same.apply (View.read (Elt Ideal) (View.whole main_arg5) (V m c main_arg5)) : S1024x5632.Idx → EReal) = V m c main_arg5 := rfl
  have w6 : (ReadAs.same.apply (View.read (Elt Ideal) (View.whole main_arg6) (V m c main_arg6)) : S2816x1024.Idx → EReal) = V m c main_arg6 := rfl
  generalize V m c main_arg5 = v5 at *
  generalize V m c main_arg6 = v6 at *
  generalize ReadAs.same.apply (View.read (Elt Ideal) (View.whole main_arg5) v5) = u5 at *
  generalize ReadAs.same.apply (View.read (Elt Ideal) (View.whole main_arg6) v6) = u6 at *
  subst w5 w6
  generalize iblk m c 0 t = x0
  generalize iblk m c 1 t = x1
  generalize iblk m c 2 t = x2
  generalize iblk m c 3 t = x3
  generalize iblk m c 4 t = x4
  unfold pointOut
  refine Prod.ext (by dsimp only; rfl) (Prod.ext ?_ (Prod.ext ?_ (Prod.ext ?_ (Prod.ext ?_ (Prod.ext ?_ (Prod.ext rfl rfl))))))
  · dsimp only
    unfold bhid bh2 shv scv wav wbv
    rfl
  · dsimp only
    unfold bdf bdx2 bh2 shv scv gtv wav wbv
    rfl
  · dsimp only
    exact canon_bdab _ _ _ _
  · dsimp only
    rfl
  · dsimp only
    have hz : View.canon (Val := Elt Ideal) [(⟨Rect.unit (s := S48x1024) ![0, 0] ![48, 1024] inb_S48x1024_S48x1024_0_0, k0_pay3 (F := Ideal)⟩ : View.Piece (Elt Ideal) S48x1024 .f32)] = k0_pay3 (F := Ideal) :=
      View.canon_cons_unit_lit (Val := Elt Ideal) (S := S48x1024) (e := .f32) inb_S48x1024_S48x1024_0_0 _ [] (by decide)
    refine (canon_row (M := 48) (N := 1024) (e := .f32) (Val := Elt Ideal) 44 inb_S48x1024_S1x1024_44_0 _ _).trans ?_
    rw [canon_row (M := 48) (N := 1024) (e := .f32) (Val := Elt Ideal) 4 inb_S48x1024_S1x1024_4_0,
      canon_row (M := 48) (N := 1024) (e := .f32) (Val := Elt Ideal) 3 inb_S48x1024_S1x1024_3_0,
      canon_row (M := 48) (N := 1024) (e := .f32) (Val := Elt Ideal) 46 inb_S48x1024_S1x1024_46_0,
      canon_row (M := 48) (N := 1024) (e := .f32) (Val := Elt Ideal) 5 inb_S48x1024_S1x1024_5_0,
      canon_row (M := 48) (N := 1024) (e := .f32) (Val := Elt Ideal) 45 inb_S48x1024_S1x1024_45_0, hz]
    simp (disch := decide) only [ld_put_other (M := 48) (N := 1024) (e := .f32) (Val := Elt Ideal)]
    rfl

set_option maxHeartbeats 1000000 in
theorem after_B (c : Dev nD) (t : Fin cfg0.N) (h : ¬ t.val % 32 = 0) :
    outsAt0 m c t.val t.isLt = pointOut (iblk m c 0 t) (iblk m c 1 t) (iblk m c 2 t) (iblk m c 3 t) (iblk m c 4 t)
      (prev m c t).2.2.2.2.2.2.1 (prev m c t).2.2.2.2.2.2.2 (prev m c t).2.2.2.2.2.1 := by
  rw [outsAt0_B m c t h h]
  frame_out
  have hr : View.read (Elt Ideal) (View.whole cc0_scratch0) ((Memref.isWhole_whole cc0_scratch0).unread (prev m c t).2.2.2.2.2.2.1) = (prev m c t).2.2.2.2.2.2.1 :=
    (Memref.isWhole_whole cc0_scratch0).read_unread _
  have hr' : View.read (Elt Ideal) (View.whole cc0_scratch1) ((Memref.isWhole_whole cc0_scratch1).unread (prev m c t).2.2.2.2.2.2.2) = (prev m c t).2.2.2.2.2.2.2 :=
    (Memref.isWhole_whole cc0_scratch1).read_unread _
  simp only [hr, hr']
  unfold pointOut
  refine Prod.ext (by dsimp only; rfl) (Prod.ext ?_ (Prod.ext ?_ (Prod.ext ?_ (Prod.ext ?_ (Prod.ext ?_ (Prod.ext rfl rfl))))))
  · dsimp only
    unfold bhid bh2 shv scv wav wbv
    rfl
  · dsimp only
    unfold bdf bdx2 bh2 shv scv gtv wav wbv
    rfl
  · dsimp only
    exact canon_bdab _ _ _ _
  · dsimp only
    rfl
  · dsimp only
    refine (writes_row (M := 48) (N := 1024) (e := .f32) (Val := Elt Ideal) _ _ 44 inb_S48x1024_S1x1024_44_0 _ _).trans ?_
    rw [writes_row (M := 48) (N := 1024) (e := .f32) (Val := Elt Ideal) _ _ 4 inb_S48x1024_S1x1024_4_0,
      writes_row (M := 48) (N := 1024) (e := .f32) (Val := Elt Ideal) _ _ 3 inb_S48x1024_S1x1024_3_0,
      writes_row (M := 48) (N := 1024) (e := .f32) (Val := Elt Ideal) _ _ 46 inb_S48x1024_S1x1024_46_0,
      writes_row (M := 48) (N := 1024) (e := .f32) (Val := Elt Ideal) _ _ 5 inb_S48x1024_S1x1024_5_0,
      writes_row (M := 48) (N := 1024) (e := .f32) (Val := Elt Ideal) _ _ 45 inb_S48x1024_S1x1024_45_0, View.writes_nil, (hs0_10 t).read_unread]
    rfl

end Cert.Proof.Step

end
-- ==== Proof.StepB.lean ====
/-  The feed-forward half with the loss, written row by row over the extended reals, and the kernel's blocks read at an
    index as these rows. -/
module

public import proofs.«01_k».proof.Proof.StepA
public import Idealize.ShloMosaic.Lib.Pointwise

@[expose] public section

noncomputable section

namespace Cert.Proof.Step

open Cert.KernelIdeal Cert.KernelIdeal.Gen Idealize.ShloMosaic Idealize.ShloMosaic.TcCoe Idealize.SL.Sem
open Cert.Proof.Common Cert.Proof.Rows
open scoped BigOperators

/-- The parameters of the half: shift, scale and gate, the two norms' gains, and the weight matrices. -/
structure Par where
  sh : Fin 1024 → EReal
  sc : Fin 1024 → EReal
  gt : Fin 1024 → EReal
  gn : Fin 1024 → EReal
  gf : Fin 1024 → EReal
  A : Fin 1024 → Fin 2816 → EReal
  B : Fin 1024 → Fin 2816 → EReal
  O : Fin 2816 → Fin 1024 → EReal

/-- The parameters read out of the arrays. -/
def par (md : (⟨2, ![1, 6144]⟩ : Shape).Idx → EReal) (gn gf : (⟨2, ![1, 1024]⟩ : Shape).Idx → EReal)
    (wi : (⟨2, ![1024, 5632]⟩ : Shape).Idx → EReal) (wo : (⟨2, ![2816, 1024]⟩ : Shape).Idx → EReal) : Par where
  sh k := md (ix2 0 ⟨3072 + k.val, by omega⟩)
  sc k := md (ix2 0 ⟨4096 + k.val, by omega⟩)
  gt k := md (ix2 0 ⟨5120 + k.val, by omega⟩)
  gn k := gn (ix2 0 k)
  gf k := gf (ix2 0 k)
  A k j := wi (ix2 k ⟨0 + j.val, by omega⟩)
  B k j := wi (ix2 k ⟨2816 + j.val, by omega⟩)
  O j k := wo (ix2 j k)

/-- Row `n` of an array of rows. -/
def row {M : ℕ} (x : (⟨2, ![M, 1024]⟩ : Shape).Idx → EReal) (n : Fin M) : Fin 1024 → EReal := fun k => x (ix2 n k)

/-- The reciprocal root mean square of a row. -/
def rsq (x : Fin 1024 → EReal) : EReal :=
  Ideal.rsqrt (Ideal.div (∑ k, x k * x k) (Ideal.ofBits .f32 0x44800000#32) + Ideal.ofBits .f32 0x358637BD#32)

section
variable (p : Par) (x t : Fin 1024 → EReal)

def fH (k : Fin 1024) : EReal := x k * rsq x * p.gn k * (1 + p.sc k) + p.sh k
def fa (j : Fin 2816) : EReal := ∑ k, fH p x k * p.A k j
def fb (j : Fin 2816) : EReal := ∑ k, fH p x k * p.B k j
def fs (j : Fin 2816) : EReal := Ideal.logistic (fa p x j)
def fhid (j : Fin 2816) : EReal := fa p x j * fs p x j * fb p x j
def fffn (k : Fin 1024) : EReal := ∑ j, fhid p x j * p.O j k
def fx2 (k : Fin 1024) : EReal := x k + p.gt k * fffn p x k
def fxn3 (k : Fin 1024) : EReal := fx2 p x k * rsq (fx2 p x)
def fdiff (k : Fin 1024) : EReal := fxn3 p x k * p.gf k - t k
def fdy (k : Fin 1024) : EReal := fdiff p x t k * Ideal.ofBits .f32 0x3A800000#32
def fdx2 (k : Fin 1024) : EReal := rsq (fx2 p x) * (fdy p x t k * p.gf k - fxn3 p x k *
  Ideal.div (∑ l, fdy p x t l * p.gf l * fxn3 p x l) (Ideal.ofBits .f32 0x44800000#32))
def fdf (k : Fin 1024) : EReal := fdx2 p x t k * p.gt k
def fdhid (j : Fin 2816) : EReal := ∑ k, fdf p x t k * p.O j k
def fda (j : Fin 2816) : EReal := fdhid p x t j * fb p x j * (fs p x j * (1 + fa p x j * (1 - fs p x j)))
def fdb (j : Fin 2816) : EReal := fdhid p x t j * (fa p x j * fs p x j)
def fdh2 (k : Fin 1024) : EReal := (∑ j, fda p x t j * p.A k j) + ∑ j, fdb p x t j * p.B k j
def fdx1 (k : Fin 1024) : EReal := fdx2 p x t k + rsq x * (fdh2 p x t k * p.gn k * (1 + p.sc k) - x k * rsq x *
  Ideal.div (∑ l, fdh2 p x t l * p.gn l * (1 + p.sc l) * (x l * rsq x)) (Ideal.ofBits .f32 0x44800000#32))

/-- What a row adds to row `o` of the small array. -/
def part (o : ℕ) (k : Fin 1024) : EReal :=
  if o = 3 then fdh2 p x t k
  else if o = 4 then fdh2 p x t k * (x k * rsq x * p.gn k)
  else if o = 5 then fdx2 p x t k * fffn p x k
  else if o = 44 then fdh2 p x t k * (x k * rsq x) * (1 + p.sc k)
  else if o = 45 then fdy p x t k * fxn3 p x k
  else if o = 46 then fdiff p x t k * fdiff p x t k
  else 0

/-- The two halves of the hidden gradient side by side. -/
def fdab (j : Fin 5632) : EReal := if h : j.val < 2816 then fda p x t ⟨j.val, h⟩ else fdb p x t ⟨j.val - 2816, by omega⟩
end

section
variable (x t : S256x1024.Idx → EReal) (md : S1x6144.Idx → EReal) (gn gf : S1x1024.Idx → EReal) (wi : S1024x5632.Idx → EReal) (wo : S2816x1024.Idx → EReal)
variable (r : Fin 256)

theorem ld_sh (k : Fin 1024) : shv md (ix2 0 k) = (par md gn gf wi wo).sh k :=
  ld_row (M := 1) (N := 6144) (e := .f32) (Val := Elt Ideal) md 0 3072 1024 inb_S1x6144_S1x1024_0_3072 (by decide) k (by omega)
theorem ld_sc (k : Fin 1024) : scv md (ix2 0 k) = (par md gn gf wi wo).sc k :=
  ld_row (M := 1) (N := 6144) (e := .f32) (Val := Elt Ideal) md 0 4096 1024 inb_S1x6144_S1x1024_0_4096 (by decide) k (by omega)
theorem ld_gt (k : Fin 1024) : gtv md (ix2 0 k) = (par md gn gf wi wo).gt k :=
  ld_row (M := 1) (N := 6144) (e := .f32) (Val := Elt Ideal) md 0 5120 1024 inb_S1x6144_S1x1024_0_5120 (by decide) k (by omega)

theorem ld_A (k : Fin 1024) (j : Fin 2816) : wav wi (ix2 k j) = (par md gn gf wi wo).A k j :=
  ld_cols (M := 1024) (N := 5632) (e := .bf16) (Val := Elt Ideal) wi 0 2816 inb_S1024x5632_S1024x2816_0_0 k j (by omega)
theorem ld_B (k : Fin 1024) (j : Fin 2816) : wbv wi (ix2 k j) = (par md gn gf wi wo).B k j :=
  ld_cols (M := 1024) (N := 5632) (e := .bf16) (Val := Elt Ideal) wi 2816 2816 inb_S1024x5632_S1024x2816_0_2816 k j (by omega)

theorem pay4 : k0_pay4 (F := Ideal) x (ix2 r 0) = rsq (row x r) := by
  pointwise [k0_pay4]
  rfl

theorem pay5 (k : Fin 1024) : k0_pay5 (F := Ideal) x (ix2 r k) = row x r k * rsq (row x r) := by
  pointwise [k0_pay5]
  rw [pay4]
  rfl

theorem bh2_apply (k : Fin 1024) : bh2 x md gn (ix2 r k) = fH (par md gn gf wi wo) (row x r) k := by
  unfold bh2 fH
  pointwise [k0_pay6]
  rw [pay5, ld_sh md gn gf wi wo, ld_sc md gn gf wi wo]
  rfl

theorem ba_apply (j : Fin 2816) : ba x md gn wi (ix2 r j) = fa (par md gn gf wi wo) (row x r) j := by
  unfold ba fa
  pointwise [k0_pay7]
  simp only [bh2_apply x md gn gf wi wo, ld_A md gn gf wi wo]

theorem bb_apply (j : Fin 2816) : bb x md gn wi (ix2 r j) = fb (par md gn gf wi wo) (row x r) j := by
  unfold bb fb
  pointwise [k0_pay8]
  simp only [bh2_apply x md gn gf wi wo, ld_B md gn gf wi wo]

theorem bsa_apply (j : Fin 2816) : bsa x md gn wi (ix2 r j) = fs (par md gn gf wi wo) (row x r) j := by
  unfold bsa fs
  pointwise [k0_pay9]
  exact congrArg Ideal.logistic (ba_apply x md gn gf wi wo r j)

theorem bsi_apply (j : Fin 2816) : bsi x md gn wi (ix2 r j) = fa (par md gn gf wi wo) (row x r) j * fs (par md gn gf wi wo) (row x r) j := by
  unfold bsi
  pointwise [k0_pay10]
  exact congrArg₂ (· * ·) (ba_apply x md gn gf wi wo r j) (bsa_apply x md gn gf wi wo r j)

theorem bhid_apply (j : Fin 2816) : bhid x md gn wi (ix2 r j) = fhid (par md gn gf wi wo) (row x r) j := by
  unfold bhid
  pointwise [k0_pay11]
  exact congrArg₂ (· * ·) (bsi_apply x md gn gf wi wo r j) (bb_apply x md gn gf wi wo r j)

theorem bffn_apply (k : Fin 1024) : bffn x md gn wi wo (ix2 r k) = fffn (par md gn gf wi wo) (row x r) k := by
  unfold bffn fffn
  pointwise [k0_pay12]
  exact Finset.sum_congr rfl fun j _ => congrArg (· * wo (ix2 j k)) (bhid_apply x md gn gf wi wo r j)

theorem bx2_apply (k : Fin 1024) : k0_pay13 (F := Ideal) x (gtv md) (bh2 x md gn) (wav wi) (wbv wi) wo (ix2 r k) = fx2 (par md gn gf wi wo) (row x r) k := by
  unfold fx2
  pointwise [k0_pay13]
  rw [ld_gt md gn gf wi wo]
  exact congrArg (fun z => x (ix2 r k) + _ * z) (bffn_apply x md gn gf wi wo r k)

theorem br3_apply : k0_pay14 (F := Ideal) x (gtv md) (bh2 x md gn) (wav wi) (wbv wi) wo (ix2 r 0) = rsq (fx2 (par md gn gf wi wo) (row x r)) := by
  unfold rsq
  pointwise [k0_pay14]
  simp only [bx2_apply x md gn gf wi wo]

theorem bxn3_apply (k : Fin 1024) : bxn3 x md gn wi wo (ix2 r k) = fxn3 (par md gn gf wi wo) (row x r) k := by
  unfold bxn3 fxn3
  pointwise [k0_pay15]
  rw [bx2_apply x md gn gf wi wo, br3_apply x md gn gf wi wo]

theorem bdiff_apply (k : Fin 1024) : bdiff x t md gn gf wi wo (ix2 r k) = fdiff (par md gn gf wi wo) (row x r) (row t r) k := by
  unfold bdiff fdiff
  pointwise [k0_pay16]
  exact congrArg (fun z => z * gf (ix2 0 k) - t (ix2 r k)) (bxn3_apply x md gn gf wi wo r k)

theorem bdy_apply (k : Fin 1024) : bdy x t md gn gf wi wo (ix2 r k) = fdy (par md gn gf wi wo) (row x r) (row t r) k := by
  unfold bdy fdy
  pointwise [k0_pay17]
  exact congrArg (· * _) (bdiff_apply x t md gn gf wi wo r k)

theorem bdx2_apply (k : Fin 1024) : bdx2 x t md gn gf wi wo (ix2 r k) = fdx2 (par md gn gf wi wo) (row x r) (row t r) k := by
  have h1 := fun l => bdy_apply x t md gn gf wi wo r l
  have h2 := fun l => bxn3_apply x md gn gf wi wo r l
  unfold bdy at h1
  unfold bxn3 at h2
  unfold bdx2 fdx2
  pointwise [k0_pay18]
  simp only [h1, h2, br3_apply x md gn gf wi wo]
  rfl

theorem bdf_apply (k : Fin 1024) : bdf x t md gn gf wi wo (ix2 r k) = fdf (par md gn gf wi wo) (row x r) (row t r) k := by
  unfold bdf fdf
  pointwise [k0_pay22]
  rw [bdx2_apply, ld_gt md gn gf wi wo]

theorem bdhid_apply (j : Fin 2816) : bdhid x t md gn gf wi wo (ix2 r j) = fdhid (par md gn gf wi wo) (row x r) (row t r) j := by
  have h1 := fun l => bdf_apply x t md gn gf wi wo r l
  unfold bdf at h1
  unfold bdhid fdhid
  pointwise [k0_pay23]
  simp only [h1]
  rfl

theorem bgb_apply (j : Fin 2816) : bgb x t md gn gf wi wo (ix2 r j) = fdhid (par md gn gf wi wo) (row x r) (row t r) j * fb (par md gn gf wi wo) (row x r) j := by
  unfold bgb
  pointwise [k0_pay24]
  exact congrArg₂ (· * ·) (bdhid_apply x t md gn gf wi wo r j) (bb_apply x md gn gf wi wo r j)

theorem bds_apply (j : Fin 2816) : bds x md gn wi (ix2 r j) = fs (par md gn gf wi wo) (row x r) j * (1 + fa (par md gn gf wi wo) (row x r) j * (1 - fs (par md gn gf wi wo) (row x r) j)) := by
  unfold bds
  pointwise [k0_pay25]
  rw [ba_apply x md gn gf wi wo, bsa_apply x md gn gf wi wo]

theorem bda_apply' (j : Fin 2816) : k0_pay26 (F := Ideal) (bgb x t md gn gf wi wo) (bds x md gn wi) (ix2 r j) = fda (par md gn gf wi wo) (row x r) (row t r) j := by
  unfold fda
  pointwise [k0_pay26]
  rw [bgb_apply, bds_apply x md gn gf wi wo]

theorem bdb_apply' (j : Fin 2816) : k0_pay27 (F := Ideal) (bsi x md gn wi) (bdhid x t md gn gf wi wo) (ix2 r j) = fdb (par md gn gf wi wo) (row x r) (row t r) j := by
  unfold fdb
  pointwise [k0_pay27]
  rw [bdhid_apply, bsi_apply x md gn gf wi wo]

theorem bda_apply (j : Fin 2816) : bda x t md gn gf wi wo (ix2 r j) = fda (par md gn gf wi wo) (row x r) (row t r) j := by
  unfold bda
  pointwise [k0_pay28]
  exact bda_apply' x t md gn gf wi wo r j

theorem bdb_apply (j : Fin 2816) : bdb x t md gn gf wi wo (ix2 r j) = fdb (par md gn gf wi wo) (row x r) (row t r) j := by
  unfold bdb
  pointwise [k0_pay29]
  exact bdb_apply' x t md gn gf wi wo r j

theorem bdab_apply (j : Fin 5632) : bdab x t md gn gf wi wo (ix2 r j) = fdab (par md gn gf wi wo) (row x r) (row t r) j := by
  unfold bdab cols fdab
  by_cases h : j.val < 2816
  · refine (dif_pos h).trans ?_
    rw [dif_pos h]
    exact bda_apply x t md gn gf wi wo r ⟨j.val, h⟩
  · refine (dif_neg h).trans ?_
    rw [dif_neg h]
    exact bdb_apply x t md gn gf wi wo r ⟨j.val - 2816, by omega⟩

theorem bdh2_apply (k : Fin 1024) : bdh2 x t md gn gf wi wo (ix2 r k) = fdh2 (par md gn gf wi wo) (row x r) (row t r) k := by
  unfold bdh2 fdh2
  pointwise [k0_pay30]
  simp only [bda_apply', bdb_apply', ld_A md gn gf wi wo, ld_B md gn gf wi wo]

theorem bdx1_apply (k : Fin 1024) : bdx1 x t md gn gf wi wo (ix2 r k) = fdx1 (par md gn gf wi wo) (row x r) (row t r) k := by
  unfold bdx1 fdx1
  pointwise [k0_pay2]
  simp only [pay4, pay5, bdh2_apply, bdx2_apply, ld_sc md gn gf wi wo]
  rfl
end

end Cert.Proof.Step

end
-- ==== Proof.StepC.lean ====
/-  The small array after a point, and the arrays the kernel leaves after its last point. -/
module

public import proofs.«01_k».proof.Proof.StepB
public import Idealize.ShloMosaic.Lib.Pipeline.ValueKit.Point

@[expose] public section

noncomputable section

namespace Cert.Proof.Step

open Cert.KernelIdeal Cert.KernelIdeal.Gen Idealize.ShloMosaic Idealize.ShloMosaic.TcCoe Idealize.SL.Sem
open Cert.Proof.Common Cert.Proof.Rows
open Idealize.ShloMosaic.Pipeline (Dat)
open scoped BigOperators

section
variable (x t : S256x1024.Idx → EReal) (md : S1x6144.Idx → EReal) (gn gf : S1x1024.Idx → EReal) (wi : S1024x5632.Idx → EReal) (wo : S2816x1024.Idx → EReal)
variable (X : S48x1024.Idx → EReal) (k : Fin 1024)

theorem row45_apply : row45 x t md gn gf wi wo X (ix2 0 k) = X (ix2 ⟨45, by decide⟩ k)
    + ∑ r : Fin 256, part (par md gn gf wi wo) (row x r) (row t r) 45 k := by
  unfold row45
  generalize hX : View.ld (Val := Elt Ideal) (e' := .f32) X (Rect.unit (s := S48x1024) ![45, 0] ![1, 1024] inb_S48x1024_S1x1024_45_0) = XX
  have hl : XX (ix2 0 k) = X (ix2 ⟨45, by decide⟩ k) :=
    hX ▸ (ld_row (M := 48) (N := 1024) (e := .f32) (Val := Elt Ideal) X 45 0 1024 inb_S48x1024_S1x1024_45_0 (by decide) k (by omega)).trans (by simp)
  pointwise [k0_pay19]
  simp only [bxn3_apply x md gn gf wi wo, bdy_apply x t md gn gf wi wo, hl]
  rfl

theorem row5_apply : row5 x t md gn gf wi wo X (ix2 0 k) = X (ix2 ⟨5, by decide⟩ k)
    + ∑ r : Fin 256, part (par md gn gf wi wo) (row x r) (row t r) 5 k := by
  unfold row5
  generalize hX : View.ld (Val := Elt Ideal) (e' := .f32) X (Rect.unit (s := S48x1024) ![5, 0] ![1, 1024] inb_S48x1024_S1x1024_5_0) = XX
  have hl : XX (ix2 0 k) = X (ix2 ⟨5, by decide⟩ k) :=
    hX ▸ (ld_row (M := 48) (N := 1024) (e := .f32) (Val := Elt Ideal) X 5 0 1024 inb_S48x1024_S1x1024_5_0 (by decide) k (by omega)).trans (by simp)
  pointwise [k0_pay20]
  simp only [bffn_apply x md gn gf wi wo, bdx2_apply x t md gn gf wi wo, hl]
  rfl

theorem row46_apply : row46 x t md gn gf wi wo X (ix2 0 k) = X (ix2 ⟨46, by decide⟩ k)
    + ∑ r : Fin 256, part (par md gn gf wi wo) (row x r) (row t r) 46 k := by
  unfold row46
  generalize hX : View.ld (Val := Elt Ideal) (e' := .f32) X (Rect.unit (s := S48x1024) ![46, 0] ![1, 1024] inb_S48x1024_S1x1024_46_0) = XX
  have hl : XX (ix2 0 k) = X (ix2 ⟨46, by decide⟩ k) :=
    hX ▸ (ld_row (M := 48) (N := 1024) (e := .f32) (Val := Elt Ideal) X 46 0 1024 inb_S48x1024_S1x1024_46_0 (by decide) k (by omega)).trans (by simp)
  pointwise [k0_pay21]
  simp only [bdiff_apply x t md gn gf wi wo, hl]
  rfl

theorem row3_apply : row3 x t md gn gf wi wo X (ix2 0 k) = X (ix2 ⟨3, by decide⟩ k)
    + ∑ r : Fin 256, part (par md gn gf wi wo) (row x r) (row t r) 3 k := by
  unfold row3
  have h30 := fun r l => bdh2_apply x t md gn gf wi wo r l
  unfold bdh2 at h30
  generalize hX : View.ld (Val := Elt Ideal) (e' := .f32) X (Rect.unit (s := S48x1024) ![3, 0] ![1, 1024] inb_S48x1024_S1x1024_3_0) = XX
  have hl : XX (ix2 0 k) = X (ix2 ⟨3, by decide⟩ k) :=
    hX ▸ (ld_row (M := 48) (N := 1024) (e := .f32) (Val := Elt Ideal) X 3 0 1024 inb_S48x1024_S1x1024_3_0 (by decide) k (by omega)).trans (by simp)
  pointwise [k0_pay31]
  simp only [h30, hl]
  rfl

theorem row4_apply : row4 x t md gn gf wi wo X (ix2 0 k) = X (ix2 ⟨4, by decide⟩ k)
    + ∑ r : Fin 256, part (par md gn gf wi wo) (row x r) (row t r) 4 k := by
  unfold row4
  have h30 := fun r l => bdh2_apply x t md gn gf wi wo r l
  unfold bdh2 at h30
  generalize hX : View.ld (Val := Elt Ideal) (e' := .f32) X (Rect.unit (s := S48x1024) ![4, 0] ![1, 1024] inb_S48x1024_S1x1024_4_0) = XX
  have hl : XX (ix2 0 k) = X (ix2 ⟨4, by decide⟩ k) :=
    hX ▸ (ld_row (M := 48) (N := 1024) (e := .f32) (Val := Elt Ideal) X 4 0 1024 inb_S48x1024_S1x1024_4_0 (by decide) k (by omega)).trans (by simp)
  pointwise [k0_pay32]
  simp only [h30, pay5, hl]
  rfl

theorem row44_apply : row44 x t md gn gf wi wo X (ix2 0 k) = X (ix2 ⟨44, by decide⟩ k)
    + ∑ r : Fin 256, part (par md gn gf wi wo) (row x r) (row t r) 44 k := by
  unfold row44
  have h30 := fun r l => bdh2_apply x t md gn gf wi wo r l
  unfold bdh2 at h30
  generalize hX : View.ld (Val := Elt Ideal) (e' := .f32) X (Rect.unit (s := S48x1024) ![44, 0] ![1, 1024] inb_S48x1024_S1x1024_44_0) = XX
  have hl : XX (ix2 0 k) = X (ix2 ⟨44, by decide⟩ k) :=
    hX ▸ (ld_row (M := 48) (N := 1024) (e := .f32) (Val := Elt Ideal) X 44 0 1024 inb_S48x1024_S1x1024_44_0 (by decide) k (by omega)).trans (by simp)
  pointwise [k0_pay1, k0_pay33, k0_pay34, k0_pay35]
  simp only [h30, pay5, ld_sc md gn gf wi wo, hl]
  rfl

theorem step_apply (o : Fin 48) : step x t md gn gf wi wo X (ix2 o k) = X (ix2 o k)
    + ∑ r : Fin 256, part (par md gn gf wi wo) (row x r) (row t r) o.val k := by
  unfold step pt
  by_cases h44 : o.val = 44
  · obtain rfl : o = ⟨44, by decide⟩ := Fin.ext h44
    exact (put_same (M := 48) (N := 1024) (e := .f32) (Val := Elt Ideal) _ 44 _ _ k).trans (row44_apply x t md gn gf wi wo X k)
  rw [put_other (M := 48) (N := 1024) (e := .f32) (Val := Elt Ideal) _ o.val 44 _ o.isLt h44 k]
  by_cases h4 : o.val = 4
  · obtain rfl : o = ⟨4, by decide⟩ := Fin.ext h4
    exact (put_same (M := 48) (N := 1024) (e := .f32) (Val := Elt Ideal) _ 4 _ _ k).trans (row4_apply x t md gn gf wi wo X k)
  rw [put_other (M := 48) (N := 1024) (e := .f32) (Val := Elt Ideal) _ o.val 4 _ o.isLt h4 k]
  by_cases h3 : o.val = 3
  · obtain rfl : o = ⟨3, by decide⟩ := Fin.ext h3
    exact (put_same (M := 48) (N := 1024) (e := .f32) (Val := Elt Ideal) _ 3 _ _ k).trans (row3_apply x t md gn gf wi wo X k)
  rw [put_other (M := 48) (N := 1024) (e := .f32) (Val := Elt Ideal) _ o.val 3 _ o.isLt h3 k]
  by_cases h46 : o.val = 46
  · obtain rfl : o = ⟨46, by decide⟩ := Fin.ext h46
    exact (put_same (M := 48) (N := 1024) (e := .f32) (Val := Elt Ideal) _ 46 _ _ k).trans (row46_apply x t md gn gf wi wo X k)
  rw [put_other (M := 48) (N := 1024) (e := .f32) (Val := Elt Ideal) _ o.val 46 _ o.isLt h46 k]
  by_cases h5 : o.val = 5
  · obtain rfl : o = ⟨5, by decide⟩ := Fin.ext h5
    exact (put_same (M := 48) (N := 1024) (e := .f32) (Val := Elt Ideal) _ 5 _ _ k).trans (row5_apply x t md gn gf wi wo X k)
  rw [put_other (M := 48) (N := 1024) (e := .f32) (Val := Elt Ideal) _ o.val 5 _ o.isLt h5 k]
  by_cases h45 : o.val = 45
  · obtain rfl : o = ⟨45, by decide⟩ := Fin.ext h45
    exact (put_same (M := 48) (N := 1024) (e := .f32) (Val := Elt Ideal) _ 45 _ _ k).trans (row45_apply x t md gn gf wi wo X k)
  rw [put_other (M := 48) (N := 1024) (e := .f32) (Val := Elt Ideal) _ o.val 45 _ o.isLt h45 k]
  unfold part
  simp only [h3, h4, h5, h44, h45, h46, if_false, Finset.sum_const_zero, add_zero]
end

variable (m : (ℓ : Loc nD τ sig) → Buf (Elt Ideal) ℓ)

theorem weights (c : Dev nD) (n : ℕ) : ∀ hn : n < cfg0.N, (outsAt0 m c n hn).2.2.2.2.2.2.1 = V m c main_arg5 ∧ (outsAt0 m c n hn).2.2.2.2.2.2.2 = V m c main_arg6 := by
  induction n with
  | zero =>
    intro hn
    have e := after_A m c ⟨0, hn⟩ rfl
    exact ⟨congrArg (fun z => z.2.2.2.2.2.2.1) e, congrArg (fun z => z.2.2.2.2.2.2.2) e⟩
  | succ n ih =>
    intro hn
    by_cases h : (n + 1) % 32 = 0
    · have e := after_A m c ⟨n + 1, hn⟩ h
      exact ⟨congrArg (fun z => z.2.2.2.2.2.2.1) e, congrArg (fun z => z.2.2.2.2.2.2.2) e⟩
    · have e := after_B m c ⟨n + 1, hn⟩ h
      have e1 := congrArg (fun z => z.2.2.2.2.2.2.1) e
      have e2 := congrArg (fun z => z.2.2.2.2.2.2.2) e
      simp only [Nat.add_sub_cancel] at e1 e2
      exact ⟨e1.trans (ih _).1, e2.trans (ih _).2⟩

/-- The contents of the small array a point finds: zeros at the first. -/
def found (c : Dev nD) (t : Fin cfg0.N) : S48x1024.Idx → EReal := if t.val % 32 = 0 then k0_pay3 (F := Ideal) else (prev m c t).2.2.2.2.2.1

theorem after (c : Dev nD) (t : Fin cfg0.N) : outsAt0 m c t.val t.isLt = pointOut (iblk m c 0 t) (iblk m c 1 t) (iblk m c 2 t) (iblk m c 3 t) (iblk m c 4 t)
    (V m c main_arg5) (V m c main_arg6) (found m c t) := by
  unfold found
  by_cases h : t.val % 32 = 0
  · rw [after_A m c t h, if_pos h]
  · rw [after_B m c t h, if_neg h, (weights m c _ _).1, (weights m c _ _).2]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem lt_rows (t : Fin cfg0.N) (r : Fin 256) : t.val * 256 + r.val < 8192 := by
  have h1 : t.val < 32 := t.isLt
  omega

theorem blk0 (c : Dev nD) (t : Fin cfg0.N) (r : Fin 256) :
    row (M := 256) (iblk m c 0 t) r = row (M := 8192) (V m c main_arg0) ⟨t.val * 256 + r.val, lt_rows t r⟩ := by
  funext q
  unfold row
  blk_point [iblk, idx0]
theorem blk1 (c : Dev nD) (t : Fin cfg0.N) (r : Fin 256) :
    row (M := 256) (iblk m c 1 t) r = row (M := 8192) (V m c main_arg1) ⟨t.val * 256 + r.val, lt_rows t r⟩ := by
  funext q
  unfold row
  blk_point [iblk, idx1]
theorem blk2 (c : Dev nD) (t : Fin cfg0.N) : (iblk m c 2 t : S1x6144.Idx → EReal) = V m c main_arg2 := by
  funext i
  blk_point [iblk, idx2]
theorem blk3 (c : Dev nD) (t : Fin cfg0.N) : (iblk m c 3 t : S1x1024.Idx → EReal) = V m c main_arg3 := by
  funext i
  blk_point [iblk, idx3]
theorem blk4 (c : Dev nD) (t : Fin cfg0.N) : (iblk m c 4 t : S1x1024.Idx → EReal) = V m c main_arg4 := by
  funext i
  blk_point [iblk, idx4]

/-- The parameters of a device. -/
abbrev P (c : Dev nD) : Par := par (V m c main_arg2) (V m c main_arg3) (V m c main_arg4) (V m c main_arg5) (V m c main_arg6)

def H2 (p : Par) (X : S8192x1024.Idx → EReal) : S8192x1024.Idx → EReal := fun i => fH p (row (M := 8192) X (i 0)) (i 1)

theorem final5 (c : Dev nD) : (dats m 0 c).arrAt 5 cfg0.N = H2 (P m c) (V m c main_arg0) := by
  refine (dats m 0 c).arrAt_eq_of_covers 5 _ (by decide +kernel) fun t hf y => ?_
  blk_simp
  rw [after0_5, after]
  have e0 : (((win0_5.blk t).view.emb y) 0).val = t.val * 256 + (y 0).val := by blk_simp [idx5]
  have e1 : (((win0_5.blk t).view.emb y) 1).val = (y 1).val := by blk_simp [idx5]
  generalize (win0_5.blk t).view.emb y = i at e0 e1
  have hy : y = ix2 (n0 := 256) (n1 := 1024) (y 0) (y 1) := (ValueIdx.eq_ix2 y).trans (ix2_eq_valueIdx _ _).symm
  have h0 : i 0 = ⟨t.val * 256 + (y 0).val, lt_rows t (y 0)⟩ := Fin.ext e0
  have h1 : i 1 = y 1 := Fin.ext e1
  rw [hy, blk2, blk3, blk4]
  unfold pointOut H2
  dsimp only
  refine (bh2_apply _ _ _ (V m c main_arg4) (V m c main_arg5) (V m c main_arg6) _ _).trans ?_
  rw [h0, h1]
  exact congrArg (fun a => fH (P m c) a (y 1)) (blk0 m c t (y 0))

def HID (p : Par) (X : S8192x1024.Idx → EReal) : S8192x2816.Idx → EReal := fun i => fhid p (row (M := 8192) X (i 0)) (i 1)

theorem final6 (c : Dev nD) : (dats m 0 c).arrAt 6 cfg0.N = HID (P m c) (V m c main_arg0) := by
  refine (dats m 0 c).arrAt_eq_of_covers 6 _ (by decide +kernel) fun t hf y => ?_
  blk_simp
  rw [after0_6, after]
  have e0 : (((win0_6.blk t).view.emb y) 0).val = t.val * 256 + (y 0).val := by blk_simp [idx6]
  have e1 : (((win0_6.blk t).view.emb y) 1).val = (y 1).val := by blk_simp [idx6]
  generalize (win0_6.blk t).view.emb y = i at e0 e1
  have hy : y = ix2 (n0 := 256) (n1 := 2816) (y 0) (y 1) := (ValueIdx.eq_ix2 y).trans (ix2_eq_valueIdx _ _).symm
  have h0 : i 0 = ⟨t.val * 256 + (y 0).val, lt_rows t (y 0)⟩ := Fin.ext e0
  have h1 : i 1 = y 1 := Fin.ext e1
  rw [hy, blk2, blk3, blk4]
  unfold pointOut HID
  dsimp only
  refine (bhid_apply _ _ _ (V m c main_arg4) _ (V m c main_arg6) _ _).trans ?_
  rw [h0, h1]
  exact congrArg (fun a => fhid (P m c) a (y 1)) (blk0 m c t (y 0))

def DF (p : Par) (X : S8192x1024.Idx → EReal) (T : S8192x1024.Idx → EReal) : S8192x1024.Idx → EReal := fun i => fdf p (row (M := 8192) X (i 0)) (row (M := 8192) T (i 0)) (i 1)

theorem final7 (c : Dev nD) : (dats m 0 c).arrAt 7 cfg0.N = DF (P m c) (V m c main_arg0) (V m c main_arg1) := by
  refine (dats m 0 c).arrAt_eq_of_covers 7 _ (by decide +kernel) fun t hf y => ?_
  blk_simp
  rw [after0_7, after]
  have e0 : (((win0_7.blk t).view.emb y) 0).val = t.val * 256 + (y 0).val := by blk_simp [idx7]
  have e1 : (((win0_7.blk t).view.emb y) 1).val = (y 1).val := by blk_simp [idx7]
  generalize (win0_7.blk t).view.emb y = i at e0 e1
  have hy : y = ix2 (n0 := 256) (n1 := 1024) (y 0) (y 1) := (ValueIdx.eq_ix2 y).trans (ix2_eq_valueIdx _ _).symm
  have h0 : i 0 = ⟨t.val * 256 + (y 0).val, lt_rows t (y 0)⟩ := Fin.ext e0
  have h1 : i 1 = y 1 := Fin.ext e1
  rw [hy, blk2, blk3, blk4]
  unfold pointOut DF
  dsimp only
  refine (bdf_apply _ _ _ _ _ _ _ _ _).trans ?_
  rw [h0, h1]
  exact congrArg₂ (fun a b => fdf (P m c) a b (y 1)) (blk0 m c t (y 0)) (blk1 m c t (y 0))

def DAB (p : Par) (X : S8192x1024.Idx → EReal) (T : S8192x1024.Idx → EReal) : S8192x5632.Idx → EReal := fun i => fdab p (row (M := 8192) X (i 0)) (row (M := 8192) T (i 0)) (i 1)

theorem final8 (c : Dev nD) : (dats m 0 c).arrAt 8 cfg0.N = DAB (P m c) (V m c main_arg0) (V m c main_arg1) := by
  refine (dats m 0 c).arrAt_eq_of_covers 8 _ (by decide +kernel) fun t hf y => ?_
  blk_simp
  rw [after0_8, after]
  have e0 : (((win0_8.blk t).view.emb y) 0).val = t.val * 256 + (y 0).val := by blk_simp [idx8]
  have e1 : (((win0_8.blk t).view.emb y) 1).val = (y 1).val := by blk_simp [idx8]
  generalize (win0_8.blk t).view.emb y = i at e0 e1
  have hy : y = ix2 (n0 := 256) (n1 := 5632) (y 0) (y 1) := (ValueIdx.eq_ix2 y).trans (ix2_eq_valueIdx _ _).symm
  have h0 : i 0 = ⟨t.val * 256 + (y 0).val, lt_rows t (y 0)⟩ := Fin.ext e0
  have h1 : i 1 = y 1 := Fin.ext e1
  rw [hy, blk2, blk3, blk4]
  unfold pointOut DAB
  dsimp only
  refine (bdab_apply _ _ _ _ _ _ _ _ _).trans ?_
  rw [h0, h1]
  exact congrArg₂ (fun a b => fdab (P m c) a b (y 1)) (blk0 m c t (y 0)) (blk1 m c t (y 0))

def DX1 (p : Par) (X : S8192x1024.Idx → EReal) (T : S8192x1024.Idx → EReal) : S8192x1024.Idx → EReal := fun i => fdx1 p (row (M := 8192) X (i 0)) (row (M := 8192) T (i 0)) (i 1)

theorem final9 (c : Dev nD) : (dats m 0 c).arrAt 9 cfg0.N = DX1 (P m c) (V m c main_arg0) (V m c main_arg1) := by
  refine (dats m 0 c).arrAt_eq_of_covers 9 _ (by decide +kernel) fun t hf y => ?_
  blk_simp
  rw [after0_9, after]
  have e0 : (((win0_9.blk t).view.emb y) 0).val = t.val * 256 + (y 0).val := by blk_simp [idx9]
  have e1 : (((win0_9.blk t).view.emb y) 1).val = (y 1).val := by blk_simp [idx9]
  generalize (win0_9.blk t).view.emb y = i at e0 e1
  have hy : y = ix2 (n0 := 256) (n1 := 1024) (y 0) (y 1) := (ValueIdx.eq_ix2 y).trans (ix2_eq_valueIdx _ _).symm
  have h0 : i 0 = ⟨t.val * 256 + (y 0).val, lt_rows t (y 0)⟩ := Fin.ext e0
  have h1 : i 1 = y 1 := Fin.ext e1
  rw [hy, blk2, blk3, blk4]
  unfold pointOut DX1
  dsimp only
  refine (bdx1_apply _ _ _ _ _ _ _ _ _).trans ?_
  rw [h0, h1]
  exact congrArg₂ (fun a b => fdx1 (P m c) a b (y 1)) (blk0 m c t (y 0)) (blk1 m c t (y 0))

/-- The array of the small gradients. -/
def SMALL (p : Par) (X T : S8192x1024.Idx → EReal) : S48x1024.Idx → EReal := fun i =>
  ∑ n : Fin 8192, part p (row (M := 8192) X n) (row (M := 8192) T n) (i 0).val (i 1)

/-- What point `t` adds to the small array. -/
def term (c : Dev nD) (t : Fin cfg0.N) : S48x1024.Idx → EReal := fun i =>
  ∑ r : Fin 256, part (P m c) (row (M := 8192) (V m c main_arg0) ⟨t.val * 256 + r.val, lt_rows t r⟩)
    (row (M := 8192) (V m c main_arg1) ⟨t.val * 256 + r.val, lt_rows t r⟩) (i 0).val (i 1)

theorem step_term (c : Dev nD) (t : Fin cfg0.N) (X : S48x1024.Idx → EReal) :
    step (iblk m c 0 t) (iblk m c 1 t) (iblk m c 2 t) (iblk m c 3 t) (iblk m c 4 t) (V m c main_arg5) (V m c main_arg6) X = X + term m c t := by
  funext i
  have hi : i = ix2 (n0 := 48) (n1 := 1024) (i 0) (i 1) := (ValueIdx.eq_ix2 i).trans (ix2_eq_valueIdx _ _).symm
  rw [hi, blk2, blk3, blk4]
  refine (step_apply _ _ _ _ _ _ _ _ _ _).trans ?_
  refine congrArg (X (ix2 (n0 := 48) (n1 := 1024) (i 0) (i 1)) + ·) (Finset.sum_congr rfl fun r _ => ?_)
  rw [blk0, blk1]
  rfl

theorem zero_pay (i : S48x1024.Idx) : k0_pay3 (F := Ideal) i = 0 := by
  show Ideal.ofBits .f32 0x00000000#32 = 0
  exact Ideal.ofBits_zero_f32

theorem after10 (c : Dev nD) (t : Fin cfg0.N) (ht : t.val % 32 = 32 - 1) :
    (outsAt0 m c t.val t.isLt).2.2.2.2.2.1 = k0_pay3 (F := Ideal) + ∑ s : Fin 32, term m c ⟨32 * (t.val / 32) + s.val, Pipeline.run_point_lt_of_flush t ht s⟩ := by
  refine Pipeline.eq_sum_fin_of_reset_step_of_flush (M := S48x1024.Idx → EReal) (fun n hn => (outsAt0 m c n hn).2.2.2.2.2.1) 32 (k0_pay3 (F := Ideal)) (term m c) ?_ ?_ t ht
  · intro t h
    rw [after_A m c t h]
    exact step_term m c t _
  · intro t h
    rw [after_B m c t h, (weights m c _ _).1, (weights m c _ _).2]
    exact step_term m c t _

/-- The last point. -/
def last : Fin cfg0.N := ⟨31, by decide⟩

theorem after_last (c : Dev nD) :
    (outsAt0 m c last.val last.isLt).2.2.2.2.2.1 = SMALL (P m c) (V m c main_arg0) (V m c main_arg1) := by
  rw [after10 m c last (by decide)]
  funext j
  rw [Pi.add_apply, zero_pay, zero_add, Finset.sum_apply]
  refine Fin.sum_mul_add_congr (L := 8192) (S := 32) (n := 256) fun s k hl => ?_
  refine congrArg (fun n => part (P m c) (row (M := 8192) _ n) (row (M := 8192) _ n) _ _) (Fin.ext ?_)
  show (32 * (31 / 32) + s.val) * 256 + k.val = s.val * 256 + k.val
  omega

theorem final10 (c : Dev nD) : (dats m 0 c).arrAt 10 cfg0.N = SMALL (P m c) (V m c main_arg0) (V m c main_arg1) := by
  refine (dats m 0 c).arrAt_eq_of_after_last 10 last (by decide +kernel) _ fun j => ?_
  blk_simp
  refine (congrFun (after0_10 m c last) _).trans ?_
  rw [after_last]

end Cert.Proof.Step

end
-- ==== Proof.Ext.lean ====
/-  Extended real facts: a real factor of one sign moved through sums, and the gradient of the root mean square
    normalisation, which holds for all extended reals because a row with an infinite entry has reciprocal root 0. -/
module

public import Idealize.ShloMosaic.PureOps.Ideal.Laws
public import Idealize.ShloMosaic.Lib.IdealHost
public import Mathlib.Data.EReal.Operations
public import Mathlib.Tactic.FieldSimp

@[expose] public section

noncomputable section

namespace Cert.Proof.Ext

open Idealize.ShloMosaic
open scoped BigOperators

theorem sq_nonneg (x : EReal) : 0 ≤ x * x := by
  induction x with
  | bot => simp
  | top => simp
  | coe a => rw [← EReal.coe_mul]; exact_mod_cast mul_self_nonneg a

/-- A nonnegative real factor out of a sum. -/
theorem sum_mul_coe {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Twice a real multiple. -/
theorem mul_coe_add_self (T : EReal) (u : ℝ) : T * (u : EReal) + T * (u : EReal) = T * ((u + u : ℝ) : EReal) := by
  rcases le_total 0 u with h | h
  · rw [EReal.coe_add, EReal.left_distrib_of_nonneg (by exact_mod_cast h) (by exact_mod_cast h)]
  · obtain ⟨v, rfl⟩ : ∃ v : ℝ, u = -v := ⟨-u, by ring⟩
    have hv : 0 ≤ v := by linarith
    have e : ((-v + -v : ℝ) : EReal) = -((v + v : ℝ) : EReal) := by rw [← EReal.coe_neg]; congr 1; ring
    have e' : T * -(v : EReal) = (-T) * (v : EReal) := by rw [mul_comm, EReal.neg_mul, mul_comm, EReal.neg_mul]
    have e'' : T * -((v + v : ℝ) : EReal) = (-T) * ((v + v : ℝ) : EReal) := by rw [mul_comm, EReal.neg_mul, mul_comm, EReal.neg_mul]
    rw [e, e'', EReal.coe_neg, e', EReal.coe_add, EReal.left_distrib_of_nonneg (by exact_mod_cast hv) (by exact_mod_cast hv)]

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- Of a row of extended reals, either the sum of squares is infinite or every entry is real. -/
theorem sum_sq {N : ℕ} (x : Fin N → EReal) : (∑ k, x k * x k = ⊤) ∨ ∃ a : Fin N → ℝ, x = fun k => (a k : EReal) := by
  by_cases h : ∃ k, x k = ⊤ ∨ x k = ⊥
  · obtain ⟨k, hk⟩ := h
    refine Or.inl (top_le_iff.mp ?_)
    have e : x k * x k = ⊤ := by rcases hk with h | h <;> rw [h] <;> simp
    calc (⊤ : EReal) = x k * x k := e.symm
      _ ≤ ∑ k, x k * x k := Finset.single_le_sum (f := fun k => x k * x k) (fun i _ => sq_nonneg (x i)) (Finset.mem_univ k)
  · push Not at h
    exact Or.inr ⟨fun k => (x k).toReal, funext fun k => (EReal.coe_toReal (h k).1 (h k).2).symm⟩

/-- The mean square of a row plus the small constant, and its reciprocal root: `⊤` and 0, or a positive real and its
    reciprocal root over real entries. -/
theorem mean_sq {N : ℕ} (x : Fin N → EReal) (e : ℝ) (he : 0 < e) {c : ℝ} (hc : 0 < c) :
    (Ideal.div (∑ k, x k * x k) (c : EReal) + (e : EReal) = ⊤) ∨
    ∃ (a : Fin N → ℝ) (s : ℝ), 0 < s ∧ (x = fun k => (a k : EReal)) ∧ Ideal.div (∑ k, x k * x k) (c : EReal) + (e : EReal) = (s : EReal) ∧
      s = (∑ k, a k * a k) / c + e := by
  rcases sum_sq x with h | ⟨a, rfl⟩
  · left
    rw [h, Ideal.div_coe hc.ne', EReal.top_mul_coe_of_pos (by positivity)]
    exact EReal.top_add_coe e
  · right
    refine ⟨a, (∑ k, a k * a k) / c + e, ?_, rfl, ?_, rfl⟩
    · have : 0 ≤ ∑ k, a k * a k := Finset.sum_nonneg fun k _ => mul_self_nonneg (a k)
      positivity
    · rw [Ideal.div_coe hc.ne']
      simp only [← EReal.coe_mul]
      rw [coe_sum, ← EReal.coe_mul, ← EReal.coe_add]
      congr 1
      ring

theorem rsqrt_pos {s : ℝ} (h : 0 < s) : Ideal.rsqrt (s : EReal) = (((Real.sqrt s)⁻¹ : ℝ) : EReal) := by
  rw [Ideal.rsqrt_coe, if_neg (not_lt.mpr h.le), if_neg h.ne']

/-- The gradient of `x · rsqrt(mean(x²) + ε)` against the cotangent `t`, in the closed form and by the product rule. -/
theorem norm_grad {N : ℕ} (x t : Fin N → EReal) (e : ℝ) (he : 0 < e) (j : Fin N) (S R : EReal)
    (hS : S = Ideal.div (∑ k, x k * x k) ((1024 : ℝ) : EReal) + (e : EReal)) (hR : R = Ideal.rsqrt S) :
    R * (t j - x j * R * Ideal.div (∑ l, t l * (x l * R)) ((1024 : ℝ) : EReal))
      = t j * R + x j * Ideal.div ((∑ l, x l * t l) * (((-(1 / 2) : ℝ) : EReal) * Ideal.div R S)) ((1024 : ℝ) : EReal)
        + Ideal.div ((∑ l, x l * t l) * (((-(1 / 2) : ℝ) : EReal) * Ideal.div R S)) ((1024 : ℝ) : EReal) * x j := by
  rcases mean_sq x e he (c := 1024) (by norm_num) with h | ⟨a, s, hs, rfl, h, -⟩
  · rw [h] at hS
    subst hS
    rw [Ideal.rsqrt_top] at hR
    subst hR
    have e0 : Ideal.div (0 : EReal) ⊤ = 0 := by simp [Ideal.div]
    have e1 : Ideal.div (0 : EReal) ((1024 : ℝ) : EReal) = 0 := by rw [Ideal.div_coe (by norm_num), zero_mul]
    simp only [e0, mul_zero, zero_mul, e1, add_zero]
  · rw [h] at hS
    subst hS
    rw [rsqrt_pos hs] at hR
    have hq : (0 : ℝ) < Real.sqrt s := Real.sqrt_pos.mpr hs
    obtain ⟨ρ, hρ⟩ : ∃ ρ : ℝ, ρ = (Real.sqrt s)⁻¹ := ⟨_, rfl⟩
    have hρ0 : 0 < ρ := hρ ▸ inv_pos.mpr hq
    have hρs : ρ * (1 / s) = ρ * ρ * ρ := by
      have : ρ * ρ = 1 / s := by
        rw [hρ, ← mul_inv, Real.mul_self_sqrt hs.le, one_div]
      rw [← this]; ring
    rw [← hρ] at hR
    subst hR
    set T := ∑ l, t l * (a l : EReal) with hT
    have h1 : ∑ l, t l * ((a l : EReal) * (ρ : EReal)) = T * (ρ : EReal) := by
      rw [hT, ← sum_mul_coe _ _ hρ0.le]
      exact Finset.sum_congr rfl fun l _ => (mul_assoc _ _ _).symm
    have h2 : ∑ l, (a l : EReal) * t l = T := Finset.sum_congr rfl fun l _ => mul_comm _ _
    simp only [h1, h2]
    rw [Ideal.div_coe (by norm_num : (1024 : ℝ) ≠ 0), Ideal.div_coe hs.ne', Ideal.div_coe (by norm_num : (1024 : ℝ) ≠ 0),
      ← EReal.coe_mul ρ (1 / s), hρs, ← EReal.coe_mul (-(1 / 2))]
    rw [sub_eq_add_neg, EReal.left_distrib_of_nonneg_of_ne_top (by exact_mod_cast hρ0.le) (EReal.coe_ne_top ρ), add_assoc]
    refine congrArg₂ (· + ·) (mul_comm _ _) ?_
    have k1 : (a j : EReal) * (T * ((-(1 / 2) * (ρ * ρ * ρ) : ℝ) : EReal) * ((1 / 1024 : ℝ) : EReal))
        = T * ((-(1 / 2) * (ρ * ρ * ρ) * (1 / 1024) * a j : ℝ) : EReal) := by
      rw [EReal.coe_mul (_ * _) (a j), EReal.coe_mul _ (1 / 1024)]
      ac_rfl
    have k2 : (T * ((-(1 / 2) * (ρ * ρ * ρ) : ℝ) : EReal) * ((1 / 1024 : ℝ) : EReal)) * (a j : EReal)
        = T * ((-(1 / 2) * (ρ * ρ * ρ) * (1 / 1024) * a j : ℝ) : EReal) := (mul_comm _ _).trans k1
    rw [k1, k2, mul_coe_add_self]
    have k3 : (ρ : EReal) * -((a j : EReal) * (ρ : EReal) * (T * (ρ : EReal) * ((1 / 1024 : ℝ) : EReal)))
        = T * ((-(ρ * ρ * ρ * (1 / 1024) * a j) : ℝ) : EReal) := by
      rw [EReal.coe_neg, mul_comm, EReal.neg_mul, mul_comm T (-_), EReal.neg_mul]
      simp only [EReal.coe_mul]
      congr 1
      ac_rfl
    rw [k3]
    congr 2
    ring

end Cert.Proof.Ext

end
-- ==== Proof.StepD.lean ====
/-  The reference of the feed-forward half with the loss, read at an index as the same rows: the forward stages and the
    gradient of the loss down to the gate. -/
module

public import proofs.«01_k».proof.Proof.StepC
public import proofs.«01_k».proof.Proof.Ext
public import proofs.«01_k».proof.Proof.Gen.ReferenceIdeal.Read

@[expose] public section

noncomputable section

namespace Cert.Proof.Step

open Cert.KernelIdeal Cert.KernelIdeal.Gen Idealize.ShloMosaic Idealize.ShloMosaic.TcCoe Idealize.SL.Sem
open Cert.Proof.Common Cert.Proof.Rows
open scoped BigOperators

open Cert.ReferenceIdeal.Read

variable (X T : S8192x1024.Idx → EReal) (md : S1x6144.Idx → EReal) (gn gf : S1x1024.Idx → EReal) (wi : S1024x5632.Idx → EReal) (wo : S2816x1024.Idx → EReal)

theorem r14 (n : Fin 8192) (z : Fin 1) : val_main_v14 (F := Ideal) X (ix2 n z) =
    Ideal.div (∑ k, row (M := 8192) X n k * row (M := 8192) X n k) (Ideal.ofBits .f32 0x44800000#32) + Ideal.ofBits .f32 0x358637BD#32 := by
  pointwise [val_main_v14, val_main_v13, val_main_v12, val_main_v11, val_main_v10, val_main_v9, val_main_v8, val_main_cst, val_main_cst_0, val_main_cst_1]
  rfl

theorem r15 (n : Fin 8192) (z : Fin 1) : val_main_v15 (F := Ideal) X (ix2 n z) = rsq (row (M := 8192) X n) := by
  pointwise [val_main_v15]
  rw [r14]
  rfl

theorem r18 (n : Fin 8192) (z : Fin 1) : val_main_v18 (F := Ideal) X (ix2 n z) = Ideal.ofBits .f32 0xBF000000#32 * Ideal.div (rsq (row (M := 8192) X n))
    (Ideal.div (∑ k, row (M := 8192) X n k * row (M := 8192) X n k) (Ideal.ofBits .f32 0x44800000#32) + Ideal.ofBits .f32 0x358637BD#32) := by
  pointwise [val_main_v18, val_main_v17, val_main_cst_2, val_main_v16]
  rw [r14, r15]

theorem r20 (n : Fin 8192) (k : Fin 1024) : val_main_v20 (F := Ideal) X (ix2 n k) = row (M := 8192) X n k * rsq (row (M := 8192) X n) := by
  pointwise [val_main_v20, val_main_v19]
  rw [r15]
  rfl

theorem r24 (z : Fin 1) (k : Fin 1024) : val_main_v24 (F := Ideal) md (ix2 z k) = 1 + (par md gn gf wi wo).sc k := by
  pointwise [val_main_v24, val_main_v23, val_main_cst_3, val_main_v4]
  rfl

theorem r22 (n : Fin 8192) (k : Fin 1024) : val_main_v22 (F := Ideal) X gn (ix2 n k) =
    row (M := 8192) X n k * rsq (row (M := 8192) X n) * (par md gn gf wi wo).gn k := by
  pointwise [val_main_v22, val_main_v21]
  rw [r20]
  rfl

theorem r28 (n : Fin 8192) (k : Fin 1024) : val_main_v28 (F := Ideal) X md gn (ix2 n k) = fH (par md gn gf wi wo) (row (M := 8192) X n) k := by
  pointwise [val_main_v28, val_main_v27, val_main_v3, val_main_v26, val_main_v25]
  rw [r22 X md gn gf wi wo, r24 md gn gf wi wo]
  rfl

theorem r30 (n : Fin 8192) (j : Fin 2816) : val_main_v30 (F := Ideal) X md gn wi (ix2 n j) = fa (par md gn gf wi wo) (row (M := 8192) X n) j := by
  pointwise [val_main_v30, val_main_v29, val_main_v6]
  simp only [r28 X md gn gf wi wo]
  exact Finset.sum_congr rfl fun k _ => congrArg (fun q => fH (par md gn gf wi wo) (row (M := 8192) X n) k * wi (ix2 k q)) (Fin.ext (Nat.zero_add _).symm)

theorem r31 (n : Fin 8192) (j : Fin 2816) : val_main_v31 (F := Ideal) X md gn wi (ix2 n j) = fb (par md gn gf wi wo) (row (M := 8192) X n) j := by
  pointwise [val_main_v31, val_main_v29, val_main_v6]
  simp only [r28 X md gn gf wi wo]
  rfl

theorem r32_2 (n : Fin 8192) (j : Fin 2816) : val_main_v32_2 (F := Ideal) X md gn wi (ix2 n j) = fs (par md gn gf wi wo) (row (M := 8192) X n) j := by
  pointwise [val_main_v32_2, val_main_call0_v4, val_main_call0_cst_0, val_main_call0_v3, val_main_call0_v2, val_main_call0_cst, val_main_call0_v1, val_main_call0_v0]
  rw [r30 X md gn gf wi wo]
  rfl

theorem r32_1 (n : Fin 8192) (j : Fin 2816) : val_main_v32_1 (F := Ideal) X md gn wi (ix2 n j) =
    fs (par md gn gf wi wo) (row (M := 8192) X n) j * (1 - fs (par md gn gf wi wo) (row (M := 8192) X n) j) := by
  pointwise [val_main_v32_1, val_main_call0_v7, val_main_call0_v6, val_main_call0_cst_1]
  rw [r32_2 X md gn gf wi wo]

theorem r32_0 (n : Fin 8192) (j : Fin 2816) : val_main_v32_0 (F := Ideal) X md gn wi (ix2 n j) =
    fa (par md gn gf wi wo) (row (M := 8192) X n) j * fs (par md gn gf wi wo) (row (M := 8192) X n) j := by
  pointwise [val_main_v32_0]
  rw [r32_2 X md gn gf wi wo, r30 X md gn gf wi wo]

theorem r33 (n : Fin 8192) (j : Fin 2816) : val_main_v33 (F := Ideal) X md gn wi (ix2 n j) = fhid (par md gn gf wi wo) (row (M := 8192) X n) j := by
  pointwise [val_main_v33]
  rw [r32_0 X md gn gf wi wo, r31 X md gn gf wi wo]
  rfl

theorem r34 (n : Fin 8192) (k : Fin 1024) : val_main_v34 (F := Ideal) X md gn wi wo (ix2 n k) = fffn (par md gn gf wi wo) (row (M := 8192) X n) k := by
  pointwise [val_main_v34, val_main_v7]
  simp only [r33 X md gn gf wi wo]
  rfl

theorem r37 (n : Fin 8192) (k : Fin 1024) : val_main_v37 (F := Ideal) X md gn wi wo (ix2 n k) = fx2 (par md gn gf wi wo) (row (M := 8192) X n) k := by
  pointwise [val_main_v37, val_main_v36, val_main_v35, val_main_v5]
  rw [r34 X md gn gf wi wo]
  rfl

theorem r54 (n : Fin 8192) (k : Fin 1024) : val_main_v54 (F := Ideal) X md gn wi wo (ix2 n k) = fx2 (par md gn gf wi wo) (row (M := 8192) X n) k := by
  pointwise [val_main_v54, val_main_v53, val_main_v52, val_main_v5]
  rw [r34 X md gn gf wi wo]
  rfl

theorem r45 (n : Fin 8192) (z : Fin 1) : val_main_v45 (F := Ideal) X md gn wi wo (ix2 n z) = rsq (fx2 (par md gn gf wi wo) (row (M := 8192) X n)) := by
  pointwise [val_main_v45, val_main_v44, val_main_v43, val_main_v42, val_main_v41, val_main_v40, val_main_v39, val_main_v38, val_main_cst_4, val_main_cst_5, val_main_cst_6]
  simp only [r37 X md gn gf wi wo]
  rfl

theorem r61 (n : Fin 8192) (z : Fin 1) : val_main_v61 (F := Ideal) X md gn wi wo (ix2 n z) =
    Ideal.div (∑ k, fx2 (par md gn gf wi wo) (row (M := 8192) X n) k * fx2 (par md gn gf wi wo) (row (M := 8192) X n) k)
      (Ideal.ofBits .f32 0x44800000#32) + Ideal.ofBits .f32 0x358637BD#32 := by
  pointwise [val_main_v61, val_main_v60, val_main_v59, val_main_v58, val_main_v57, val_main_v56, val_main_v55, val_main_cst_7, val_main_cst_8, val_main_cst_9]
  simp only [r54 X md gn gf wi wo]

theorem r62 (n : Fin 8192) (z : Fin 1) : val_main_v62 (F := Ideal) X md gn wi wo (ix2 n z) = rsq (fx2 (par md gn gf wi wo) (row (M := 8192) X n)) := by
  pointwise [val_main_v62]
  rw [r61 X md gn gf wi wo]
  rfl

theorem r65 (n : Fin 8192) (z : Fin 1) : val_main_v65 (F := Ideal) X md gn wi wo (ix2 n z) =
    Ideal.ofBits .f32 0xBF000000#32 * Ideal.div (rsq (fx2 (par md gn gf wi wo) (row (M := 8192) X n)))
    (Ideal.div (∑ k, fx2 (par md gn gf wi wo) (row (M := 8192) X n) k * fx2 (par md gn gf wi wo) (row (M := 8192) X n) k)
      (Ideal.ofBits .f32 0x44800000#32) + Ideal.ofBits .f32 0x358637BD#32) := by
  pointwise [val_main_v65, val_main_v64, val_main_cst_10, val_main_v63]
  rw [r61 X md gn gf wi wo, r62 X md gn gf wi wo]

theorem r50 (n : Fin 8192) (k : Fin 1024) : val_main_v50 (F := Ideal) X T md gn gf wi wo (ix2 n k) =
    fdiff (par md gn gf wi wo) (row (M := 8192) X n) (row (M := 8192) T n) k := by
  pointwise [val_main_v50, val_main_v49, val_main_v48, val_main_v47, val_main_v46]
  rw [r37 X md gn gf wi wo, r45 X md gn gf wi wo]
  rfl

theorem r67 (n : Fin 8192) (k : Fin 1024) : val_main_v67 (F := Ideal) X md gn wi wo (ix2 n k) =
    fxn3 (par md gn gf wi wo) (row (M := 8192) X n) k := by
  pointwise [val_main_v67, val_main_v66]
  rw [r54 X md gn gf wi wo, r62 X md gn gf wi wo]
  rfl

theorem r70 (n : Fin 8192) (k : Fin 1024) : val_main_v70 (F := Ideal) X T md gn gf wi wo (ix2 n k) =
    fdiff (par md gn gf wi wo) (row (M := 8192) X n) (row (M := 8192) T n) k := by
  pointwise [val_main_v70, val_main_v69, val_main_v68]
  rw [r67 X md gn gf wi wo]
  rfl

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_inv : Ideal.ofBits .f32 0x3A800000#32 = ((1 / 1024 : ℝ) : EReal) := by
  simp [Ideal.ofBits, Ideal.ieee, -EReal.coe_mul]; norm_num

/-- Half of the mean's weight, times two. -/
theorem scale (d : EReal) : Ideal.div (Ideal.ofBits .f32 0x3F000000#32) (Ideal.ofBits .f32 0x44800000#32) * (Ideal.ofBits .f32 0x40000000#32 * d)
    = d * Ideal.ofBits .f32 0x3A800000#32 := by
  rw [word_half, word_two, word_inv, Ext.word_1024, Ideal.div_coe (by norm_num), ← mul_assoc, ← EReal.coe_mul, ← EReal.coe_mul, mul_comm]
  congr 2
  norm_num

theorem r84 (n : Fin 8192) (k : Fin 1024) : val_main_v84 (F := Ideal) X T md gn gf wi wo (ix2 n k) =
    fdy (par md gn gf wi wo) (row (M := 8192) X n) (row (M := 8192) T n) k := by
  pointwise [val_main_v84, val_main_v83, val_main_v82, val_main_v81, val_main_v80, val_main_v79, val_main_v73, val_main_v72, val_main_cst_11, val_main_cst_16, val_main_cst_17, val_main_cst_18]
  rw [r70]
  exact scale _

theorem r89 (n : Fin 8192) (k : Fin 1024) : val_main_v89 (F := Ideal) X T md gn gf wi wo (ix2 n k) =
    fdy (par md gn gf wi wo) (row (M := 8192) X n) (row (M := 8192) T n) k * (par md gn gf wi wo).gf k := by
  pointwise [val_main_v89, val_main_v88]
  rw [r84]
  rfl

/-- The coefficient of the last normalised row in its gradient. -/
theorem r99 (n : Fin 8192) (k : Fin 1024) : val_main_v99 (F := Ideal) X T md gn gf wi wo (ix2 n k) =
    Ideal.div ((∑ l, fx2 (par md gn gf wi wo) (row (M := 8192) X n) l * (fdy (par md gn gf wi wo) (row (M := 8192) X n) (row (M := 8192) T n) l * (par md gn gf wi wo).gf l)) *
      (Ideal.ofBits .f32 0xBF000000#32 * Ideal.div (rsq (fx2 (par md gn gf wi wo) (row (M := 8192) X n)))
    (Ideal.div (∑ k, fx2 (par md gn gf wi wo) (row (M := 8192) X n) k * fx2 (par md gn gf wi wo) (row (M := 8192) X n) k)
      (Ideal.ofBits .f32 0x44800000#32) + Ideal.ofBits .f32 0x358637BD#32))) (Ideal.ofBits .f32 0x44800000#32) := by
  pointwise [val_main_v99, val_main_v98, val_main_v97, val_main_v96, val_main_v95, val_main_v92, val_main_v91, val_main_v90, val_main_cst_20, val_main_cst_21, val_main_cst_22]
  simp only [r54 X md gn gf wi wo, r89, r65 X md gn gf wi wo]
  simp

theorem r103 (n : Fin 8192) (k : Fin 1024) : val_main_v103 (F := Ideal) X T md gn gf wi wo (ix2 n k) =
    fdx2 (par md gn gf wi wo) (row (M := 8192) X n) (row (M := 8192) T n) k := by
  pointwise [val_main_v103, val_main_v102, val_main_v101, val_main_v100, val_main_v94, val_main_v93]
  simp only [r54 X md gn gf wi wo, r89, r62 X md gn gf wi wo, r99]
  unfold fdx2 fxn3
  generalize par md gn gf wi wo = p
  obtain ⟨e, he, hE⟩ := Ext.word_eps
  have key := Ext.norm_grad (fx2 p (row (M := 8192) X n)) (fun l => fdy p (row (M := 8192) X n) (row (M := 8192) T n) l * p.gf l) e he k
    _ (rsq (fx2 p (row (M := 8192) X n))) rfl (by unfold rsq; rw [hE, Ext.word_1024])
  rw [hE, Ext.word_1024, Ext.word_neg_half]
  exact key.symm

theorem r105 (n : Fin 8192) (k : Fin 1024) : val_main_v105 (F := Ideal) X T md gn gf wi wo (ix2 n k) =
    fdf (par md gn gf wi wo) (row (M := 8192) X n) (row (M := 8192) T n) k := by
  pointwise [val_main_v105, val_main_v104, val_main_v5]
  rw [r103]
  exact mul_comm _ _

theorem r109 (n : Fin 8192) (j : Fin 2816) : val_main_v109 (F := Ideal) X T md gn gf wi wo (ix2 n j) =
    fdhid (par md gn gf wi wo) (row (M := 8192) X n) (row (M := 8192) T n) j := by
  pointwise [val_main_v109, val_main_v7]
  simp only [r105]
  rfl

theorem r110 (n : Fin 8192) (j : Fin 2816) : val_main_v110 (F := Ideal) X T md gn gf wi wo (ix2 n j) =
    fdb (par md gn gf wi wo) (row (M := 8192) X n) (row (M := 8192) T n) j := by
  pointwise [val_main_v110]
  rw [r109, r32_0 X md gn gf wi wo]
  exact mul_comm _ _

end Cert.Proof.Step

end
-- ==== Proof.StepE.lean ====
/-  Real numbers among the extended reals: closure under the half's operations, and what the precondition gives. -/
module

public import proofs.«01_k».proof.Proof.StepD
public import proofs.«01_k».proof.Proof.Gen.Pre_real_step
public import proofs.«01_k».proof.Defs

@[expose] public section

noncomputable section

namespace Cert.Proof.Step

open Idealize.ShloMosaic Idealize.ShloMosaic.TcCoe Idealize.SL.Sem
open scoped BigOperators

/-- A real number. -/
def IsR (e : EReal) : Prop := ∃ r : ℝ, e = (r : EReal)

theorem IsR.add {a b : EReal} : IsR a → IsR b → IsR (a + b) := by
  rintro ⟨x, rfl⟩ ⟨y, rfl⟩; exact ⟨x + y, (EReal.coe_add x y).symm⟩
theorem IsR.sub {a b : EReal} : IsR a → IsR b → IsR (a - b) := by
  rintro ⟨x, rfl⟩ ⟨y, rfl⟩; exact ⟨x - y, (EReal.coe_sub x y).symm⟩
theorem IsR.mul {a b : EReal} : IsR a → IsR b → IsR (a * b) := by
  rintro ⟨x, rfl⟩ ⟨y, rfl⟩; exact ⟨x * y, (EReal.coe_mul x y).symm⟩
theorem IsR.one : IsR 1 := ⟨1, EReal.coe_one.symm⟩
theorem IsR.sum {n : ℕ} {f : Fin n → EReal} (h : ∀ i, IsR (f i)) : IsR (∑ i, f i) := by
  choose g hg using h
  exact ⟨∑ i, g i, by rw [← Ext.coe_sum]; exact Finset.sum_congr rfl fun i _ => hg i⟩
theorem IsR.mean {a : EReal} : IsR a → IsR (Ideal.div a (Ideal.ofBits .f32 0x44800000#32)) := by
  rintro ⟨x, rfl⟩
  exact ⟨x * (1 / 1024), by rw [Ext.word_1024, Ideal.div_coe (by norm_num), EReal.coe_mul]⟩
theorem IsR.logistic {a : EReal} : IsR a → IsR (Ideal.logistic a) := by
  rintro ⟨x, rfl⟩; exact ⟨_, Ideal.logistic_coe x⟩
theorem IsR.rsq (x : Fin 1024 → EReal) : IsR (rsq x) := by
  unfold Step.rsq
  obtain ⟨e, he, hE⟩ := Ext.word_eps
  rw [hE, Ext.word_1024]
  rcases Ext.mean_sq x e he (c := 1024) (by norm_num) with h | ⟨a, s, hs, -, h, -⟩
  · rw [h, Ideal.rsqrt_top]; exact ⟨0, EReal.coe_zero.symm⟩
  · rw [h, Ext.rsqrt_pos hs]; exact ⟨_, rfl⟩

/-- Every parameter is a real number. -/
structure Par.Real (p : Par) : Prop where
  sh k : IsR (p.sh k)
  sc k : IsR (p.sc k)
  gt k : IsR (p.gt k)
  gn k : IsR (p.gn k)
  gf k : IsR (p.gf k)
  A k j : IsR (p.A k j)
  B k j : IsR (p.B k j)
  O j k : IsR (p.O j k)

section
variable {p : Par} {x t : Fin 1024 → EReal} (hp : p.Real) (hx : ∀ k, IsR (x k)) (ht : ∀ k, IsR (t k))
include hp hx

theorem real_fH (k : Fin 1024) : IsR (fH p x k) := ((((hx k).mul (IsR.rsq x)).mul (hp.gn k)).mul (IsR.one.add (hp.sc k))).add (hp.sh k)
theorem real_fa (j : Fin 2816) : IsR (fa p x j) := IsR.sum fun k => (real_fH hp hx k).mul (hp.A k j)
theorem real_fb (j : Fin 2816) : IsR (fb p x j) := IsR.sum fun k => (real_fH hp hx k).mul (hp.B k j)
theorem real_fhid (j : Fin 2816) : IsR (fhid p x j) := ((real_fa hp hx j).mul (real_fa hp hx j).logistic).mul (real_fb hp hx j)
theorem real_fffn (k : Fin 1024) : IsR (fffn p x k) := IsR.sum fun j => (real_fhid hp hx j).mul (hp.O j k)
theorem real_fx2 (k : Fin 1024) : IsR (fx2 p x k) := (hx k).add ((hp.gt k).mul (real_fffn hp hx k))
theorem real_fxn3 (k : Fin 1024) : IsR (fxn3 p x k) := (real_fx2 hp hx k).mul (IsR.rsq _)
include ht
theorem real_fdiff (k : Fin 1024) : IsR (fdiff p x t k) := ((real_fxn3 hp hx k).mul (hp.gf k)).sub (ht k)
theorem real_fdy (k : Fin 1024) : IsR (fdy p x t k) := (real_fdiff hp hx ht k).mul ⟨_, word_inv⟩
theorem real_fdx2 (k : Fin 1024) : IsR (fdx2 p x t k) :=
  (IsR.rsq _).mul (((real_fdy hp hx ht k).mul (hp.gf k)).sub ((real_fxn3 hp hx k).mul
    (IsR.sum fun l => ((real_fdy hp hx ht l).mul (hp.gf l)).mul (real_fxn3 hp hx l)).mean))
theorem real_fdhid (j : Fin 2816) : IsR (fdhid p x t j) := IsR.sum fun k => ((real_fdx2 hp hx ht k).mul (hp.gt k)).mul (hp.O j k)

/-- The gradient of `a · logistic a` in the product rule's form and in the factored form: equal over the reals. -/
theorem silu (j : Fin 2816) : fdhid p x t j * fb p x j * fs p x j + fa p x j * (fdhid p x t j * fb p x j) * (fs p x j * (1 - fs p x j)) = fda p x t j := by
  unfold fda
  obtain ⟨d, hd⟩ := real_fdhid hp hx ht j
  obtain ⟨b, hb⟩ := real_fb hp hx j
  obtain ⟨a, ha⟩ := real_fa hp hx j
  obtain ⟨s, hs⟩ : IsR (fs p x j) := (real_fa hp hx j).logistic
  rw [hd, hb, ha, hs, ← EReal.coe_one]
  simp only [← EReal.coe_mul, ← EReal.coe_sub, ← EReal.coe_add]
  congr 1
  ring
end

theorem foldl_and {ι : Type} (x : ι → BitVec 1) (l : List ι) (i : BitVec 1) (h : l.foldl (fun r n => IntOp.andi r (x n)) i = 1#1) :
    i = 1#1 ∧ ∀ n ∈ l, x n = 1#1 := by
  induction l generalizing i with
  | nil => exact ⟨h, by simp⟩
  | cons a l ih =>
    obtain ⟨h1, h2⟩ := ih _ h
    have key : ∀ u v : BitVec 1, IntOp.andi u v = 1#1 → u = 1#1 ∧ v = 1#1 := by unfold IntOp.andi; decide
    obtain ⟨h3, h4⟩ := key _ _ h1
    refine ⟨h3, fun n hn => ?_⟩
    rcases List.mem_cons.mp hn with rfl | hn
    · exact h4
    · exact h2 n hn

theorem and_one {s : Shape} (a b : s.Idx → BitVec 1) (j : s.Idx) (h : andi a b j = 1#1) : a j = 1#1 ∧ b j = 1#1 := by
  have key : ∀ u v : BitVec 1, IntOp.andi u v = 1#1 → u = 1#1 ∧ v = 1#1 := by unfold IntOp.andi; decide
  exact key _ _ h

theorem word_inf : Ideal.ofBits .f32 0x7F800000#32 = ⊤ := by
  simp [Ideal.ofBits, Ideal.ieee]

/-- If all entries' absolute values compare less than the infinite word, every entry is real. -/
theorem real_of_all {s : Shape} {axes : List (Fin s.rank)} (v b : s.Idx → EReal) (hb : ∀ i, b i = Ideal.ofBits .f32 0x7F800000#32) (init : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi (cmpf (F := Ideal) (φ := .f32) .olt (Host.absf (F := Ideal) (φ := .f32) v) b) init h hu j = 1#1) (i : s.Idx) : IsR (v i) := by
  have h1 := (foldl_and _ _ _ e).2 (s.rowMajor i) (by
    rw [List.mem_filter]
    exact ⟨List.mem_finRange _, by simpa using Subsingleton.elim _ _⟩)
  rw [Equiv.symm_apply_apply] at h1
  have h2 : Ideal.cmp .olt (max (v i) (-(v i))) (b i) = 1#1 := h1
  rw [hb, word_inf] at h2
  have h3 : max (v i) (-(v i)) < ⊤ := by
    by_contra hc
    simp [Ideal.cmp, hc] at h2
  clear e h1 h2
  generalize v i = q at h3
  induction q with
  | bot => simp at h3
  | top => simp at h3
  | coe r => exact ⟨r, rfl⟩

section
variable (a0 a1 : (⟨2, ![8192, 1024]⟩ : Shape).Idx → EReal) (a2 : (⟨2, ![1, 6144]⟩ : Shape).Idx → EReal) (a3 a4 : (⟨2, ![1, 1024]⟩ : Shape).Idx → EReal)
    (a5 : (⟨2, ![1024, 5632]⟩ : Shape).Idx → EReal) (a6 : (⟨2, ![2816, 1024]⟩ : Shape).Idx → EReal)

/-- The precondition: every entry of every argument is a real number. -/
theorem real_args (h : Cert.Pre_real_step.fn (F := Ideal) a0 a1 a2 a3 a4 a5 a6 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) := by
  have h6 := congrFun h (Shape.Idx.first (by decide))
  unfold Cert.Pre_real_step.fn Cert.Pre_real_step.fn_part1 Cert.Pre_real_step.fn_part2 at h6
  obtain ⟨h5, e6⟩ := and_one _ _ _ h6
  obtain ⟨h4, e5⟩ := and_one _ _ _ h5
  obtain ⟨h3, e4⟩ := and_one _ _ _ h4
  obtain ⟨h2, e3⟩ := and_one _ _ _ h3
  obtain ⟨h1, e2⟩ := and_one _ _ _ h2
  obtain ⟨e0, e1⟩ := and_one _ _ _ h1
  exact ⟨real_of_all a0 _ (fun _ => rfl) _ _ _ _ e0, real_of_all a1 _ (fun _ => rfl) _ _ _ _ e1, real_of_all a2 _ (fun _ => rfl) _ _ _ _ e2,
    real_of_all a3 _ (fun _ => rfl) _ _ _ _ e3, real_of_all a4 _ (fun _ => rfl) _ _ _ _ e4, real_of_all a5 _ (fun _ => rfl) _ _ _ _ e5,
    real_of_all a6 _ (fun _ => rfl) _ _ _ _ e6⟩

theorem par_real (h2 : ∀ i, IsR (a2 i)) (h3 : ∀ i, IsR (a3 i)) (h4 : ∀ i, IsR (a4 i)) (h5 : ∀ i, IsR (a5 i)) (h6 : ∀ i, IsR (a6 i)) :
    (par a2 a3 a4 a5 a6).Real where
  sh _ := h2 _
  sc _ := h2 _
  gt _ := h2 _
  gn _ := h3 _
  gf _ := h4 _
  A _ _ := h5 _
  B _ _ := h5 _
  O _ _ := h6 _
end

end Cert.Proof.Step

end
-- ==== Proof.Step.lean ====
/-  The reference of the feed-forward half with the loss: the gradients through the hidden layer and the first norm, the
    small array, and the equality of its six results with what the kernel leaves. -/
module

public import proofs.«01_k».proof.Proof.StepE
public import proofs.«01_k».proof.Proof.Gen.KernelIdeal.Value
public import proofs.«01_k».proof.Proof.Gen.ReferenceIdeal.Run

@[expose] public section

noncomputable section

namespace Cert.Proof.Step

open Cert.KernelIdeal Cert.KernelIdeal.Gen Idealize.ShloMosaic Idealize.ShloMosaic.TcCoe Idealize.SL.Sem
open Cert.Proof.Common Cert.Proof.Rows
open scoped BigOperators

theorem sum_halves {a b N : ℕ} (h : N = a + b) (f : Fin N → EReal) :
    ∑ i, f i = (∑ i : Fin a, f ⟨0 + i.val, by omega⟩) + ∑ j : Fin b, f ⟨a + j.val, by omega⟩ := by
  subst h
  rw [Fin.sum_univ_add]
  refine congrArg₂ (· + ·) (Finset.sum_congr rfl fun i _ => congrArg f (Fin.ext ?_)) (Finset.sum_congr rfl fun i _ => congrArg f (Fin.ext rfl))
  simp

theorem fdab_left (p : Par) (x t : Fin 1024 → EReal) (j : Fin 2816) (h : 0 + j.val < 5632) : fdab p x t ⟨0 + j.val, h⟩ = fda p x t j := by
  have e : (⟨0 + j.val, h⟩ : Fin 5632) = ⟨j.val, by omega⟩ := Fin.ext (Nat.zero_add _)
  rw [e]
  unfold fdab
  rw [dif_pos j.isLt]

theorem fdab_right (p : Par) (x t : Fin 1024 → EReal) (j : Fin 2816) (h : 2816 + j.val < 5632) : fdab p x t ⟨2816 + j.val, h⟩ = fdb p x t j := by
  unfold fdab
  rw [dif_neg (by simp)]
  exact congrArg (fdb p x t) (Fin.ext (Nat.add_sub_cancel_left _ _))

section
open Cert.ReferenceIdeal.Read

variable (X T : S8192x1024.Idx → EReal) (md : S1x6144.Idx → EReal) (gn gf : S1x1024.Idx → EReal) (wi : S1024x5632.Idx → EReal) (wo : S2816x1024.Idx → EReal)
variable (hp : (par md gn gf wi wo).Real) (hX : ∀ i, IsR (X i)) (hT : ∀ i, IsR (T i))
include hp hX hT

theorem r112 (n : Fin 8192) (j : Fin 2816) : val_main_v112 (F := Ideal) X T md gn gf wi wo (ix2 n j) =
    fda (par md gn gf wi wo) (row (M := 8192) X n) (row (M := 8192) T n) j := by
  pointwise [val_main_v112, val_main_call1_v2, val_main_call1_v1, val_main_call1_v0, val_main_v111]
  rw [r109, r31 X md gn gf wi wo, r32_2 X md gn gf wi wo, r30 X md gn gf wi wo, r32_1 X md gn gf wi wo]
  exact silu hp (fun _ => hX _) (fun _ => hT _) j

theorem r113 (n : Fin 8192) (j : Fin 5632) : val_main_v113 (F := Ideal) X T md gn gf wi wo (ix2 n j) =
    fdab (par md gn gf wi wo) (row (M := 8192) X n) (row (M := 8192) T n) j := by
  pointwise [val_main_v113]
  unfold fdab
  split_ifs with h1 h2
  · exact r112 X T md gn gf wi wo hp hX hT _ _
  · exact r110 X T md gn gf wi wo _ _
  · exact r110 X T md gn gf wi wo _ _

theorem r114 (n : Fin 8192) (k : Fin 1024) : val_main_v114 (F := Ideal) X T md gn gf wi wo (ix2 n k) =
    fdh2 (par md gn gf wi wo) (row (M := 8192) X n) (row (M := 8192) T n) k := by
  pointwise [val_main_v114, val_main_v6]
  simp only [r113 X T md gn gf wi wo hp hX hT]
  rw [sum_halves (a := 2816) (b := 2816) (by norm_num)]
  simp only [fdab_left, fdab_right]
  rfl

theorem r121 (n : Fin 8192) (k : Fin 1024) : val_main_v121 (F := Ideal) X T md gn gf wi wo (ix2 n k) =
    fdh2 (par md gn gf wi wo) (row (M := 8192) X n) (row (M := 8192) T n) k * (1 + (par md gn gf wi wo).sc k) := by
  pointwise [val_main_v121, val_main_v120]
  rw [r114 X T md gn gf wi wo hp hX hT, r24 md gn gf wi wo]

theorem r126 (n : Fin 8192) (k : Fin 1024) : val_main_v126 (F := Ideal) X T md gn gf wi wo (ix2 n k) =
    fdh2 (par md gn gf wi wo) (row (M := 8192) X n) (row (M := 8192) T n) k * (par md gn gf wi wo).gn k * (1 + (par md gn gf wi wo).sc k) := by
  pointwise [val_main_v126, val_main_v125]
  rw [r121 X T md gn gf wi wo hp hX hT, mul_right_comm]
  rfl

theorem r136 (n : Fin 8192) (k : Fin 1024) : val_main_v136 (F := Ideal) X T md gn gf wi wo (ix2 n k) =
    Ideal.div ((∑ l, row (M := 8192) X n l * (fdh2 (par md gn gf wi wo) (row (M := 8192) X n) (row (M := 8192) T n) l * (par md gn gf wi wo).gn l * (1 + (par md gn gf wi wo).sc l))) *
      (Ideal.ofBits .f32 0xBF000000#32 * Ideal.div (rsq (row (M := 8192) X n))
    (Ideal.div (∑ k, row (M := 8192) X n k * row (M := 8192) X n k) (Ideal.ofBits .f32 0x44800000#32) + Ideal.ofBits .f32 0x358637BD#32)))
      (Ideal.ofBits .f32 0x44800000#32) := by
  pointwise [val_main_v136, val_main_v135, val_main_v134, val_main_v133, val_main_v132, val_main_v129, val_main_v128, val_main_v127, val_main_cst_27, val_main_cst_28, val_main_cst_29]
  simp only [r126 X T md gn gf wi wo hp hX hT, r18]
  simp [row]

theorem r151 (n : Fin 8192) (k : Fin 1024) : val_main_v151 (F := Ideal) X T md gn gf wi wo (ix2 n k) =
    fdx1 (par md gn gf wi wo) (row (M := 8192) X n) (row (M := 8192) T n) k := by
  pointwise [val_main_v151, val_main_v140, val_main_v139, val_main_v138, val_main_v137, val_main_v131, val_main_v130]
  simp only [r103, r126 X T md gn gf wi wo hp hX hT, r136 X T md gn gf wi wo hp hX hT, r15]
  unfold fdx1
  generalize par md gn gf wi wo = p
  obtain ⟨e, he, hE⟩ := Ext.word_eps
  have key := Ext.norm_grad (row (M := 8192) X n) (fun l => fdh2 p (row (M := 8192) X n) (row (M := 8192) T n) l * p.gn l * (1 + p.sc l)) e he k
    _ (rsq (row (M := 8192) X n)) rfl (by unfold rsq; rw [hE, Ext.word_1024])
  rw [hE, Ext.word_1024, Ext.word_neg_half]
  exact congrArg (fdx2 p (row (M := 8192) X n) (row (M := 8192) T n) k + ·) key.symm

theorem r146 (o : Fin 48) (k : Fin 1024) : val_main_v146 (F := Ideal) X T md gn gf wi wo (ix2 o k) =
    ∑ n : Fin 8192, part (par md gn gf wi wo) (row (M := 8192) X n) (row (M := 8192) T n) o.val k := by
  unfold part
  pointwise [val_main_v146, val_main_v145, val_main_v144, val_main_v143, val_main_v142, val_main_v141, val_main_v124, val_main_v123, val_main_v122, val_main_v119, val_main_v118, val_main_v117,
    val_main_v116, val_main_v115, val_main_v108, val_main_v107, val_main_v106, val_main_v87, val_main_v86, val_main_v85, val_main_v51,
    val_main_cst_19, val_main_cst_23, val_main_cst_24, val_main_cst_25, val_main_cst_26, val_main_cst_30, val_main_cst_31, val_main_cst_32, val_main_cst_33]
  simp only [r114 X T md gn gf wi wo hp hX hT, r121 X T md gn gf wi wo hp hX hT, r20, r22 X md gn gf wi wo, r103, r34 X md gn gf wi wo, r67 X md gn gf wi wo, r84, r50]
  by_cases h3 : o.val = 3
  · simp [h3]
  by_cases h4 : o.val = 4
  · simp [h4]
    exact Finset.sum_congr rfl fun n _ => mul_comm _ _
  by_cases h5 : o.val = 5
  · simp [h5]
  by_cases h44 : o.val = 44
  · simp [h44]
    exact Finset.sum_congr rfl fun n _ => (mul_assoc _ _ _).symm.trans (congrArg (· * _) (mul_comm _ _))
  by_cases h45 : o.val = 45
  · simp [h45]
    exact Finset.sum_congr rfl fun n _ => mul_comm _ _
  by_cases h46 : o.val = 46
  · simp [h46]
  simp only [h3, h4, h5, h44, h45, h46, if_false, Finset.sum_const_zero]
  split_ifs <;> first | omega | rfl

end

section
open Cert.ReferenceIdeal.Read

variable (X T : S8192x1024.Idx → EReal) (md : S1x6144.Idx → EReal) (gn gf : S1x1024.Idx → EReal) (wi : S1024x5632.Idx → EReal) (wo : S2816x1024.Idx → EReal)

theorem reference5 : val_main_v147 (F := Ideal) X md gn = H2 (par md gn gf wi wo) X := by
  funext i
  have hi : i = ix2 (n0 := 8192) (n1 := 1024) (i 0) (i 1) := (ValueIdx.eq_ix2 i).trans (ix2_eq_valueIdx _ _).symm
  rw [hi]
  exact r28 _ _ _ _ _ _ _ _

theorem reference6 : val_main_v148 (F := Ideal) X md gn wi = HID (par md gn gf wi wo) X := by
  funext i
  have hi : i = ix2 (n0 := 8192) (n1 := 2816) (i 0) (i 1) := (ValueIdx.eq_ix2 i).trans (ix2_eq_valueIdx _ _).symm
  rw [hi]
  exact r33 _ _ _ _ _ _ _ _

theorem reference7 : val_main_v149 (F := Ideal) X T md gn gf wi wo = DF (par md gn gf wi wo) X T := by
  funext i
  have hi : i = ix2 (n0 := 8192) (n1 := 1024) (i 0) (i 1) := (ValueIdx.eq_ix2 i).trans (ix2_eq_valueIdx _ _).symm
  rw [hi]
  exact r105 _ _ _ _ _ _ _ _ _

variable (hp : (par md gn gf wi wo).Real) (hX : ∀ i, IsR (X i)) (hT : ∀ i, IsR (T i))
include hp hX hT

theorem reference8 : val_main_v150 (F := Ideal) X T md gn gf wi wo = DAB (par md gn gf wi wo) X T := by
  funext i
  have hi : i = ix2 (n0 := 8192) (n1 := 5632) (i 0) (i 1) := (ValueIdx.eq_ix2 i).trans (ix2_eq_valueIdx _ _).symm
  rw [hi]
  exact r113 _ _ _ _ _ _ _ hp hX hT _ _

theorem reference9 : val_main_v151 (F := Ideal) X T md gn gf wi wo = DX1 (par md gn gf wi wo) X T := by
  funext i
  have hi : i = ix2 (n0 := 8192) (n1 := 1024) (i 0) (i 1) := (ValueIdx.eq_ix2 i).trans (ix2_eq_valueIdx _ _).symm
  rw [hi]
  exact r151 _ _ _ _ _ _ _ hp hX hT _ _

theorem reference10 : val_main_v146 (F := Ideal) X T md gn gf wi wo = SMALL (par md gn gf wi wo) X T := by
  funext i
  have hi : i = ix2 (n0 := 48) (n1 := 1024) (i 0) (i 1) := (ValueIdx.eq_ix2 i).trans (ix2_eq_valueIdx _ _).symm
  rw [hi]
  exact r146 _ _ _ _ _ _ _ hp hX hT _ _

end

/-- Over the extended reals, of real arguments, the kernel's normalised rows, hidden rows, gradients and small array are
    the reference's. -/
theorem algebraic : Cert.algebraic_KernelIdeal_ReferenceIdeal_pre_real_step := by
  intro m g m' g' hpre hargs
  refine ⟨fun c => (dats m 0 c).arrAt 5 cfg0.N, fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, Cert.KernelIdeal.Value.run_blocks m g, ?_⟩
  have hr := fun c => real_args _ _ _ _ _ _ _ (hpre c)
  have hP : ∀ c, (P m c).Real := fun c => par_real _ _ _ _ _ (hr c).2.2.1 (hr c).2.2.2.1 (hr c).2.2.2.2.1 (hr c).2.2.2.2.2.1 (hr c).2.2.2.2.2.2
  have a0 : ∀ c, StableHlo.launchContents m' c (Proc.devRef .tc Cert.ReferenceIdeal.main_arg0) = V m c main_arg0 := fun c => (hargs c).1
  have a1 : ∀ c, StableHlo.launchContents m' c (Proc.devRef .tc Cert.ReferenceIdeal.main_arg1) = V m c main_arg1 := fun c => (hargs c).2.1
  have a2 : ∀ c, StableHlo.launchContents m' c (Proc.devRef .tc Cert.ReferenceIdeal.main_arg2) = V m c main_arg2 := fun c => (hargs c).2.2.1
  have a3 : ∀ c, StableHlo.launchContents m' c (Proc.devRef .tc Cert.ReferenceIdeal.main_arg3) = V m c main_arg3 := fun c => (hargs c).2.2.2.1
  have a4 : ∀ c, StableHlo.launchContents m' c (Proc.devRef .tc Cert.ReferenceIdeal.main_arg4) = V m c main_arg4 := fun c => (hargs c).2.2.2.2.1
  have a5 : ∀ c, StableHlo.launchContents m' c (Proc.devRef .tc Cert.ReferenceIdeal.main_arg5) = V m c main_arg5 := fun c => (hargs c).2.2.2.2.2.1
  have a6 : ∀ c, StableHlo.launchContents m' c (Proc.devRef .tc Cert.ReferenceIdeal.main_arg6) = V m c main_arg6 := fun c => (hargs c).2.2.2.2.2.2
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ReferenceIdeal.Value.run (F := Ideal) m' g')
  · rw [Cert.ReferenceIdeal.Read.val_main_v147_eq, a0 c, a2 c, a3 c]
    exact (reference5 _ _ _ _ _ _).trans (final5 m c).symm
  · rw [Cert.ReferenceIdeal.Read.val_main_v148_eq, a0 c, a2 c, a3 c, a5 c]
    exact (reference6 _ _ _ _ _ _).trans (final6 m c).symm
  · rw [Cert.ReferenceIdeal.Read.val_main_v149_eq, a0 c, a1 c, a2 c, a3 c, a4 c, a5 c, a6 c]
    exact (reference7 _ _ _ _ _ _ _).trans (final7 m c).symm
  · rw [Cert.ReferenceIdeal.Read.val_main_v150_eq, a0 c, a1 c, a2 c, a3 c, a4 c, a5 c, a6 c]
    exact (reference8 _ _ _ _ _ _ _ (hP c) (hr c).1 (hr c).2.1).trans (final8 m c).symm
  · rw [Cert.ReferenceIdeal.Read.val_main_v151_eq, a0 c, a1 c, a2 c, a3 c, a4 c, a5 c, a6 c]
    exact (reference9 _ _ _ _ _ _ _ (hP c) (hr c).1 (hr c).2.1).trans (final9 m c).symm
  · rw [Cert.ReferenceIdeal.Read.val_main_v146_eq, a0 c, a1 c, a2 c, a3 c, a4 c, a5 c, a6 c]
    exact (reference10 _ _ _ _ _ _ _ (hP c) (hr c).1 (hr c).2.1).trans (final10 m c).symm

end Cert.Proof.Step

end
-- ==== Proof.BackA.lean ====
/-  The blocks of the gradient through the input projection, and what each grid point leaves. -/
module

public import proofs.«01_k».proof.Proof.Gen.Kernel2Ideal.Value
public import proofs.«01_k».proof.Defs
public import proofs.«01_k».proof.Proof.Rows
public import Idealize.ShloMosaic.Lib.Pipeline.ValueKit.Acc
public import Idealize.ShloMosaic.Lib.Pipeline.ValueKit.Geometry
public import Idealize.ShloMosaic.Lib.Pipeline.ValueKit.Tiles
public import Idealize.ShloMosaic.PureOps.Ideal.Laws

@[expose] public section

noncomputable section

namespace Cert.Proof.Back

open Cert.Kernel2Ideal Cert.Kernel2Ideal.Gen Idealize.ShloMosaic Idealize.ShloMosaic.TcCoe Idealize.SL.Sem
open Cert.Proof.Common Cert.Proof.Rows
open Idealize.ShloMosaic.Pipeline (Dat)
open scoped BigOperators

variable (m : (ℓ : Loc nD τ sig) → Buf (Elt Ideal) ℓ)

/-- The rows of the small array a point adds to, over the contents `X` it finds. -/
def step (p : S512x7168.Idx → EReal) (x : S512x1024.Idx → EReal) (md : S1x6144.Idx → EReal) (g : S1x1024.Idx → EReal)
    (w : S1024x7168.Idx → EReal) (X : S48x1024.Idx → EReal) : S48x1024.Idx → EReal :=
  put (Val := Elt Ideal) (e := .f32) (put (Val := Elt Ideal) (e := .f32) (put (Val := Elt Ideal) (e := .f32) X 0
    (k0_pay8 (F := Ideal) p w (View.ld (Val := Elt Ideal) (e' := .f32) X (Rect.unit (s := S48x1024) ![0, 0] ![1, 1024] inb_S48x1024_S1x1024_0_0))))
    1 (k0_pay1 (F := Ideal) (k0_pay6 x) (k0_pay7 p w) (k0_pay9 (View.ld (Val := Elt Ideal) (e' := .f32) X (Rect.unit (s := S48x1024) ![1, 0] ![1, 1024] inb_S48x1024_S1x1024_1_0))) (k0_pay10 g)))
    6 (k0_pay2 (F := Ideal) (View.ld (Val := Elt Ideal) (e' := .f32) md (Rect.unit (s := S1x6144) ![0, 1024] ![1, 1024] inb_S1x6144_S1x1024_0_1024)) (k0_pay6 x) (k0_pay7 p w)
      (View.ld (Val := Elt Ideal) (e' := .f32) X (Rect.unit (s := S48x1024) ![6, 0] ![1, 1024] inb_S48x1024_S1x1024_6_0)))

/-- The block of the input's gradient a point writes. -/
def block (p : S512x7168.Idx → EReal) (x d : S512x1024.Idx → EReal) (md : S1x6144.Idx → EReal) (g : S1x1024.Idx → EReal)
    (w : S1024x7168.Idx → EReal) : S512x1024.Idx → EReal :=
  k0_pay3 (F := Ideal) (View.ld (Val := Elt Ideal) (e' := .f32) md (Rect.unit (s := S1x6144) ![0, 1024] ![1, 1024] inb_S1x6144_S1x1024_0_1024)) g
    (k0_pay5 x) (k0_pay6 x) (k0_pay7 p w) d

theorem after_A (c : Dev nD) (t : Fin cfg0.N) (h : t.val % 16 = 0) :
    outsAt0 m c t.val t.isLt = (block (iblk m c 0 t) (iblk m c 1 t) (iblk m c 2 t) (iblk m c 3 t) (iblk m c 4 t) (V m c main_arg5),
      step (iblk m c 0 t) (iblk m c 1 t) (iblk m c 3 t) (iblk m c 4 t) (V m c main_arg5) (k0_pay4 (F := Ideal)), V m c main_arg5) := by
  rw [outsAt0_A m c t h h]
  frame_out
  simp only [readCov_whole, canon_whole]
  have hz : View.canon (Val := Elt Ideal) [(⟨Rect.unit (s := S48x1024) ![0, 0] ![48, 1024] inb_S48x1024_S48x1024_0_0, k0_pay4 (F := Ideal)⟩ : View.Piece (Elt Ideal) S48x1024 .f32)] = k0_pay4 (F := Ideal) :=
    View.canon_cons_unit_lit (Val := Elt Ideal) (S := S48x1024) (e := .f32) inb_S48x1024_S48x1024_0_0 _ [] (by decide)
  refine Prod.ext rfl (Prod.ext ?_ rfl)
  dsimp only
  refine (canon_row (M := 48) (N := 1024) (e := .f32) (Val := Elt Ideal) 6 inb_S48x1024_S1x1024_6_0 _ _).trans ?_
  rw [canon_row (M := 48) (N := 1024) (e := .f32) (Val := Elt Ideal) 1 inb_S48x1024_S1x1024_1_0,
    canon_row (M := 48) (N := 1024) (e := .f32) (Val := Elt Ideal) 0 inb_S48x1024_S1x1024_0_0]
  simp only [readCov_ld]
  rw [canon_row (M := 48) (N := 1024) (e := .f32) (Val := Elt Ideal) 1 inb_S48x1024_S1x1024_1_0,
    canon_row (M := 48) (N := 1024) (e := .f32) (Val := Elt Ideal) 0 inb_S48x1024_S1x1024_0_0]
  rw [hz]
  rw [ld_put_other (M := 48) (N := 1024) (e := .f32) (Val := Elt Ideal) _ 6 1 _ inb_S48x1024_S1x1024_6_0 (by decide)]
  rw [ld_put_other (M := 48) (N := 1024) (e := .f32) (Val := Elt Ideal) _ 6 0 _ inb_S48x1024_S1x1024_6_0 (by decide)]
  rw [ld_put_other (M := 48) (N := 1024) (e := .f32) (Val := Elt Ideal) _ 1 0 _ inb_S48x1024_S1x1024_1_0 (by decide)]
  rfl

theorem after_B (c : Dev nD) (t : Fin cfg0.N) (h : ¬ t.val % 16 = 0) :
    outsAt0 m c t.val t.isLt = (block (iblk m c 0 t) (iblk m c 1 t) (iblk m c 2 t) (iblk m c 3 t) (iblk m c 4 t) (outsAt0 m c (t.val - 1) (Nat.lt_of_le_of_lt (Nat.sub_le _ _) t.isLt)).2.2,
      step (iblk m c 0 t) (iblk m c 1 t) (iblk m c 3 t) (iblk m c 4 t) (outsAt0 m c (t.val - 1) (Nat.lt_of_le_of_lt (Nat.sub_le _ _) t.isLt)).2.2
        (outsAt0 m c (t.val - 1) (Nat.lt_of_le_of_lt (Nat.sub_le _ _) t.isLt)).2.1,
      (outsAt0 m c (t.val - 1) (Nat.lt_of_le_of_lt (Nat.sub_le _ _) t.isLt)).2.2) := by
  rw [outsAt0_B m c t h h]
  frame_out
  have hr : View.read (Elt Ideal) (View.whole cc0_scratch0) ((Memref.isWhole_whole cc0_scratch0).unread (outsAt0 m c (t.val - 1) (Nat.lt_of_le_of_lt (Nat.sub_le _ _) t.isLt)).2.2) = (outsAt0 m c (t.val - 1) (Nat.lt_of_le_of_lt (Nat.sub_le _ _) t.isLt)).2.2 :=
    (Memref.isWhole_whole cc0_scratch0).read_unread _
  refine Prod.ext ?_ (Prod.ext ?_ rfl)
  · exact congrArg (block (iblk m c 0 t) (iblk m c 1 t) (iblk m c 2 t) (iblk m c 3 t) (iblk m c 4 t)) hr
  · dsimp only
    refine (writes_row (M := 48) (N := 1024) (e := .f32) (Val := Elt Ideal) _ _ 6 inb_S48x1024_S1x1024_6_0 _ _).trans ?_
    rw [writes_row (M := 48) (N := 1024) (e := .f32) (Val := Elt Ideal) _ _ 1 inb_S48x1024_S1x1024_1_0,
     writes_row (M := 48) (N := 1024) (e := .f32) (Val := Elt Ideal) _ _ 0 inb_S48x1024_S1x1024_0_0, View.writes_nil, (hs0_6 t).read_unread]
    exact congrArg (fun w => step (iblk m c 0 t) (iblk m c 1 t) (iblk m c 3 t) (iblk m c 4 t) w
        (outsAt0 m c (t.val - 1) (Nat.lt_of_le_of_lt (Nat.sub_le _ _) t.isLt)).2.1) hr

end Cert.Proof.Back
end
-- ==== Proof.BackB.lean ====
/-  The gradient through the input projection and its norm, read row by row over the extended reals. -/
module

public import proofs.«01_k».proof.Proof.BackA
public import proofs.«01_k».proof.Proof.Gen.Reference2Ideal.Read
public import Idealize.ShloMosaic.Lib.Pointwise
public import Idealize.ShloMosaic.Lib.Pipeline.ValueKit.Point

@[expose] public section

noncomputable section

namespace Cert.Proof.Back

open Cert.Kernel2Ideal Cert.Kernel2Ideal.Gen Idealize.ShloMosaic Idealize.ShloMosaic.TcCoe Idealize.SL.Sem
open Cert.Proof.Common Cert.Proof.Rows
open Idealize.ShloMosaic.Pipeline (Dat)
open scoped BigOperators

variable {M : ℕ}

/-- The gradient of the modulated rows: the cotangent of the projections times the transposed weights. -/
def dh (p : (⟨2, ![M, 7168]⟩ : Shape).Idx → EReal) (w : (⟨2, ![1024, 7168]⟩ : Shape).Idx → EReal) (n : Fin M) (k : Fin 1024) : EReal :=
  ∑ q : Fin 7168, p (ix2 n q) * w (ix2 k q)

/-- The reciprocal root mean square of row `n`. -/
def rs (x : (⟨2, ![M, 1024]⟩ : Shape).Idx → EReal) (n : Fin M) : EReal :=
  Ideal.rsqrt (Ideal.div (∑ k : Fin 1024, x (ix2 n k) * x (ix2 n k)) (Ideal.ofBits .f32 0x44800000#32) + Ideal.ofBits .f32 0x358637BD#32)

/-- The scale `1 + sc1` of the modulation. -/
def sc (md : (⟨2, ![1, 6144]⟩ : Shape).Idx → EReal) (k : Fin 1024) : EReal := 1 + md (ix2 0 ⟨1024 + k.val, by omega⟩)

/-- The gradient of the input at `(n, k)`. -/
def gx (p : (⟨2, ![M, 7168]⟩ : Shape).Idx → EReal) (x d : (⟨2, ![M, 1024]⟩ : Shape).Idx → EReal) (md : (⟨2, ![1, 6144]⟩ : Shape).Idx → EReal)
    (g : (⟨2, ![1, 1024]⟩ : Shape).Idx → EReal) (w : (⟨2, ![1024, 7168]⟩ : Shape).Idx → EReal) (n : Fin M) (k : Fin 1024) : EReal :=
  d (ix2 n k) + rs x n * (dh p w n k * g (ix2 0 k) * sc md k - x (ix2 n k) * rs x n *
    Ideal.div (∑ l : Fin 1024, dh p w n l * g (ix2 0 l) * sc md l * (x (ix2 n l) * rs x n)) (Ideal.ofBits .f32 0x44800000#32))

/-- What row `n` adds to row `o` of the small array. -/
def part (p : (⟨2, ![M, 7168]⟩ : Shape).Idx → EReal) (x : (⟨2, ![M, 1024]⟩ : Shape).Idx → EReal) (md : (⟨2, ![1, 6144]⟩ : Shape).Idx → EReal)
    (g : (⟨2, ![1, 1024]⟩ : Shape).Idx → EReal) (w : (⟨2, ![1024, 7168]⟩ : Shape).Idx → EReal) (o : ℕ) (n : Fin M) (k : Fin 1024) : EReal :=
  if o = 0 then dh p w n k
  else if o = 1 then dh p w n k * (x (ix2 n k) * rs x n * g (ix2 0 k))
  else if o = 6 then dh p w n k * (x (ix2 n k) * rs x n) * sc md k
  else 0

theorem pay5 (x : S512x1024.Idx → EReal) (r : Fin 512) : k0_pay5 (F := Ideal) x (ix2 r 0) = rs (M := 512) x r := by
  pointwise [k0_pay5]
  rfl

theorem pay6 (x : S512x1024.Idx → EReal) (r : Fin 512) (z : Fin 1024) : k0_pay6 (F := Ideal) x (ix2 r z) = x (ix2 r z) * rs (M := 512) x r := by
  pointwise [k0_pay6]
  rw [pay5]

theorem pay7 (p : S512x7168.Idx → EReal) (w : S1024x7168.Idx → EReal) (r : Fin 512) (z : Fin 1024) :
    k0_pay7 (F := Ideal) p w (ix2 r z) = dh (M := 512) p w r z := by
  pointwise [k0_pay7]
  rfl

theorem ld_sc (md : S1x6144.Idx → EReal) (k : Fin 1024) :
    1 + View.ld (Val := Elt Ideal) (e' := .f32) md (Rect.unit (s := S1x6144) ![0, 1024] ![1, 1024] inb_S1x6144_S1x1024_0_1024) (ix2 0 k) = sc md k :=
  congrArg (1 + ·) (ld_row (M := 1) (N := 6144) (e := .f32) (Val := Elt Ideal) md 0 1024 1024 inb_S1x6144_S1x1024_0_1024 (by decide) k (by omega))

theorem block_apply (p : S512x7168.Idx → EReal) (x d : S512x1024.Idx → EReal) (md : S1x6144.Idx → EReal) (g : S1x1024.Idx → EReal)
    (w : S1024x7168.Idx → EReal) (r : Fin 512) (k : Fin 1024) : block p x d md g w (ix2 r k) = gx (M := 512) p x d md g w r k := by
  unfold block gx
  generalize hm : View.ld (Val := Elt Ideal) (e' := .f32) md (Rect.unit (s := S1x6144) ![0, 1024] ![1, 1024] inb_S1x6144_S1x1024_0_1024) = mm
  have hs : ∀ k, 1 + mm (ix2 0 k) = sc md k := fun k => hm ▸ ld_sc md k
  pointwise [k0_pay3]
  simp only [pay5, pay6, pay7, hs]

theorem step_apply (p : S512x7168.Idx → EReal) (x : S512x1024.Idx → EReal) (md : S1x6144.Idx → EReal) (g : S1x1024.Idx → EReal)
    (w : S1024x7168.Idx → EReal) (X : S48x1024.Idx → EReal) (o : Fin 48) (k : Fin 1024) :
    step p x md g w X (ix2 o k) = X (ix2 o k) + ∑ r : Fin 512, part (M := 512) p x md g w o.val r k := by
  unfold step part
  by_cases h6 : o.val = 6
  · obtain rfl : o = ⟨6, by decide⟩ := Fin.ext h6
    refine (put_same (M := 48) (N := 1024) (e := .f32) (Val := Elt Ideal) _ 6 _ _ k).trans ?_
    generalize hm : View.ld (Val := Elt Ideal) (e' := .f32) md (Rect.unit (s := S1x6144) ![0, 1024] ![1, 1024] inb_S1x6144_S1x1024_0_1024) = mm
    have hs : ∀ k, 1 + mm (ix2 0 k) = sc md k := fun k => hm ▸ ld_sc md k
    generalize hX : View.ld (Val := Elt Ideal) (e' := .f32) X (Rect.unit (s := S48x1024) ![6, 0] ![1, 1024] inb_S48x1024_S1x1024_6_0) = XX
    have hl : XX (ix2 0 k) = X (ix2 ⟨6, by decide⟩ k) :=
      hX ▸ (ld_row (M := 48) (N := 1024) (e := .f32) (Val := Elt Ideal) X 6 0 1024 inb_S48x1024_S1x1024_6_0 (by decide) k (by omega)).trans (by simp)
    pointwise [k0_pay2]
    simp only [pay6, pay7, hs, hl]
    rfl
  rw [put_other (M := 48) (N := 1024) (e := .f32) (Val := Elt Ideal) _ o.val 6 _ o.isLt h6 k]
  by_cases h1 : o.val = 1
  · obtain rfl : o = ⟨1, by decide⟩ := Fin.ext h1
    refine (put_same (M := 48) (N := 1024) (e := .f32) (Val := Elt Ideal) _ 1 _ _ k).trans ?_
    generalize hX : View.ld (Val := Elt Ideal) (e' := .f32) X (Rect.unit (s := S48x1024) ![1, 0] ![1, 1024] inb_S48x1024_S1x1024_1_0) = XX
    have hl : XX (ix2 0 k) = X (ix2 ⟨1, by decide⟩ k) :=
      hX ▸ (ld_row (M := 48) (N := 1024) (e := .f32) (Val := Elt Ideal) X 1 0 1024 inb_S48x1024_S1x1024_1_0 (by decide) k (by omega)).trans (by simp)
    pointwise [k0_pay1, k0_pay9, k0_pay10]
    simp only [pay6, pay7, hl]
    rfl
  rw [put_other (M := 48) (N := 1024) (e := .f32) (Val := Elt Ideal) _ o.val 1 _ o.isLt h1 k]
  by_cases h0 : o.val = 0
  · obtain rfl : o = ⟨0, by decide⟩ := Fin.ext h0
    refine (put_same (M := 48) (N := 1024) (e := .f32) (Val := Elt Ideal) _ 0 _ _ k).trans ?_
    generalize hX : View.ld (Val := Elt Ideal) (e' := .f32) X (Rect.unit (s := S48x1024) ![0, 0] ![1, 1024] inb_S48x1024_S1x1024_0_0) = XX
    have hl : XX (ix2 0 k) = X (ix2 ⟨0, by decide⟩ k) :=
      hX ▸ (ld_row (M := 48) (N := 1024) (e := .f32) (Val := Elt Ideal) X 0 0 1024 inb_S48x1024_S1x1024_0_0 (by decide) k (by omega)).trans (by simp)
    pointwise [k0_pay8]
    simp only [pay7, hl]
    rfl
  rw [put_other (M := 48) (N := 1024) (e := .f32) (Val := Elt Ideal) _ o.val 0 _ o.isLt h0 k]
  simp only [h0, h1, h6, if_false, Finset.sum_const_zero, add_zero]

variable (m : (ℓ : Loc nD τ sig) → Buf (Elt Ideal) ℓ)

theorem scratch (c : Dev nD) (n : ℕ) : ∀ hn : n < cfg0.N, (outsAt0 m c n hn).2.2 = V m c main_arg5 := by
  induction n with
  | zero => exact fun hn => congrArg (fun z => z.2.2) (after_A m c ⟨0, hn⟩ rfl)
  | succ n ih =>
    intro hn
    by_cases h : (n + 1) % 16 = 0
    · exact congrArg (fun z => z.2.2) (after_A m c ⟨n + 1, hn⟩ h)
    · have e := congrArg (fun z => z.2.2) (after_B m c ⟨n + 1, hn⟩ h)
      simp only [Nat.add_sub_cancel] at e
      exact e.trans (ih _)

theorem after5 (c : Dev nD) (t : Fin cfg0.N) :
    (outsAt0 m c t.val t.isLt).1 = block (iblk m c 0 t) (iblk m c 1 t) (iblk m c 2 t) (iblk m c 3 t) (iblk m c 4 t) (V m c main_arg5) := by
  by_cases h : t.val % 16 = 0
  · rw [after_A m c t h]
  · rw [after_B m c t h]
    dsimp only
    rw [scratch]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

theorem lt_rows (t : Fin cfg0.N) (r : Fin 512) : t.val * 512 + r.val < 8192 := by
  have h1 : t.val < 16 := t.isLt
  omega

theorem blk0 (c : Dev nD) (t : Fin cfg0.N) (r : Fin 512) (q : Fin 7168) :
    (iblk m c 0 t : S512x7168.Idx → EReal) (ix2 r q) = (V m c main_arg0 : S8192x7168.Idx → EReal) (ix2 ⟨t.val * 512 + r.val, lt_rows t r⟩ q) := by
  blk_point [iblk, idx0]
theorem blk1 (c : Dev nD) (t : Fin cfg0.N) (r : Fin 512) (q : Fin 1024) :
    (iblk m c 1 t : S512x1024.Idx → EReal) (ix2 r q) = (V m c main_arg1 : S8192x1024.Idx → EReal) (ix2 ⟨t.val * 512 + r.val, lt_rows t r⟩ q) := by
  blk_point [iblk, idx1]
theorem blk2 (c : Dev nD) (t : Fin cfg0.N) (r : Fin 512) (q : Fin 1024) :
    (iblk m c 2 t : S512x1024.Idx → EReal) (ix2 r q) = (V m c main_arg2 : S8192x1024.Idx → EReal) (ix2 ⟨t.val * 512 + r.val, lt_rows t r⟩ q) := by
  blk_point [iblk, idx2]
theorem blk3 (c : Dev nD) (t : Fin cfg0.N) : (iblk m c 3 t : S1x6144.Idx → EReal) = V m c main_arg3 := by
  funext i
  blk_point [iblk, idx3]
theorem blk4 (c : Dev nD) (t : Fin cfg0.N) : (iblk m c 4 t : S1x1024.Idx → EReal) = V m c main_arg4 := by
  funext i
  blk_point [iblk, idx4]

theorem gx_congr {M' : ℕ} {p : (⟨2, ![M, 7168]⟩ : Shape).Idx → EReal} {x d : (⟨2, ![M, 1024]⟩ : Shape).Idx → EReal}
    {p' : (⟨2, ![M', 7168]⟩ : Shape).Idx → EReal} {x' d' : (⟨2, ![M', 1024]⟩ : Shape).Idx → EReal}
    (md : (⟨2, ![1, 6144]⟩ : Shape).Idx → EReal) (g : (⟨2, ![1, 1024]⟩ : Shape).Idx → EReal) (w : (⟨2, ![1024, 7168]⟩ : Shape).Idx → EReal)
    {n : Fin M} {n' : Fin M'} (hp : ∀ q, p (ix2 n q) = p' (ix2 n' q)) (hx : ∀ q, x (ix2 n q) = x' (ix2 n' q))
    (hd : ∀ q, d (ix2 n q) = d' (ix2 n' q)) (k : Fin 1024) : gx p x d md g w n k = gx p' x' d' md g w n' k := by
  simp only [gx, dh, rs, hp, hx, hd]

theorem part_congr {M' : ℕ} {p : (⟨2, ![M, 7168]⟩ : Shape).Idx → EReal} {x : (⟨2, ![M, 1024]⟩ : Shape).Idx → EReal}
    {p' : (⟨2, ![M', 7168]⟩ : Shape).Idx → EReal} {x' : (⟨2, ![M', 1024]⟩ : Shape).Idx → EReal}
    (md : (⟨2, ![1, 6144]⟩ : Shape).Idx → EReal) (g : (⟨2, ![1, 1024]⟩ : Shape).Idx → EReal) (w : (⟨2, ![1024, 7168]⟩ : Shape).Idx → EReal)
    {n : Fin M} {n' : Fin M'} (hp : ∀ q, p (ix2 n q) = p' (ix2 n' q)) (hx : ∀ q, x (ix2 n q) = x' (ix2 n' q))
    (o : ℕ) (k : Fin 1024) : part p x md g w o n k = part p' x' md g w o n' k := by
  simp only [part, dh, rs, hp, hx]

/-- The array of the input's gradient. -/
def G (P : S8192x7168.Idx → EReal) (X D : S8192x1024.Idx → EReal) (md : S1x6144.Idx → EReal) (g : S1x1024.Idx → EReal)
    (w : S1024x7168.Idx → EReal) : S8192x1024.Idx → EReal := fun i => gx (M := 8192) P X D md g w (i 0) (i 1)

/-- The array of the small gradients. -/
def H (P : S8192x7168.Idx → EReal) (X : S8192x1024.Idx → EReal) (md : S1x6144.Idx → EReal) (g : S1x1024.Idx → EReal)
    (w : S1024x7168.Idx → EReal) : S48x1024.Idx → EReal := fun i => ∑ n : Fin 8192, part (M := 8192) P X md g w (i 0).val n (i 1)

theorem final5 (c : Dev nD) : (dats m 0 c).arrAt 5 cfg0.N
    = G (V m c main_arg0) (V m c main_arg1) (V m c main_arg2) (V m c main_arg3) (V m c main_arg4) (V m c main_arg5) := by
  refine (dats m 0 c).arrAt_eq_of_covers 5 _ (by decide +kernel) fun t hf y => ?_
  blk_simp
  rw [after0_5, after5]
  have e0 : (((win0_5.blk t).view.emb y) 0).val = t.val * 512 + (y 0).val := by blk_simp [idx5]
  have e1 : (((win0_5.blk t).view.emb y) 1).val = (y 1).val := by blk_simp [idx5]
  generalize (win0_5.blk t).view.emb y = i at e0 e1
  have hy : y = ix2 (n0 := 512) (n1 := 1024) (y 0) (y 1) := (ValueIdx.eq_ix2 y).trans (ix2_eq_valueIdx _ _).symm
  rw [hy]
  refine (block_apply _ _ _ _ _ _ _ _).trans ?_
  rw [blk3, blk4]
  have h0 : i 0 = ⟨t.val * 512 + (y 0).val, lt_rows t (y 0)⟩ := Fin.ext e0
  have h1 : i 1 = y 1 := Fin.ext e1
  unfold G
  rw [h0, h1]
  exact gx_congr _ _ _ (fun q => blk0 m c t (y 0) q) (fun q => blk1 m c t (y 0) q) (fun q => blk2 m c t (y 0) q) _

/-- What point `t` adds to the small array. -/
def term (c : Dev nD) (t : Fin cfg0.N) : S48x1024.Idx → EReal := fun i =>
  ∑ r : Fin 512, part (M := 8192) (V m c main_arg0) (V m c main_arg1) (V m c main_arg3) (V m c main_arg4) (V m c main_arg5) (i 0).val
    ⟨t.val * 512 + r.val, lt_rows t r⟩ (i 1)

theorem step_term (c : Dev nD) (t : Fin cfg0.N) (X : S48x1024.Idx → EReal) :
    step (iblk m c 0 t) (iblk m c 1 t) (iblk m c 3 t) (iblk m c 4 t) (V m c main_arg5) X = X + term m c t := by
  funext i
  have hi : i = ix2 (n0 := 48) (n1 := 1024) (i 0) (i 1) := (ValueIdx.eq_ix2 i).trans (ix2_eq_valueIdx _ _).symm
  rw [hi]
  refine (step_apply _ _ _ _ _ _ _ _).trans ?_
  rw [blk3, blk4]
  refine congrArg (X (ix2 (n0 := 48) (n1 := 1024) (i 0) (i 1)) + ·) (Finset.sum_congr rfl fun r _ => ?_)
  exact part_congr _ _ _ (fun q => blk0 m c t r q) (fun q => blk1 m c t r q) _ _

theorem zero_pay (i : S48x1024.Idx) : k0_pay4 (F := Ideal) i = 0 := by
  show Ideal.ofBits .f32 0x00000000#32 = 0
  exact Ideal.ofBits_zero_f32

theorem after6 (c : Dev nD) (t : Fin cfg0.N) (ht : t.val % 16 = 16 - 1) :
    (outsAt0 m c t.val t.isLt).2.1 = k0_pay4 (F := Ideal) + ∑ s : Fin 16, term m c ⟨16 * (t.val / 16) + s.val, Pipeline.run_point_lt_of_flush t ht s⟩ := by
  refine Pipeline.eq_sum_fin_of_reset_step_of_flush (M := S48x1024.Idx → EReal) (fun n hn => (outsAt0 m c n hn).2.1) 16 (k0_pay4 (F := Ideal)) (term m c) ?_ ?_ t ht
  · intro t h
    rw [after_A m c t h]
    exact step_term m c t _
  · intro t h
    rw [after_B m c t h]
    dsimp only
    rw [scratch]
    exact step_term m c t _

/-- The last point. -/
def last : Fin cfg0.N := ⟨15, by decide⟩

theorem after_last (c : Dev nD) :
    (outsAt0 m c last.val last.isLt).2.1 = H (V m c main_arg0) (V m c main_arg1) (V m c main_arg3) (V m c main_arg4) (V m c main_arg5) := by
  rw [after6 m c last (by decide)]
  funext j
  rw [Pi.add_apply, zero_pay, zero_add, Finset.sum_apply]
  refine Fin.sum_mul_add_congr (L := 8192) (S := 16) (n := 512) fun s k hl => ?_
  refine congrArg (fun n => part (M := 8192) _ _ _ _ _ _ n _) (Fin.ext ?_)
  show (16 * (15 / 16) + s.val) * 512 + k.val = s.val * 512 + k.val
  omega

theorem final6 (c : Dev nD) : (dats m 0 c).arrAt 6 cfg0.N
    = H (V m c main_arg0) (V m c main_arg1) (V m c main_arg3) (V m c main_arg4) (V m c main_arg5) := by
  refine (dats m 0 c).arrAt_eq_of_after_last 6 last (by decide +kernel) _ fun j => ?_
  blk_simp
  refine (congrFun (after0_6 m c last) _).trans ?_
  rw [after_last]

end Cert.Proof.Back
end
-- ==== Proof.Back.lean ====
/-  The reference of the gradient through the first product and the first normalisation, read at an index, and its
    equality with what the kernel leaves. -/
module

public import proofs.«01_k».proof.Proof.BackB
public import proofs.«01_k».proof.Proof.Ext

@[expose] public section

noncomputable section

namespace Cert.Proof.Back

open Cert.Kernel2Ideal Cert.Kernel2Ideal.Gen Idealize.ShloMosaic Idealize.ShloMosaic.TcCoe Idealize.SL.Sem
open Cert.Proof.Common Cert.Proof.Rows
open Idealize.ShloMosaic.Pipeline (Dat)
open scoped BigOperators

section
open Cert.Reference2Ideal.Read

variable (P : S8192x7168.Idx → EReal) (X D : S8192x1024.Idx → EReal) (md : S1x6144.Idx → EReal) (g : S1x1024.Idx → EReal)
    (w : S1024x7168.Idx → EReal)

theorem r14 (n : Fin 8192) (z : Fin 1) : val_main_v14 (F := Ideal) X (ix2 n z) = rs (M := 8192) X n := by
  pointwise [val_main_v14, val_main_v13, val_main_v12, val_main_v11, val_main_v10, val_main_v9, val_main_v8, val_main_v7, val_main_cst, val_main_cst_0, val_main_cst_1]
  rfl

theorem r13 (n : Fin 8192) (z : Fin 1) : val_main_v13 (F := Ideal) X (ix2 n z) =
    Ideal.div (∑ k : Fin 1024, X (ix2 n k) * X (ix2 n k)) (Ideal.ofBits .f32 0x44800000#32) + Ideal.ofBits .f32 0x358637BD#32 := by
  pointwise [val_main_v14, val_main_v13, val_main_v12, val_main_v11, val_main_v10, val_main_v9, val_main_v8, val_main_v7, val_main_cst, val_main_cst_0, val_main_cst_1]

theorem r30 (n : Fin 8192) (k : Fin 1024) : val_main_v30 (F := Ideal) P w (ix2 n k) = dh (M := 8192) P w n k := by
  pointwise [val_main_v30, val_main_v29, val_main_v6]
  rfl

theorem r23 (z : Fin 1) (k : Fin 1024) : val_main_v23 (F := Ideal) md (ix2 z k) = sc md k := by
  pointwise [val_main_v23, val_main_v22, val_main_v1, val_main_cst_3]
  rfl

theorem r19 (n : Fin 8192) (k : Fin 1024) : val_main_v19 (F := Ideal) X (ix2 n k) = X (ix2 n k) * rs (M := 8192) X n := by
  pointwise [val_main_v19, val_main_v18]
  rw [r14]

theorem r42 (n : Fin 8192) (k : Fin 1024) : val_main_v42 (F := Ideal) P md g w (ix2 n k) = dh (M := 8192) P w n k * sc md k * g (ix2 0 k) := by
  pointwise [val_main_v42, val_main_v41, val_main_v37, val_main_v36]
  rw [r30, r23]

/-- The coefficient of the normalised row in its gradient. -/
theorem r52 (n : Fin 8192) (k : Fin 1024) : val_main_v52 (F := Ideal) P X md g w (ix2 n k) =
    Ideal.div ((∑ l : Fin 1024, X (ix2 n l) * (dh (M := 8192) P w n l * sc md l * g (ix2 0 l))) *
      (Ideal.ofBits .f32 0xBF000000#32 * Ideal.div (rs (M := 8192) X n)
        (Ideal.div (∑ k : Fin 1024, X (ix2 n k) * X (ix2 n k)) (Ideal.ofBits .f32 0x44800000#32) + Ideal.ofBits .f32 0x358637BD#32)))
      (Ideal.ofBits .f32 0x44800000#32) := by
  pointwise [val_main_v52, val_main_v51, val_main_v50, val_main_v49, val_main_v48, val_main_v45, val_main_v44, val_main_v43, val_main_v17, val_main_v16, val_main_v15, val_main_cst_2, val_main_cst_7, val_main_cst_8, val_main_cst_9]
  simp only [r14, r13, r42]
  simp

theorem r60 (n : Fin 8192) (k : Fin 1024) : val_main_v60 (F := Ideal) P X D md g w (ix2 n k) = gx (M := 8192) P X D md g w n k := by
  pointwise [val_main_v60, val_main_v56, val_main_v55, val_main_v54, val_main_v53, val_main_v47, val_main_v46]
  simp only [r14, r42, r52]
  unfold gx
  obtain ⟨e, he, hE⟩ := Ext.word_eps
  have key := Ext.norm_grad (fun l => X (ix2 n l)) (fun l => dh (M := 8192) P w n l * sc md l * g (ix2 0 l)) e he k
    _ (rs (M := 8192) X n) rfl (by unfold rs; rw [hE, Ext.word_1024])
  rw [hE, Ext.word_1024, Ext.word_neg_half]
  have e1 : ∀ l : Fin 1024, dh (M := 8192) P w n l * g (ix2 0 l) * sc md l = dh (M := 8192) P w n l * sc md l * g (ix2 0 l) := fun l => mul_right_comm _ _ _
  simp only [e1]
  exact congrArg (D (ix2 n k) + ·) key.symm

theorem r59 (o : Fin 48) (k : Fin 1024) : val_main_v59 (F := Ideal) P X md g w (ix2 o k) = ∑ n : Fin 8192, part (M := 8192) P X md g w o.val n k := by
  unfold part
  pointwise [val_main_v59, val_main_v57, val_main_v58, val_main_v40, val_main_v39, val_main_v38, val_main_v37, val_main_v36, val_main_v35, val_main_v34, val_main_v33, val_main_v21, val_main_v20, val_main_v32, val_main_v31,
    val_main_cst_4, val_main_cst_5, val_main_cst_6, val_main_cst_10, val_main_cst_11]
  simp only [r30, r19, r23]
  by_cases h0 : o.val = 0
  · simp [h0]
  by_cases h1 : o.val = 1
  · simp [h1]
    exact Finset.sum_congr rfl fun n _ => mul_comm _ _
  by_cases h6 : o.val = 6
  · simp [h6]
    exact Finset.sum_congr rfl fun n _ => (mul_assoc _ _ _).symm.trans (congrArg (· * _) (mul_comm _ _))
  simp only [h0, h1, h6, if_false, Finset.sum_const_zero]
  split_ifs <;> first | omega | rfl

end

theorem reference5 (P : S8192x7168.Idx → EReal) (X D : S8192x1024.Idx → EReal) (md : S1x6144.Idx → EReal) (g : S1x1024.Idx → EReal)
    (w : S1024x7168.Idx → EReal) : Cert.Reference2Ideal.Read.val_main_v60 (F := Ideal) P X D md g w = G P X D md g w := by
  funext i
  have hi : i = ix2 (n0 := 8192) (n1 := 1024) (i 0) (i 1) := (ValueIdx.eq_ix2 i).trans (ix2_eq_valueIdx _ _).symm
  rw [hi]
  exact r60 _ _ _ _ _ _ _ _

theorem reference6 (P : S8192x7168.Idx → EReal) (X : S8192x1024.Idx → EReal) (md : S1x6144.Idx → EReal) (g : S1x1024.Idx → EReal)
    (w : S1024x7168.Idx → EReal) : Cert.Reference2Ideal.Read.val_main_v59 (F := Ideal) P X md g w = H P X md g w := by
  funext i
  have hi : i = ix2 (n0 := 48) (n1 := 1024) (i 0) (i 1) := (ValueIdx.eq_ix2 i).trans (ix2_eq_valueIdx _ _).symm
  rw [hi]
  exact r59 _ _ _ _ _ _ _

/-- Over the extended reals the kernel's gradient of its input and its array of small gradients are the reference's. -/
theorem algebraic : Cert.algebraic_Kernel2Ideal_Reference2Ideal := by
  intro m g m' g' _ hargs
  refine ⟨fun c => (dats m 0 c).arrAt 5 cfg0.N, fun c => (dats m 0 c).arrAt 6 cfg0.N, Cert.Kernel2Ideal.Value.run_blocks m g, ?_⟩
  refine (θ_run _ _ _).mono (fun r h c => ⟨(h c).1.trans ?_, (h c).2.1.trans ?_, (h c).2.2⟩) (Cert.Reference2Ideal.Value.run (F := Ideal) m' g')
  · rw [Cert.Reference2Ideal.Read.val_main_v60_eq, reference5, (hargs c).1, (hargs c).2.1, (hargs c).2.2.1, (hargs c).2.2.2.1, (hargs c).2.2.2.2.1, (hargs c).2.2.2.2.2]
    exact (final5 m c).symm
  · rw [Cert.Reference2Ideal.Read.val_main_v59_eq, reference6, (hargs c).1, (hargs c).2.1, (hargs c).2.2.2.1, (hargs c).2.2.2.2.1, (hargs c).2.2.2.2.2]
    exact (final6 m c).symm

end Cert.Proof.Back

end
-- ==== Proof.Grad3.lean ====
/-  The weight gradient `h2ᵀ · dab` of the feed-forward block's input projection: the array the kernel leaves is, element
    by element, the sum over the 8192 positions of the products, and so is the reference's. -/
module

public import proofs.«01_k».proof.Proof.Gen.Kernel3Ideal.Value
public import proofs.«01_k».proof.Proof.Gen.Reference3Ideal.Read
public import proofs.«01_k».proof.Defs
public import proofs.«01_k».proof.Proof.Common
public import Idealize.ShloMosaic.Lib.Pipeline.ValueKit.Acc
public import Idealize.ShloMosaic.Lib.Pipeline.ValueKit.Geometry
public import Idealize.ShloMosaic.PureOps.Ideal.Laws

@[expose] public section

noncomputable section

namespace Cert.Proof.Grad3

open Cert.Kernel3Ideal Cert.Kernel3Ideal.Gen Idealize.ShloMosaic Idealize.ShloMosaic.TcCoe Idealize.SL.Sem
open Idealize.ShloMosaic.ValueIdx Cert.Proof.Common
open Idealize.ShloMosaic.Pipeline (Dat)
open scoped BigOperators

variable (m : (ℓ : Loc nD τ sig) → Buf (Elt Ideal) ℓ)

/-- At the first point the saved activations are copied in whole, and the block written is their product with the
    point's column block. -/
theorem after_A (c : Dev nD) (t : Fin cfg0.N) (h : t.val % 11 = 0) :
    outsAt0 m c t.val t.isLt = (k0_pay1 (V m c main_arg0) (iblk m c 0 t), V m c main_arg0) := by
  rw [outsAt0_A m c t h]
  frame_out
  rw [readCov_whole, canon_whole]
  rfl

/-- At a later point the product is over the activations the point before left. -/
theorem after_B (c : Dev nD) (t : Fin cfg0.N) (h : ¬ t.val % 11 = 0) :
    outsAt0 m c t.val t.isLt = (k0_pay1 (outsAt0 m c (t.val - 1) (Nat.lt_of_le_of_lt (Nat.sub_le _ _) t.isLt)).2 (iblk m c 0 t),
       (outsAt0 m c (t.val - 1) (Nat.lt_of_le_of_lt (Nat.sub_le _ _) t.isLt)).2) := by
  rw [outsAt0_B m c t h]
  frame_out
  exact Prod.ext (congrArg (fun x => k0_pay1 x _) ((Memref.isWhole_whole cc0_scratch0).read_unread _)) rfl

/-- The product at an index. -/
def G (a : S8192x1024.Idx → EReal) (b : S8192x5632.Idx → EReal) : S1024x5632.Idx → EReal :=
  fun i => ∑ k : Fin 8192, a (ix2 k (i 0)) * b (ix2 k (i 1))

theorem pay (a : S8192x1024.Idx → EReal) (b : S8192x512.Idx → EReal) (r : Fin 1024) (s : Fin 512) :
    k0_pay1 (F := Ideal) a b (ix2 r s) = ∑ k : Fin 8192, a (ix2 k r) * b (ix2 k s) := by
  unfold k0_pay1
  rw [truncf_apply]
  refine (matmul_rows_apply (M := 1024) (K := 8192) (N := 512) none a b _ r s).trans ?_
  rw [constant_apply, Ideal.ofBits_zero_f32, zero_add]

theorem idx1 : ∀ t : Fin cfg0.N, win0_1.index t = ![0, t.val] :=
  (by decide +kernel : ∀ t : Fin grid0.N, _)
theorem idx0 : ∀ t : Fin cfg0.N, win0_0.index t = ![0, t.val] :=
  (by decide +kernel : ∀ t : Fin grid0.N, _)

theorem scratch (c : Dev nD) (n : ℕ) : ∀ hn : n < cfg0.N, (outsAt0 m c n hn).2 = V m c main_arg0 := by
  induction n with
  | zero => exact fun hn => congrArg Prod.snd (after_A m c ⟨0, hn⟩ rfl)
  | succ n ih =>
    intro hn
    by_cases h : (n + 1) % 11 = 0
    · exact congrArg Prod.snd (after_A m c ⟨n + 1, hn⟩ h)
    · have e := congrArg Prod.snd (after_B m c ⟨n + 1, hn⟩ h)
      simp only [Nat.add_sub_cancel] at e
      rw [e, ih]

theorem after (c : Dev nD) (t : Fin cfg0.N) :
    (outsAt0 m c t.val t.isLt).1 = k0_pay1 (V m c main_arg0) (iblk m c 0 t) := by
  by_cases h : t.val % 11 = 0
  · rw [after_A m c t h]
  · rw [after_B m c t h]
    dsimp only
    rw [scratch]

theorem final (c : Dev nD) : (dats m 0 c).arrAt 1 cfg0.N = G (V m c main_arg0) (V m c main_arg1) := by
  refine (dats m 0 c).arrAt_eq_of_covers 1 _ (by decide +kernel) fun t hf y => ?_
  blk_simp
  rw [after0_1, after]
  have e0 : (((win0_1.blk t).view.emb y) 0).val = (y 0).val := by blk_simp [idx1]
  have e1 : (((win0_1.blk t).view.emb y) 1).val = t.val * 512 + (y 1).val := by blk_simp [idx1]
  generalize (win0_1.blk t).view.emb y = i at e0 e1
  rw [show y = ix2 (n0 := 1024) (n1 := 512) (y 0) (y 1) from eq_ix2 y]
  refine (pay _ _ _ _).trans (Finset.sum_congr rfl fun k _ => ?_)
  refine congrArg₂ (· * ·) (congrArg _ (ix2_congr rfl e0.symm)) ?_
  blk_simp [iblk]
  refine congrArg _ (eq_ix2_of ?_ ?_)
  · blk_simp [idx0]
  · blk_simp [idx0]
    simpa [ix2_one] using e1.symm

/-- The reference's array is the same sums. -/
theorem reference (a : (⟨Cert.Reference3Ideal.S8192x1024, .bf16⟩ : BufTy).Contents (Elt Ideal))
    (b : (⟨Cert.Reference3Ideal.S8192x5632, .bf16⟩ : BufTy).Contents (Elt Ideal)) :
    Cert.Reference3Ideal.Read.val_main_v6 (F := Ideal) a b = G a b := by
  funext i
  rw [Cert.Reference3Ideal.Read.val_main_v6_apply, Cert.Reference3Ideal.Read.val_main_v5_apply, Ideal.truncf_def,
    Cert.Reference3Ideal.Read.val_main_v4_apply]
  refine Finset.sum_congr rfl fun k _ => ?_
  rw [Cert.Reference3Ideal.Read.val_main_v0_apply, Cert.Reference3Ideal.Read.val_main_v1_apply, Ideal.extf_def, Ideal.extf_def, mul_comm]
  exact congrArg₂ (· * ·) (congrArg a (eq_ix2_of rfl rfl)) (congrArg b (eq_ix2_of rfl rfl))

/-- The kernel's run and the reference's end with equal arrays. -/
theorem algebraic : Cert.algebraic_Kernel3Ideal_Reference3Ideal := by
  intro m g m' g' _ hargs
  refine ⟨fun c => (dats m 0 c).arrAt 1 cfg0.N, Cert.Kernel3Ideal.Value.run_blocks m g, ?_⟩
  refine (θ_run _ _ _).mono (fun r h c => ⟨(h c).1.trans ?_, (h c).2⟩) (Cert.Reference3Ideal.Value.run (F := Ideal) m' g')
  rw [Cert.Reference3Ideal.Read.val_main_v6_eq, reference]
  exact (congrArg₂ G (hargs c).1 (hargs c).2).trans (final m c).symm

end Cert.Proof.Grad3

end
-- ==== Proof.Grad4.lean ====
/-  The weight gradient `(dfᵀ · hid)ᵀ` of the feed-forward block's output projection: the array the kernel leaves is, element
    by element, the sum over the 8192 positions of the products, and so is the reference's. -/
module

public import proofs.«01_k».proof.Proof.Gen.Kernel4Ideal.Value
public import proofs.«01_k».proof.Proof.Gen.Reference4Ideal.Read
public import proofs.«01_k».proof.Defs
public import proofs.«01_k».proof.Proof.Common
public import Idealize.ShloMosaic.Lib.Pipeline.ValueKit.Acc
public import Idealize.ShloMosaic.Lib.Pipeline.ValueKit.Geometry
public import Idealize.ShloMosaic.PureOps.Ideal.Laws

@[expose] public section

noncomputable section

namespace Cert.Proof.Grad4

open Cert.Kernel4Ideal Cert.Kernel4Ideal.Gen Idealize.ShloMosaic Idealize.ShloMosaic.TcCoe Idealize.SL.Sem
open Idealize.ShloMosaic.ValueIdx Cert.Proof.Common
open Idealize.ShloMosaic.Pipeline (Dat)
open scoped BigOperators

variable (m : (ℓ : Loc nD τ sig) → Buf (Elt Ideal) ℓ)

/-- At the first point the saved activations are copied in whole, and the block written is their product with the
    point's column block. -/
theorem after_A (c : Dev nD) (t : Fin cfg0.N) (h : t.val % 11 = 0) :
    outsAt0 m c t.val t.isLt = (k0_pay1 (V m c main_arg0) (iblk m c 0 t), V m c main_arg0) := by
  rw [outsAt0_A m c t h]
  frame_out
  rw [readCov_whole, canon_whole]
  rfl

/-- At a later point the product is over the activations the point before left. -/
theorem after_B (c : Dev nD) (t : Fin cfg0.N) (h : ¬ t.val % 11 = 0) :
    outsAt0 m c t.val t.isLt = (k0_pay1 (outsAt0 m c (t.val - 1) (Nat.lt_of_le_of_lt (Nat.sub_le _ _) t.isLt)).2 (iblk m c 0 t),
       (outsAt0 m c (t.val - 1) (Nat.lt_of_le_of_lt (Nat.sub_le _ _) t.isLt)).2) := by
  rw [outsAt0_B m c t h]
  frame_out
  exact Prod.ext (congrArg (fun x => k0_pay1 x _) ((Memref.isWhole_whole cc0_scratch0).read_unread _)) rfl

/-- The product at an index. -/
def G (a : S8192x1024.Idx → EReal) (b : S8192x2816.Idx → EReal) : S2816x1024.Idx → EReal :=
  fun i => ∑ k : Fin 8192, a (ix2 k (i 1)) * b (ix2 k (i 0))

theorem pay (a : S8192x1024.Idx → EReal) (b : S8192x256.Idx → EReal) (r : Fin 1024) (s : Fin 256) :
    k0_pay1 (F := Ideal) a b (ix2 s r) = ∑ k : Fin 8192, a (ix2 k r) * b (ix2 k s) := by
  unfold k0_pay1
  rw [truncf_apply]
  refine (transpose_apply [1, 0] _ transposes_S1024x256_p1_0_S256x1024 (ix2 s r) (ix2 r s) (fun b => match b with
    | ⟨0, _⟩ => rfl
    | ⟨1, _⟩ => rfl)).trans ?_
  refine (matmul_rows_apply (M := 1024) (K := 8192) (N := 256) none a b _ r s).trans ?_
  rw [constant_apply, Ideal.ofBits_zero_f32, zero_add]

theorem idx1 : ∀ t : Fin cfg0.N, win0_1.index t = ![t.val, 0] :=
  (by decide +kernel : ∀ t : Fin grid0.N, _)
theorem idx0 : ∀ t : Fin cfg0.N, win0_0.index t = ![0, t.val] :=
  (by decide +kernel : ∀ t : Fin grid0.N, _)

theorem scratch (c : Dev nD) (n : ℕ) : ∀ hn : n < cfg0.N, (outsAt0 m c n hn).2 = V m c main_arg0 := by
  induction n with
  | zero => exact fun hn => congrArg Prod.snd (after_A m c ⟨0, hn⟩ rfl)
  | succ n ih =>
    intro hn
    by_cases h : (n + 1) % 11 = 0
    · exact congrArg Prod.snd (after_A m c ⟨n + 1, hn⟩ h)
    · have e := congrArg Prod.snd (after_B m c ⟨n + 1, hn⟩ h)
      simp only [Nat.add_sub_cancel] at e
      rw [e, ih]

theorem after (c : Dev nD) (t : Fin cfg0.N) :
    (outsAt0 m c t.val t.isLt).1 = k0_pay1 (V m c main_arg0) (iblk m c 0 t) := by
  by_cases h : t.val % 11 = 0
  · rw [after_A m c t h]
  · rw [after_B m c t h]
    dsimp only
    rw [scratch]

theorem final (c : Dev nD) : (dats m 0 c).arrAt 1 cfg0.N = G (V m c main_arg0) (V m c main_arg1) := by
  refine (dats m 0 c).arrAt_eq_of_covers 1 _ (by decide +kernel) fun t hf y => ?_
  blk_simp
  rw [after0_1, after]
  have e0 : (((win0_1.blk t).view.emb y) 1).val = (y 1).val := by blk_simp [idx1]
  have e1 : (((win0_1.blk t).view.emb y) 0).val = t.val * 256 + (y 0).val := by blk_simp [idx1]
  generalize (win0_1.blk t).view.emb y = i at e0 e1
  rw [show y = ix2 (n0 := 256) (n1 := 1024) (y 0) (y 1) from eq_ix2 y]
  refine (pay _ _ _ _).trans (Finset.sum_congr rfl fun k _ => ?_)
  refine congrArg₂ (· * ·) (congrArg _ (ix2_congr rfl e0.symm)) ?_
  blk_simp [iblk]
  refine congrArg _ (eq_ix2_of ?_ ?_)
  · blk_simp [idx0]
  · blk_simp [idx0]
    simpa [ix2_one] using e1.symm

/-- The reference's array is the same sums. -/
theorem reference (a : (⟨Cert.Reference4Ideal.S8192x1024, .bf16⟩ : BufTy).Contents (Elt Ideal))
    (b : (⟨Cert.Reference4Ideal.S8192x2816, .bf16⟩ : BufTy).Contents (Elt Ideal)) :
    Cert.Reference4Ideal.Read.val_main_v6 (F := Ideal) a b = G a b := by
  funext i
  rw [Cert.Reference4Ideal.Read.val_main_v6_apply, Cert.Reference4Ideal.Read.val_main_v5_apply, Ideal.truncf_def,
    Cert.Reference4Ideal.Read.val_main_v4_apply]
  refine Finset.sum_congr rfl fun k _ => ?_
  rw [Cert.Reference4Ideal.Read.val_main_v0_apply, Cert.Reference4Ideal.Read.val_main_v1_apply, Ideal.extf_def, Ideal.extf_def]
  exact congrArg₂ (· * ·) (congrArg a (eq_ix2_of rfl rfl)) (congrArg b (eq_ix2_of rfl rfl))

/-- The kernel's run and the reference's end with equal arrays. -/
theorem algebraic : Cert.algebraic_Kernel4Ideal_Reference4Ideal := by
  intro m g m' g' _ hargs
  refine ⟨fun c => (dats m 0 c).arrAt 1 cfg0.N, Cert.Kernel4Ideal.Value.run_blocks m g, ?_⟩
  refine (θ_run _ _ _).mono (fun r h c => ⟨(h c).1.trans ?_, (h c).2⟩) (Cert.Reference4Ideal.Value.run (F := Ideal) m' g')
  rw [Cert.Reference4Ideal.Read.val_main_v6_eq, reference]
  exact (congrArg₂ G (hargs c).1 (hargs c).2).trans (final m c).symm

end Cert.Proof.Grad4

end
-- ==== Proof.SqIdeal.lean ====
/- The frame of `Kernel5Ideal`, by hand: the kernel's body reads two blocks and writes one, and leaves its scratch buffer and its
   semaphore alone, so each goes through the body unread. -/
module

public import proofs.«01_k».proof.Proof.Gen.Kernel5Ideal.Frame
public import Idealize.ShloMosaic.Lib.Claim

@[expose] public section

set_option maxRecDepth 16384

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev r0_0 : Rect S8192x1024 := Rect.unit (s := S8192x1024) ![0, 0] S8192x1024.size inb_S8192x1024_S8192x1024_0_0
abbrev r0_1 : Rect S8192x256 := Rect.unit (s := S8192x256) ![0, 0] S8192x256.size inb_S8192x256_S8192x256_0_0
abbrev r0_2 : Rect S1024x256 := Rect.unit (s := S1024x256) ![0, 0] S1024x256.size inb_S1024x256_S1024x256_0_0

/-- The block the body stores: the product of its two blocks over their rows, rounded. -/
def pay (v0 : Vec F S8192x1024 .bf16) (v1 : Vec F S8192x256 .bf16) : Vec F S1024x256 .bf16 :=
  truncf .bf16 (matmul dot_S8192x1024_S8192x256_S1024x256_0_0_1_1_n_n none v0 v1 (constant S1024x256 .f32 0x00000000#32)) bitsLt_bf16_f32

/-- What the body leaves in the output block. -/
def out0_2 (x0 : Vec F S8192x1024 .bf16) (x1 : Vec F S8192x256 .bf16) : Vec F S1024x256 .bf16 :=
  View.canon [⟨r0_2, pay (View.ld x0 r0_0) (View.ld x1 r0_1)⟩]

theorem cover0_2 (p0 : Vec F S1024x256 .bf16) (y : S1024x256.Idx) :
    ∃ pc ∈ ([⟨r0_2, p0⟩] : List (View.Piece (Elt F) S1024x256 .bf16)), y ∈ pc.1.set :=
  View.cover_of_tiled [⟨r0_2, p0⟩] S1024x256.size (by rfl) y

set_option maxHeartbeats 1000000 in
/-- The body on any three buffers, and any scratch. -/
theorem sound_kernel (c : Dev nD) (E : Set ℕ) (i : grid0.Coords) (arg1 : Memref sig .tc .vmem S8192x1024 .bf16) (harg1 : arg1.IsWhole)
    (arg2 : Memref sig .tc .vmem S8192x256 .bf16) (harg2 : arg2.IsWhole) (arg3 : Memref sig .tc .vmem S1024x256 .bf16) (harg3 : arg3.IsWhole)
    (arg4 : Memref sig .tc .vmem S8x128 .bf16) (harg4 : arg4.IsWhole) (arg5 : DmaSems sig S1)
    (x0 : Vec F S8192x1024 .bf16) (x1 : Vec F S8192x256 .bf16) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_grad_w_sq i arg1 harg1 arg2 harg2 arg3 harg3 arg4 harg4 arg5) K := by
  unfold cc0_grad_w_sq
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array at what the points leave in it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel5Ideal.Hand

end
-- ==== Proof.Grad5.lean ====
/- The weight gradients of the three square projections side by side: the array the kernel leaves is, element by element, the
    sum over the 8192 positions of the products of its third's two columns, and so is the reference's. -/
module

public import proofs.«01_k».proof.Proof.SqIdeal
public import proofs.«01_k».proof.Proof.Gen.Reference5Ideal.Read
public import proofs.«01_k».proof.Defs
public import proofs.«01_k».proof.Proof.Common
public import Idealize.ShloMosaic.Lib.Pipeline.Value
public import Idealize.ShloMosaic.Lib.Pipeline.ValueKit.Acc
public import Idealize.ShloMosaic.Lib.Pipeline.ValueKit.Geometry
public import Idealize.ShloMosaic.PureOps.Ideal.Laws

@[expose] public section

noncomputable section

namespace Cert.Proof.Grad5

open Cert.Kernel5Ideal Cert.Kernel5Ideal.Gen Cert.Kernel5Ideal.Hand Idealize.ShloMosaic Idealize.ShloMosaic.TcCoe Idealize.SL.Sem
open Idealize.ShloMosaic.ValueIdx Cert.Proof.Common
open Idealize.ShloMosaic.Pipeline (Dat)
open scoped BigOperators

variable (m : (ℓ : Loc nD τ sig) → Buf (Elt Ideal) ℓ) (ρ : Dev nD → PrngReg)

theorem third (p : ℕ) (h : p < 3) (i : Fin 1024) : p * 1024 + i.val < 3072 := by omega

theorem lane (i : S1024x3072.Idx) : (i 1).val / 1024 * 1024 + (i 0).val < 3072 := by
  have h0 : (i 0).val < 1024 := (i 0).isLt
  have h1 : (i 1).val < 3072 := (i 1).isLt
  omega

/-- The product at an index: the left column is the row's, in the third the right column is in. -/
def G (a b : S8192x3072.Idx → EReal) : S1024x3072.Idx → EReal :=
  fun i => ∑ k : Fin 8192, a (ix2 k ⟨(i 1).val / 1024 * 1024 + (i 0).val, lane i⟩) * b (ix2 k (i 1))

theorem zero_off : ∀ a, (![0, 0] : Fin 2 → ℕ) a = 0 := by decide

theorem out (a : Vec Ideal S8192x1024 .bf16) (b : Vec Ideal S8192x256 .bf16) : out0_2 (F := Ideal) a b = Hand.pay (F := Ideal) a b := by
  unfold out0_2
  rw [show View.ld a r0_0 = a from View.ld_unit_lit _ a zero_off, show View.ld b r0_1 = b from View.ld_unit_lit _ b zero_off]
  exact View.canon_cons_unit_lit _ _ [] zero_off

theorem pay_at (a : S8192x1024.Idx → EReal) (b : S8192x256.Idx → EReal) (r : Fin 1024) (s : Fin 256) :
    Hand.pay (F := Ideal) a b (ix2 r s) = ∑ k : Fin 8192, a (ix2 k r) * b (ix2 k s) := by
  unfold Hand.pay
  rw [truncf_apply]
  refine (matmul_rows_apply (M := 1024) (K := 8192) (N := 256) none a b _ r s).trans ?_
  rw [constant_apply, Ideal.ofBits_zero_f32, zero_add]

theorem idx2 : ∀ t : Fin cfg0.N, win0_2.index t = ![0, t.val] :=
  (by decide +kernel : ∀ t : Fin grid0.N, _)
theorem idx1 : ∀ t : Fin cfg0.N, win0_1.index t = ![0, t.val] :=
  (by decide +kernel : ∀ t : Fin grid0.N, _)
theorem idx0 : ∀ t : Fin cfg0.N, win0_0.index t = ![0, t.val / 4] :=
  (by decide +kernel : ∀ t : Fin grid0.N, _)

/-- The array after the last point. -/
theorem final (c : Dev nD) : (dats m 0 c).arrAt 2 cfg0.N = G (V m c main_arg0) (V m c main_arg1) := by
  refine (dats m 0 c).arrAt_eq_of_covers 2 _ (by decide +kernel) fun t hf y => ?_
  blk_simp
  rw [after0_2, out]
  have e0 : (((win0_2.blk t).view.emb y) 0).val = (y 0).val := by blk_simp [idx2]
  have e1 : (((win0_2.blk t).view.emb y) 1).val = t.val * 256 + (y 1).val := by blk_simp [idx2]
  have hy : (y 1).val < 256 := (y 1).isLt
  generalize (win0_2.blk t).view.emb y = i at e0 e1
  rw [show y = ix2 (n0 := 1024) (n1 := 256) (y 0) (y 1) from eq_ix2 y]
  refine (pay_at _ _ _ _).trans (Finset.sum_congr rfl fun k _ => ?_)
  refine congrArg₂ (· * ·) ?_ ?_
  · blk_simp [iblk]
    refine congrArg _ (eq_ix2_of ?_ ?_)
    · blk_simp [idx0]
    · blk_simp [idx0]
      simp only [ix2_one]
      show _ = (i 1).val / 1024 * 1024 + (i 0).val
      rw [e0, e1]
      have hz : (ix2 (n0 := 8192) (n1 := 1024) k (y 0) 1).val = (y 0).val := rfl
      omega
  · blk_simp [iblk]
    refine congrArg _ (eq_ix2_of ?_ ?_)
    · blk_simp [idx1]
    · blk_simp [idx1]
      simpa [ix2_one] using e1.symm

/-- The run: the result array as the points leave it, the arguments unchanged. -/
theorem run : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

section
open Cert.Reference5Ideal.Read

/-- The reference's product of third 0. -/
theorem piece0 (x0 x1 : S8192x3072.Idx → EReal) (i : Cert.Reference5Ideal.S1024x1024.Idx) :
    val_main_v12 (F := Ideal) x0 x1 i = ∑ k : Fin 8192, x0 (ix2 k ⟨0 * 1024 + (i 0).val, third 0 (by decide) (i 0)⟩) * x1 (ix2 k ⟨0 * 1024 + (i 1).val, third 0 (by decide) (i 1)⟩) := by
  rw [val_main_v12_apply, Ideal.truncf_def, val_main_v11_apply, val_main_v10_apply]
  refine Finset.sum_congr rfl fun k _ => ?_
  rw [val_main_v7_apply, val_main_v6_apply, Ideal.extf_def, Ideal.extf_def, val_main_v0_apply, val_main_v3_apply, mul_comm]
  exact congrArg₂ (· * ·) (congrArg x0 (eq_ix2_of (by simp [idx_main_v0, idx_main_v3, lidx_main_v10, ridx_main_v10, idx_main_v11]) (by simp [idx_main_v0, idx_main_v3, lidx_main_v10, ridx_main_v10, idx_main_v11]))) (congrArg x1 (eq_ix2_of (by simp [idx_main_v0, idx_main_v3, lidx_main_v10, ridx_main_v10, idx_main_v11]) (by simp [idx_main_v0, idx_main_v3, lidx_main_v10, ridx_main_v10, idx_main_v11])))

/-- The reference's product of third 1. -/
theorem piece1 (x0 x1 : S8192x3072.Idx → EReal) (i : Cert.Reference5Ideal.S1024x1024.Idx) :
    val_main_v19 (F := Ideal) x0 x1 i = ∑ k : Fin 8192, x0 (ix2 k ⟨1 * 1024 + (i 0).val, third 1 (by decide) (i 0)⟩) * x1 (ix2 k ⟨1 * 1024 + (i 1).val, third 1 (by decide) (i 1)⟩) := by
  rw [val_main_v19_apply, Ideal.truncf_def, val_main_v18_apply, val_main_v17_apply]
  refine Finset.sum_congr rfl fun k _ => ?_
  rw [val_main_v14_apply, val_main_v13_apply, Ideal.extf_def, Ideal.extf_def, val_main_v1_apply, val_main_v4_apply, mul_comm]
  exact congrArg₂ (· * ·) (congrArg x0 (eq_ix2_of (by simp [idx_main_v1, idx_main_v4, lidx_main_v17, ridx_main_v17, idx_main_v18]) (by simp [idx_main_v1, idx_main_v4, lidx_main_v17, ridx_main_v17, idx_main_v18]))) (congrArg x1 (eq_ix2_of (by simp [idx_main_v1, idx_main_v4, lidx_main_v17, ridx_main_v17, idx_main_v18]) (by simp [idx_main_v1, idx_main_v4, lidx_main_v17, ridx_main_v17, idx_main_v18])))

/-- The reference's product of third 2. -/
theorem piece2 (x0 x1 : S8192x3072.Idx → EReal) (i : Cert.Reference5Ideal.S1024x1024.Idx) :
    val_main_v26 (F := Ideal) x0 x1 i = ∑ k : Fin 8192, x0 (ix2 k ⟨2 * 1024 + (i 0).val, third 2 (by decide) (i 0)⟩) * x1 (ix2 k ⟨2 * 1024 + (i 1).val, third 2 (by decide) (i 1)⟩) := by
  rw [val_main_v26_apply, Ideal.truncf_def, val_main_v25_apply, val_main_v24_apply]
  refine Finset.sum_congr rfl fun k _ => ?_
  rw [val_main_v21_apply, val_main_v20_apply, Ideal.extf_def, Ideal.extf_def, val_main_v2_apply, val_main_v5_apply, mul_comm]
  exact congrArg₂ (· * ·) (congrArg x0 (eq_ix2_of (by simp [idx_main_v2, idx_main_v5, lidx_main_v24, ridx_main_v24, idx_main_v25]) (by simp [idx_main_v2, idx_main_v5, lidx_main_v24, ridx_main_v24, idx_main_v25]))) (congrArg x1 (eq_ix2_of (by simp [idx_main_v2, idx_main_v5, lidx_main_v24, ridx_main_v24, idx_main_v25]) (by simp [idx_main_v2, idx_main_v5, lidx_main_v24, ridx_main_v24, idx_main_v25])))

/-- The reference's array is the same sums. -/
theorem reference (a b : S8192x3072.Idx → EReal) : val_main_v27 (F := Ideal) a b = G a b := by
  funext i
  have h0 : (i 0).val < 1024 := (i 0).isLt
  have h1 : (i 1).val < 3072 := (i 1).isLt
  unfold val_main_v27 G
  rcases (by omega : (i 1).val < 1 * 1024 ∨ (1 * 1024 ≤ (i 1).val ∧ (i 1).val < 2 * 1024) ∨ (2 * 1024 ≤ (i 1).val ∧ (i 1).val < 3 * 1024)) with h | h | h
  · refine (concatenate_apply_piece 1 _ _ i 0 (by simp) Cert.Reference5Ideal.S1024x1024 (val_main_v12 (F := Ideal) a b) rfl rfl (0 * 1024) (by rfl)
      (ix2 (i 0) ⟨(i 1).val - 0 * 1024, by omega⟩) (fun x hx => match x with | ⟨0, _⟩ => rfl | ⟨1, _⟩ => absurd rfl hx) ?_).trans ?_
    · show 0 * 1024 + ((i 1).val - 0 * 1024) = (i 1).val
      omega
    · rw [piece0]
      refine Finset.sum_congr rfl fun k _ => congrArg₂ (· * ·) (congrArg a (ix2_congr rfl ?_)) (congrArg b (ix2_congr rfl ?_))
      · show 0 * 1024 + (i 0).val = (i 1).val / 1024 * 1024 + (i 0).val
        omega
      · show 0 * 1024 + ((i 1).val - 0 * 1024) = (i 1).val
        omega
  · refine (concatenate_apply_piece 1 _ _ i 1 (by simp) Cert.Reference5Ideal.S1024x1024 (val_main_v19 (F := Ideal) a b) rfl rfl (1 * 1024) (by rfl)
      (ix2 (i 0) ⟨(i 1).val - 1 * 1024, by omega⟩) (fun x hx => match x with | ⟨0, _⟩ => rfl | ⟨1, _⟩ => absurd rfl hx) ?_).trans ?_
    · show 1 * 1024 + ((i 1).val - 1 * 1024) = (i 1).val
      omega
    · rw [piece1]
      refine Finset.sum_congr rfl fun k _ => congrArg₂ (· * ·) (congrArg a (ix2_congr rfl ?_)) (congrArg b (ix2_congr rfl ?_))
      · show 1 * 1024 + (i 0).val = (i 1).val / 1024 * 1024 + (i 0).val
        omega
      · show 1 * 1024 + ((i 1).val - 1 * 1024) = (i 1).val
        omega
  · refine (concatenate_apply_piece 1 _ _ i 2 (by simp) Cert.Reference5Ideal.S1024x1024 (val_main_v26 (F := Ideal) a b) rfl rfl (2 * 1024) (by rfl)
      (ix2 (i 0) ⟨(i 1).val - 2 * 1024, by omega⟩) (fun x hx => match x with | ⟨0, _⟩ => rfl | ⟨1, _⟩ => absurd rfl hx) ?_).trans ?_
    · show 2 * 1024 + ((i 1).val - 2 * 1024) = (i 1).val
      omega
    · rw [piece2]
      refine Finset.sum_congr rfl fun k _ => congrArg₂ (· * ·) (congrArg a (ix2_congr rfl ?_)) (congrArg b (ix2_congr rfl ?_))
      · show 2 * 1024 + (i 0).val = (i 1).val / 1024 * 1024 + (i 0).val
        omega
      · show 2 * 1024 + ((i 1).val - 2 * 1024) = (i 1).val
        omega

end

/-- The kernel's run and the reference's end with equal arrays. -/
theorem algebraic : Cert.algebraic_Kernel5Ideal_Reference5Ideal := by
  intro m g m' g' _ hargs
  refine ⟨fun c => (dats m 0 c).arrAt 2 cfg0.N, run m g, ?_⟩
  refine (θ_run _ _ _).mono (fun r h c => ⟨(h c).1.trans ?_, (h c).2⟩) (Cert.Reference5Ideal.Value.run (F := Ideal) m' g')
  rw [Cert.Reference5Ideal.Read.val_main_v27_eq]
  refine (reference _ _).trans ?_
  exact (congrArg₂ G (hargs c).1 (hargs c).2).trans (final m c).symm

end Cert.Proof.Grad5

end
-- ==== Proof.Adam.lean ====
/-  One step of the optimiser at an element, over the extended reals: the first moment, the second moment and the change
    of the weight, from the weight, its gradient and the two moments before. -/
module

public import Idealize.ShloMosaic.Lib.ValueIdx
public import Idealize.ShloMosaic.Lib.IdealHost
public import Idealize.ShloMosaic.PureOps.Ideal.Laws

@[expose] public section

noncomputable section

namespace Cert.Proof.Adam

open Idealize.ShloMosaic

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) +
      Ideal.ofBits .f32 0x3C23D70A#32 * w)

end Cert.Proof.Adam

end
-- ==== Proof.Adam6.lean ====
/-  The optimiser's step on w_in: what the kernel leaves in each of its four arrays is, element by element, the
    gradient, the change of the weight and the two moments of the step, and so is the reference's. -/
module

public import proofs.«01_k».proof.Proof.Gen.Kernel6Ideal.Value
public import proofs.«01_k».proof.Proof.Gen.Reference6Ideal.Read
public import proofs.«01_k».proof.Defs
public import proofs.«01_k».proof.Proof.Common
public import proofs.«01_k».proof.Proof.Adam

@[expose] public section

noncomputable section

namespace Cert.Proof.Adam6

open Cert.Kernel6Ideal Cert.Kernel6Ideal.Gen Idealize.ShloMosaic Idealize.ShloMosaic.TcCoe Idealize.SL.Sem
open Cert.Proof.Common Cert.Proof.Adam
open Idealize.ShloMosaic.Pipeline (Dat)

variable (m : (ℓ : Loc nD τ sig) → Buf (Elt Ideal) ℓ)

theorem zero_off : ∀ a, (![0, 0] : Fin 2 → ℕ) a = 0 := by decide

theorem load (x : Vec Ideal S256x1792 .f32) : View.ld x r0_0 = x :=
  View.ld_unit_lit _ x zero_off

theorem store (x : S256x1792.Idx → EReal) : View.canon (Val := Elt Ideal) (e := .f32) [⟨r0_0, x⟩] = x :=
  View.canon_cons_unit_lit (Val := Elt Ideal) (e := .f32) _ x [] zero_off

theorem out4 (x0 x1 x2 x3 : S256x1792.Idx → EReal) (y : S256x1792.Idx) : out0_4 (F := Ideal) x0 x1 x2 x3 y = x1 y := by
  unfold out0_4
  rw [store, load x1]

theorem out5 (x0 x1 x2 x3 : S256x1792.Idx → EReal) (y : S256x1792.Idx) : out0_5 (F := Ideal) x0 x1 x2 x3 y = delta (x0 y) (x1 y) (x2 y) (x3 y) := by
  unfold out0_5
  rw [store, load x1, load x0, load x2, load x3]
  rfl

theorem out6 (x0 x1 x2 x3 : S256x1792.Idx → EReal) (y : S256x1792.Idx) : out0_6 (F := Ideal) x0 x1 x2 x3 y = newM (x1 y) (x2 y) := by
  unfold out0_6
  rw [store, load x1, load x2]
  rfl

theorem out7 (x0 x1 x2 x3 : S256x1792.Idx → EReal) (y : S256x1792.Idx) : out0_7 (F := Ideal) x0 x1 x2 x3 y = newV (x1 y) (x3 y) := by
  unfold out0_7
  rw [store, load x1, load x3]
  rfl

/-- The gradient. -/
theorem final4 (c : Dev nD) : (dats m 0 c).arrAt 4 cfg0.N = fun i => V m c main_arg1 i := by
  refine (dats m 0 c).arrAt_eq_of_covers 4 _ (by decide +kernel) fun t hf y => ?_
  blk_simp
  rw [after0_4, out4]
  rfl

/-- The change of the weight. -/
theorem final5 (c : Dev nD) : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out5]
  rfl

/-- The first moment. -/
theorem final6 (c : Dev nD) : (dats m 0 c).arrAt 6 cfg0.N = fun i => newM (V m c main_arg1 i) (V m c main_arg2 i) := by
  refine (dats m 0 c).arrAt_eq_of_covers 6 _ (by decide +kernel) fun t hf y => ?_
  blk_simp
  rw [after0_6, out6]
  rfl

/-- The second moment. -/
theorem final7 (c : Dev nD) : (dats m 0 c).arrAt 7 cfg0.N = fun i => newV (V m c main_arg1 i) (V m c main_arg3 i) := by
  refine (dats m 0 c).arrAt_eq_of_covers 7 _ (by decide +kernel) fun t hf y => ?_
  blk_simp
  rw [after0_7, out7]
  rfl

/-- Over the extended reals the kernel's four arrays are the reference's. -/
theorem algebraic : Cert.algebraic_Kernel6Ideal_Reference6Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel6Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference6Ideal.Value.run (F := Ideal) m' g')
  · rw [(hargs c).2.1]
    exact (final4 m c).symm
  · rw [(hargs c).1, (hargs c).2.1, (hargs c).2.2.1, (hargs c).2.2.2]
    exact (final5 m c).symm
  · rw [(hargs c).2.1, (hargs c).2.2.1]
    exact (final6 m c).symm
  · rw [(hargs c).2.1, (hargs c).2.2.2]
    exact (final7 m c).symm

end Cert.Proof.Adam6

end
-- ==== Proof.Adam7.lean ====
/-  The optimiser's step on a square weight: what the kernel leaves in each of its four arrays is, element by element, the
    gradient, the change of the weight and the two moments of the step, and so is the reference's. -/
module

public import proofs.«01_k».proof.Proof.Gen.Kernel7Ideal.Value
public import proofs.«01_k».proof.Proof.Gen.Reference7Ideal.Read
public import proofs.«01_k».proof.Defs
public import proofs.«01_k».proof.Proof.Common
public import proofs.«01_k».proof.Proof.Adam

@[expose] public section

noncomputable section

namespace Cert.Proof.Adam7

open Cert.Kernel7Ideal Cert.Kernel7Ideal.Gen Idealize.ShloMosaic Idealize.ShloMosaic.TcCoe Idealize.SL.Sem
open Cert.Proof.Common Cert.Proof.Adam
open Idealize.ShloMosaic.Pipeline (Dat)

variable (m : (ℓ : Loc nD τ sig) → Buf (Elt Ideal) ℓ)

theorem zero_off : ∀ a, (![0, 0] : Fin 2 → ℕ) a = 0 := by decide

theorem load (x : Vec Ideal S256x1024 .f32) : View.ld x r0_0 = x :=
  View.ld_unit_lit _ x zero_off

theorem store (x : S256x1024.Idx → EReal) : View.canon (Val := Elt Ideal) (e := .f32) [⟨r0_0, x⟩] = x :=
  View.canon_cons_unit_lit (Val := Elt Ideal) (e := .f32) _ x [] zero_off

theorem out4 (x0 x1 x2 x3 : S256x1024.Idx → EReal) (y : S256x1024.Idx) : out0_4 (F := Ideal) x0 x1 x2 x3 y = x1 y := by
  unfold out0_4
  rw [store, load x1]

theorem out5 (x0 x1 x2 x3 : S256x1024.Idx → EReal) (y : S256x1024.Idx) : out0_5 (F := Ideal) x0 x1 x2 x3 y = delta (x0 y) (x1 y) (x2 y) (x3 y) := by
  unfold out0_5
  rw [store, load x1, load x0, load x2, load x3]
  rfl

theorem out6 (x0 x1 x2 x3 : S256x1024.Idx → EReal) (y : S256x1024.Idx) : out0_6 (F := Ideal) x0 x1 x2 x3 y = newM (x1 y) (x2 y) := by
  unfold out0_6
  rw [store, load x1, load x2]
  rfl

theorem out7 (x0 x1 x2 x3 : S256x1024.Idx → EReal) (y : S256x1024.Idx) : out0_7 (F := Ideal) x0 x1 x2 x3 y = newV (x1 y) (x3 y) := by
  unfold out0_7
  rw [store, load x1, load x3]
  rfl

/-- The gradient. -/
theorem final4 (c : Dev nD) : (dats m 0 c).arrAt 4 cfg0.N = fun i => V m c main_arg1 i := by
  refine (dats m 0 c).arrAt_eq_of_covers 4 _ (by decide +kernel) fun t hf y => ?_
  blk_simp
  rw [after0_4, out4]
  rfl

/-- The change of the weight. -/
theorem final5 (c : Dev nD) : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out5]
  rfl

/-- The first moment. -/
theorem final6 (c : Dev nD) : (dats m 0 c).arrAt 6 cfg0.N = fun i => newM (V m c main_arg1 i) (V m c main_arg2 i) := by
  refine (dats m 0 c).arrAt_eq_of_covers 6 _ (by decide +kernel) fun t hf y => ?_
  blk_simp
  rw [after0_6, out6]
  rfl

/-- The second moment. -/
theorem final7 (c : Dev nD) : (dats m 0 c).arrAt 7 cfg0.N = fun i => newV (V m c main_arg1 i) (V m c main_arg3 i) := by
  refine (dats m 0 c).arrAt_eq_of_covers 7 _ (by decide +kernel) fun t hf y => ?_
  blk_simp
  rw [after0_7, out7]
  rfl

/-- Over the extended reals the kernel's four arrays are the reference's. -/
theorem algebraic : Cert.algebraic_Kernel7Ideal_Reference7Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel7Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference7Ideal.Value.run (F := Ideal) m' g')
  · rw [(hargs c).2.1]
    exact (final4 m c).symm
  · rw [(hargs c).1, (hargs c).2.1, (hargs c).2.2.1, (hargs c).2.2.2]
    exact (final5 m c).symm
  · rw [(hargs c).2.1, (hargs c).2.2.1]
    exact (final6 m c).symm
  · rw [(hargs c).2.1, (hargs c).2.2.2]
    exact (final7 m c).symm

end Cert.Proof.Adam7

end
-- ==== Proof.Adam8.lean ====
/-  The optimiser's step on w_ffn_in: what the kernel leaves in each of its four arrays is, element by element, the
    gradient, the change of the weight and the two moments of the step, and so is the reference's. -/
module

public import proofs.«01_k».proof.Proof.Gen.Kernel8Ideal.Value
public import proofs.«01_k».proof.Proof.Gen.Reference8Ideal.Read
public import proofs.«01_k».proof.Defs
public import proofs.«01_k».proof.Proof.Common
public import proofs.«01_k».proof.Proof.Adam

@[expose] public section

noncomputable section

namespace Cert.Proof.Adam8

open Cert.Kernel8Ideal Cert.Kernel8Ideal.Gen Idealize.ShloMosaic Idealize.ShloMosaic.TcCoe Idealize.SL.Sem
open Cert.Proof.Common Cert.Proof.Adam
open Idealize.ShloMosaic.Pipeline (Dat)

variable (m : (ℓ : Loc nD τ sig) → Buf (Elt Ideal) ℓ)

theorem zero_off : ∀ a, (![0, 0] : Fin 2 → ℕ) a = 0 := by decide

theorem load (x : Vec Ideal S256x1408 .f32) : View.ld x r0_0 = x :=
  View.ld_unit_lit _ x zero_off

theorem store (x : S256x1408.Idx → EReal) : View.canon (Val := Elt Ideal) (e := .f32) [⟨r0_0, x⟩] = x :=
  View.canon_cons_unit_lit (Val := Elt Ideal) (e := .f32) _ x [] zero_off

theorem out4 (x0 x1 x2 x3 : S256x1408.Idx → EReal) (y : S256x1408.Idx) : out0_4 (F := Ideal) x0 x1 x2 x3 y = x1 y := by
  unfold out0_4
  rw [store, load x1]

theorem out5 (x0 x1 x2 x3 : S256x1408.Idx → EReal) (y : S256x1408.Idx) : out0_5 (F := Ideal) x0 x1 x2 x3 y = delta (x0 y) (x1 y) (x2 y) (x3 y) := by
  unfold out0_5
  rw [store, load x1, load x0, load x2, load x3]
  rfl

theorem out6 (x0 x1 x2 x3 : S256x1408.Idx → EReal) (y : S256x1408.Idx) : out0_6 (F := Ideal) x0 x1 x2 x3 y = newM (x1 y) (x2 y) := by
  unfold out0_6
  rw [store, load x1, load x2]
  rfl

theorem out7 (x0 x1 x2 x3 : S256x1408.Idx → EReal) (y : S256x1408.Idx) : out0_7 (F := Ideal) x0 x1 x2 x3 y = newV (x1 y) (x3 y) := by
  unfold out0_7
  rw [store, load x1, load x3]
  rfl

/-- The gradient. -/
theorem final4 (c : Dev nD) : (dats m 0 c).arrAt 4 cfg0.N = fun i => V m c main_arg1 i := by
  refine (dats m 0 c).arrAt_eq_of_covers 4 _ (by decide +kernel) fun t hf y => ?_
  blk_simp
  rw [after0_4, out4]
  rfl

/-- The change of the weight. -/
theorem final5 (c : Dev nD) : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out5]
  rfl

/-- The first moment. -/
theorem final6 (c : Dev nD) : (dats m 0 c).arrAt 6 cfg0.N = fun i => newM (V m c main_arg1 i) (V m c main_arg2 i) := by
  refine (dats m 0 c).arrAt_eq_of_covers 6 _ (by decide +kernel) fun t hf y => ?_
  blk_simp
  rw [after0_6, out6]
  rfl

/-- The second moment. -/
theorem final7 (c : Dev nD) : (dats m 0 c).arrAt 7 cfg0.N = fun i => newV (V m c main_arg1 i) (V m c main_arg3 i) := by
  refine (dats m 0 c).arrAt_eq_of_covers 7 _ (by decide +kernel) fun t hf y => ?_
  blk_simp
  rw [after0_7, out7]
  rfl

/-- Over the extended reals the kernel's four arrays are the reference's. -/
theorem algebraic : Cert.algebraic_Kernel8Ideal_Reference8Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel8Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference8Ideal.Value.run (F := Ideal) m' g')
  · rw [(hargs c).2.1]
    exact (final4 m c).symm
  · rw [(hargs c).1, (hargs c).2.1, (hargs c).2.2.1, (hargs c).2.2.2]
    exact (final5 m c).symm
  · rw [(hargs c).2.1, (hargs c).2.2.1]
    exact (final6 m c).symm
  · rw [(hargs c).2.1, (hargs c).2.2.2]
    exact (final7 m c).symm

end Cert.Proof.Adam8

end
-- ==== Proof.Adam9.lean ====
/-  The optimiser's step on w_ffn_out: what the kernel leaves in each of its four arrays is, element by element, the
    gradient, the change of the weight and the two moments of the step, and so is the reference's. -/
module

public import proofs.«01_k».proof.Proof.Gen.Kernel9Ideal.Value
public import proofs.«01_k».proof.Proof.Gen.Reference9Ideal.Read
public import proofs.«01_k».proof.Defs
public import proofs.«01_k».proof.Proof.Common
public import proofs.«01_k».proof.Proof.Adam

@[expose] public section

noncomputable section

namespace Cert.Proof.Adam9

open Cert.Kernel9Ideal Cert.Kernel9Ideal.Gen Idealize.ShloMosaic Idealize.ShloMosaic.TcCoe Idealize.SL.Sem
open Cert.Proof.Common Cert.Proof.Adam
open Idealize.ShloMosaic.Pipeline (Dat)

variable (m : (ℓ : Loc nD τ sig) → Buf (Elt Ideal) ℓ)

theorem zero_off : ∀ a, (![0, 0] : Fin 2 → ℕ) a = 0 := by decide

theorem load (x : Vec Ideal S176x1024 .f32) : View.ld x r0_0 = x :=
  View.ld_unit_lit _ x zero_off

theorem store (x : S176x1024.Idx → EReal) : View.canon (Val := Elt Ideal) (e := .f32) [⟨r0_0, x⟩] = x :=
  View.canon_cons_unit_lit (Val := Elt Ideal) (e := .f32) _ x [] zero_off

theorem out4 (x0 x1 x2 x3 : S176x1024.Idx → EReal) (y : S176x1024.Idx) : out0_4 (F := Ideal) x0 x1 x2 x3 y = x1 y := by
  unfold out0_4
  rw [store, load x1]

theorem out5 (x0 x1 x2 x3 : S176x1024.Idx → EReal) (y : S176x1024.Idx) : out0_5 (F := Ideal) x0 x1 x2 x3 y = delta (x0 y) (x1 y) (x2 y) (x3 y) := by
  unfold out0_5
  rw [store, load x1, load x0, load x2, load x3]
  rfl

theorem out6 (x0 x1 x2 x3 : S176x1024.Idx → EReal) (y : S176x1024.Idx) : out0_6 (F := Ideal) x0 x1 x2 x3 y = newM (x1 y) (x2 y) := by
  unfold out0_6
  rw [store, load x1, load x2]
  rfl

theorem out7 (x0 x1 x2 x3 : S176x1024.Idx → EReal) (y : S176x1024.Idx) : out0_7 (F := Ideal) x0 x1 x2 x3 y = newV (x1 y) (x3 y) := by
  unfold out0_7
  rw [store, load x1, load x3]
  rfl

/-- The gradient. -/
theorem final4 (c : Dev nD) : (dats m 0 c).arrAt 4 cfg0.N = fun i => V m c main_arg1 i := by
  refine (dats m 0 c).arrAt_eq_of_covers 4 _ (by decide +kernel) fun t hf y => ?_
  blk_simp
  rw [after0_4, out4]
  rfl

/-- The change of the weight. -/
theorem final5 (c : Dev nD) : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out5]
  rfl

/-- The first moment. -/
theorem final6 (c : Dev nD) : (dats m 0 c).arrAt 6 cfg0.N = fun i => newM (V m c main_arg1 i) (V m c main_arg2 i) := by
  refine (dats m 0 c).arrAt_eq_of_covers 6 _ (by decide +kernel) fun t hf y => ?_
  blk_simp
  rw [after0_6, out6]
  rfl

/-- The second moment. -/
theorem final7 (c : Dev nD) : (dats m 0 c).arrAt 7 cfg0.N = fun i => newV (V m c main_arg1 i) (V m c main_arg3 i) := by
  refine (dats m 0 c).arrAt_eq_of_covers 7 _ (by decide +kernel) fun t hf y => ?_
  blk_simp
  rw [after0_7, out7]
  rfl

/-- Over the extended reals the kernel's four arrays are the reference's. -/
theorem algebraic : Cert.algebraic_Kernel9Ideal_Reference9Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel9Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference9Ideal.Value.run (F := Ideal) m' g')
  · rw [(hargs c).2.1]
    exact (final4 m c).symm
  · rw [(hargs c).1, (hargs c).2.1, (hargs c).2.2.1, (hargs c).2.2.2]
    exact (final5 m c).symm
  · rw [(hargs c).2.1, (hargs c).2.2.1]
    exact (final6 m c).symm
  · rw [(hargs c).2.1, (hargs c).2.2.2]
    exact (final7 m c).symm

end Cert.Proof.Adam9

end
-- ==== Proof.Adam10.lean ====
/-  The optimiser's step on w_ada: the gradient is the product of the conditioning vectors' `silu` with the gradients of the
    modulation, summed over the devices, and the change of the weight and the moments are the step's, in the kernel and in
    the reference. -/
module

public import proofs.«01_k».proof.Proof.Gen.Kernel10Ideal.Value
public import proofs.«01_k».proof.Proof.Gen.Reference10Ideal.Read
public import proofs.«01_k».proof.Defs
public import proofs.«01_k».proof.Proof.Common
public import proofs.«01_k».proof.Proof.Adam
public import Idealize.ShloMosaic.Lib.Pointwise

@[expose] public section

noncomputable section

namespace Cert.Proof.Adam10

open Cert.Kernel10Ideal Cert.Kernel10Ideal.Gen Idealize.ShloMosaic Idealize.ShloMosaic.TcCoe Idealize.SL.Sem
open Cert.Proof.Common Cert.Proof.Adam
open Idealize.ShloMosaic.Pipeline (Dat)
open scoped BigOperators

variable (m : (ℓ : Loc nD τ sig) → Buf (Elt Ideal) ℓ)

theorem zero_off : ∀ a, (![0, 0] : Fin 2 → ℕ) a = 0 := by decide

theorem load0 (x : Vec Ideal S256x128 .f32) : View.ld x r0_0 = x :=
  View.ld_unit_lit _ x zero_off

theorem load1 (x : Vec Ideal S128x1536 .f32) : View.ld x r0_1 = x :=
  View.ld_unit_lit _ x zero_off

theorem load2 (x : Vec Ideal S256x1536 .f32) : View.ld x r0_2 = x :=
  View.ld_unit_lit _ x zero_off

theorem store (x : S256x1536.Idx → EReal) : View.canon (Val := Elt Ideal) (e := .f32) [⟨r0_2, x⟩] = x :=
  View.canon_cons_unit_lit (Val := Elt Ideal) (e := .f32) _ x [] zero_off

/-- The gradient at a position, the devices' conditioning vectors the columns of `C`. -/
def grad {M : ℕ} (C : (⟨2, ![M, 128]⟩ : Shape).Idx → EReal) (D : (⟨2, ![128, 1536]⟩ : Shape).Idx → EReal) (r : Fin M) (s : Fin 1536) : EReal :=
  ∑ k : Fin 128, C (ix2 r k) * Ideal.div 1 (1 + Ideal.exp (-(C (ix2 r k)))) * D (ix2 k s)

theorem pay (C : Vec Ideal S256x128 .f32) (D : Vec Ideal S128x1536 .f32) (r : Fin 256) (s : Fin 1536) :
    k0_pay1 (F := Ideal) C D (ix2 r s) = grad (M := 256) C D r s := by
  unfold grad
  pointwise [k0_pay1]
  rfl

theorem r4 (C : S1024x128.Idx → EReal) (D : S128x1536.Idx → EReal) (r : Fin 1024) (s : Fin 1536) :
    Cert.Reference10Ideal.Read.val_main_v4 (F := Ideal) C D (ix2 r s) = grad (M := 1024) C D r s := by
  unfold grad
  open Cert.Reference10Ideal.Read in
  pointwise [val_main_v4, val_main_v3, val_main_v1, val_main_v0, val_main_call0_v0, val_main_call0_v1, val_main_call0_v2, val_main_call0_v3, val_main_call0_v4, val_main_call0_v5, val_main_call0_cst, val_main_call0_cst_0]
  exact Finset.sum_congr rfl fun k _ => mul_comm _ _

theorem pay_at (C : Vec Ideal S256x128 .f32) (D : Vec Ideal S128x1536 .f32) (y : S256x1536.Idx) :
    k0_pay1 (F := Ideal) C D y = grad (M := 256) C D (y 0) (y 1) := by
  have hy : y = ix2 (n0 := 256) (n1 := 1536) (y 0) (y 1) := (ValueIdx.eq_ix2 y).trans (ix2_eq_valueIdx _ _).symm
  exact (congrArg _ hy).trans (pay C D _ _)

theorem r4_at (C : S1024x128.Idx → EReal) (D : S128x1536.Idx → EReal) (i : S1024x1536.Idx) :
    Cert.Reference10Ideal.Read.val_main_v4 (F := Ideal) C D i = grad (M := 1024) C D (i 0) (i 1) := by
  have hi : i = ix2 (n0 := 1024) (n1 := 1536) (i 0) (i 1) := (ValueIdx.eq_ix2 i).trans (ix2_eq_valueIdx _ _).symm
  exact (congrArg _ hi).trans (r4 C D _ _)

theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- A block's gradient is the whole's at the block's rows. -/
theorem block (c : Dev nD) (t : Fin cfg0.N) (y : S256x1536.Idx) (i : S1024x1536.Idx)
    (e0 : (i 0).val = t.val * 256 + (y 0).val) (e1 : (i 1).val = (y 1).val) :
    grad (M := 256) (iblk m c 1 t) (iblk m c 2 t) (y 0) (y 1) = grad (M := 1024) (V m c main_arg1) (V m c main_arg2) (i 0) (i 1) := by
  unfold grad
  refine Finset.sum_congr rfl fun k _ => ?_
  have h1 : iblk m c 1 t (ix2 (n0 := 256) (n1 := 128) (y 0) k) = V m c main_arg1 (ix2 (n0 := 1024) (n1 := 128) (i 0) k) := by
    blk_simp [iblk]
    refine congrArg _ ((ValueIdx.eq_ix2 _).trans (Eq.trans ?_ (ix2_eq_valueIdx _ _).symm))
    refine ix2_congr ?_ ?_
    · blk_simp [idx1]
      exact e0.symm
    · blk_simp [idx1]
  have h2 : iblk m c 2 t (ix2 (n0 := 128) (n1 := 1536) k (y 1)) = V m c main_arg2 (ix2 (n0 := 128) (n1 := 1536) k (i 1)) := by
    blk_simp [iblk]
    refine congrArg _ ((ValueIdx.eq_ix2 _).trans (Eq.trans ?_ (ix2_eq_valueIdx _ _).symm))
    refine ix2_congr ?_ ?_
    · blk_simp [idx2]
    · blk_simp [idx2]
      exact e1.symm
  rw [h1, h2]

theorem out5 (x0 : Vec Ideal S256x1536 .f32) (x1 : Vec Ideal S256x128 .f32) (x2 : Vec Ideal S128x1536 .f32) (x3 x4 : Vec Ideal S256x1536 .f32) (y : S256x1536.Idx) :
    out0_5 (F := Ideal) x0 x1 x2 x3 x4 y = grad (M := 256) x1 x2 (y 0) (y 1) := by
  unfold out0_5
  rw [store, load0, load1, ← pay_at]

theorem out6 (x0 : Vec Ideal S256x1536 .f32) (x1 : Vec Ideal S256x128 .f32) (x2 : Vec Ideal S128x1536 .f32) (x3 x4 : Vec Ideal S256x1536 .f32) (y : S256x1536.Idx) :
    out0_6 (F := Ideal) x0 x1 x2 x3 x4 y = delta (x0 y) (grad (M := 256) x1 x2 (y 0) (y 1)) (x3 y) (x4 y) := by
  unfold out0_6
  rw [store, load0, load1, load2, load2, load2, ← pay_at]
  rfl

theorem out7 (x0 : Vec Ideal S256x1536 .f32) (x1 : Vec Ideal S256x128 .f32) (x2 : Vec Ideal S128x1536 .f32) (x3 x4 : Vec Ideal S256x1536 .f32) (y : S256x1536.Idx) :
    out0_7 (F := Ideal) x0 x1 x2 x3 x4 y = newM (grad (M := 256) x1 x2 (y 0) (y 1)) (x3 y) := by
  unfold out0_7
  rw [store, load0, load1, load2, ← pay_at]
  rfl

theorem out8 (x0 : Vec Ideal S256x1536 .f32) (x1 : Vec Ideal S256x128 .f32) (x2 : Vec Ideal S128x1536 .f32) (x3 x4 : Vec Ideal S256x1536 .f32) (y : S256x1536.Idx) :
    out0_8 (F := Ideal) x0 x1 x2 x3 x4 y = newV (grad (M := 256) x1 x2 (y 0) (y 1)) (x4 y) := by
  unfold out0_8
  rw [store, load0, load1, load2, ← pay_at]
  rfl

/-- The gradient. -/
theorem final5 (c : Dev nD) : (dats m 0 c).arrAt 5 cfg0.N = fun i => grad (M := 1024) (V m c main_arg1) (V m c main_arg2) (i 0) (i 1) := by
  refine (dats m 0 c).arrAt_eq_of_covers 5 _ (by decide +kernel) fun t hf y => ?_
  have e0 : (((win0_5.blk t).view.emb y) 0).val = t.val * 256 + (y 0).val := by blk_simp [(idx5 t : win0_5.index t = _)]
  have e1 : (((win0_5.blk t).view.emb y) 1).val = (y 1).val := by blk_simp [(idx5 t : win0_5.index t = _)]
  blk_simp
  rw [after0_5, out5, block m c t y _ e0 e1]

/-- The change of the weight. -/
theorem final6 (c : Dev nD) : (dats m 0 c).arrAt 6 cfg0.N = fun i => delta (V m c main_arg0 i) (grad (M := 1024) (V m c main_arg1) (V m c main_arg2) (i 0) (i 1)) (V m c main_arg3 i) (V m c main_arg4 i) := by
  refine (dats m 0 c).arrAt_eq_of_covers 6 _ (by decide +kernel) fun t hf y => ?_
  have e0 : (((win0_6.blk t).view.emb y) 0).val = t.val * 256 + (y 0).val := by blk_simp [(idx6 t : win0_6.index t = _)]
  have e1 : (((win0_6.blk t).view.emb y) 1).val = (y 1).val := by blk_simp [(idx6 t : win0_6.index t = _)]
  blk_simp
  rw [after0_6, out6, block m c t y _ e0 e1]
  rfl

/-- The first moment. -/
theorem final7 (c : Dev nD) : (dats m 0 c).arrAt 7 cfg0.N = fun i => newM (grad (M := 1024) (V m c main_arg1) (V m c main_arg2) (i 0) (i 1)) (V m c main_arg3 i) := by
  refine (dats m 0 c).arrAt_eq_of_covers 7 _ (by decide +kernel) fun t hf y => ?_
  have e0 : (((win0_7.blk t).view.emb y) 0).val = t.val * 256 + (y 0).val := by blk_simp [(idx7 t : win0_7.index t = _)]
  have e1 : (((win0_7.blk t).view.emb y) 1).val = (y 1).val := by blk_simp [(idx7 t : win0_7.index t = _)]
  blk_simp
  rw [after0_7, out7, block m c t y _ e0 e1]
  rfl

/-- The second moment. -/
theorem final8 (c : Dev nD) : (dats m 0 c).arrAt 8 cfg0.N = fun i => newV (grad (M := 1024) (V m c main_arg1) (V m c main_arg2) (i 0) (i 1)) (V m c main_arg4 i) := by
  refine (dats m 0 c).arrAt_eq_of_covers 8 _ (by decide +kernel) fun t hf y => ?_
  have e0 : (((win0_8.blk t).view.emb y) 0).val = t.val * 256 + (y 0).val := by blk_simp [(idx8 t : win0_8.index t = _)]
  have e1 : (((win0_8.blk t).view.emb y) 1).val = (y 1).val := by blk_simp [(idx8 t : win0_8.index t = _)]
  blk_simp
  rw [after0_8, out8, block m c t y _ e0 e1]
  rfl

/-- Over the extended reals the kernel's four arrays are the reference's. -/
theorem algebraic : Cert.algebraic_Kernel10Ideal_Reference10Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel10Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference10Ideal.Value.run (F := Ideal) m' g')
  · rw [Cert.Reference10Ideal.Read.val_main_v4_eq, (hargs c).2.1, (hargs c).2.2.1]
    refine Eq.trans ?_ (final5 m c).symm
    exact funext fun i => r4_at _ _ i
  · rw [Cert.Reference10Ideal.Read.val_main_v28_eq, (hargs c).1, (hargs c).2.1, (hargs c).2.2.1, (hargs c).2.2.2.1, (hargs c).2.2.2.2]
    refine Eq.trans ?_ (final6 m c).symm
    funext i
    rw [← r4_at]
    rfl
  · rw [Cert.Reference10Ideal.Read.val_main_v9_eq, (hargs c).2.1, (hargs c).2.2.1, (hargs c).2.2.2.1]
    refine Eq.trans ?_ (final7 m c).symm
    funext i
    rw [← r4_at]
    rfl
  · rw [Cert.Reference10Ideal.Read.val_main_v15_eq, (hargs c).2.1, (hargs c).2.2.1, (hargs c).2.2.2.2]
    refine Eq.trans ?_ (final8 m c).symm
    funext i
    rw [← r4_at]
    rfl

end Cert.Proof.Adam10

end
-- ==== Proof.SmallOutIdeal.lean ====
/- What the body of `Kernel11Ideal` leaves in each output, from the inputs. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev r0_0 : Rect S8x48x1024 := Rect.unit (s := S8x48x1024) ![0, 0, 0] S1x48x1024.size inb_S8x48x1024_S1x48x1024_0_0_0
abbrev r0_1 : Rect S8x48x1024 := Rect.unit (s := S8x48x1024) ![1, 0, 0] S1x48x1024.size inb_S8x48x1024_S1x48x1024_1_0_0
abbrev r0_2 : Rect S8x48x1024 := Rect.unit (s := S8x48x1024) ![2, 0, 0] S1x48x1024.size inb_S8x48x1024_S1x48x1024_2_0_0
abbrev r0_3 : Rect S8x48x1024 := Rect.unit (s := S8x48x1024) ![3, 0, 0] S1x48x1024.size inb_S8x48x1024_S1x48x1024_3_0_0
abbrev r0_4 : Rect S8x48x1024 := Rect.unit (s := S8x48x1024) ![4, 0, 0] S1x48x1024.size inb_S8x48x1024_S1x48x1024_4_0_0
abbrev r0_5 : Rect S8x48x1024 := Rect.unit (s := S8x48x1024) ![5, 0, 0] S1x48x1024.size inb_S8x48x1024_S1x48x1024_5_0_0
abbrev r0_6 : Rect S8x48x1024 := Rect.unit (s := S8x48x1024) ![6, 0, 0] S1x48x1024.size inb_S8x48x1024_S1x48x1024_6_0_0
abbrev r0_7 : Rect S8x48x1024 := Rect.unit (s := S8x48x1024) ![7, 0, 0] S1x48x1024.size inb_S8x48x1024_S1x48x1024_7_0_0
abbrev r0_8 : Rect S8x128 := Rect.unit (s := S8x128) ![0, 0] S8x128.size inb_S8x128_S8x128_0_0
abbrev r0_9 : Rect S1x6144 := Rect.unit (s := S1x6144) ![0, 0] S1x1024.size inb_S1x6144_S1x1024_0_0
abbrev r0_10 : Rect S1x6144 := Rect.unit (s := S1x6144) ![0, 1024] S1x1024.size inb_S1x6144_S1x1024_0_1024
abbrev r0_11 : Rect S1x6144 := Rect.unit (s := S1x6144) ![0, 2048] S1x1024.size inb_S1x6144_S1x1024_0_2048
abbrev r0_12 : Rect S1x6144 := Rect.unit (s := S1x6144) ![0, 3072] S1x1024.size inb_S1x6144_S1x1024_0_3072
abbrev r0_13 : Rect S1x6144 := Rect.unit (s := S1x6144) ![0, 4096] S1x1024.size inb_S1x6144_S1x1024_0_4096
abbrev r0_14 : Rect S1x6144 := Rect.unit (s := S1x6144) ![0, 5120] S1x1024.size inb_S1x6144_S1x1024_0_5120
abbrev r0_15 : Rect S1x1024 := Rect.unit (s := S1x1024) ![0, 0] S1x1024.size inb_S1x1024_S1x1024_0_0
abbrev r0_16 : Rect S1x128 := Rect.unit (s := S1x128) ![0, 0] S1x1.size inb_S1x128_S1x1_0_0
abbrev r0_17 : Rect S1x128 := Rect.unit (s := S1x128) ![0, 1] S1x1.size inb_S1x128_S1x1_0_1
abbrev r0_18 : Rect S1x128 := Rect.unit (s := S1x128) ![0, 2] S1x1.size inb_S1x128_S1x1_0_2
abbrev r0_19 : Rect S1x128 := Rect.unit (s := S1x128) ![0, 3] S1x1.size inb_S1x128_S1x1_0_3
abbrev r0_20 : Rect S1x3x256 := Rect.unit (s := S1x3x256) ![0, 0, 0] S1x3x256.size inb_S1x3x256_S1x3x256_0_0_0
abbrev r0_21 : Rect S1x31x256 := Rect.unit (s := S1x31x256) ![0, 0, 0] S1x31x256.size inb_S1x31x256_S1x31x256_0_0_0

/-! What the body leaves in each output, from the inputs -/

def k0_pay80 (x0 : Vec F S8x48x1024 .f32) : FVec F S48x1024 .f32 :=
  k0_pay2 (View.ld x0 r0_0) (View.ld x0 r0_1) (View.ld x0 r0_2) (View.ld x0 r0_3) (View.ld x0 r0_4) (View.ld x0 r0_5) (View.ld x0 r0_6) (View.ld x0 r0_7)
def k0_pay81 (x0 : Vec F S8x48x1024 .f32) : FVec F S1x1024 .f32 :=
  k0_pay20 (k0_pay80 x0)
def k0_pay82 (x0 : Vec F S8x48x1024 .f32) : FVec F S1x1024 .f32 :=
  k0_pay24 (k0_pay80 x0)
def k0_pay83 (x0 : Vec F S8x48x1024 .f32) : FVec F S1x1024 .f32 :=
  k0_pay28 (k0_pay80 x0)
def k0_pay84 : FVec F S3x256 .f32 :=
  k0_pay32 (F := F)
def k0_pay85 (x0 : Vec F S8x48x1024 .f32) (x1 : Vec F S1x128 .f32) (x22 : Vec F S1x3x256 .f32) : FVec F S3x256 .f32 :=
  k0_pay36 (k0_pay80 x0) (k0_pay84) (View.ld x1 r0_16) (View.ld x1 r0_17) (View.ld x1 r0_18) (View.ld x1 r0_19) (View.ld x22 r0_20)
def k0_pay86 (x0 : Vec F S8x48x1024 .f32) (x1 : Vec F S1x128 .f32) : FVec F S31x256 .f32 :=
  k0_pay42 (k0_pay80 x0) (View.ld x1 r0_16) (View.ld x1 r0_17)
def out0_29 (x0 : Vec F S8x48x1024 .f32) : Vec F S8x128 .f32 :=
  View.canon [⟨r0_8, k0_pay3 (View.ld x0 r0_0) (View.ld x0 r0_1) (View.ld x0 r0_2) (View.ld x0 r0_3) (View.ld x0 r0_4) (View.ld x0 r0_5) (View.ld x0 r0_6) (View.ld x0 r0_7)⟩]
def out0_30 (x0 : Vec F S8x48x1024 .f32) : Vec F S1x6144 .f32 :=
  View.canon [⟨r0_14, k0_pay82 x0⟩,
    ⟨r0_13, k0_pay81 x0⟩,
    ⟨r0_12, k0_pay16 (k0_pay80 x0)⟩,
    ⟨r0_11, k0_pay12 (k0_pay80 x0)⟩,
    ⟨r0_10, k0_pay8 (k0_pay80 x0)⟩,
    ⟨r0_9, k0_pay4 (k0_pay80 x0)⟩]
def out0_31 (x0 : Vec F S8x48x1024 .f32) : Vec F S1x1024 .f32 :=
  View.canon [⟨r0_15, k0_pay83 x0⟩]
def out0_32 (x0 : Vec F S8x48x1024 .f32) (x1 : Vec F S1x128 .f32) : Vec F S1x3x256 .f32 :=
  View.canon [⟨r0_20, k0_pay38 (k0_pay33 (k0_pay80 x0) (k0_pay84) (View.ld x1 r0_16) (View.ld x1 r0_17) (View.ld x1 r0_18) (View.ld x1 r0_19))⟩]
def out0_33 (x0 : Vec F S8x48x1024 .f32) (x1 : Vec F S1x128 .f32) : Vec F S1x31x256 .f32 :=
  View.canon [⟨r0_21, k0_pay47 (k0_pay43 (k0_pay80 x0) (k0_pay86 x0 x1) (View.ld x1 r0_18) (View.ld x1 r0_19))⟩]
def out0_34 (x0 : Vec F S8x48x1024 .f32) : Vec F S1x1024 .f32 :=
  View.canon [⟨r0_15, k0_pay51 (k0_pay80 x0)⟩]
def out0_35 (x0 : Vec F S8x48x1024 .f32) : Vec F S1x1024 .f32 :=
  View.canon [⟨r0_15, k0_pay57 (k0_pay80 x0)⟩]
def out0_36 (x0 : Vec F S8x48x1024 .f32) : Vec F S1x1024 .f32 :=
  View.canon [⟨r0_15, k0_pay63 (k0_pay80 x0)⟩]
def out0_37 (x0 : Vec F S8x48x1024 .f32) : Vec F S1x1024 .f32 :=
  View.canon [⟨r0_15, k0_pay70 (k0_pay80 x0)⟩]
def out0_38 (x0 : Vec F S8x48x1024 .f32) : Vec F S1x1024 .f32 :=
  View.canon [⟨r0_15, k0_pay76 (k0_pay80 x0)⟩]
def out0_39 (x0 : Vec F S8x48x1024 .f32) (x2 : Vec F S1x6144 .f32) (x11 : Vec F S1x6144 .f32) (x20 : Vec F S1x6144 .f32) : Vec F S1x6144 .f32 :=
  View.canon [⟨r0_14, k0_pay27 (k0_pay82 x0) (View.ld x2 r0_14) (View.ld x11 r0_14) (View.ld x20 r0_14)⟩,
    ⟨r0_13, k0_pay23 (k0_pay81 x0) (View.ld x2 r0_13) (View.ld x11 r0_13) (View.ld x20 r0_13)⟩,
    ⟨r0_12, k0_pay19 (k0_pay80 x0) (View.ld x2 r0_12) (View.ld x11 r0_12) (View.ld x20 r0_12)⟩,
    ⟨r0_11, k0_pay15 (k0_pay80 x0) (View.ld x2 r0_11) (View.ld x11 r0_11) (View.ld x20 r0_11)⟩,
    ⟨r0_10, k0_pay11 (k0_pay80 x0) (View.ld x2 r0_10) (View.ld x11 r0_10) (View.ld x20 r0_10)⟩,
    ⟨r0_9, k0_pay7 (k0_pay80 x0) (View.ld x2 r0_9) (View.ld x11 r0_9) (View.ld x20 r0_9)⟩]
def out0_40 (x0 : Vec F S8x48x1024 .f32) (x3 : Vec F S1x1024 .f32) (x12 : Vec F S1x1024 .f32) (x21 : Vec F S1x1024 .f32) : Vec F S1x1024 .f32 :=
  View.canon [⟨r0_15, k0_pay31 (k0_pay83 x0) (View.ld x3 r0_15) (View.ld x12 r0_15) (View.ld x21 r0_15)⟩]
def out0_41 (x0 : Vec F S8x48x1024 .f32) (x1 : Vec F S1x128 .f32) (x4 : Vec F S1x3x256 .f32) (x13 : Vec F S1x3x256 .f32) (x22 : Vec F S1x3x256 .f32) : Vec F S1x3x256 .f32 :=
  View.canon [⟨r0_20, k0_pay39 (k0_pay34 (View.ld x4 r0_20)) (k0_pay85 x0 x1 x22) (k0_pay37 (k0_pay80 x0) (k0_pay84) (View.ld x1 r0_16) (View.ld x1 r0_17) (View.ld x1 r0_18) (View.ld x1 r0_19) (View.ld x13 r0_20)) (Scalar.ofBits .f32 0x3C231ACC#32)⟩]
def out0_42 (x0 : Vec F S8x48x1024 .f32) (x1 : Vec F S1x128 .f32) (x5 : Vec F S1x31x256 .f32) (x14 : Vec F S1x31x256 .f32) (x23 : Vec F S1x31x256 .f32) : Vec F S1x31x256 .f32 :=
  View.canon [⟨r0_21, k0_pay48 (k0_pay46 (k0_pay80 x0) (k0_pay86 x0 x1) (View.ld x1 r0_18) (View.ld x1 r0_19) (View.ld x5 r0_21) (View.ld x14 r0_21) (View.ld x23 r0_21))⟩]
def out0_43 (x0 : Vec F S8x48x1024 .f32) (x6 : Vec F S1x1024 .f32) (x15 : Vec F S1x1024 .f32) (x24 : Vec F S1x1024 .f32) : Vec F S1x1024 .f32 :=
  View.canon [⟨r0_15, k0_pay56 (View.ld x6 r0_15) (k0_pay54 (k0_pay80 x0) (View.ld x15 r0_15)) (k0_pay55 (k0_pay80 x0) (View.ld x24 r0_15))⟩]
def out0_44 (x0 : Vec F S8x48x1024 .f32) (x7 : Vec F S1x1024 .f32) (x16 : Vec F S1x1024 .f32) (x25 : Vec F S1x1024 .f32) : Vec F S1x1024 .f32 :=
  View.canon [⟨r0_15, k0_pay62 (View.ld x7 r0_15) (k0_pay60 (k0_pay80 x0) (View.ld x16 r0_15)) (k0_pay61 (k0_pay80 x0) (View.ld x25 r0_15)) (Scalar.ofBits .f32 0x322BCC77#32)⟩]
def out0_45 (x0 : Vec F S8x48x1024 .f32) (x8 : Vec F S1x1024 .f32) (x17 : Vec F S1x1024 .f32) (x26 : Vec F S1x1024 .f32) : Vec F S1x1024 .f32 :=
  View.canon [⟨r0_15, k0_pay69 (View.ld x8 r0_15) (k0_pay66 (k0_pay80 x0) (View.ld x17 r0_15)) (k0_pay67 (k0_pay80 x0) (View.ld x26 r0_15)) (k0_pay68 (F := F))⟩]
def out0_46 (x0 : Vec F S8x48x1024 .f32) (x9 : Vec F S1x1024 .f32) (x18 : Vec F S1x1024 .f32) (x27 : Vec F S1x1024 .f32) : Vec F S1x1024 .f32 :=
  View.canon [⟨r0_15, k0_pay75 (View.ld x9 r0_15) (k0_pay73 (k0_pay80 x0) (View.ld x18 r0_15)) (k0_pay74 (k0_pay80 x0) (View.ld x27 r0_15))⟩]
def out0_47 (x0 : Vec F S8x48x1024 .f32) (x10 : Vec F S1x1024 .f32) (x19 : Vec F S1x1024 .f32) (x28 : Vec F S1x1024 .f32) : Vec F S1x1024 .f32 :=
  View.canon [⟨r0_15, k0_pay1 (View.ld x10 r0_15) (k0_pay79 (k0_pay80 x0) (View.ld x19 r0_15) (View.ld x28 r0_15))⟩]
def out0_48 (x0 : Vec F S8x48x1024 .f32) (x11 : Vec F S1x6144 .f32) : Vec F S1x6144 .f32 :=
  View.canon [⟨r0_14, k0_pay25 (k0_pay82 x0) (View.ld x11 r0_14)⟩,
    ⟨r0_13, k0_pay21 (k0_pay81 x0) (View.ld x11 r0_13)⟩,
    ⟨r0_12, k0_pay17 (k0_pay80 x0) (View.ld x11 r0_12)⟩,
    ⟨r0_11, k0_pay13 (k0_pay80 x0) (View.ld x11 r0_11)⟩,
    ⟨r0_10, k0_pay9 (k0_pay80 x0) (View.ld x11 r0_10)⟩,
    ⟨r0_9, k0_pay5 (k0_pay80 x0) (View.ld x11 r0_9)⟩]
def out0_49 (x0 : Vec F S8x48x1024 .f32) (x12 : Vec F S1x1024 .f32) : Vec F S1x1024 .f32 :=
  View.canon [⟨r0_15, k0_pay29 (k0_pay83 x0) (View.ld x12 r0_15)⟩]
def out0_50 (x0 : Vec F S8x48x1024 .f32) (x1 : Vec F S1x128 .f32) (x13 : Vec F S1x3x256 .f32) : Vec F S1x3x256 .f32 :=
  View.canon [⟨r0_20, k0_pay40 (k0_pay35 (k0_pay80 x0) (k0_pay84) (View.ld x1 r0_16) (View.ld x1 r0_17) (View.ld x1 r0_18) (View.ld x1 r0_19) (View.ld x13 r0_20))⟩]
def out0_51 (x0 : Vec F S8x48x1024 .f32) (x1 : Vec F S1x128 .f32) (x14 : Vec F S1x31x256 .f32) : Vec F S1x31x256 .f32 :=
  View.canon [⟨r0_21, k0_pay49 (k0_pay44 (k0_pay80 x0) (k0_pay86 x0 x1) (View.ld x1 r0_18) (View.ld x1 r0_19) (View.ld x14 r0_21))⟩]
def out0_52 (x0 : Vec F S8x48x1024 .f32) (x15 : Vec F S1x1024 .f32) : Vec F S1x1024 .f32 :=
  View.canon [⟨r0_15, k0_pay52 (k0_pay80 x0) (View.ld x15 r0_15)⟩]
def out0_53 (x0 : Vec F S8x48x1024 .f32) (x16 : Vec F S1x1024 .f32) : Vec F S1x1024 .f32 :=
  View.canon [⟨r0_15, k0_pay58 (k0_pay80 x0) (View.ld x16 r0_15)⟩]
def out0_54 (x0 : Vec F S8x48x1024 .f32) (x17 : Vec F S1x1024 .f32) : Vec F S1x1024 .f32 :=
  View.canon [⟨r0_15, k0_pay64 (k0_pay80 x0) (View.ld x17 r0_15)⟩]
def out0_55 (x0 : Vec F S8x48x1024 .f32) (x18 : Vec F S1x1024 .f32) : Vec F S1x1024 .f32 :=
  View.canon [⟨r0_15, k0_pay71 (k0_pay80 x0) (View.ld x18 r0_15)⟩]
def out0_56 (x0 : Vec F S8x48x1024 .f32) (x19 : Vec F S1x1024 .f32) : Vec F S1x1024 .f32 :=
  View.canon [⟨r0_15, k0_pay77 (k0_pay80 x0) (View.ld x19 r0_15)⟩]
def out0_57 (x0 : Vec F S8x48x1024 .f32) (x20 : Vec F S1x6144 .f32) : Vec F S1x6144 .f32 :=
  View.canon [⟨r0_14, k0_pay26 (k0_pay82 x0) (View.ld x20 r0_14)⟩,
    ⟨r0_13, k0_pay22 (k0_pay81 x0) (View.ld x20 r0_13)⟩,
    ⟨r0_12, k0_pay18 (k0_pay80 x0) (View.ld x20 r0_12)⟩,
    ⟨r0_11, k0_pay14 (k0_pay80 x0) (View.ld x20 r0_11)⟩,
    ⟨r0_10, k0_pay10 (k0_pay80 x0) (View.ld x20 r0_10)⟩,
    ⟨r0_9, k0_pay6 (k0_pay80 x0) (View.ld x20 r0_9)⟩]
def out0_58 (x0 : Vec F S8x48x1024 .f32) (x21 : Vec F S1x1024 .f32) : Vec F S1x1024 .f32 :=
  View.canon [⟨r0_15, k0_pay30 (k0_pay83 x0) (View.ld x21 r0_15)⟩]
def out0_59 (x0 : Vec F S8x48x1024 .f32) (x1 : Vec F S1x128 .f32) (x22 : Vec F S1x3x256 .f32) : Vec F S1x3x256 .f32 :=
  View.canon [⟨r0_20, k0_pay41 (k0_pay85 x0 x1 x22)⟩]
def out0_60 (x0 : Vec F S8x48x1024 .f32) (x1 : Vec F S1x128 .f32) (x23 : Vec F S1x31x256 .f32) : Vec F S1x31x256 .f32 :=
  View.canon [⟨r0_21, k0_pay50 (k0_pay45 (k0_pay80 x0) (k0_pay86 x0 x1) (View.ld x1 r0_18) (View.ld x1 r0_19) (View.ld x23 r0_21))⟩]
def out0_61 (x0 : Vec F S8x48x1024 .f32) (x24 : Vec F S1x1024 .f32) : Vec F S1x1024 .f32 :=
  View.canon [⟨r0_15, k0_pay53 (k0_pay80 x0) (View.ld x24 r0_15)⟩]
def out0_62 (x0 : Vec F S8x48x1024 .f32) (x25 : Vec F S1x1024 .f32) : Vec F S1x1024 .f32 :=
  View.canon [⟨r0_15, k0_pay59 (k0_pay80 x0) (View.ld x25 r0_15)⟩]
def out0_63 (x0 : Vec F S8x48x1024 .f32) (x26 : Vec F S1x1024 .f32) : Vec F S1x1024 .f32 :=
  View.canon [⟨r0_15, k0_pay65 (k0_pay80 x0) (View.ld x26 r0_15)⟩]
def out0_64 (x0 : Vec F S8x48x1024 .f32) (x27 : Vec F S1x1024 .f32) : Vec F S1x1024 .f32 :=
  View.canon [⟨r0_15, k0_pay72 (k0_pay80 x0) (View.ld x27 r0_15)⟩]
def out0_65 (x0 : Vec F S8x48x1024 .f32) (x28 : Vec F S1x1024 .f32) : Vec F S1x1024 .f32 :=
  View.canon [⟨r0_15, k0_pay78 (k0_pay80 x0) (View.ld x28 r0_15)⟩]

end Cert.Kernel11Ideal.Hand
-- ==== Proof.SmallIdeal.lean ====
/- The frame of `Kernel11Ideal`, by hand: the body reads its 29 arrays and writes 37. It is one point, with every array whole; each
   output is stated over the inputs it depends on. -/
module

public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.SmallOutIdeal
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxHeartbeats 8000000
set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      ((h c).1 8).trans (((dats 0 c).arrAt_in 8 rfl _).trans (hA c 8)),
      ((h c).1 9).trans (((dats 0 c).arrAt_in 9 rfl _).trans (hA c 9)),
      ((h c).1 10).trans (((dats 0 c).arrAt_in 10 rfl _).trans (hA c 10)),
      ((h c).1 11).trans (((dats 0 c).arrAt_in 11 rfl _).trans (hA c 11)),
      ((h c).1 12).trans (((dats 0 c).arrAt_in 12 rfl _).trans (hA c 12)),
      ((h c).1 13).trans (((dats 0 c).arrAt_in 13 rfl _).trans (hA c 13)),
      ((h c).1 14).trans (((dats 0 c).arrAt_in 14 rfl _).trans (hA c 14)),
      ((h c).1 15).trans (((dats 0 c).arrAt_in 15 rfl _).trans (hA c 15)),
      ((h c).1 16).trans (((dats 0 c).arrAt_in 16 rfl _).trans (hA c 16)),
      ((h c).1 17).trans (((dats 0 c).arrAt_in 17 rfl _).trans (hA c 17)),
      ((h c).1 18).trans (((dats 0 c).arrAt_in 18 rfl _).trans (hA c 18)),
      ((h c).1 19).trans (((dats 0 c).arrAt_in 19 rfl _).trans (hA c 19)),
      ((h c).1 20).trans (((dats 0 c).arrAt_in 20 rfl _).trans (hA c 20)),
      ((h c).1 21).trans (((dats 0 c).arrAt_in 21 rfl _).trans (hA c 21)),
      ((h c).1 22).trans (((dats 0 c).arrAt_in 22 rfl _).trans (hA c 22)),
      ((h c).1 23).trans (((dats 0 c).arrAt_in 23 rfl _).trans (hA c 23)),
      ((h c).1 24).trans (((dats 0 c).arrAt_in 24 rfl _).trans (hA c 24)),
      ((h c).1 25).trans (((dats 0 c).arrAt_in 25 rfl _).trans (hA c 25)),
      ((h c).1 26).trans (((dats 0 c).arrAt_in 26 rfl _).trans (hA c 26)),
      ((h c).1 27).trans (((dats 0 c).arrAt_in 27 rfl _).trans (hA c 27)),
      ((h c).1 28).trans (((dats 0 c).arrAt_in 28 rfl _).trans (hA c 28))⟩) h

theorem cover0_29 (p0 : Vec F S8x128 .f32) (y : S8x128.Idx) :
    ∃ pc ∈ ([⟨r0_8, p0⟩] : List (View.Piece (Elt F) S8x128 .f32)), y ∈ pc.1.set :=
  View.cover_of_tiled [⟨r0_8, p0⟩] S8x128.size (by rfl) y
theorem cover0_30 (p0 : Vec F S1x1024 .f32) (p1 : Vec F S1x1024 .f32) (p2 : Vec F S1x1024 .f32) (p3 : Vec F S1x1024 .f32) (p4 : Vec F S1x1024 .f32) (p5 : Vec F S1x1024 .f32) (y : S1x6144.Idx) :
    ∃ pc ∈ ([⟨r0_14, p0⟩, ⟨r0_13, p1⟩, ⟨r0_12, p2⟩, ⟨r0_11, p3⟩, ⟨r0_10, p4⟩, ⟨r0_9, p5⟩] : List (View.Piece (Elt F) S1x6144 .f32)), y ∈ pc.1.set :=
  View.cover_of_tiled [⟨r0_14, p0⟩, ⟨r0_13, p1⟩, ⟨r0_12, p2⟩, ⟨r0_11, p3⟩, ⟨r0_10, p4⟩, ⟨r0_9, p5⟩] S1x1024.size (by rfl) y
theorem cover0_31 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_32 (p0 : Vec F S1x3x256 .f32) (y : S1x3x256.Idx) :
    ∃ pc ∈ ([⟨r0_20, p0⟩] : List (View.Piece (Elt F) S1x3x256 .f32)), y ∈ pc.1.set :=
  View.cover_of_tiled [⟨r0_20, p0⟩] S1x3x256.size (by rfl) y
theorem cover0_33 (p0 : Vec F S1x31x256 .f32) (y : S1x31x256.Idx) :
    ∃ pc ∈ ([⟨r0_21, p0⟩] : List (View.Piece (Elt F) S1x31x256 .f32)), y ∈ pc.1.set :=
  View.cover_of_tiled [⟨r0_21, p0⟩] S1x31x256.size (by rfl) y
theorem cover0_34 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_35 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_36 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_37 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_38 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_39 (p0 : Vec F S1x1024 .f32) (p1 : Vec F S1x1024 .f32) (p2 : Vec F S1x1024 .f32) (p3 : Vec F S1x1024 .f32) (p4 : Vec F S1x1024 .f32) (p5 : Vec F S1x1024 .f32) (y : S1x6144.Idx) :
    ∃ pc ∈ ([⟨r0_14, p0⟩, ⟨r0_13, p1⟩, ⟨r0_12, p2⟩, ⟨r0_11, p3⟩, ⟨r0_10, p4⟩, ⟨r0_9, p5⟩] : List (View.Piece (Elt F) S1x6144 .f32)), y ∈ pc.1.set :=
  View.cover_of_tiled [⟨r0_14, p0⟩, ⟨r0_13, p1⟩, ⟨r0_12, p2⟩, ⟨r0_11, p3⟩, ⟨r0_10, p4⟩, ⟨r0_9, p5⟩] S1x1024.size (by rfl) y
theorem cover0_40 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_41 (p0 : Vec F S1x3x256 .f32) (y : S1x3x256.Idx) :
    ∃ pc ∈ ([⟨r0_20, p0⟩] : List (View.Piece (Elt F) S1x3x256 .f32)), y ∈ pc.1.set :=
  View.cover_of_tiled [⟨r0_20, p0⟩] S1x3x256.size (by rfl) y
theorem cover0_42 (p0 : Vec F S1x31x256 .f32) (y : S1x31x256.Idx) :
    ∃ pc ∈ ([⟨r0_21, p0⟩] : List (View.Piece (Elt F) S1x31x256 .f32)), y ∈ pc.1.set :=
  View.cover_of_tiled [⟨r0_21, p0⟩] S1x31x256.size (by rfl) y
theorem cover0_43 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_44 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_45 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_46 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_47 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_48 (p0 : Vec F S1x1024 .f32) (p1 : Vec F S1x1024 .f32) (p2 : Vec F S1x1024 .f32) (p3 : Vec F S1x1024 .f32) (p4 : Vec F S1x1024 .f32) (p5 : Vec F S1x1024 .f32) (y : S1x6144.Idx) :
    ∃ pc ∈ ([⟨r0_14, p0⟩, ⟨r0_13, p1⟩, ⟨r0_12, p2⟩, ⟨r0_11, p3⟩, ⟨r0_10, p4⟩, ⟨r0_9, p5⟩] : List (View.Piece (Elt F) S1x6144 .f32)), y ∈ pc.1.set :=
  View.cover_of_tiled [⟨r0_14, p0⟩, ⟨r0_13, p1⟩, ⟨r0_12, p2⟩, ⟨r0_11, p3⟩, ⟨r0_10, p4⟩, ⟨r0_9, p5⟩] S1x1024.size (by rfl) y
theorem cover0_49 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_50 (p0 : Vec F S1x3x256 .f32) (y : S1x3x256.Idx) :
    ∃ pc ∈ ([⟨r0_20, p0⟩] : List (View.Piece (Elt F) S1x3x256 .f32)), y ∈ pc.1.set :=
  View.cover_of_tiled [⟨r0_20, p0⟩] S1x3x256.size (by rfl) y
theorem cover0_51 (p0 : Vec F S1x31x256 .f32) (y : S1x31x256.Idx) :
    ∃ pc ∈ ([⟨r0_21, p0⟩] : List (View.Piece (Elt F) S1x31x256 .f32)), y ∈ pc.1.set :=
  View.cover_of_tiled [⟨r0_21, p0⟩] S1x31x256.size (by rfl) y
theorem cover0_52 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_53 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_54 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_55 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_56 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_57 (p0 : Vec F S1x1024 .f32) (p1 : Vec F S1x1024 .f32) (p2 : Vec F S1x1024 .f32) (p3 : Vec F S1x1024 .f32) (p4 : Vec F S1x1024 .f32) (p5 : Vec F S1x1024 .f32) (y : S1x6144.Idx) :
    ∃ pc ∈ ([⟨r0_14, p0⟩, ⟨r0_13, p1⟩, ⟨r0_12, p2⟩, ⟨r0_11, p3⟩, ⟨r0_10, p4⟩, ⟨r0_9, p5⟩] : List (View.Piece (Elt F) S1x6144 .f32)), y ∈ pc.1.set :=
  View.cover_of_tiled [⟨r0_14, p0⟩, ⟨r0_13, p1⟩, ⟨r0_12, p2⟩, ⟨r0_11, p3⟩, ⟨r0_10, p4⟩, ⟨r0_9, p5⟩] S1x1024.size (by rfl) y
theorem cover0_58 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_59 (p0 : Vec F S1x3x256 .f32) (y : S1x3x256.Idx) :
    ∃ pc ∈ ([⟨r0_20, p0⟩] : List (View.Piece (Elt F) S1x3x256 .f32)), y ∈ pc.1.set :=
  View.cover_of_tiled [⟨r0_20, p0⟩] S1x3x256.size (by rfl) y
theorem cover0_60 (p0 : Vec F S1x31x256 .f32) (y : S1x31x256.Idx) :
    ∃ pc ∈ ([⟨r0_21, p0⟩] : List (View.Piece (Elt F) S1x31x256 .f32)), y ∈ pc.1.set :=
  View.cover_of_tiled [⟨r0_21, p0⟩] S1x31x256.size (by rfl) y
theorem cover0_61 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_62 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_63 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_64 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y
theorem cover0_65 (p0 : Vec F S1x1024 .f32) (y : S1x1024.Idx) :
    ∃ pc ∈ ([⟨r0_15, p0⟩] : List (View.Piece (Elt F) S1x1024 .f32)), y ∈ pc.1.set :=
  View.cover_of_tiled [⟨r0_15, p0⟩] S1x1024.size (by rfl) y

/-- The body on any buffers. -/
theorem sound_kernel (c : Dev nD) (E : Set ℕ) (arg0 : Memref sig .tc .vmem S8x48x1024 .f32) (harg0 : arg0.IsWhole) (arg1 : Memref sig .tc .vmem S1x128 .f32) (harg1 : arg1.IsWhole) (arg2 : Memref sig .tc .vmem S1x6144 .f32) (harg2 : arg2.IsWhole) (arg3 : Memref sig .tc .vmem S1x1024 .f32) (harg3 : arg3.IsWhole) (arg4 : Memref sig .tc .vmem S1x3x256 .f32) (harg4 : arg4.IsWhole) (arg5 : Memref sig .tc .vmem S1x31x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x6144 .f32) (harg11 : arg11.IsWhole) (arg12 : Memref sig .tc .vmem S1x1024 .f32) (harg12 : arg12.IsWhole) (arg13 : Memref sig .tc .vmem S1x3x256 .f32) (harg13 : arg13.IsWhole) (arg14 : Memref sig .tc .vmem S1x31x256 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x6144 .f32) (harg20 : arg20.IsWhole) (arg21 : Memref sig .tc .vmem S1x1024 .f32) (harg21 : arg21.IsWhole) (arg22 : Memref sig .tc .vmem S1x3x256 .f32) (harg22 : arg22.IsWhole) (arg23 : Memref sig .tc .vmem S1x31x256 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S8x128 .f32) (harg29 : arg29.IsWhole) (arg30 : Memref sig .tc .vmem S1x6144 .f32) (harg30 : arg30.IsWhole) (arg31 : Memref sig .tc .vmem S1x1024 .f32) (harg31 : arg31.IsWhole) (arg32 : Memref sig .tc .vmem S1x3x256 .f32) (harg32 : arg32.IsWhole) (arg33 : Memref sig .tc .vmem S1x31x256 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x6144 .f32) (harg39 : arg39.IsWhole) (arg40 : Memref sig .tc .vmem S1x1024 .f32) (harg40 : arg40.IsWhole) (arg41 : Memref sig .tc .vmem S1x3x256 .f32) (harg41 : arg41.IsWhole) (arg42 : Memref sig .tc .vmem S1x31x256 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x6144 .f32) (harg48 : arg48.IsWhole) (arg49 : Memref sig .tc .vmem S1x1024 .f32) (harg49 : arg49.IsWhole) (arg50 : Memref sig .tc .vmem S1x3x256 .f32) (harg50 : arg50.IsWhole) (arg51 : Memref sig .tc .vmem S1x31x256 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole) (arg57 : Memref sig .tc .vmem S1x6144 .f32) (harg57 : arg57.IsWhole) (arg58 : Memref sig .tc .vmem S1x1024 .f32) (harg58 : arg58.IsWhole) (arg59 : Memref sig .tc .vmem S1x3x256 .f32) (harg59 : arg59.IsWhole) (arg60 : Memref sig .tc .vmem S1x31x256 .f32) (harg60 : arg60.IsWhole) (arg61 : Memref sig .tc .vmem S1x1024 .f32) (harg61 : arg61.IsWhole) (arg62 : Memref sig .tc .vmem S1x1024 .f32) (harg62 : arg62.IsWhole) (arg63 : Memref sig .tc .vmem S1x1024 .f32) (harg63 : arg63.IsWhole) (arg64 : Memref sig .tc .vmem S1x1024 .f32) (harg64 : arg64.IsWhole) (arg65 : Memref sig .tc .vmem S1x1024 .f32) (harg65 : arg65.IsWhole)
    (x0 : Vec F S8x48x1024 .f32) (x1 : Vec F S1x128 .f32) (x2 : Vec F S1x6144 .f32) (x3 : Vec F S1x1024 .f32) (x4 : Vec F S1x3x256 .f32) (x5 : Vec F S1x31x256 .f32) (x6 : Vec F S1x1024 .f32) (x7 : Vec F S1x1024 .f32) (x8 : Vec F S1x1024 .f32) (x9 : Vec F S1x1024 .f32) (x10 : Vec F S1x1024 .f32) (x11 : Vec F S1x6144 .f32) (x12 : Vec F S1x1024 .f32) (x13 : Vec F S1x3x256 .f32) (x14 : Vec F S1x31x256 .f32) (x15 : Vec F S1x1024 .f32) (x16 : Vec F S1x1024 .f32) (x17 : Vec F S1x1024 .f32) (x18 : Vec F S1x1024 .f32) (x19 : Vec F S1x1024 .f32) (x20 : Vec F S1x6144 .f32) (x21 : Vec F S1x1024 .f32) (x22 : Vec F S1x3x256 .f32) (x23 : Vec F S1x31x256 .f32) (x24 : Vec F S1x1024 .f32) (x25 : Vec F S1x1024 .f32) (x26 : Vec F S1x1024 .f32) (x27 : Vec F S1x1024 .f32) (x28 : Vec F S1x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare (out0_29 x0) ∗ owns (c : Thread nD τ) arg30 fullShare (out0_30 x0) ∗ owns (c : Thread nD τ) arg31 fullShare (out0_31 x0) ∗ owns (c : Thread nD τ) arg32 fullShare (out0_32 x0 x1) ∗ owns (c : Thread nD τ) arg33 fullShare (out0_33 x0 x1) ∗ owns (c : Thread nD τ) arg34 fullShare (out0_34 x0) ∗ owns (c : Thread nD τ) arg35 fullShare (out0_35 x0) ∗ owns (c : Thread nD τ) arg36 fullShare (out0_36 x0) ∗ owns (c : Thread nD τ) arg37 fullShare (out0_37 x0) ∗ owns (c : Thread nD τ) arg38 fullShare (out0_38 x0) ∗ owns (c : Thread nD τ) arg39 fullShare (out0_39 x0 x2 x11 x20) ∗ owns (c : Thread nD τ) arg40 fullShare (out0_40 x0 x3 x12 x21) ∗ owns (c : Thread nD τ) arg41 fullShare (out0_41 x0 x1 x4 x13 x22) ∗ owns (c : Thread nD τ) arg42 fullShare (out0_42 x0 x1 x5 x14 x23) ∗ owns (c : Thread nD τ) arg43 fullShare (out0_43 x0 x6 x15 x24) ∗ owns (c : Thread nD τ) arg44 fullShare (out0_44 x0 x7 x16 x25) ∗ owns (c : Thread nD τ) arg45 fullShare (out0_45 x0 x8 x17 x26) ∗ owns (c : Thread nD τ) arg46 fullShare (out0_46 x0 x9 x18 x27) ∗ owns (c : Thread nD τ) arg47 fullShare (out0_47 x0 x10 x19 x28) ∗ owns (c : Thread nD τ) arg48 fullShare (out0_48 x0 x11) ∗ owns (c : Thread nD τ) arg49 fullShare (out0_49 x0 x12) ∗ owns (c : Thread nD τ) arg50 fullShare (out0_50 x0 x1 x13) ∗ owns (c : Thread nD τ) arg51 fullShare (out0_51 x0 x1 x14) ∗ owns (c : Thread nD τ) arg52 fullShare (out0_52 x0 x15) ∗ owns (c : Thread nD τ) arg53 fullShare (out0_53 x0 x16) ∗ owns (c : Thread nD τ) arg54 fullShare (out0_54 x0 x17) ∗ owns (c : Thread nD τ) arg55 fullShare (out0_55 x0 x18) ∗ owns (c : Thread nD τ) arg56 fullShare (out0_56 x0 x19) ∗ owns (c : Thread nD τ) arg57 fullShare (out0_57 x0 x20) ∗ owns (c : Thread nD τ) arg58 fullShare (out0_58 x0 x21) ∗ owns (c : Thread nD τ) arg59 fullShare (out0_59 x0 x1 x22) ∗ owns (c : Thread nD τ) arg60 fullShare (out0_60 x0 x1 x23) ∗ owns (c : Thread nD τ) arg61 fullShare (out0_61 x0 x24) ∗ owns (c : Thread nD τ) arg62 fullShare (out0_62 x0 x25) ∗ owns (c : Thread nD τ) arg63 fullShare (out0_63 x0 x26) ∗ owns (c : Thread nD τ) arg64 fullShare (out0_64 x0 x27) ∗ owns (c : Thread nD τ) arg65 fullShare (out0_65 x0 x28)) -∗ K ⟨⟩))
      ⊢ wp frame (wpE (defs₀ (F := F)) Variants.none c none) E (cc0_small_update arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65) K := by
  simp only [cc0_small_update_eq_skeleton]; unfold cc0_small_update_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _ _ _ _ _ _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _ _ _ _ _ _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _ _ _ _ _ _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  isplitl [H55]
  · iexists _; isplitr
    swap; · iexact H55
    ipureintro
    refine (View.read_writes_eq_canon _ _ _ (cover0_55 _)).trans ?_
    rfl
  isplitl [H56]
  · iexists _; isplitr
    swap; · iexact H56
    ipureintro
    refine (View.read_writes_eq_canon _ _ _ (cover0_56 _)).trans ?_
    rfl
  isplitl [H57]
  · iexists _; isplitr
    swap; · iexact H57
    ipureintro
    refine (View.read_writes_eq_canon _ _ _ (cover0_57 _ _ _ _ _ _)).trans ?_
    rfl
  isplitl [H58]
  · iexists _; isplitr
    swap; · iexact H58
    ipureintro
    refine (View.read_writes_eq_canon _ _ _ (cover0_58 _)).trans ?_
    rfl
  isplitl [H59]
  · iexists _; isplitr
    swap; · iexact H59
    ipureintro
    refine (View.read_writes_eq_canon _ _ _ (cover0_59 _)).trans ?_
    rfl
  isplitl [H60]
  · iexists _; isplitr
    swap; · iexact H60
    ipureintro
    refine (View.read_writes_eq_canon _ _ _ (cover0_60 _)).trans ?_
    rfl
  isplitl [H61]
  · iexists _; isplitr
    swap; · iexact H61
    ipureintro
    refine (View.read_writes_eq_canon _ _ _ (cover0_61 _)).trans ?_
    rfl
  isplitl [H62]
  · iexists _; isplitr
    swap; · iexact H62
    ipureintro
    refine (View.read_writes_eq_canon _ _ _ (cover0_62 _)).trans ?_
    rfl
  isplitl [H63]
  · iexists _; isplitr
    swap; · iexact H63
    ipureintro
    refine (View.read_writes_eq_canon _ _ _ (cover0_63 _)).trans ?_
    rfl
  isplitl [H64]
  · iexists _; isplitr
    swap; · iexact H64
    ipureintro
    refine (View.read_writes_eq_canon _ _ _ (cover0_64 _)).trans ?_
    rfl
  iexists _; isplitr
  swap; · iexact H65
  ipureintro
  refine (View.read_writes_eq_canon _ _ _ (cover0_65 _)).trans ?_
  rfl

/-- What each buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out0_29 (iblk m c 0 t)
    | ⟨30, _⟩ => out0_30 (iblk m c 0 t)
    | ⟨31, _⟩ => out0_31 (iblk m c 0 t)
    | ⟨32, _⟩ => out0_32 (iblk m c 0 t) (iblk m c 1 t)
    | ⟨33, _⟩ => out0_33 (iblk m c 0 t) (iblk m c 1 t)
    | ⟨34, _⟩ => out0_34 (iblk m c 0 t)
    | ⟨35, _⟩ => out0_35 (iblk m c 0 t)
    | ⟨36, _⟩ => out0_36 (iblk m c 0 t)
    | ⟨37, _⟩ => out0_37 (iblk m c 0 t)
    | ⟨38, _⟩ => out0_38 (iblk m c 0 t)
    | ⟨39, _⟩ => out0_39 (iblk m c 0 t) (iblk m c 2 t) (iblk m c 11 t) (iblk m c 20 t)
    | ⟨40, _⟩ => out0_40 (iblk m c 0 t) (iblk m c 3 t) (iblk m c 12 t) (iblk m c 21 t)
    | ⟨41, _⟩ => out0_41 (iblk m c 0 t) (iblk m c 1 t) (iblk m c 4 t) (iblk m c 13 t) (iblk m c 22 t)
    | ⟨42, _⟩ => out0_42 (iblk m c 0 t) (iblk m c 1 t) (iblk m c 5 t) (iblk m c 14 t) (iblk m c 23 t)
    | ⟨43, _⟩ => out0_43 (iblk m c 0 t) (iblk m c 6 t) (iblk m c 15 t) (iblk m c 24 t)
    | ⟨44, _⟩ => out0_44 (iblk m c 0 t) (iblk m c 7 t) (iblk m c 16 t) (iblk m c 25 t)
    | ⟨45, _⟩ => out0_45 (iblk m c 0 t) (iblk m c 8 t) (iblk m c 17 t) (iblk m c 26 t)
    | ⟨46, _⟩ => out0_46 (iblk m c 0 t) (iblk m c 9 t) (iblk m c 18 t) (iblk m c 27 t)
    | ⟨47, _⟩ => out0_47 (iblk m c 0 t) (iblk m c 10 t) (iblk m c 19 t) (iblk m c 28 t)
    | ⟨48, _⟩ => out0_48 (iblk m c 0 t) (iblk m c 11 t)
    | ⟨49, _⟩ => out0_49 (iblk m c 0 t) (iblk m c 12 t)
    | ⟨50, _⟩ => out0_50 (iblk m c 0 t) (iblk m c 1 t) (iblk m c 13 t)
    | ⟨51, _⟩ => out0_51 (iblk m c 0 t) (iblk m c 1 t) (iblk m c 14 t)
    | ⟨52, _⟩ => out0_52 (iblk m c 0 t) (iblk m c 15 t)
    | ⟨53, _⟩ => out0_53 (iblk m c 0 t) (iblk m c 16 t)
    | ⟨54, _⟩ => out0_54 (iblk m c 0 t) (iblk m c 17 t)
    | ⟨55, _⟩ => out0_55 (iblk m c 0 t) (iblk m c 18 t)
    | ⟨56, _⟩ => out0_56 (iblk m c 0 t) (iblk m c 19 t)
    | ⟨57, _⟩ => out0_57 (iblk m c 0 t) (iblk m c 20 t)
    | ⟨58, _⟩ => out0_58 (iblk m c 0 t) (iblk m c 21 t)
    | ⟨59, _⟩ => out0_59 (iblk m c 0 t) (iblk m c 1 t) (iblk m c 22 t)
    | ⟨60, _⟩ => out0_60 (iblk m c 0 t) (iblk m c 1 t) (iblk m c 23 t)
    | ⟨61, _⟩ => out0_61 (iblk m c 0 t) (iblk m c 24 t)
    | ⟨62, _⟩ => out0_62 (iblk m c 0 t) (iblk m c 25 t)
    | ⟨63, _⟩ => out0_63 (iblk m c 0 t) (iblk m c 26 t)
    | ⟨64, _⟩ => out0_64 (iblk m c 0 t) (iblk m c 27 t)
    | ⟨65, _⟩ => out0_65 (iblk m c 0 t) (iblk m c 28 t)
    | ⟨_ + 66, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = out0_29 (iblk m c 0 t) := by dsimp only [dats]
theorem after0_30 (c : Dev nD) (t : Fin cfg0.N) : (dats m 0 c).after 30 t = out0_30 (iblk m c 0 t) := by dsimp only [dats]
theorem after0_31 (c : Dev nD) (t : Fin cfg0.N) : (dats m 0 c).after 31 t = out0_31 (iblk m c 0 t) := by dsimp only [dats]
theorem after0_32 (c : Dev nD) (t : Fin cfg0.N) : (dats m 0 c).after 32 t = out0_32 (iblk m c 0 t) (iblk m c 1 t) := by dsimp only [dats]
theorem after0_33 (c : Dev nD) (t : Fin cfg0.N) : (dats m 0 c).after 33 t = out0_33 (iblk m c 0 t) (iblk m c 1 t) := by dsimp only [dats]
theorem after0_34 (c : Dev nD) (t : Fin cfg0.N) : (dats m 0 c).after 34 t = out0_34 (iblk m c 0 t) := by dsimp only [dats]
theorem after0_35 (c : Dev nD) (t : Fin cfg0.N) : (dats m 0 c).after 35 t = out0_35 (iblk m c 0 t) := by dsimp only [dats]
theorem after0_36 (c : Dev nD) (t : Fin cfg0.N) : (dats m 0 c).after 36 t = out0_36 (iblk m c 0 t) := by dsimp only [dats]
theorem after0_37 (c : Dev nD) (t : Fin cfg0.N) : (dats m 0 c).after 37 t = out0_37 (iblk m c 0 t) := by dsimp only [dats]
theorem after0_38 (c : Dev nD) (t : Fin cfg0.N) : (dats m 0 c).after 38 t = out0_38 (iblk m c 0 t) := by dsimp only [dats]
theorem after0_39 (c : Dev nD) (t : Fin cfg0.N) : (dats m 0 c).after 39 t = out0_39 (iblk m c 0 t) (iblk m c 2 t) (iblk m c 11 t) (iblk m c 20 t) := by dsimp only [dats]
theorem after0_40 (c : Dev nD) (t : Fin cfg0.N) : (dats m 0 c).after 40 t = out0_40 (iblk m c 0 t) (iblk m c 3 t) (iblk m c 12 t) (iblk m c 21 t) := by dsimp only [dats]
theorem after0_41 (c : Dev nD) (t : Fin cfg0.N) : (dats m 0 c).after 41 t = out0_41 (iblk m c 0 t) (iblk m c 1 t) (iblk m c 4 t) (iblk m c 13 t) (iblk m c 22 t) := by dsimp only [dats]
theorem after0_42 (c : Dev nD) (t : Fin cfg0.N) : (dats m 0 c).after 42 t = out0_42 (iblk m c 0 t) (iblk m c 1 t) (iblk m c 5 t) (iblk m c 14 t) (iblk m c 23 t) := by dsimp only [dats]
theorem after0_43 (c : Dev nD) (t : Fin cfg0.N) : (dats m 0 c).after 43 t = out0_43 (iblk m c 0 t) (iblk m c 6 t) (iblk m c 15 t) (iblk m c 24 t) := by dsimp only [dats]
theorem after0_44 (c : Dev nD) (t : Fin cfg0.N) : (dats m 0 c).after 44 t = out0_44 (iblk m c 0 t) (iblk m c 7 t) (iblk m c 16 t) (iblk m c 25 t) := by dsimp only [dats]
theorem after0_45 (c : Dev nD) (t : Fin cfg0.N) : (dats m 0 c).after 45 t = out0_45 (iblk m c 0 t) (iblk m c 8 t) (iblk m c 17 t) (iblk m c 26 t) := by dsimp only [dats]
theorem after0_46 (c : Dev nD) (t : Fin cfg0.N) : (dats m 0 c).after 46 t = out0_46 (iblk m c 0 t) (iblk m c 9 t) (iblk m c 18 t) (iblk m c 27 t) := by dsimp only [dats]
theorem after0_47 (c : Dev nD) (t : Fin cfg0.N) : (dats m 0 c).after 47 t = out0_47 (iblk m c 0 t) (iblk m c 10 t) (iblk m c 19 t) (iblk m c 28 t) := by dsimp only [dats]
theorem after0_48 (c : Dev nD) (t : Fin cfg0.N) : (dats m 0 c).after 48 t = out0_48 (iblk m c 0 t) (iblk m c 11 t) := by dsimp only [dats]
theorem after0_49 (c : Dev nD) (t : Fin cfg0.N) : (dats m 0 c).after 49 t = out0_49 (iblk m c 0 t) (iblk m c 12 t) := by dsimp only [dats]
theorem after0_50 (c : Dev nD) (t : Fin cfg0.N) : (dats m 0 c).after 50 t = out0_50 (iblk m c 0 t) (iblk m c 1 t) (iblk m c 13 t) := by dsimp only [dats]
theorem after0_51 (c : Dev nD) (t : Fin cfg0.N) : (dats m 0 c).after 51 t = out0_51 (iblk m c 0 t) (iblk m c 1 t) (iblk m c 14 t) := by dsimp only [dats]
theorem after0_52 (c : Dev nD) (t : Fin cfg0.N) : (dats m 0 c).after 52 t = out0_52 (iblk m c 0 t) (iblk m c 15 t) := by dsimp only [dats]
theorem after0_53 (c : Dev nD) (t : Fin cfg0.N) : (dats m 0 c).after 53 t = out0_53 (iblk m c 0 t) (iblk m c 16 t) := by dsimp only [dats]
theorem after0_54 (c : Dev nD) (t : Fin cfg0.N) : (dats m 0 c).after 54 t = out0_54 (iblk m c 0 t) (iblk m c 17 t) := by dsimp only [dats]
theorem after0_55 (c : Dev nD) (t : Fin cfg0.N) : (dats m 0 c).after 55 t = out0_55 (iblk m c 0 t) (iblk m c 18 t) := by dsimp only [dats]
theorem after0_56 (c : Dev nD) (t : Fin cfg0.N) : (dats m 0 c).after 56 t = out0_56 (iblk m c 0 t) (iblk m c 19 t) := by dsimp only [dats]
theorem after0_57 (c : Dev nD) (t : Fin cfg0.N) : (dats m 0 c).after 57 t = out0_57 (iblk m c 0 t) (iblk m c 20 t) := by dsimp only [dats]
theorem after0_58 (c : Dev nD) (t : Fin cfg0.N) : (dats m 0 c).after 58 t = out0_58 (iblk m c 0 t) (iblk m c 21 t) := by dsimp only [dats]
theorem after0_59 (c : Dev nD) (t : Fin cfg0.N) : (dats m 0 c).after 59 t = out0_59 (iblk m c 0 t) (iblk m c 1 t) (iblk m c 22 t) := by dsimp only [dats]
theorem after0_60 (c : Dev nD) (t : Fin cfg0.N) : (dats m 0 c).after 60 t = out0_60 (iblk m c 0 t) (iblk m c 1 t) (iblk m c 23 t) := by dsimp only [dats]
theorem after0_61 (c : Dev nD) (t : Fin cfg0.N) : (dats m 0 c).after 61 t = out0_61 (iblk m c 0 t) (iblk m c 24 t) := by dsimp only [dats]
theorem after0_62 (c : Dev nD) (t : Fin cfg0.N) : (dats m 0 c).after 62 t = out0_62 (iblk m c 0 t) (iblk m c 25 t) := by dsimp only [dats]
theorem after0_63 (c : Dev nD) (t : Fin cfg0.N) : (dats m 0 c).after 63 t = out0_63 (iblk m c 0 t) (iblk m c 26 t) := by dsimp only [dats]
theorem after0_64 (c : Dev nD) (t : Fin cfg0.N) : (dats m 0 c).after 64 t = out0_64 (iblk m c 0 t) (iblk m c 27 t) := by dsimp only [dats]
theorem after0_65 (c : Dev nD) (t : Fin cfg0.N) : (dats m 0 c).after 65 t = out0_65 (iblk m c 0 t) (iblk m c 28 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  iexact H65

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

end Cert.Kernel11Ideal.Hand

end
-- ==== Proof.SmallRef.lean ====
/- What the optimiser of the small weights leaves in each of its arrays is the reference's value, over the extended reals:
   the gradients and the squared error summed over the devices, the chip's own columns of the two convolutions, and the
   optimiser's step. -/
module

public import proofs.«01_k».proof.Proof.SmallOutIdeal
public import proofs.«01_k».proof.Proof.Adam
public import proofs.«01_k».proof.Proof.Common
public import proofs.«01_k».proof.Proof.Gen.Reference11Ideal.Read
public import Idealize.ShloMosaic.Lib.Pipeline.ValueKit.Basic
public import Idealize.ShloMosaic.Lib.Pipeline.Value
public import Idealize.ShloMosaic.Lib.Pointwise
public import Mathlib.Data.EReal.Operations
public import Mathlib.Tactic.NormNum

@[expose] public section

noncomputable section

namespace Cert.Proof.Small

open Cert.Kernel11Ideal Cert.Kernel11Ideal.Gen Cert.Kernel11Ideal.Hand Idealize.ShloMosaic Idealize.ShloMosaic.TcCoe
open Cert.Reference11Ideal.Read
open scoped BigOperators

theorem zero2 : ∀ a, (![0, 0] : Fin 2 → ℕ) a = 0 := by decide
theorem zero3 : ∀ a, (![0, 0, 0] : Fin 3 → ℕ) a = 0 := by decide

theorem load15 (x : Vec Ideal S1x1024 .f32) : View.ld x r0_15 = x := View.ld_unit_lit _ x zero2
theorem load20 (x : Vec Ideal S1x3x256 .f32) : View.ld x r0_20 = x := View.ld_unit_lit _ x zero3
theorem load21 (x : Vec Ideal S1x31x256 .f32) : View.ld x r0_21 = x := View.ld_unit_lit _ x zero3
theorem store8 (x : S8x128.Idx → EReal) : View.canon (Val := Elt Ideal) (e := .f32) [⟨r0_8, x⟩] = x :=
  View.canon_cons_unit_lit (Val := Elt Ideal) (e := .f32) _ x [] zero2
theorem store15 (x : S1x1024.Idx → EReal) : View.canon (Val := Elt Ideal) (e := .f32) [⟨r0_15, x⟩] = x :=
  View.canon_cons_unit_lit (Val := Elt Ideal) (e := .f32) _ x [] zero2
theorem store20 (x : S1x3x256.Idx → EReal) : View.canon (Val := Elt Ideal) (e := .f32) [⟨r0_20, x⟩] = x :=
  View.canon_cons_unit_lit (Val := Elt Ideal) (e := .f32) _ x [] zero3
theorem store21 (x : S1x31x256.Idx → EReal) : View.canon (Val := Elt Ideal) (e := .f32) [⟨r0_21, x⟩] = x :=
  View.canon_cons_unit_lit (Val := Elt Ideal) (e := .f32) _ x [] zero3

/-- The sum over the devices. -/
theorem total (x0 : Vec Ideal S8x48x1024 .f32) : k0_pay80 (F := Ideal) x0 = val_main_v0 (F := Ideal) x0 := by
  funext i
  have hi : i = ix2 (n0 := 48) (n1 := 1024) (i 0) (i 1) := (ValueIdx.eq_ix2 i).trans (ix2_eq_valueIdx _ _).symm
  rw [hi]
  generalize (i 0 : Fin 48) = r
  generalize (i 1 : Fin 1024) = s
  unfold k0_pay80
  pointwise [k0_pay2, val_main_v0, val_main_cst]
  simp only [Fin.sum_univ_eight]
  done

theorem word_1024 : Ideal.ofBits .f32 0x44800000#32 = ((1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_inv2 : Ideal.ofBits .f32 0x3A000000#32 = ((1 / 2048 : ℝ) : EReal) := by
  simp [Ideal.ofBits, Ideal.ieee, -EReal.coe_mul]; norm_num

/-- The squared error's mean over the width, halved. -/
theorem out29 (x0 : Vec Ideal S8x48x1024 .f32) : out0_29 (F := Ideal) x0 = val_main_v240 (F := Ideal) x0 := by
  unfold out0_29
  rw [store8]
  funext i
  have hi : i = ix2 (n0 := 8) (n1 := 128) (i 0) (i 1) := (ValueIdx.eq_ix2 i).trans (ix2_eq_valueIdx _ _).symm
  rw [hi]
  generalize (i 0 : Fin 8) = r
  generalize (i 1 : Fin 128) = s
  have ht := total x0
  unfold k0_pay80 at ht
  pointwise [k0_pay3, ht, val_main_v240, val_main_v5, val_main_v4, val_main_v3, val_main_v2, val_main_v1, val_main_cst, val_main_cst_0, val_main_cst_1, val_main_cst_2]
  rw [Fintype.sum_unique]
  generalize (∑ x, val_main_v0 (F := Ideal) x0 (ix2 46 x)) = z
  rw [word_1024, Ideal.div_coe (by norm_num), word_half, word_inv2, mul_comm z, ← mul_assoc, ← EReal.coe_mul]
  norm_num

theorem split3 (i : S1x3x256.Idx) : i = ix3 (n0 := 1) (n1 := 3) (n2 := 256) 0 (i 1) (i 2) := by
  funext a
  match a with
  | ⟨0, _⟩ => exact Fin.ext (Nat.lt_one_iff.mp (i 0).isLt)
  | ⟨1, _⟩ => rfl
  | ⟨2, _⟩ => rfl

theorem flat3 {α : Type} (x : S1x3x256.Idx → α) (h : S1x3x256.ShapeCasts S3x256) :
    shapeCast S3x256 x h = fun j => x (ix3 (n0 := 1) (n1 := 3) (n2 := 256) 0 (j 0) (j 1)) := by
  funext i
  have hi : i = ix2 (n0 := 3) (n1 := 256) (i 0) (i 1) := (ValueIdx.eq_ix2 i).trans (ix2_eq_valueIdx _ _).symm
  rw [hi]
  generalize (i 0 : Fin 3) = r
  generalize (i 1 : Fin 256) = s
  pointwise

theorem unflat3 {α : Type} (x : S3x256.Idx → α) (h : S3x256.ShapeCasts S1x3x256) :
    shapeCast S1x3x256 x h = fun j => x (ix2 (n0 := 3) (n1 := 256) (j 1) (j 2)) := by
  funext i
  rw [split3 i]
  generalize (i 1 : Fin 3) = r
  generalize (i 2 : Fin 256) = s
  pointwise

theorem up3 (x0 : Vec Ideal S8x48x1024 .f32) (x1 : Vec Ideal S1x128 .f32) :
    val_main_v14 (F := Ideal) x0 x1 = fun j => val_main_v13 (F := Ideal) x0 x1 (ix2 (n0 := 3) (n1 := 256) (j 1) (j 2)) := by
  unfold val_main_v14
  generalize val_main_v13 (F := Ideal) x0 x1 = y
  funext i
  rw [split3 i]
  generalize (i 1 : Fin 3) = r
  generalize (i 2 : Fin 256) = s
  pointwise

/-- The chip's own columns of the short convolution. -/
theorem own3 (x0 : Vec Ideal S8x48x1024 .f32) (x1 : Vec Ideal S1x128 .f32) :
    k0_pay33 (F := Ideal) (val_main_v0 x0) k0_pay84 (View.ld x1 r0_16) (View.ld x1 r0_17) (View.ld x1 r0_18) (View.ld x1 r0_19) = val_main_v13 (F := Ideal) x0 x1 := by
  funext i
  have hi : i = ix2 (n0 := 3) (n1 := 256) (i 0) (i 1) := (ValueIdx.eq_ix2 i).trans (ix2_eq_valueIdx _ _).symm
  rw [hi]
  generalize (i 0 : Fin 3) = r
  generalize (i 1 : Fin 256) = s
  pointwise [k0_pay33, k0_pay84, k0_pay32, val_main_v13, val_main_v12, val_main_v11, val_main_v7, val_main_v6]
  simp only [Fin.sum_univ_four]
  refine congrArg₂ (· + ·) (congrArg₂ (· + ·) (congrArg₂ (· + ·) ?_ ?_) ?_) ?_
  · refine congrArg₂ (· * ·) rfl (congrArg _ (Common.ix2_congr rfl ?_))
    show s.val = 0 * 256 + s.val
    omega
  all_goals rfl

theorem split31 (i : S1x31x256.Idx) : i = ix3 (n0 := 1) (n1 := 31) (n2 := 256) 0 (i 1) (i 2) := by
  funext a
  match a with
  | ⟨0, _⟩ => exact Fin.ext (Nat.lt_one_iff.mp (i 0).isLt)
  | ⟨1, _⟩ => rfl
  | ⟨2, _⟩ => rfl

theorem flat31 {α : Type} (x : S1x31x256.Idx → α) (h : S1x31x256.ShapeCasts S31x256) :
    shapeCast S31x256 x h = fun j => x (ix3 (n0 := 1) (n1 := 31) (n2 := 256) 0 (j 0) (j 1)) := by
  funext i
  have hi : i = ix2 (n0 := 31) (n1 := 256) (i 0) (i 1) := (ValueIdx.eq_ix2 i).trans (ix2_eq_valueIdx _ _).symm
  rw [hi]
  generalize (i 0 : Fin 31) = r
  generalize (i 1 : Fin 256) = s
  pointwise

theorem unflat31 {α : Type} (x : S31x256.Idx → α) (h : S31x256.ShapeCasts S1x31x256) :
    shapeCast S1x31x256 x h = fun j => x (ix2 (n0 := 31) (n1 := 256) (j 1) (j 2)) := by
  funext i
  rw [split31 i]
  generalize (i 1 : Fin 31) = r
  generalize (i 2 : Fin 256) = s
  pointwise

theorem up31 (x0 : Vec Ideal S8x48x1024 .f32) (x1 : Vec Ideal S1x128 .f32) :
    val_main_v18 (F := Ideal) x0 x1 = fun j => val_main_v17 (F := Ideal) x0 x1 (ix2 (n0 := 31) (n1 := 256) (j 1) (j 2)) := by
  unfold val_main_v18
  generalize val_main_v17 (F := Ideal) x0 x1 = y
  funext i
  rw [split31 i]
  generalize (i 1 : Fin 31) = r
  generalize (i 2 : Fin 256) = s
  pointwise

/-- The chip's own columns of the longer convolution. -/
theorem own31 (x0 : Vec Ideal S8x48x1024 .f32) (x1 : Vec Ideal S1x128 .f32) :
    k0_pay43 (F := Ideal) (val_main_v0 x0) (k0_pay86 x0 x1) (View.ld x1 r0_18) (View.ld x1 r0_19) = val_main_v17 (F := Ideal) x0 x1 := by
  funext i
  have hi : i = ix2 (n0 := 31) (n1 := 256) (i 0) (i 1) := (ValueIdx.eq_ix2 i).trans (ix2_eq_valueIdx _ _).symm
  rw [hi]
  generalize (i 0 : Fin 31) = r
  generalize (i 1 : Fin 256) = s
  pointwise [k0_pay43, k0_pay86, k0_pay42, total, val_main_v17, val_main_v16, val_main_v15, val_main_v7, val_main_v6]
  simp only [Fin.sum_univ_four]
  refine congrArg₂ (· + ·) (congrArg₂ (· + ·) (congrArg₂ (· + ·) ?_ ?_) ?_) ?_
  · refine congrArg₂ (· * ·) rfl (congrArg _ (Common.ix2_congr rfl ?_))
    show s.val = 0 * 256 + s.val
    omega
  all_goals rfl

theorem out31 (x0 : Vec Ideal S8x48x1024 .f32) : out0_31 (F := Ideal) x0 = val_main_v10 (F := Ideal) x0 := by
  unfold out0_31
  simp only [store15, load15, k0_pay83, total]
  rfl

theorem out34 (x0 : Vec Ideal S8x48x1024 .f32) : out0_34 (F := Ideal) x0 = val_main_v19 (F := Ideal) x0 := by
  unfold out0_34
  simp only [store15, load15, k0_pay83, total]
  rfl

theorem out35 (x0 : Vec Ideal S8x48x1024 .f32) : out0_35 (F := Ideal) x0 = val_main_v20 (F := Ideal) x0 := by
  unfold out0_35
  simp only [store15, load15, k0_pay83, total]
  rfl

theorem out36 (x0 : Vec Ideal S8x48x1024 .f32) : out0_36 (F := Ideal) x0 = val_main_v21 (F := Ideal) x0 := by
  unfold out0_36
  simp only [store15, load15, k0_pay83, total]
  rfl

theorem out37 (x0 : Vec Ideal S8x48x1024 .f32) : out0_37 (F := Ideal) x0 = val_main_v22 (F := Ideal) x0 := by
  unfold out0_37
  simp only [store15, load15, k0_pay83, total]
  rfl

theorem out38 (x0 : Vec Ideal S8x48x1024 .f32) : out0_38 (F := Ideal) x0 = val_main_v23 (F := Ideal) x0 := by
  unfold out0_38
  simp only [store15, load15, k0_pay83, total]
  rfl

theorem out40 (x0 : Vec Ideal S8x48x1024 .f32) (x3 : Vec Ideal S1x1024 .f32) (x12 : Vec Ideal S1x1024 .f32) (x21 : Vec Ideal S1x1024 .f32) : out0_40 (F := Ideal) x0 x3 x12 x21 = val_main_v71 (F := Ideal) x0 x3 x12 x21 := by
  unfold out0_40
  simp only [store15, load15, k0_pay83, total]
  rfl

theorem out43 (x0 : Vec Ideal S8x48x1024 .f32) (x6 : Vec Ideal S1x1024 .f32) (x15 : Vec Ideal S1x1024 .f32) (x24 : Vec Ideal S1x1024 .f32) : out0_43 (F := Ideal) x0 x6 x15 x24 = val_main_v143 (F := Ideal) x0 x6 x15 x24 := by
  unfold out0_43
  simp only [store15, load15, k0_pay83, total]
  rfl

theorem out44 (x0 : Vec Ideal S8x48x1024 .f32) (x7 : Vec Ideal S1x1024 .f32) (x16 : Vec Ideal S1x1024 .f32) (x25 : Vec Ideal S1x1024 .f32) : out0_44 (F := Ideal) x0 x7 x16 x25 = val_main_v167 (F := Ideal) x0 x7 x16 x25 := by
  unfold out0_44
  simp only [store15, load15, k0_pay83, total]
  rfl

theorem out45 (x0 : Vec Ideal S8x48x1024 .f32) (x8 : Vec Ideal S1x1024 .f32) (x17 : Vec Ideal S1x1024 .f32) (x26 : Vec Ideal S1x1024 .f32) : out0_45 (F := Ideal) x0 x8 x17 x26 = val_main_v191 (F := Ideal) x0 x8 x17 x26 := by
  unfold out0_45
  simp only [store15, load15, k0_pay83, total]
  rfl

theorem out46 (x0 : Vec Ideal S8x48x1024 .f32) (x9 : Vec Ideal S1x1024 .f32) (x18 : Vec Ideal S1x1024 .f32) (x27 : Vec Ideal S1x1024 .f32) : out0_46 (F := Ideal) x0 x9 x18 x27 = val_main_v215 (F := Ideal) x0 x9 x18 x27 := by
  unfold out0_46
  simp only [store15, load15, k0_pay83, total]
  rfl

theorem out47 (x0 : Vec Ideal S8x48x1024 .f32) (x10 : Vec Ideal S1x1024 .f32) (x19 : Vec Ideal S1x1024 .f32) (x28 : Vec Ideal S1x1024 .f32) : out0_47 (F := Ideal) x0 x10 x19 x28 = val_main_v239 (F := Ideal) x0 x10 x19 x28 := by
  unfold out0_47
  simp only [store15, load15, k0_pay83, total]
  rfl

theorem out49 (x0 : Vec Ideal S8x48x1024 .f32) (x12 : Vec Ideal S1x1024 .f32) : out0_49 (F := Ideal) x0 x12 = val_main_v52 (F := Ideal) x0 x12 := by
  unfold out0_49
  simp only [store15, load15, k0_pay83, total]
  rfl

theorem out52 (x0 : Vec Ideal S8x48x1024 .f32) (x15 : Vec Ideal S1x1024 .f32) : out0_52 (F := Ideal) x0 x15 = val_main_v124 (F := Ideal) x0 x15 := by
  unfold out0_52
  simp only [store15, load15, k0_pay83, total]
  rfl

theorem out53 (x0 : Vec Ideal S8x48x1024 .f32) (x16 : Vec Ideal S1x1024 .f32) : out0_53 (F := Ideal) x0 x16 = val_main_v148 (F := Ideal) x0 x16 := by
  unfold out0_53
  simp only [store15, load15, k0_pay83, total]
  rfl

theorem out54 (x0 : Vec Ideal S8x48x1024 .f32) (x17 : Vec Ideal S1x1024 .f32) : out0_54 (F := Ideal) x0 x17 = val_main_v172 (F := Ideal) x0 x17 := by
  unfold out0_54
  simp only [store15, load15, k0_pay83, total]
  rfl

theorem out55 (x0 : Vec Ideal S8x48x1024 .f32) (x18 : Vec Ideal S1x1024 .f32) : out0_55 (F := Ideal) x0 x18 = val_main_v196 (F := Ideal) x0 x18 := by
  unfold out0_55
  simp only [store15, load15, k0_pay83, total]
  rfl

theorem out56 (x0 : Vec Ideal S8x48x1024 .f32) (x19 : Vec Ideal S1x1024 .f32) : out0_56 (F := Ideal) x0 x19 = val_main_v220 (F := Ideal) x0 x19 := by
  unfold out0_56
  simp only [store15, load15, k0_pay83, total]
  rfl

theorem out58 (x0 : Vec Ideal S8x48x1024 .f32) (x21 : Vec Ideal S1x1024 .f32) : out0_58 (F := Ideal) x0 x21 = val_main_v58 (F := Ideal) x0 x21 := by
  unfold out0_58
  simp only [store15, load15, k0_pay83, total]
  rfl

theorem out61 (x0 : Vec Ideal S8x48x1024 .f32) (x24 : Vec Ideal S1x1024 .f32) : out0_61 (F := Ideal) x0 x24 = val_main_v130 (F := Ideal) x0 x24 := by
  unfold out0_61
  simp only [store15, load15, k0_pay83, total]
  rfl

theorem out62 (x0 : Vec Ideal S8x48x1024 .f32) (x25 : Vec Ideal S1x1024 .f32) : out0_62 (F := Ideal) x0 x25 = val_main_v154 (F := Ideal) x0 x25 := by
  unfold out0_62
  simp only [store15, load15, k0_pay83, total]
  rfl

theorem out63 (x0 : Vec Ideal S8x48x1024 .f32) (x26 : Vec Ideal S1x1024 .f32) : out0_63 (F := Ideal) x0 x26 = val_main_v178 (F := Ideal) x0 x26 := by
  unfold out0_63
  simp only [store15, load15, k0_pay83, total]
  rfl

theorem out64 (x0 : Vec Ideal S8x48x1024 .f32) (x27 : Vec Ideal S1x1024 .f32) : out0_64 (F := Ideal) x0 x27 = val_main_v202 (F := Ideal) x0 x27 := by
  unfold out0_64
  simp only [store15, load15, k0_pay83, total]
  rfl

theorem out65 (x0 : Vec Ideal S8x48x1024 .f32) (x28 : Vec Ideal S1x1024 .f32) : out0_65 (F := Ideal) x0 x28 = val_main_v226 (F := Ideal) x0 x28 := by
  unfold out0_65
  simp only [store15, load15, k0_pay83, total]
  rfl

theorem out32 (x0 : Vec Ideal S8x48x1024 .f32) (x1 : Vec Ideal S1x128 .f32) : out0_32 (F := Ideal) x0 x1 = val_main_v14 (F := Ideal) x0 x1 := by
  unfold out0_32
  simp only [k0_pay34, k0_pay85, k0_pay35, k0_pay36, k0_pay37, k0_pay38, k0_pay39, k0_pay40, k0_pay41, store20, load20, total, own3, flat3, unflat3]
  rfl

theorem out41 (x0 : Vec Ideal S8x48x1024 .f32) (x1 : Vec Ideal S1x128 .f32) (x4 : Vec Ideal S1x3x256 .f32) (x13 : Vec Ideal S1x3x256 .f32) (x22 : Vec Ideal S1x3x256 .f32) : out0_41 (F := Ideal) x0 x1 x4 x13 x22 = val_main_v95 (F := Ideal) x0 x1 x4 x13 x22 := by
  unfold out0_41
  simp only [k0_pay34, k0_pay85, k0_pay35, k0_pay36, k0_pay37, k0_pay38, k0_pay39, k0_pay40, k0_pay41, store20, load20, total, own3, flat3, unflat3]
  simp only [val_main_v95, val_main_v94, val_main_cst_29, val_main_v93, val_main_v90, val_main_v84, val_main_v76, val_main_v73, val_main_v72, val_main_cst_21, val_main_v75, val_main_v74, val_main_cst_22, val_main_v83, val_main_cst_25, val_main_v89, val_main_v87, val_main_v86, val_main_v82, val_main_v78, val_main_v77, val_main_cst_23, val_main_v81, val_main_v80, val_main_cst_24, val_main_v79, val_main_v85, val_main_cst_26, val_main_v88, val_main_cst_27, val_main_v92, val_main_v91, val_main_cst_28, up3]
  funext i
  rw [split3 i]
  rfl

theorem out50 (x0 : Vec Ideal S8x48x1024 .f32) (x1 : Vec Ideal S1x128 .f32) (x13 : Vec Ideal S1x3x256 .f32) : out0_50 (F := Ideal) x0 x1 x13 = val_main_v76 (F := Ideal) x0 x1 x13 := by
  unfold out0_50
  simp only [k0_pay34, k0_pay85, k0_pay35, k0_pay36, k0_pay37, k0_pay38, k0_pay39, k0_pay40, k0_pay41, store20, load20, total, own3, flat3, unflat3]
  simp only [val_main_v76, val_main_v73, val_main_v72, val_main_cst_21, val_main_v75, val_main_v74, val_main_cst_22, up3]
  funext i
  rw [split3 i]
  rfl

theorem out59 (x0 : Vec Ideal S8x48x1024 .f32) (x1 : Vec Ideal S1x128 .f32) (x22 : Vec Ideal S1x3x256 .f32) : out0_59 (F := Ideal) x0 x1 x22 = val_main_v82 (F := Ideal) x0 x1 x22 := by
  unfold out0_59
  simp only [k0_pay34, k0_pay85, k0_pay35, k0_pay36, k0_pay37, k0_pay38, k0_pay39, k0_pay40, k0_pay41, store20, load20, total, own3, flat3, unflat3]
  simp only [val_main_v82, val_main_v78, val_main_v77, val_main_cst_23, val_main_v81, val_main_v80, val_main_cst_24, val_main_v79, up3]
  funext i
  rw [split3 i]
  rfl

theorem out33 (x0 : Vec Ideal S8x48x1024 .f32) (x1 : Vec Ideal S1x128 .f32) : out0_33 (F := Ideal) x0 x1 = val_main_v18 (F := Ideal) x0 x1 := by
  unfold out0_33
  simp only [k0_pay44, k0_pay45, k0_pay46, k0_pay47, k0_pay48, k0_pay49, k0_pay50, store21, load21, total, own31, flat31, unflat31]
  rfl

theorem out42 (x0 : Vec Ideal S8x48x1024 .f32) (x1 : Vec Ideal S1x128 .f32) (x5 : Vec Ideal S1x31x256 .f32) (x14 : Vec Ideal S1x31x256 .f32) (x23 : Vec Ideal S1x31x256 .f32) : out0_42 (F := Ideal) x0 x1 x5 x14 x23 = val_main_v119 (F := Ideal) x0 x1 x5 x14 x23 := by
  unfold out0_42
  simp only [k0_pay44, k0_pay45, k0_pay46, k0_pay47, k0_pay48, k0_pay49, k0_pay50, store21, load21, total, own31, flat31, unflat31]
  simp only [val_main_v119, val_main_v118, val_main_cst_38, val_main_v117, val_main_v114, val_main_v108, val_main_v100, val_main_v97, val_main_v96, val_main_cst_30, val_main_v99, val_main_v98, val_main_cst_31, val_main_v107, val_main_cst_34, val_main_v113, val_main_v111, val_main_v110, val_main_v106, val_main_v102, val_main_v101, val_main_cst_32, val_main_v105, val_main_v104, val_main_cst_33, val_main_v103, val_main_v109, val_main_cst_35, val_main_v112, val_main_cst_36, val_main_v116, val_main_v115, val_main_cst_37, up31]
  funext i
  rw [split31 i]
  rfl

theorem out51 (x0 : Vec Ideal S8x48x1024 .f32) (x1 : Vec Ideal S1x128 .f32) (x14 : Vec Ideal S1x31x256 .f32) : out0_51 (F := Ideal) x0 x1 x14 = val_main_v100 (F := Ideal) x0 x1 x14 := by
  unfold out0_51
  simp only [k0_pay44, k0_pay45, k0_pay46, k0_pay47, k0_pay48, k0_pay49, k0_pay50, store21, load21, total, own31, flat31, unflat31]
  simp only [val_main_v100, val_main_v97, val_main_v96, val_main_cst_30, val_main_v99, val_main_v98, val_main_cst_31, up31]
  funext i
  rw [split31 i]
  rfl

theorem out60 (x0 : Vec Ideal S8x48x1024 .f32) (x1 : Vec Ideal S1x128 .f32) (x23 : Vec Ideal S1x31x256 .f32) : out0_60 (F := Ideal) x0 x1 x23 = val_main_v106 (F := Ideal) x0 x1 x23 := by
  unfold out0_60
  simp only [k0_pay44, k0_pay45, k0_pay46, k0_pay47, k0_pay48, k0_pay49, k0_pay50, store21, load21, total, own31, flat31, unflat31]
  simp only [val_main_v106, val_main_v102, val_main_v101, val_main_cst_32, val_main_v105, val_main_v104, val_main_cst_33, val_main_v103, up31]
  funext i
  rw [split31 i]
  rfl

theorem piece0 (x0 : Vec Ideal S8x48x1024 .f32) (x : S1x1024.Idx) : k0_pay4 (F := Ideal) (val_main_v0 x0) x = val_main_v9 (F := Ideal) x0 (r0_9.idx x) := by
  have e0 : ((r0_9.idx x) 0).val = 0 + 1 * (x 0).val := rfl
  have e1 : ((r0_9.idx x) 1).val = 0 + 1 * (x 1).val := rfl
  have hx0 : (x 0).val < 1 := (x 0).isLt
  have hx1 : (x 1).val < 1024 := (x 1).isLt
  generalize r0_9.idx x = y at e0 e1 ⊢
  rw [val_main_v9_apply, val_main_v8_apply]
  unfold k0_pay4
  refine extractStridedSlice_apply _ _ _ x _ fun a => ?_
  match a with
  | ⟨0, _⟩ =>
    show ((y 0).val * 6144 + (y 1).val) / 1024 = 0 + (x 0).val
    omega
  | ⟨1, _⟩ =>
    show ((y 0).val * 6144 + (y 1).val) % 1024 = 0 + (x 1).val
    omega

theorem piece1 (x0 : Vec Ideal S8x48x1024 .f32) (x : S1x1024.Idx) : k0_pay8 (F := Ideal) (val_main_v0 x0) x = val_main_v9 (F := Ideal) x0 (r0_10.idx x) := by
  have e0 : ((r0_10.idx x) 0).val = 0 + 1 * (x 0).val := rfl
  have e1 : ((r0_10.idx x) 1).val = 1024 + 1 * (x 1).val := rfl
  have hx0 : (x 0).val < 1 := (x 0).isLt
  have hx1 : (x 1).val < 1024 := (x 1).isLt
  generalize r0_10.idx x = y at e0 e1 ⊢
  rw [val_main_v9_apply, val_main_v8_apply]
  unfold k0_pay8
  refine extractStridedSlice_apply _ _ _ x _ fun a => ?_
  match a with
  | ⟨0, _⟩ =>
    show ((y 0).val * 6144 + (y 1).val) / 1024 = 1 + (x 0).val
    omega
  | ⟨1, _⟩ =>
    show ((y 0).val * 6144 + (y 1).val) % 1024 = 0 + (x 1).val
    omega

theorem piece2 (x0 : Vec Ideal S8x48x1024 .f32) (x : S1x1024.Idx) : k0_pay12 (F := Ideal) (val_main_v0 x0) x = val_main_v9 (F := Ideal) x0 (r0_11.idx x) := by
  have e0 : ((r0_11.idx x) 0).val = 0 + 1 * (x 0).val := rfl
  have e1 : ((r0_11.idx x) 1).val = 2048 + 1 * (x 1).val := rfl
  have hx0 : (x 0).val < 1 := (x 0).isLt
  have hx1 : (x 1).val < 1024 := (x 1).isLt
  generalize r0_11.idx x = y at e0 e1 ⊢
  rw [val_main_v9_apply, val_main_v8_apply]
  unfold k0_pay12
  refine extractStridedSlice_apply _ _ _ x _ fun a => ?_
  match a with
  | ⟨0, _⟩ =>
    show ((y 0).val * 6144 + (y 1).val) / 1024 = 2 + (x 0).val
    omega
  | ⟨1, _⟩ =>
    show ((y 0).val * 6144 + (y 1).val) % 1024 = 0 + (x 1).val
    omega

theorem piece3 (x0 : Vec Ideal S8x48x1024 .f32) (x : S1x1024.Idx) : k0_pay16 (F := Ideal) (val_main_v0 x0) x = val_main_v9 (F := Ideal) x0 (r0_12.idx x) := by
  have e0 : ((r0_12.idx x) 0).val = 0 + 1 * (x 0).val := rfl
  have e1 : ((r0_12.idx x) 1).val = 3072 + 1 * (x 1).val := rfl
  have hx0 : (x 0).val < 1 := (x 0).isLt
  have hx1 : (x 1).val < 1024 := (x 1).isLt
  generalize r0_12.idx x = y at e0 e1 ⊢
  rw [val_main_v9_apply, val_main_v8_apply]
  unfold k0_pay16
  refine extractStridedSlice_apply _ _ _ x _ fun a => ?_
  match a with
  | ⟨0, _⟩ =>
    show ((y 0).val * 6144 + (y 1).val) / 1024 = 3 + (x 0).val
    omega
  | ⟨1, _⟩ =>
    show ((y 0).val * 6144 + (y 1).val) % 1024 = 0 + (x 1).val
    omega

theorem piece4 (x0 : Vec Ideal S8x48x1024 .f32) (x : S1x1024.Idx) : k0_pay20 (F := Ideal) (val_main_v0 x0) x = val_main_v9 (F := Ideal) x0 (r0_13.idx x) := by
  have e0 : ((r0_13.idx x) 0).val = 0 + 1 * (x 0).val := rfl
  have e1 : ((r0_13.idx x) 1).val = 4096 + 1 * (x 1).val := rfl
  have hx0 : (x 0).val < 1 := (x 0).isLt
  have hx1 : (x 1).val < 1024 := (x 1).isLt
  generalize r0_13.idx x = y at e0 e1 ⊢
  rw [val_main_v9_apply, val_main_v8_apply]
  unfold k0_pay20
  refine extractStridedSlice_apply _ _ _ x _ fun a => ?_
  match a with
  | ⟨0, _⟩ =>
    show ((y 0).val * 6144 + (y 1).val) / 1024 = 4 + (x 0).val
    omega
  | ⟨1, _⟩ =>
    show ((y 0).val * 6144 + (y 1).val) % 1024 = 0 + (x 1).val
    omega

theorem piece5 (x0 : Vec Ideal S8x48x1024 .f32) (x : S1x1024.Idx) : k0_pay24 (F := Ideal) (val_main_v0 x0) x = val_main_v9 (F := Ideal) x0 (r0_14.idx x) := by
  have e0 : ((r0_14.idx x) 0).val = 0 + 1 * (x 0).val := rfl
  have e1 : ((r0_14.idx x) 1).val = 5120 + 1 * (x 1).val := rfl
  have hx0 : (x 0).val < 1 := (x 0).isLt
  have hx1 : (x 1).val < 1024 := (x 1).isLt
  generalize r0_14.idx x = y at e0 e1 ⊢
  rw [val_main_v9_apply, val_main_v8_apply]
  unfold k0_pay24
  refine extractStridedSlice_apply _ _ _ x _ fun a => ?_
  match a with
  | ⟨0, _⟩ =>
    show ((y 0).val * 6144 + (y 1).val) / 1024 = 5 + (x 0).val
    omega
  | ⟨1, _⟩ =>
    show ((y 0).val * 6144 + (y 1).val) % 1024 = 0 + (x 1).val
    omega

theorem out30 (x0 : Vec Ideal S8x48x1024 .f32) : out0_30 (F := Ideal) x0 = val_main_v9 (F := Ideal) x0 := by
  unfold out0_30
  simp only [k0_pay81, k0_pay82, total]
  funext y
  refine View.canon_apply_of_pieces (val_main_v9 (F := Ideal) x0) _ (fun p hp => ?_) y (View.cover_of_tiled (s := S1x6144) _ S1x1024.size (by rfl) y)
  simp only [List.mem_cons, List.not_mem_nil, or_false] at hp
  rcases hp with rfl | rfl | rfl | rfl | rfl | rfl
  · exact fun x => piece5 x0 x
  · exact fun x => piece4 x0 x
  · exact fun x => piece3 x0 x
  · exact fun x => piece2 x0 x
  · exact fun x => piece1 x0 x
  · exact fun x => piece0 x0 x

theorem out39 (x0 : Vec Ideal S8x48x1024 .f32) (x2 : Vec Ideal S1x6144 .f32) (x11 : Vec Ideal S1x6144 .f32) (x20 : Vec Ideal S1x6144 .f32) : out0_39 (F := Ideal) x0 x2 x11 x20 = val_main_v47 (F := Ideal) x0 x2 x11 x20 := by
  unfold out0_39
  simp only [k0_pay81, k0_pay82, total]
  funext y
  refine View.canon_apply_of_pieces (val_main_v47 (F := Ideal) x0 x2 x11 x20) _ (fun p hp => ?_) y (View.cover_of_tiled (s := S1x6144) _ S1x1024.size (by rfl) y)
  simp only [List.mem_cons, List.not_mem_nil, or_false] at hp
  rcases hp with rfl | rfl | rfl | rfl | rfl | rfl
  · intro x
    show Adam.delta (x2 (r0_14.idx x)) (k0_pay24 (F := Ideal) (val_main_v0 x0) x) (x11 (r0_14.idx x)) (x20 (r0_14.idx x)) = Adam.delta (x2 (r0_14.idx x)) (val_main_v9 (F := Ideal) x0 (r0_14.idx x)) (x11 (r0_14.idx x)) (x20 (r0_14.idx x))
    rw [piece5]
  · intro x
    show Adam.delta (x2 (r0_13.idx x)) (k0_pay20 (F := Ideal) (val_main_v0 x0) x) (x11 (r0_13.idx x)) (x20 (r0_13.idx x)) = Adam.delta (x2 (r0_13.idx x)) (val_main_v9 (F := Ideal) x0 (r0_13.idx x)) (x11 (r0_13.idx x)) (x20 (r0_13.idx x))
    rw [piece4]
  · intro x
    show Adam.delta (x2 (r0_12.idx x)) (k0_pay16 (F := Ideal) (val_main_v0 x0) x) (x11 (r0_12.idx x)) (x20 (r0_12.idx x)) = Adam.delta (x2 (r0_12.idx x)) (val_main_v9 (F := Ideal) x0 (r0_12.idx x)) (x11 (r0_12.idx x)) (x20 (r0_12.idx x))
    rw [piece3]
  · intro x
    show Adam.delta (x2 (r0_11.idx x)) (k0_pay12 (F := Ideal) (val_main_v0 x0) x) (x11 (r0_11.idx x)) (x20 (r0_11.idx x)) = Adam.delta (x2 (r0_11.idx x)) (val_main_v9 (F := Ideal) x0 (r0_11.idx x)) (x11 (r0_11.idx x)) (x20 (r0_11.idx x))
    rw [piece2]
  · intro x
    show Adam.delta (x2 (r0_10.idx x)) (k0_pay8 (F := Ideal) (val_main_v0 x0) x) (x11 (r0_10.idx x)) (x20 (r0_10.idx x)) = Adam.delta (x2 (r0_10.idx x)) (val_main_v9 (F := Ideal) x0 (r0_10.idx x)) (x11 (r0_10.idx x)) (x20 (r0_10.idx x))
    rw [piece1]
  · intro x
    show Adam.delta (x2 (r0_9.idx x)) (k0_pay4 (F := Ideal) (val_main_v0 x0) x) (x11 (r0_9.idx x)) (x20 (r0_9.idx x)) = Adam.delta (x2 (r0_9.idx x)) (val_main_v9 (F := Ideal) x0 (r0_9.idx x)) (x11 (r0_9.idx x)) (x20 (r0_9.idx x))
    rw [piece0]

theorem out48 (x0 : Vec Ideal S8x48x1024 .f32) (x11 : Vec Ideal S1x6144 .f32) : out0_48 (F := Ideal) x0 x11 = val_main_v28 (F := Ideal) x0 x11 := by
  unfold out0_48
  simp only [k0_pay81, k0_pay82, total]
  funext y
  refine View.canon_apply_of_pieces (val_main_v28 (F := Ideal) x0 x11) _ (fun p hp => ?_) y (View.cover_of_tiled (s := S1x6144) _ S1x1024.size (by rfl) y)
  simp only [List.mem_cons, List.not_mem_nil, or_false] at hp
  rcases hp with rfl | rfl | rfl | rfl | rfl | rfl
  · intro x
    show Adam.newM (k0_pay24 (F := Ideal) (val_main_v0 x0) x) (x11 (r0_14.idx x)) = Adam.newM (val_main_v9 (F := Ideal) x0 (r0_14.idx x)) (x11 (r0_14.idx x))
    rw [piece5]
  · intro x
    show Adam.newM (k0_pay20 (F := Ideal) (val_main_v0 x0) x) (x11 (r0_13.idx x)) = Adam.newM (val_main_v9 (F := Ideal) x0 (r0_13.idx x)) (x11 (r0_13.idx x))
    rw [piece4]
  · intro x
    show Adam.newM (k0_pay16 (F := Ideal) (val_main_v0 x0) x) (x11 (r0_12.idx x)) = Adam.newM (val_main_v9 (F := Ideal) x0 (r0_12.idx x)) (x11 (r0_12.idx x))
    rw [piece3]
  · intro x
    show Adam.newM (k0_pay12 (F := Ideal) (val_main_v0 x0) x) (x11 (r0_11.idx x)) = Adam.newM (val_main_v9 (F := Ideal) x0 (r0_11.idx x)) (x11 (r0_11.idx x))
    rw [piece2]
  · intro x
    show Adam.newM (k0_pay8 (F := Ideal) (val_main_v0 x0) x) (x11 (r0_10.idx x)) = Adam.newM (val_main_v9 (F := Ideal) x0 (r0_10.idx x)) (x11 (r0_10.idx x))
    rw [piece1]
  · intro x
    show Adam.newM (k0_pay4 (F := Ideal) (val_main_v0 x0) x) (x11 (r0_9.idx x)) = Adam.newM (val_main_v9 (F := Ideal) x0 (r0_9.idx x)) (x11 (r0_9.idx x))
    rw [piece0]

theorem out57 (x0 : Vec Ideal S8x48x1024 .f32) (x20 : Vec Ideal S1x6144 .f32) : out0_57 (F := Ideal) x0 x20 = val_main_v34 (F := Ideal) x0 x20 := by
  unfold out0_57
  simp only [k0_pay81, k0_pay82, total]
  funext y
  refine View.canon_apply_of_pieces (val_main_v34 (F := Ideal) x0 x20) _ (fun p hp => ?_) y (View.cover_of_tiled (s := S1x6144) _ S1x1024.size (by rfl) y)
  simp only [List.mem_cons, List.not_mem_nil, or_false] at hp
  rcases hp with rfl | rfl | rfl | rfl | rfl | rfl
  · intro x
    show Adam.newV (k0_pay24 (F := Ideal) (val_main_v0 x0) x) (x20 (r0_14.idx x)) = Adam.newV (val_main_v9 (F := Ideal) x0 (r0_14.idx x)) (x20 (r0_14.idx x))
    rw [piece5]
  · intro x
    show Adam.newV (k0_pay20 (F := Ideal) (val_main_v0 x0) x) (x20 (r0_13.idx x)) = Adam.newV (val_main_v9 (F := Ideal) x0 (r0_13.idx x)) (x20 (r0_13.idx x))
    rw [piece4]
  · intro x
    show Adam.newV (k0_pay16 (F := Ideal) (val_main_v0 x0) x) (x20 (r0_12.idx x)) = Adam.newV (val_main_v9 (F := Ideal) x0 (r0_12.idx x)) (x20 (r0_12.idx x))
    rw [piece3]
  · intro x
    show Adam.newV (k0_pay12 (F := Ideal) (val_main_v0 x0) x) (x20 (r0_11.idx x)) = Adam.newV (val_main_v9 (F := Ideal) x0 (r0_11.idx x)) (x20 (r0_11.idx x))
    rw [piece2]
  · intro x
    show Adam.newV (k0_pay8 (F := Ideal) (val_main_v0 x0) x) (x20 (r0_10.idx x)) = Adam.newV (val_main_v9 (F := Ideal) x0 (r0_10.idx x)) (x20 (r0_10.idx x))
    rw [piece1]
  · intro x
    show Adam.newV (k0_pay4 (F := Ideal) (val_main_v0 x0) x) (x20 (r0_9.idx x)) = Adam.newV (val_main_v9 (F := Ideal) x0 (r0_9.idx x)) (x20 (r0_9.idx x))
    rw [piece0]

end Cert.Proof.Small
-- ==== Proof.Small.lean ====
/- The optimiser's step on the small weights and the loss: over the extended reals each of the kernel's 37 arrays is the
   reference's. -/
module

public import proofs.«01_k».proof.Proof.SmallIdeal
public import proofs.«01_k».proof.Proof.SmallRef
public import proofs.«01_k».proof.Proof.Gen.Reference11Ideal.Read
public import proofs.«01_k».proof.Defs
public import Idealize.ShloMosaic.Lib.Pipeline.ValueKit.Geometry
public import Idealize.ShloMosaic.Lib.Claim

@[expose] public section

set_option maxRecDepth 16384

noncomputable section

namespace Cert.Proof.Small

open Cert.Kernel11Ideal Cert.Kernel11Ideal.Gen Cert.Kernel11Ideal.Hand Idealize.ShloMosaic Idealize.ShloMosaic.TcCoe Idealize.SL.Sem
open Cert.Reference11Ideal.Read
open Idealize.ShloMosaic.Pipeline (Dat)

variable (m : (ℓ : Loc nD τ sig) → Buf (Elt Ideal) ℓ)

theorem at0 (t : Fin cfg0.N) (y) : ((cfg0.win 0).blk t).view.emb y = y := by
  funext a
  apply Fin.ext
  have h : win0_0.index t = fun _ => 0 := rfl
  blk_simp [h]

theorem at1 (t : Fin cfg0.N) (y) : ((cfg0.win 1).blk t).view.emb y = y := by
  funext a
  apply Fin.ext
  have h : win0_1.index t = fun _ => 0 := rfl
  blk_simp [h]

theorem at2 (t : Fin cfg0.N) (y) : ((cfg0.win 2).blk t).view.emb y = y := by
  funext a
  apply Fin.ext
  have h : win0_2.index t = fun _ => 0 := rfl
  blk_simp [h]

theorem at3 (t : Fin cfg0.N) (y) : ((cfg0.win 3).blk t).view.emb y = y := by
  funext a
  apply Fin.ext
  have h : win0_3.index t = fun _ => 0 := rfl
  blk_simp [h]

theorem at4 (t : Fin cfg0.N) (y) : ((cfg0.win 4).blk t).view.emb y = y := by
  funext a
  apply Fin.ext
  have h : win0_4.index t = fun _ => 0 := rfl
  blk_simp [h]

theorem at5 (t : Fin cfg0.N) (y) : ((cfg0.win 5).blk t).view.emb y = y := by
  funext a
  apply Fin.ext
  have h : win0_5.index t = fun _ => 0 := rfl
  blk_simp [h]

theorem at6 (t : Fin cfg0.N) (y) : ((cfg0.win 6).blk t).view.emb y = y := by
  funext a
  apply Fin.ext
  have h : win0_6.index t = fun _ => 0 := rfl
  blk_simp [h]

theorem at7 (t : Fin cfg0.N) (y) : ((cfg0.win 7).blk t).view.emb y = y := by
  funext a
  apply Fin.ext
  have h : win0_7.index t = fun _ => 0 := rfl
  blk_simp [h]

theorem at8 (t : Fin cfg0.N) (y) : ((cfg0.win 8).blk t).view.emb y = y := by
  funext a
  apply Fin.ext
  have h : win0_8.index t = fun _ => 0 := rfl
  blk_simp [h]

theorem at9 (t : Fin cfg0.N) (y) : ((cfg0.win 9).blk t).view.emb y = y := by
  funext a
  apply Fin.ext
  have h : win0_9.index t = fun _ => 0 := rfl
  blk_simp [h]

theorem at10 (t : Fin cfg0.N) (y) : ((cfg0.win 10).blk t).view.emb y = y := by
  funext a
  apply Fin.ext
  have h : win0_10.index t = fun _ => 0 := rfl
  blk_simp [h]

theorem at11 (t : Fin cfg0.N) (y) : ((cfg0.win 11).blk t).view.emb y = y := by
  funext a
  apply Fin.ext
  have h : win0_11.index t = fun _ => 0 := rfl
  blk_simp [h]

theorem at12 (t : Fin cfg0.N) (y) : ((cfg0.win 12).blk t).view.emb y = y := by
  funext a
  apply Fin.ext
  have h : win0_12.index t = fun _ => 0 := rfl
  blk_simp [h]

theorem at13 (t : Fin cfg0.N) (y) : ((cfg0.win 13).blk t).view.emb y = y := by
  funext a
  apply Fin.ext
  have h : win0_13.index t = fun _ => 0 := rfl
  blk_simp [h]

theorem at14 (t : Fin cfg0.N) (y) : ((cfg0.win 14).blk t).view.emb y = y := by
  funext a
  apply Fin.ext
  have h : win0_14.index t = fun _ => 0 := rfl
  blk_simp [h]

theorem at15 (t : Fin cfg0.N) (y) : ((cfg0.win 15).blk t).view.emb y = y := by
  funext a
  apply Fin.ext
  have h : win0_15.index t = fun _ => 0 := rfl
  blk_simp [h]

theorem at16 (t : Fin cfg0.N) (y) : ((cfg0.win 16).blk t).view.emb y = y := by
  funext a
  apply Fin.ext
  have h : win0_16.index t = fun _ => 0 := rfl
  blk_simp [h]

theorem at17 (t : Fin cfg0.N) (y) : ((cfg0.win 17).blk t).view.emb y = y := by
  funext a
  apply Fin.ext
  have h : win0_17.index t = fun _ => 0 := rfl
  blk_simp [h]

theorem at18 (t : Fin cfg0.N) (y) : ((cfg0.win 18).blk t).view.emb y = y := by
  funext a
  apply Fin.ext
  have h : win0_18.index t = fun _ => 0 := rfl
  blk_simp [h]

theorem at19 (t : Fin cfg0.N) (y) : ((cfg0.win 19).blk t).view.emb y = y := by
  funext a
  apply Fin.ext
  have h : win0_19.index t = fun _ => 0 := rfl
  blk_simp [h]

theorem at20 (t : Fin cfg0.N) (y) : ((cfg0.win 20).blk t).view.emb y = y := by
  funext a
  apply Fin.ext
  have h : win0_20.index t = fun _ => 0 := rfl
  blk_simp [h]

theorem at21 (t : Fin cfg0.N) (y) : ((cfg0.win 21).blk t).view.emb y = y := by
  funext a
  apply Fin.ext
  have h : win0_21.index t = fun _ => 0 := rfl
  blk_simp [h]

theorem at22 (t : Fin cfg0.N) (y) : ((cfg0.win 22).blk t).view.emb y = y := by
  funext a
  apply Fin.ext
  have h : win0_22.index t = fun _ => 0 := rfl
  blk_simp [h]

theorem at23 (t : Fin cfg0.N) (y) : ((cfg0.win 23).blk t).view.emb y = y := by
  funext a
  apply Fin.ext
  have h : win0_23.index t = fun _ => 0 := rfl
  blk_simp [h]

theorem at24 (t : Fin cfg0.N) (y) : ((cfg0.win 24).blk t).view.emb y = y := by
  funext a
  apply Fin.ext
  have h : win0_24.index t = fun _ => 0 := rfl
  blk_simp [h]

theorem at25 (t : Fin cfg0.N) (y) : ((cfg0.win 25).blk t).view.emb y = y := by
  funext a
  apply Fin.ext
  have h : win0_25.index t = fun _ => 0 := rfl
  blk_simp [h]

theorem at26 (t : Fin cfg0.N) (y) : ((cfg0.win 26).blk t).view.emb y = y := by
  funext a
  apply Fin.ext
  have h : win0_26.index t = fun _ => 0 := rfl
  blk_simp [h]

theorem at27 (t : Fin cfg0.N) (y) : ((cfg0.win 27).blk t).view.emb y = y := by
  funext a
  apply Fin.ext
  have h : win0_27.index t = fun _ => 0 := rfl
  blk_simp [h]

theorem at28 (t : Fin cfg0.N) (y) : ((cfg0.win 28).blk t).view.emb y = y := by
  funext a
  apply Fin.ext
  have h : win0_28.index t = fun _ => 0 := rfl
  blk_simp [h]

theorem at29 (t : Fin cfg0.N) (y) : ((cfg0.win 29).blk t).view.emb y = y := by
  funext a
  apply Fin.ext
  have h : win0_29.index t = fun _ => 0 := rfl
  blk_simp [h]

theorem at30 (t : Fin cfg0.N) (y) : ((cfg0.win 30).blk t).view.emb y = y := by
  funext a
  apply Fin.ext
  have h : win0_30.index t = fun _ => 0 := rfl
  blk_simp [h]

theorem at31 (t : Fin cfg0.N) (y) : ((cfg0.win 31).blk t).view.emb y = y := by
  funext a
  apply Fin.ext
  have h : win0_31.index t = fun _ => 0 := rfl
  blk_simp [h]

theorem at32 (t : Fin cfg0.N) (y) : ((cfg0.win 32).blk t).view.emb y = y := by
  funext a
  apply Fin.ext
  have h : win0_32.index t = fun _ => 0 := rfl
  blk_simp [h]

theorem at33 (t : Fin cfg0.N) (y) : ((cfg0.win 33).blk t).view.emb y = y := by
  funext a
  apply Fin.ext
  have h : win0_33.index t = fun _ => 0 := rfl
  blk_simp [h]

theorem at34 (t : Fin cfg0.N) (y) : ((cfg0.win 34).blk t).view.emb y = y := by
  funext a
  apply Fin.ext
  have h : win0_34.index t = fun _ => 0 := rfl
  blk_simp [h]

theorem at35 (t : Fin cfg0.N) (y) : ((cfg0.win 35).blk t).view.emb y = y := by
  funext a
  apply Fin.ext
  have h : win0_35.index t = fun _ => 0 := rfl
  blk_simp [h]

theorem at36 (t : Fin cfg0.N) (y) : ((cfg0.win 36).blk t).view.emb y = y := by
  funext a
  apply Fin.ext
  have h : win0_36.index t = fun _ => 0 := rfl
  blk_simp [h]

theorem at37 (t : Fin cfg0.N) (y) : ((cfg0.win 37).blk t).view.emb y = y := by
  funext a
  apply Fin.ext
  have h : win0_37.index t = fun _ => 0 := rfl
  blk_simp [h]

theorem at38 (t : Fin cfg0.N) (y) : ((cfg0.win 38).blk t).view.emb y = y := by
  funext a
  apply Fin.ext
  have h : win0_38.index t = fun _ => 0 := rfl
  blk_simp [h]

theorem at39 (t : Fin cfg0.N) (y) : ((cfg0.win 39).blk t).view.emb y = y := by
  funext a
  apply Fin.ext
  have h : win0_39.index t = fun _ => 0 := rfl
  blk_simp [h]

theorem at40 (t : Fin cfg0.N) (y) : ((cfg0.win 40).blk t).view.emb y = y := by
  funext a
  apply Fin.ext
  have h : win0_40.index t = fun _ => 0 := rfl
  blk_simp [h]

theorem at41 (t : Fin cfg0.N) (y) : ((cfg0.win 41).blk t).view.emb y = y := by
  funext a
  apply Fin.ext
  have h : win0_41.index t = fun _ => 0 := rfl
  blk_simp [h]

theorem at42 (t : Fin cfg0.N) (y) : ((cfg0.win 42).blk t).view.emb y = y := by
  funext a
  apply Fin.ext
  have h : win0_42.index t = fun _ => 0 := rfl
  blk_simp [h]

theorem at43 (t : Fin cfg0.N) (y) : ((cfg0.win 43).blk t).view.emb y = y := by
  funext a
  apply Fin.ext
  have h : win0_43.index t = fun _ => 0 := rfl
  blk_simp [h]

theorem at44 (t : Fin cfg0.N) (y) : ((cfg0.win 44).blk t).view.emb y = y := by
  funext a
  apply Fin.ext
  have h : win0_44.index t = fun _ => 0 := rfl
  blk_simp [h]

theorem at45 (t : Fin cfg0.N) (y) : ((cfg0.win 45).blk t).view.emb y = y := by
  funext a
  apply Fin.ext
  have h : win0_45.index t = fun _ => 0 := rfl
  blk_simp [h]

theorem at46 (t : Fin cfg0.N) (y) : ((cfg0.win 46).blk t).view.emb y = y := by
  funext a
  apply Fin.ext
  have h : win0_46.index t = fun _ => 0 := rfl
  blk_simp [h]

theorem at47 (t : Fin cfg0.N) (y) : ((cfg0.win 47).blk t).view.emb y = y := by
  funext a
  apply Fin.ext
  have h : win0_47.index t = fun _ => 0 := rfl
  blk_simp [h]

theorem at48 (t : Fin cfg0.N) (y) : ((cfg0.win 48).blk t).view.emb y = y := by
  funext a
  apply Fin.ext
  have h : win0_48.index t = fun _ => 0 := rfl
  blk_simp [h]

theorem at49 (t : Fin cfg0.N) (y) : ((cfg0.win 49).blk t).view.emb y = y := by
  funext a
  apply Fin.ext
  have h : win0_49.index t = fun _ => 0 := rfl
  blk_simp [h]

theorem at50 (t : Fin cfg0.N) (y) : ((cfg0.win 50).blk t).view.emb y = y := by
  funext a
  apply Fin.ext
  have h : win0_50.index t = fun _ => 0 := rfl
  blk_simp [h]

theorem at51 (t : Fin cfg0.N) (y) : ((cfg0.win 51).blk t).view.emb y = y := by
  funext a
  apply Fin.ext
  have h : win0_51.index t = fun _ => 0 := rfl
  blk_simp [h]

theorem at52 (t : Fin cfg0.N) (y) : ((cfg0.win 52).blk t).view.emb y = y := by
  funext a
  apply Fin.ext
  have h : win0_52.index t = fun _ => 0 := rfl
  blk_simp [h]

theorem at53 (t : Fin cfg0.N) (y) : ((cfg0.win 53).blk t).view.emb y = y := by
  funext a
  apply Fin.ext
  have h : win0_53.index t = fun _ => 0 := rfl
  blk_simp [h]

theorem at54 (t : Fin cfg0.N) (y) : ((cfg0.win 54).blk t).view.emb y = y := by
  funext a
  apply Fin.ext
  have h : win0_54.index t = fun _ => 0 := rfl
  blk_simp [h]

theorem at55 (t : Fin cfg0.N) (y) : ((cfg0.win 55).blk t).view.emb y = y := by
  funext a
  apply Fin.ext
  have h : win0_55.index t = fun _ => 0 := rfl
  blk_simp [h]

theorem at56 (t : Fin cfg0.N) (y) : ((cfg0.win 56).blk t).view.emb y = y := by
  funext a
  apply Fin.ext
  have h : win0_56.index t = fun _ => 0 := rfl
  blk_simp [h]

theorem at57 (t : Fin cfg0.N) (y) : ((cfg0.win 57).blk t).view.emb y = y := by
  funext a
  apply Fin.ext
  have h : win0_57.index t = fun _ => 0 := rfl
  blk_simp [h]

theorem at58 (t : Fin cfg0.N) (y) : ((cfg0.win 58).blk t).view.emb y = y := by
  funext a
  apply Fin.ext
  have h : win0_58.index t = fun _ => 0 := rfl
  blk_simp [h]

theorem at59 (t : Fin cfg0.N) (y) : ((cfg0.win 59).blk t).view.emb y = y := by
  funext a
  apply Fin.ext
  have h : win0_59.index t = fun _ => 0 := rfl
  blk_simp [h]

theorem at60 (t : Fin cfg0.N) (y) : ((cfg0.win 60).blk t).view.emb y = y := by
  funext a
  apply Fin.ext
  have h : win0_60.index t = fun _ => 0 := rfl
  blk_simp [h]

theorem at61 (t : Fin cfg0.N) (y) : ((cfg0.win 61).blk t).view.emb y = y := by
  funext a
  apply Fin.ext
  have h : win0_61.index t = fun _ => 0 := rfl
  blk_simp [h]

theorem at62 (t : Fin cfg0.N) (y) : ((cfg0.win 62).blk t).view.emb y = y := by
  funext a
  apply Fin.ext
  have h : win0_62.index t = fun _ => 0 := rfl
  blk_simp [h]

theorem at63 (t : Fin cfg0.N) (y) : ((cfg0.win 63).blk t).view.emb y = y := by
  funext a
  apply Fin.ext
  have h : win0_63.index t = fun _ => 0 := rfl
  blk_simp [h]

theorem at64 (t : Fin cfg0.N) (y) : ((cfg0.win 64).blk t).view.emb y = y := by
  funext a
  apply Fin.ext
  have h : win0_64.index t = fun _ => 0 := rfl
  blk_simp [h]

theorem at65 (t : Fin cfg0.N) (y) : ((cfg0.win 65).blk t).view.emb y = y := by
  funext a
  apply Fin.ext
  have h : win0_65.index t = fun _ => 0 := rfl
  blk_simp [h]

theorem blk0 (c : Dev nD) (t : Fin cfg0.N) : iblk m c 0 t = V m c main_arg0 :=
  funext fun y => congrArg (V m c main_arg0) (at0 t y)

theorem blk1 (c : Dev nD) (t : Fin cfg0.N) : iblk m c 1 t = V m c main_arg1 :=
  funext fun y => congrArg (V m c main_arg1) (at1 t y)

theorem blk2 (c : Dev nD) (t : Fin cfg0.N) : iblk m c 2 t = V m c main_arg2 :=
  funext fun y => congrArg (V m c main_arg2) (at2 t y)

theorem blk3 (c : Dev nD) (t : Fin cfg0.N) : iblk m c 3 t = V m c main_arg3 :=
  funext fun y => congrArg (V m c main_arg3) (at3 t y)

theorem blk4 (c : Dev nD) (t : Fin cfg0.N) : iblk m c 4 t = V m c main_arg4 :=
  funext fun y => congrArg (V m c main_arg4) (at4 t y)

theorem blk5 (c : Dev nD) (t : Fin cfg0.N) : iblk m c 5 t = V m c main_arg5 :=
  funext fun y => congrArg (V m c main_arg5) (at5 t y)

theorem blk6 (c : Dev nD) (t : Fin cfg0.N) : iblk m c 6 t = V m c main_arg6 :=
  funext fun y => congrArg (V m c main_arg6) (at6 t y)

theorem blk7 (c : Dev nD) (t : Fin cfg0.N) : iblk m c 7 t = V m c main_arg7 :=
  funext fun y => congrArg (V m c main_arg7) (at7 t y)

theorem blk8 (c : Dev nD) (t : Fin cfg0.N) : iblk m c 8 t = V m c main_arg8 :=
  funext fun y => congrArg (V m c main_arg8) (at8 t y)

theorem blk9 (c : Dev nD) (t : Fin cfg0.N) : iblk m c 9 t = V m c main_arg9 :=
  funext fun y => congrArg (V m c main_arg9) (at9 t y)

theorem blk10 (c : Dev nD) (t : Fin cfg0.N) : iblk m c 10 t = V m c main_arg10 :=
  funext fun y => congrArg (V m c main_arg10) (at10 t y)

theorem blk11 (c : Dev nD) (t : Fin cfg0.N) : iblk m c 11 t = V m c main_arg11 :=
  funext fun y => congrArg (V m c main_arg11) (at11 t y)

theorem blk12 (c : Dev nD) (t : Fin cfg0.N) : iblk m c 12 t = V m c main_arg12 :=
  funext fun y => congrArg (V m c main_arg12) (at12 t y)

theorem blk13 (c : Dev nD) (t : Fin cfg0.N) : iblk m c 13 t = V m c main_arg13 :=
  funext fun y => congrArg (V m c main_arg13) (at13 t y)

theorem blk14 (c : Dev nD) (t : Fin cfg0.N) : iblk m c 14 t = V m c main_arg14 :=
  funext fun y => congrArg (V m c main_arg14) (at14 t y)

theorem blk15 (c : Dev nD) (t : Fin cfg0.N) : iblk m c 15 t = V m c main_arg15 :=
  funext fun y => congrArg (V m c main_arg15) (at15 t y)

theorem blk16 (c : Dev nD) (t : Fin cfg0.N) : iblk m c 16 t = V m c main_arg16 :=
  funext fun y => congrArg (V m c main_arg16) (at16 t y)

theorem blk17 (c : Dev nD) (t : Fin cfg0.N) : iblk m c 17 t = V m c main_arg17 :=
  funext fun y => congrArg (V m c main_arg17) (at17 t y)

theorem blk18 (c : Dev nD) (t : Fin cfg0.N) : iblk m c 18 t = V m c main_arg18 :=
  funext fun y => congrArg (V m c main_arg18) (at18 t y)

theorem blk19 (c : Dev nD) (t : Fin cfg0.N) : iblk m c 19 t = V m c main_arg19 :=
  funext fun y => congrArg (V m c main_arg19) (at19 t y)

theorem blk20 (c : Dev nD) (t : Fin cfg0.N) : iblk m c 20 t = V m c main_arg20 :=
  funext fun y => congrArg (V m c main_arg20) (at20 t y)

theorem blk21 (c : Dev nD) (t : Fin cfg0.N) : iblk m c 21 t = V m c main_arg21 :=
  funext fun y => congrArg (V m c main_arg21) (at21 t y)

theorem blk22 (c : Dev nD) (t : Fin cfg0.N) : iblk m c 22 t = V m c main_arg22 :=
  funext fun y => congrArg (V m c main_arg22) (at22 t y)

theorem blk23 (c : Dev nD) (t : Fin cfg0.N) : iblk m c 23 t = V m c main_arg23 :=
  funext fun y => congrArg (V m c main_arg23) (at23 t y)

theorem blk24 (c : Dev nD) (t : Fin cfg0.N) : iblk m c 24 t = V m c main_arg24 :=
  funext fun y => congrArg (V m c main_arg24) (at24 t y)

theorem blk25 (c : Dev nD) (t : Fin cfg0.N) : iblk m c 25 t = V m c main_arg25 :=
  funext fun y => congrArg (V m c main_arg25) (at25 t y)

theorem blk26 (c : Dev nD) (t : Fin cfg0.N) : iblk m c 26 t = V m c main_arg26 :=
  funext fun y => congrArg (V m c main_arg26) (at26 t y)

theorem blk27 (c : Dev nD) (t : Fin cfg0.N) : iblk m c 27 t = V m c main_arg27 :=
  funext fun y => congrArg (V m c main_arg27) (at27 t y)

theorem blk28 (c : Dev nD) (t : Fin cfg0.N) : iblk m c 28 t = V m c main_arg28 :=
  funext fun y => congrArg (V m c main_arg28) (at28 t y)

theorem final29 (c : Dev nD) : (dats m 0 c).arrAt 29 cfg0.N = val_main_v240 (F := Ideal) (V m c main_arg0) := by
  refine (dats m 0 c).arrAt_eq_of_covers 29 _ (by decide +kernel) fun t hf y => ?_
  rw [at29]
  have h : (dats m 0 c).after 29 t = val_main_v240 (F := Ideal) (V m c main_arg0) := by
    rw [after0_29, out29, blk0]
  exact congrFun h y

theorem final30 (c : Dev nD) : (dats m 0 c).arrAt 30 cfg0.N = val_main_v9 (F := Ideal) (V m c main_arg0) := by
  refine (dats m 0 c).arrAt_eq_of_covers 30 _ (by decide +kernel) fun t hf y => ?_
  rw [at30]
  have h : (dats m 0 c).after 30 t = val_main_v9 (F := Ideal) (V m c main_arg0) := by
    rw [after0_30, out30, blk0]
  exact congrFun h y

theorem final31 (c : Dev nD) : (dats m 0 c).arrAt 31 cfg0.N = val_main_v10 (F := Ideal) (V m c main_arg0) := by
  refine (dats m 0 c).arrAt_eq_of_covers 31 _ (by decide +kernel) fun t hf y => ?_
  rw [at31]
  have h : (dats m 0 c).after 31 t = val_main_v10 (F := Ideal) (V m c main_arg0) := by
    rw [after0_31, out31, blk0]
  exact congrFun h y

theorem final32 (c : Dev nD) : (dats m 0 c).arrAt 32 cfg0.N = val_main_v14 (F := Ideal) (V m c main_arg0) (V m c main_arg1) := by
  refine (dats m 0 c).arrAt_eq_of_covers 32 _ (by decide +kernel) fun t hf y => ?_
  rw [at32]
  have h : (dats m 0 c).after 32 t = val_main_v14 (F := Ideal) (V m c main_arg0) (V m c main_arg1) := by
    rw [after0_32, out32, blk0, blk1]
  exact congrFun h y

theorem final33 (c : Dev nD) : (dats m 0 c).arrAt 33 cfg0.N = val_main_v18 (F := Ideal) (V m c main_arg0) (V m c main_arg1) := by
  refine (dats m 0 c).arrAt_eq_of_covers 33 _ (by decide +kernel) fun t hf y => ?_
  rw [at33]
  have h : (dats m 0 c).after 33 t = val_main_v18 (F := Ideal) (V m c main_arg0) (V m c main_arg1) := by
    rw [after0_33, out33, blk0, blk1]
  exact congrFun h y

theorem final34 (c : Dev nD) : (dats m 0 c).arrAt 34 cfg0.N = val_main_v19 (F := Ideal) (V m c main_arg0) := by
  refine (dats m 0 c).arrAt_eq_of_covers 34 _ (by decide +kernel) fun t hf y => ?_
  rw [at34]
  have h : (dats m 0 c).after 34 t = val_main_v19 (F := Ideal) (V m c main_arg0) := by
    rw [after0_34, out34, blk0]
  exact congrFun h y

theorem final35 (c : Dev nD) : (dats m 0 c).arrAt 35 cfg0.N = val_main_v20 (F := Ideal) (V m c main_arg0) := by
  refine (dats m 0 c).arrAt_eq_of_covers 35 _ (by decide +kernel) fun t hf y => ?_
  rw [at35]
  have h : (dats m 0 c).after 35 t = val_main_v20 (F := Ideal) (V m c main_arg0) := by
    rw [after0_35, out35, blk0]
  exact congrFun h y

theorem final36 (c : Dev nD) : (dats m 0 c).arrAt 36 cfg0.N = val_main_v21 (F := Ideal) (V m c main_arg0) := by
  refine (dats m 0 c).arrAt_eq_of_covers 36 _ (by decide +kernel) fun t hf y => ?_
  rw [at36]
  have h : (dats m 0 c).after 36 t = val_main_v21 (F := Ideal) (V m c main_arg0) := by
    rw [after0_36, out36, blk0]
  exact congrFun h y

theorem final37 (c : Dev nD) : (dats m 0 c).arrAt 37 cfg0.N = val_main_v22 (F := Ideal) (V m c main_arg0) := by
  refine (dats m 0 c).arrAt_eq_of_covers 37 _ (by decide +kernel) fun t hf y => ?_
  rw [at37]
  have h : (dats m 0 c).after 37 t = val_main_v22 (F := Ideal) (V m c main_arg0) := by
    rw [after0_37, out37, blk0]
  exact congrFun h y

theorem final38 (c : Dev nD) : (dats m 0 c).arrAt 38 cfg0.N = val_main_v23 (F := Ideal) (V m c main_arg0) := by
  refine (dats m 0 c).arrAt_eq_of_covers 38 _ (by decide +kernel) fun t hf y => ?_
  rw [at38]
  have h : (dats m 0 c).after 38 t = val_main_v23 (F := Ideal) (V m c main_arg0) := by
    rw [after0_38, out38, blk0]
  exact congrFun h y

theorem final39 (c : Dev nD) : (dats m 0 c).arrAt 39 cfg0.N = val_main_v47 (F := Ideal) (V m c main_arg0) (V m c main_arg2) (V m c main_arg11) (V m c main_arg20) := by
  refine (dats m 0 c).arrAt_eq_of_covers 39 _ (by decide +kernel) fun t hf y => ?_
  rw [at39]
  have h : (dats m 0 c).after 39 t = val_main_v47 (F := Ideal) (V m c main_arg0) (V m c main_arg2) (V m c main_arg11) (V m c main_arg20) := by
    rw [after0_39, out39, blk0, blk2, blk11, blk20]
  exact congrFun h y

theorem final40 (c : Dev nD) : (dats m 0 c).arrAt 40 cfg0.N = val_main_v71 (F := Ideal) (V m c main_arg0) (V m c main_arg3) (V m c main_arg12) (V m c main_arg21) := by
  refine (dats m 0 c).arrAt_eq_of_covers 40 _ (by decide +kernel) fun t hf y => ?_
  rw [at40]
  have h : (dats m 0 c).after 40 t = val_main_v71 (F := Ideal) (V m c main_arg0) (V m c main_arg3) (V m c main_arg12) (V m c main_arg21) := by
    rw [after0_40, out40, blk0, blk3, blk12, blk21]
  exact congrFun h y

theorem final41 (c : Dev nD) : (dats m 0 c).arrAt 41 cfg0.N = val_main_v95 (F := Ideal) (V m c main_arg0) (V m c main_arg1) (V m c main_arg4) (V m c main_arg13) (V m c main_arg22) := by
  refine (dats m 0 c).arrAt_eq_of_covers 41 _ (by decide +kernel) fun t hf y => ?_
  rw [at41]
  have h : (dats m 0 c).after 41 t = val_main_v95 (F := Ideal) (V m c main_arg0) (V m c main_arg1) (V m c main_arg4) (V m c main_arg13) (V m c main_arg22) := by
    rw [after0_41, out41, blk0, blk1, blk4, blk13, blk22]
  exact congrFun h y

theorem final42 (c : Dev nD) : (dats m 0 c).arrAt 42 cfg0.N = val_main_v119 (F := Ideal) (V m c main_arg0) (V m c main_arg1) (V m c main_arg5) (V m c main_arg14) (V m c main_arg23) := by
  refine (dats m 0 c).arrAt_eq_of_covers 42 _ (by decide +kernel) fun t hf y => ?_
  rw [at42]
  have h : (dats m 0 c).after 42 t = val_main_v119 (F := Ideal) (V m c main_arg0) (V m c main_arg1) (V m c main_arg5) (V m c main_arg14) (V m c main_arg23) := by
    rw [after0_42, out42, blk0, blk1, blk5, blk14, blk23]
  exact congrFun h y

theorem final43 (c : Dev nD) : (dats m 0 c).arrAt 43 cfg0.N = val_main_v143 (F := Ideal) (V m c main_arg0) (V m c main_arg6) (V m c main_arg15) (V m c main_arg24) := by
  refine (dats m 0 c).arrAt_eq_of_covers 43 _ (by decide +kernel) fun t hf y => ?_
  rw [at43]
  have h : (dats m 0 c).after 43 t = val_main_v143 (F := Ideal) (V m c main_arg0) (V m c main_arg6) (V m c main_arg15) (V m c main_arg24) := by
    rw [after0_43, out43, blk0, blk6, blk15, blk24]
  exact congrFun h y

theorem final44 (c : Dev nD) : (dats m 0 c).arrAt 44 cfg0.N = val_main_v167 (F := Ideal) (V m c main_arg0) (V m c main_arg7) (V m c main_arg16) (V m c main_arg25) := by
  refine (dats m 0 c).arrAt_eq_of_covers 44 _ (by decide +kernel) fun t hf y => ?_
  rw [at44]
  have h : (dats m 0 c).after 44 t = val_main_v167 (F := Ideal) (V m c main_arg0) (V m c main_arg7) (V m c main_arg16) (V m c main_arg25) := by
    rw [after0_44, out44, blk0, blk7, blk16, blk25]
  exact congrFun h y

theorem final45 (c : Dev nD) : (dats m 0 c).arrAt 45 cfg0.N = val_main_v191 (F := Ideal) (V m c main_arg0) (V m c main_arg8) (V m c main_arg17) (V m c main_arg26) := by
  refine (dats m 0 c).arrAt_eq_of_covers 45 _ (by decide +kernel) fun t hf y => ?_
  rw [at45]
  have h : (dats m 0 c).after 45 t = val_main_v191 (F := Ideal) (V m c main_arg0) (V m c main_arg8) (V m c main_arg17) (V m c main_arg26) := by
    rw [after0_45, out45, blk0, blk8, blk17, blk26]
  exact congrFun h y

theorem final46 (c : Dev nD) : (dats m 0 c).arrAt 46 cfg0.N = val_main_v215 (F := Ideal) (V m c main_arg0) (V m c main_arg9) (V m c main_arg18) (V m c main_arg27) := by
  refine (dats m 0 c).arrAt_eq_of_covers 46 _ (by decide +kernel) fun t hf y => ?_
  rw [at46]
  have h : (dats m 0 c).after 46 t = val_main_v215 (F := Ideal) (V m c main_arg0) (V m c main_arg9) (V m c main_arg18) (V m c main_arg27) := by
    rw [after0_46, out46, blk0, blk9, blk18, blk27]
  exact congrFun h y

theorem final47 (c : Dev nD) : (dats m 0 c).arrAt 47 cfg0.N = val_main_v239 (F := Ideal) (V m c main_arg0) (V m c main_arg10) (V m c main_arg19) (V m c main_arg28) := by
  refine (dats m 0 c).arrAt_eq_of_covers 47 _ (by decide +kernel) fun t hf y => ?_
  rw [at47]
  have h : (dats m 0 c).after 47 t = val_main_v239 (F := Ideal) (V m c main_arg0) (V m c main_arg10) (V m c main_arg19) (V m c main_arg28) := by
    rw [after0_47, out47, blk0, blk10, blk19, blk28]
  exact congrFun h y

theorem final48 (c : Dev nD) : (dats m 0 c).arrAt 48 cfg0.N = val_main_v28 (F := Ideal) (V m c main_arg0) (V m c main_arg11) := by
  refine (dats m 0 c).arrAt_eq_of_covers 48 _ (by decide +kernel) fun t hf y => ?_
  rw [at48]
  have h : (dats m 0 c).after 48 t = val_main_v28 (F := Ideal) (V m c main_arg0) (V m c main_arg11) := by
    rw [after0_48, out48, blk0, blk11]
  exact congrFun h y

theorem final49 (c : Dev nD) : (dats m 0 c).arrAt 49 cfg0.N = val_main_v52 (F := Ideal) (V m c main_arg0) (V m c main_arg12) := by
  refine (dats m 0 c).arrAt_eq_of_covers 49 _ (by decide +kernel) fun t hf y => ?_
  rw [at49]
  have h : (dats m 0 c).after 49 t = val_main_v52 (F := Ideal) (V m c main_arg0) (V m c main_arg12) := by
    rw [after0_49, out49, blk0, blk12]
  exact congrFun h y

theorem final50 (c : Dev nD) : (dats m 0 c).arrAt 50 cfg0.N = val_main_v76 (F := Ideal) (V m c main_arg0) (V m c main_arg1) (V m c main_arg13) := by
  refine (dats m 0 c).arrAt_eq_of_covers 50 _ (by decide +kernel) fun t hf y => ?_
  rw [at50]
  have h : (dats m 0 c).after 50 t = val_main_v76 (F := Ideal) (V m c main_arg0) (V m c main_arg1) (V m c main_arg13) := by
    rw [after0_50, out50, blk0, blk1, blk13]
  exact congrFun h y

theorem final51 (c : Dev nD) : (dats m 0 c).arrAt 51 cfg0.N = val_main_v100 (F := Ideal) (V m c main_arg0) (V m c main_arg1) (V m c main_arg14) := by
  refine (dats m 0 c).arrAt_eq_of_covers 51 _ (by decide +kernel) fun t hf y => ?_
  rw [at51]
  have h : (dats m 0 c).after 51 t = val_main_v100 (F := Ideal) (V m c main_arg0) (V m c main_arg1) (V m c main_arg14) := by
    rw [after0_51, out51, blk0, blk1, blk14]
  exact congrFun h y

theorem final52 (c : Dev nD) : (dats m 0 c).arrAt 52 cfg0.N = val_main_v124 (F := Ideal) (V m c main_arg0) (V m c main_arg15) := by
  refine (dats m 0 c).arrAt_eq_of_covers 52 _ (by decide +kernel) fun t hf y => ?_
  rw [at52]
  have h : (dats m 0 c).after 52 t = val_main_v124 (F := Ideal) (V m c main_arg0) (V m c main_arg15) := by
    rw [after0_52, out52, blk0, blk15]
  exact congrFun h y

theorem final53 (c : Dev nD) : (dats m 0 c).arrAt 53 cfg0.N = val_main_v148 (F := Ideal) (V m c main_arg0) (V m c main_arg16) := by
  refine (dats m 0 c).arrAt_eq_of_covers 53 _ (by decide +kernel) fun t hf y => ?_
  rw [at53]
  have h : (dats m 0 c).after 53 t = val_main_v148 (F := Ideal) (V m c main_arg0) (V m c main_arg16) := by
    rw [after0_53, out53, blk0, blk16]
  exact congrFun h y

theorem final54 (c : Dev nD) : (dats m 0 c).arrAt 54 cfg0.N = val_main_v172 (F := Ideal) (V m c main_arg0) (V m c main_arg17) := by
  refine (dats m 0 c).arrAt_eq_of_covers 54 _ (by decide +kernel) fun t hf y => ?_
  rw [at54]
  have h : (dats m 0 c).after 54 t = val_main_v172 (F := Ideal) (V m c main_arg0) (V m c main_arg17) := by
    rw [after0_54, out54, blk0, blk17]
  exact congrFun h y

theorem final55 (c : Dev nD) : (dats m 0 c).arrAt 55 cfg0.N = val_main_v196 (F := Ideal) (V m c main_arg0) (V m c main_arg18) := by
  refine (dats m 0 c).arrAt_eq_of_covers 55 _ (by decide +kernel) fun t hf y => ?_
  rw [at55]
  have h : (dats m 0 c).after 55 t = val_main_v196 (F := Ideal) (V m c main_arg0) (V m c main_arg18) := by
    rw [after0_55, out55, blk0, blk18]
  exact congrFun h y

theorem final56 (c : Dev nD) : (dats m 0 c).arrAt 56 cfg0.N = val_main_v220 (F := Ideal) (V m c main_arg0) (V m c main_arg19) := by
  refine (dats m 0 c).arrAt_eq_of_covers 56 _ (by decide +kernel) fun t hf y => ?_
  rw [at56]
  have h : (dats m 0 c).after 56 t = val_main_v220 (F := Ideal) (V m c main_arg0) (V m c main_arg19) := by
    rw [after0_56, out56, blk0, blk19]
  exact congrFun h y

theorem final57 (c : Dev nD) : (dats m 0 c).arrAt 57 cfg0.N = val_main_v34 (F := Ideal) (V m c main_arg0) (V m c main_arg20) := by
  refine (dats m 0 c).arrAt_eq_of_covers 57 _ (by decide +kernel) fun t hf y => ?_
  rw [at57]
  have h : (dats m 0 c).after 57 t = val_main_v34 (F := Ideal) (V m c main_arg0) (V m c main_arg20) := by
    rw [after0_57, out57, blk0, blk20]
  exact congrFun h y

theorem final58 (c : Dev nD) : (dats m 0 c).arrAt 58 cfg0.N = val_main_v58 (F := Ideal) (V m c main_arg0) (V m c main_arg21) := by
  refine (dats m 0 c).arrAt_eq_of_covers 58 _ (by decide +kernel) fun t hf y => ?_
  rw [at58]
  have h : (dats m 0 c).after 58 t = val_main_v58 (F := Ideal) (V m c main_arg0) (V m c main_arg21) := by
    rw [after0_58, out58, blk0, blk21]
  exact congrFun h y

theorem final59 (c : Dev nD) : (dats m 0 c).arrAt 59 cfg0.N = val_main_v82 (F := Ideal) (V m c main_arg0) (V m c main_arg1) (V m c main_arg22) := by
  refine (dats m 0 c).arrAt_eq_of_covers 59 _ (by decide +kernel) fun t hf y => ?_
  rw [at59]
  have h : (dats m 0 c).after 59 t = val_main_v82 (F := Ideal) (V m c main_arg0) (V m c main_arg1) (V m c main_arg22) := by
    rw [after0_59, out59, blk0, blk1, blk22]
  exact congrFun h y

theorem final60 (c : Dev nD) : (dats m 0 c).arrAt 60 cfg0.N = val_main_v106 (F := Ideal) (V m c main_arg0) (V m c main_arg1) (V m c main_arg23) := by
  refine (dats m 0 c).arrAt_eq_of_covers 60 _ (by decide +kernel) fun t hf y => ?_
  rw [at60]
  have h : (dats m 0 c).after 60 t = val_main_v106 (F := Ideal) (V m c main_arg0) (V m c main_arg1) (V m c main_arg23) := by
    rw [after0_60, out60, blk0, blk1, blk23]
  exact congrFun h y

theorem final61 (c : Dev nD) : (dats m 0 c).arrAt 61 cfg0.N = val_main_v130 (F := Ideal) (V m c main_arg0) (V m c main_arg24) := by
  refine (dats m 0 c).arrAt_eq_of_covers 61 _ (by decide +kernel) fun t hf y => ?_
  rw [at61]
  have h : (dats m 0 c).after 61 t = val_main_v130 (F := Ideal) (V m c main_arg0) (V m c main_arg24) := by
    rw [after0_61, out61, blk0, blk24]
  exact congrFun h y

theorem final62 (c : Dev nD) : (dats m 0 c).arrAt 62 cfg0.N = val_main_v154 (F := Ideal) (V m c main_arg0) (V m c main_arg25) := by
  refine (dats m 0 c).arrAt_eq_of_covers 62 _ (by decide +kernel) fun t hf y => ?_
  rw [at62]
  have h : (dats m 0 c).after 62 t = val_main_v154 (F := Ideal) (V m c main_arg0) (V m c main_arg25) := by
    rw [after0_62, out62, blk0, blk25]
  exact congrFun h y

theorem final63 (c : Dev nD) : (dats m 0 c).arrAt 63 cfg0.N = val_main_v178 (F := Ideal) (V m c main_arg0) (V m c main_arg26) := by
  refine (dats m 0 c).arrAt_eq_of_covers 63 _ (by decide +kernel) fun t hf y => ?_
  rw [at63]
  have h : (dats m 0 c).after 63 t = val_main_v178 (F := Ideal) (V m c main_arg0) (V m c main_arg26) := by
    rw [after0_63, out63, blk0, blk26]
  exact congrFun h y

theorem final64 (c : Dev nD) : (dats m 0 c).arrAt 64 cfg0.N = val_main_v202 (F := Ideal) (V m c main_arg0) (V m c main_arg27) := by
  refine (dats m 0 c).arrAt_eq_of_covers 64 _ (by decide +kernel) fun t hf y => ?_
  rw [at64]
  have h : (dats m 0 c).after 64 t = val_main_v202 (F := Ideal) (V m c main_arg0) (V m c main_arg27) := by
    rw [after0_64, out64, blk0, blk27]
  exact congrFun h y

theorem final65 (c : Dev nD) : (dats m 0 c).arrAt 65 cfg0.N = val_main_v226 (F := Ideal) (V m c main_arg0) (V m c main_arg28) := by
  refine (dats m 0 c).arrAt_eq_of_covers 65 _ (by decide +kernel) fun t hf y => ?_
  rw [at65]
  have h : (dats m 0 c).after 65 t = val_main_v226 (F := Ideal) (V m c main_arg0) (V m c main_arg28) := by
    rw [after0_65, out65, blk0, blk28]
  exact congrFun h y

end Cert.Proof.Small

end
-- ==== Proof.SmallEnd.lean ====
/- The optimiser's step on the small weights and the loss: the statement that each of the kernel's 37 arrays is the
   reference's. -/
module

public import proofs.«01_k».proof.Proof.Small
public import proofs.«01_k».proof.Proof.Gen.Reference11Ideal.Read
public import proofs.«01_k».proof.Defs
public import Idealize.ShloMosaic.Lib.Claim

@[expose] public section

set_option maxRecDepth 16384

noncomputable section

namespace Cert.Proof.Small

open Cert.Kernel11Ideal Cert.Kernel11Ideal.Gen Cert.Kernel11Ideal.Hand Idealize.ShloMosaic Idealize.ShloMosaic.TcCoe Idealize.SL.Sem
open Cert.Reference11Ideal.Read
open Idealize.ShloMosaic.Pipeline (Dat)

variable (m : (ℓ : Loc nD τ sig) → Buf (Elt Ideal) ℓ)

theorem ref29 (c : Dev nD) {x0} (h0 : x0 = V m c main_arg0) :
    val_main_v240 (F := Ideal) x0 = (dats m 0 c).arrAt 29 cfg0.N := by
  subst h0
  exact (final29 m c).symm

theorem ref30 (c : Dev nD) {x0} (h0 : x0 = V m c main_arg0) :
    val_main_v9 (F := Ideal) x0 = (dats m 0 c).arrAt 30 cfg0.N := by
  subst h0
  exact (final30 m c).symm

theorem ref31 (c : Dev nD) {x0} (h0 : x0 = V m c main_arg0) :
    val_main_v10 (F := Ideal) x0 = (dats m 0 c).arrAt 31 cfg0.N := by
  subst h0
  exact (final31 m c).symm

theorem ref32 (c : Dev nD) {x0 x1} (h0 : x0 = V m c main_arg0) (h1 : x1 = V m c main_arg1) :
    val_main_v14 (F := Ideal) x0 x1 = (dats m 0 c).arrAt 32 cfg0.N := by
  subst h0 h1
  exact (final32 m c).symm

theorem ref33 (c : Dev nD) {x0 x1} (h0 : x0 = V m c main_arg0) (h1 : x1 = V m c main_arg1) :
    val_main_v18 (F := Ideal) x0 x1 = (dats m 0 c).arrAt 33 cfg0.N := by
  subst h0 h1
  exact (final33 m c).symm

theorem ref34 (c : Dev nD) {x0} (h0 : x0 = V m c main_arg0) :
    val_main_v19 (F := Ideal) x0 = (dats m 0 c).arrAt 34 cfg0.N := by
  subst h0
  exact (final34 m c).symm

theorem ref35 (c : Dev nD) {x0} (h0 : x0 = V m c main_arg0) :
    val_main_v20 (F := Ideal) x0 = (dats m 0 c).arrAt 35 cfg0.N := by
  subst h0
  exact (final35 m c).symm

theorem ref36 (c : Dev nD) {x0} (h0 : x0 = V m c main_arg0) :
    val_main_v21 (F := Ideal) x0 = (dats m 0 c).arrAt 36 cfg0.N := by
  subst h0
  exact (final36 m c).symm

theorem ref37 (c : Dev nD) {x0} (h0 : x0 = V m c main_arg0) :
    val_main_v22 (F := Ideal) x0 = (dats m 0 c).arrAt 37 cfg0.N := by
  subst h0
  exact (final37 m c).symm

theorem ref38 (c : Dev nD) {x0} (h0 : x0 = V m c main_arg0) :
    val_main_v23 (F := Ideal) x0 = (dats m 0 c).arrAt 38 cfg0.N := by
  subst h0
  exact (final38 m c).symm

theorem ref39 (c : Dev nD) {x0 x2 x11 x20} (h0 : x0 = V m c main_arg0) (h2 : x2 = V m c main_arg2) (h11 : x11 = V m c main_arg11) (h20 : x20 = V m c main_arg20) :
    val_main_v47 (F := Ideal) x0 x2 x11 x20 = (dats m 0 c).arrAt 39 cfg0.N := by
  subst h0 h2 h11 h20
  exact (final39 m c).symm

theorem ref40 (c : Dev nD) {x0 x3 x12 x21} (h0 : x0 = V m c main_arg0) (h3 : x3 = V m c main_arg3) (h12 : x12 = V m c main_arg12) (h21 : x21 = V m c main_arg21) :
    val_main_v71 (F := Ideal) x0 x3 x12 x21 = (dats m 0 c).arrAt 40 cfg0.N := by
  subst h0 h3 h12 h21
  exact (final40 m c).symm

theorem ref41 (c : Dev nD) {x0 x1 x4 x13 x22} (h0 : x0 = V m c main_arg0) (h1 : x1 = V m c main_arg1) (h4 : x4 = V m c main_arg4) (h13 : x13 = V m c main_arg13) (h22 : x22 = V m c main_arg22) :
    val_main_v95 (F := Ideal) x0 x1 x4 x13 x22 = (dats m 0 c).arrAt 41 cfg0.N := by
  subst h0 h1 h4 h13 h22
  exact (final41 m c).symm

theorem ref42 (c : Dev nD) {x0 x1 x5 x14 x23} (h0 : x0 = V m c main_arg0) (h1 : x1 = V m c main_arg1) (h5 : x5 = V m c main_arg5) (h14 : x14 = V m c main_arg14) (h23 : x23 = V m c main_arg23) :
    val_main_v119 (F := Ideal) x0 x1 x5 x14 x23 = (dats m 0 c).arrAt 42 cfg0.N := by
  subst h0 h1 h5 h14 h23
  exact (final42 m c).symm

theorem ref43 (c : Dev nD) {x0 x6 x15 x24} (h0 : x0 = V m c main_arg0) (h6 : x6 = V m c main_arg6) (h15 : x15 = V m c main_arg15) (h24 : x24 = V m c main_arg24) :
    val_main_v143 (F := Ideal) x0 x6 x15 x24 = (dats m 0 c).arrAt 43 cfg0.N := by
  subst h0 h6 h15 h24
  exact (final43 m c).symm

theorem ref44 (c : Dev nD) {x0 x7 x16 x25} (h0 : x0 = V m c main_arg0) (h7 : x7 = V m c main_arg7) (h16 : x16 = V m c main_arg16) (h25 : x25 = V m c main_arg25) :
    val_main_v167 (F := Ideal) x0 x7 x16 x25 = (dats m 0 c).arrAt 44 cfg0.N := by
  subst h0 h7 h16 h25
  exact (final44 m c).symm

theorem ref45 (c : Dev nD) {x0 x8 x17 x26} (h0 : x0 = V m c main_arg0) (h8 : x8 = V m c main_arg8) (h17 : x17 = V m c main_arg17) (h26 : x26 = V m c main_arg26) :
    val_main_v191 (F := Ideal) x0 x8 x17 x26 = (dats m 0 c).arrAt 45 cfg0.N := by
  subst h0 h8 h17 h26
  exact (final45 m c).symm

theorem ref46 (c : Dev nD) {x0 x9 x18 x27} (h0 : x0 = V m c main_arg0) (h9 : x9 = V m c main_arg9) (h18 : x18 = V m c main_arg18) (h27 : x27 = V m c main_arg27) :
    val_main_v215 (F := Ideal) x0 x9 x18 x27 = (dats m 0 c).arrAt 46 cfg0.N := by
  subst h0 h9 h18 h27
  exact (final46 m c).symm

theorem ref47 (c : Dev nD) {x0 x10 x19 x28} (h0 : x0 = V m c main_arg0) (h10 : x10 = V m c main_arg10) (h19 : x19 = V m c main_arg19) (h28 : x28 = V m c main_arg28) :
    val_main_v239 (F := Ideal) x0 x10 x19 x28 = (dats m 0 c).arrAt 47 cfg0.N := by
  subst h0 h10 h19 h28
  exact (final47 m c).symm

theorem ref48 (c : Dev nD) {x0 x11} (h0 : x0 = V m c main_arg0) (h11 : x11 = V m c main_arg11) :
    val_main_v28 (F := Ideal) x0 x11 = (dats m 0 c).arrAt 48 cfg0.N := by
  subst h0 h11
  exact (final48 m c).symm

theorem ref49 (c : Dev nD) {x0 x12} (h0 : x0 = V m c main_arg0) (h12 : x12 = V m c main_arg12) :
    val_main_v52 (F := Ideal) x0 x12 = (dats m 0 c).arrAt 49 cfg0.N := by
  subst h0 h12
  exact (final49 m c).symm

theorem ref50 (c : Dev nD) {x0 x1 x13} (h0 : x0 = V m c main_arg0) (h1 : x1 = V m c main_arg1) (h13 : x13 = V m c main_arg13) :
    val_main_v76 (F := Ideal) x0 x1 x13 = (dats m 0 c).arrAt 50 cfg0.N := by
  subst h0 h1 h13
  exact (final50 m c).symm

theorem ref51 (c : Dev nD) {x0 x1 x14} (h0 : x0 = V m c main_arg0) (h1 : x1 = V m c main_arg1) (h14 : x14 = V m c main_arg14) :
    val_main_v100 (F := Ideal) x0 x1 x14 = (dats m 0 c).arrAt 51 cfg0.N := by
  subst h0 h1 h14
  exact (final51 m c).symm

theorem ref52 (c : Dev nD) {x0 x15} (h0 : x0 = V m c main_arg0) (h15 : x15 = V m c main_arg15) :
    val_main_v124 (F := Ideal) x0 x15 = (dats m 0 c).arrAt 52 cfg0.N := by
  subst h0 h15
  exact (final52 m c).symm

theorem ref53 (c : Dev nD) {x0 x16} (h0 : x0 = V m c main_arg0) (h16 : x16 = V m c main_arg16) :
    val_main_v148 (F := Ideal) x0 x16 = (dats m 0 c).arrAt 53 cfg0.N := by
  subst h0 h16
  exact (final53 m c).symm

theorem ref54 (c : Dev nD) {x0 x17} (h0 : x0 = V m c main_arg0) (h17 : x17 = V m c main_arg17) :
    val_main_v172 (F := Ideal) x0 x17 = (dats m 0 c).arrAt 54 cfg0.N := by
  subst h0 h17
  exact (final54 m c).symm

theorem ref55 (c : Dev nD) {x0 x18} (h0 : x0 = V m c main_arg0) (h18 : x18 = V m c main_arg18) :
    val_main_v196 (F := Ideal) x0 x18 = (dats m 0 c).arrAt 55 cfg0.N := by
  subst h0 h18
  exact (final55 m c).symm

theorem ref56 (c : Dev nD) {x0 x19} (h0 : x0 = V m c main_arg0) (h19 : x19 = V m c main_arg19) :
    val_main_v220 (F := Ideal) x0 x19 = (dats m 0 c).arrAt 56 cfg0.N := by
  subst h0 h19
  exact (final56 m c).symm

theorem ref57 (c : Dev nD) {x0 x20} (h0 : x0 = V m c main_arg0) (h20 : x20 = V m c main_arg20) :
    val_main_v34 (F := Ideal) x0 x20 = (dats m 0 c).arrAt 57 cfg0.N := by
  subst h0 h20
  exact (final57 m c).symm

theorem ref58 (c : Dev nD) {x0 x21} (h0 : x0 = V m c main_arg0) (h21 : x21 = V m c main_arg21) :
    val_main_v58 (F := Ideal) x0 x21 = (dats m 0 c).arrAt 58 cfg0.N := by
  subst h0 h21
  exact (final58 m c).symm

theorem ref59 (c : Dev nD) {x0 x1 x22} (h0 : x0 = V m c main_arg0) (h1 : x1 = V m c main_arg1) (h22 : x22 = V m c main_arg22) :
    val_main_v82 (F := Ideal) x0 x1 x22 = (dats m 0 c).arrAt 59 cfg0.N := by
  subst h0 h1 h22
  exact (final59 m c).symm

theorem ref60 (c : Dev nD) {x0 x1 x23} (h0 : x0 = V m c main_arg0) (h1 : x1 = V m c main_arg1) (h23 : x23 = V m c main_arg23) :
    val_main_v106 (F := Ideal) x0 x1 x23 = (dats m 0 c).arrAt 60 cfg0.N := by
  subst h0 h1 h23
  exact (final60 m c).symm

theorem ref61 (c : Dev nD) {x0 x24} (h0 : x0 = V m c main_arg0) (h24 : x24 = V m c main_arg24) :
    val_main_v130 (F := Ideal) x0 x24 = (dats m 0 c).arrAt 61 cfg0.N := by
  subst h0 h24
  exact (final61 m c).symm

theorem ref62 (c : Dev nD) {x0 x25} (h0 : x0 = V m c main_arg0) (h25 : x25 = V m c main_arg25) :
    val_main_v154 (F := Ideal) x0 x25 = (dats m 0 c).arrAt 62 cfg0.N := by
  subst h0 h25
  exact (final62 m c).symm

theorem ref63 (c : Dev nD) {x0 x26} (h0 : x0 = V m c main_arg0) (h26 : x26 = V m c main_arg26) :
    val_main_v178 (F := Ideal) x0 x26 = (dats m 0 c).arrAt 63 cfg0.N := by
  subst h0 h26
  exact (final63 m c).symm

theorem ref64 (c : Dev nD) {x0 x27} (h0 : x0 = V m c main_arg0) (h27 : x27 = V m c main_arg27) :
    val_main_v202 (F := Ideal) x0 x27 = (dats m 0 c).arrAt 64 cfg0.N := by
  subst h0 h27
  exact (final64 m c).symm

theorem ref65 (c : Dev nD) {x0 x28} (h0 : x0 = V m c main_arg0) (h28 : x28 = V m c main_arg28) :
    val_main_v226 (F := Ideal) x0 x28 = (dats m 0 c).arrAt 65 cfg0.N := by
  subst h0 h28
  exact (final65 m c).symm

set_option maxHeartbeats 8000000 in
/-- Over the extended reals the kernel's arrays are the reference's. -/
theorem algebraic : Cert.algebraic_Kernel11Ideal_Reference11Ideal := by
  intro m g m' g' _ hargs
  refine ⟨fun c => (dats m 0 c).arrAt 29 cfg0.N, fun c => (dats m 0 c).arrAt 30 cfg0.N, fun c => (dats m 0 c).arrAt 31 cfg0.N, fun c => (dats m 0 c).arrAt 32 cfg0.N, fun c => (dats m 0 c).arrAt 33 cfg0.N, fun c => (dats m 0 c).arrAt 34 cfg0.N, fun c => (dats m 0 c).arrAt 35 cfg0.N, fun c => (dats m 0 c).arrAt 36 cfg0.N, fun c => (dats m 0 c).arrAt 37 cfg0.N, fun c => (dats m 0 c).arrAt 38 cfg0.N, fun c => (dats m 0 c).arrAt 39 cfg0.N, fun c => (dats m 0 c).arrAt 40 cfg0.N, fun c => (dats m 0 c).arrAt 41 cfg0.N, fun c => (dats m 0 c).arrAt 42 cfg0.N, fun c => (dats m 0 c).arrAt 43 cfg0.N, fun c => (dats m 0 c).arrAt 44 cfg0.N, fun c => (dats m 0 c).arrAt 45 cfg0.N, fun c => (dats m 0 c).arrAt 46 cfg0.N, fun c => (dats m 0 c).arrAt 47 cfg0.N, fun c => (dats m 0 c).arrAt 48 cfg0.N, fun c => (dats m 0 c).arrAt 49 cfg0.N, fun c => (dats m 0 c).arrAt 50 cfg0.N, fun c => (dats m 0 c).arrAt 51 cfg0.N, fun c => (dats m 0 c).arrAt 52 cfg0.N, fun c => (dats m 0 c).arrAt 53 cfg0.N, fun c => (dats m 0 c).arrAt 54 cfg0.N, fun c => (dats m 0 c).arrAt 55 cfg0.N, fun c => (dats m 0 c).arrAt 56 cfg0.N, fun c => (dats m 0 c).arrAt 57 cfg0.N, fun c => (dats m 0 c).arrAt 58 cfg0.N, fun c => (dats m 0 c).arrAt 59 cfg0.N, fun c => (dats m 0 c).arrAt 60 cfg0.N, fun c => (dats m 0 c).arrAt 61 cfg0.N, fun c => (dats m 0 c).arrAt 62 cfg0.N, fun c => (dats m 0 c).arrAt 63 cfg0.N, fun c => (dats m 0 c).arrAt 64 cfg0.N, fun c => (dats m 0 c).arrAt 65 cfg0.N, ?_, ?_⟩
  · exact (θ_run _ _ _).mono (fun r h c => ⟨(h c).1 29, (h c).1 30, (h c).1 31, (h c).1 32, (h c).1 33, (h c).1 34, (h c).1 35, (h c).1 36, (h c).1 37, (h c).1 38, (h c).1 39, (h c).1 40, (h c).1 41, (h c).1 42, (h c).1 43, (h c).1 44, (h c).1 45, (h c).1 46, (h c).1 47, (h c).1 48, (h c).1 49, (h c).1 50, (h c).1 51, (h c).1 52, (h c).1 53, (h c).1 54, (h c).1 55, (h c).1 56, (h c).1 57, (h c).1 58, (h c).1 59, (h c).1 60, (h c).1 61, (h c).1 62, (h c).1 63, (h c).1 64, (h c).1 65,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14)),
      ((h c).1 15).trans (((dats m 0 c).arrAt_in 15 rfl _).trans (A_eq m c 15)),
      ((h c).1 16).trans (((dats m 0 c).arrAt_in 16 rfl _).trans (A_eq m c 16)),
      ((h c).1 17).trans (((dats m 0 c).arrAt_in 17 rfl _).trans (A_eq m c 17)),
      ((h c).1 18).trans (((dats m 0 c).arrAt_in 18 rfl _).trans (A_eq m c 18)),
      ((h c).1 19).trans (((dats m 0 c).arrAt_in 19 rfl _).trans (A_eq m c 19)),
      ((h c).1 20).trans (((dats m 0 c).arrAt_in 20 rfl _).trans (A_eq m c 20)),
      ((h c).1 21).trans (((dats m 0 c).arrAt_in 21 rfl _).trans (A_eq m c 21)),
      ((h c).1 22).trans (((dats m 0 c).arrAt_in 22 rfl _).trans (A_eq m c 22)),
      ((h c).1 23).trans (((dats m 0 c).arrAt_in 23 rfl _).trans (A_eq m c 23)),
      ((h c).1 24).trans (((dats m 0 c).arrAt_in 24 rfl _).trans (A_eq m c 24)),
      ((h c).1 25).trans (((dats m 0 c).arrAt_in 25 rfl _).trans (A_eq m c 25)),
      ((h c).1 26).trans (((dats m 0 c).arrAt_in 26 rfl _).trans (A_eq m c 26)),
      ((h c).1 27).trans (((dats m 0 c).arrAt_in 27 rfl _).trans (A_eq m c 27)),
      ((h c).1 28).trans (((dats m 0 c).arrAt_in 28 rfl _).trans (A_eq m c 28))⟩) (run_main m g)
  · refine (θ_run _ _ _).mono (fun r h c => ?_) (Cert.Reference11Ideal.Value.run (F := Ideal) m' g')
    obtain ⟨a0, a1, a2, a3, a4, a5, a6, a7, a8, a9, a10, a11, a12, a13, a14, a15, a16, a17, a18, a19, a20, a21, a22, a23, a24, a25, a26, a27, a28⟩ := hargs c
    obtain ⟨r29, r30, r31, r32, r33, r34, r35, r36, r37, r38, r39, r40, r41, r42, r43, r44, r45, r46, r47, r48, r49, r50, r51, r52, r53, r54, r55, r56, r57, r58, r59, r60, r61, r62, r63, r64, r65, hrest⟩ := h c
    exact ⟨r29.trans ((val_main_v240_eq _).trans (ref29 m c a0)),
      r30.trans ((val_main_v9_eq _).trans (ref30 m c a0)),
      r31.trans ((val_main_v10_eq _).trans (ref31 m c a0)),
      r32.trans ((val_main_v14_eq _).trans (ref32 m c a0 a1)),
      r33.trans ((val_main_v18_eq _).trans (ref33 m c a0 a1)),
      r34.trans ((val_main_v19_eq _).trans (ref34 m c a0)),
      r35.trans ((val_main_v20_eq _).trans (ref35 m c a0)),
      r36.trans ((val_main_v21_eq _).trans (ref36 m c a0)),
      r37.trans ((val_main_v22_eq _).trans (ref37 m c a0)),
      r38.trans ((val_main_v23_eq _).trans (ref38 m c a0)),
      r39.trans ((val_main_v47_eq _).trans (ref39 m c a0 a2 a11 a20)),
      r40.trans ((val_main_v71_eq _).trans (ref40 m c a0 a3 a12 a21)),
      r41.trans ((val_main_v95_eq _).trans (ref41 m c a0 a1 a4 a13 a22)),
      r42.trans ((val_main_v119_eq _).trans (ref42 m c a0 a1 a5 a14 a23)),
      r43.trans ((val_main_v143_eq _).trans (ref43 m c a0 a6 a15 a24)),
      r44.trans ((val_main_v167_eq _).trans (ref44 m c a0 a7 a16 a25)),
      r45.trans ((val_main_v191_eq _).trans (ref45 m c a0 a8 a17 a26)),
      r46.trans ((val_main_v215_eq _).trans (ref46 m c a0 a9 a18 a27)),
      r47.trans ((val_main_v239_eq _).trans (ref47 m c a0 a10 a19 a28)),
      r48.trans ((val_main_v28_eq _).trans (ref48 m c a0 a11)),
      r49.trans ((val_main_v52_eq _).trans (ref49 m c a0 a12)),
      r50.trans ((val_main_v76_eq _).trans (ref50 m c a0 a1 a13)),
      r51.trans ((val_main_v100_eq _).trans (ref51 m c a0 a1 a14)),
      r52.trans ((val_main_v124_eq _).trans (ref52 m c a0 a15)),
      r53.trans ((val_main_v148_eq _).trans (ref53 m c a0 a16)),
      r54.trans ((val_main_v172_eq _).trans (ref54 m c a0 a17)),
      r55.trans ((val_main_v196_eq _).trans (ref55 m c a0 a18)),
      r56.trans ((val_main_v220_eq _).trans (ref56 m c a0 a19)),
      r57.trans ((val_main_v34_eq _).trans (ref57 m c a0 a20)),
      r58.trans ((val_main_v58_eq _).trans (ref58 m c a0 a21)),
      r59.trans ((val_main_v82_eq _).trans (ref59 m c a0 a1 a22)),
      r60.trans ((val_main_v106_eq _).trans (ref60 m c a0 a1 a23)),
      r61.trans ((val_main_v130_eq _).trans (ref61 m c a0 a24)),
      r62.trans ((val_main_v154_eq _).trans (ref62 m c a0 a25)),
      r63.trans ((val_main_v178_eq _).trans (ref63 m c a0 a26)),
      r64.trans ((val_main_v202_eq _).trans (ref64 m c a0 a27)),
      r65.trans ((val_main_v226_eq _).trans (ref65 m c a0 a28)),
      hrest⟩

end Cert.Proof.Small

end
-- ==== Proof.Sum12.lean ====
module

public import proofs.«01_k».proof.Defs
public import proofs.«01_k».proof.Proof.Gen.Kernel12.Frame
public import proofs.«01_k».proof.Proof.Gen.Kernel12Ideal.Frame
public import proofs.«01_k».proof.Proof.Gen.Pre_device_index
import Idealize.ShloMosaic.Lib.Pipeline.Value

/-! The call that adds up one large gradient over the devices: its tables hold the device's own numbers, and under the
    precondition that they are numbers of a device every block of the call lies inside its array. -/

@[expose] public section

namespace Cert.Proof.Sum12

open Idealize.ShloMosaic

/-- The precondition, decoded: the chip is one of four and the core one of two. -/
theorem words_of_pre {F : FTy → Type} [FloatOps F] (x0 : FVec F Cert.Pre_device_index.S7x352x1024 .bf16)
    (x1 : FVec F Cert.Pre_device_index.S2816x1024 .bf16) (x2 x3 : IVec Cert.Pre_device_index.S_ 32)
    (h : Cert.Pre_device_index.fn (F := F) x0 x1 x2 x3 = fun _ => 1#1) (i : Cert.Pre_device_index.S_.Idx) :
    (x2 i).toNat < 4 ∧ (x3 i).toNat < 2 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h i
  simp only [Cert.Pre_device_index.fn, constantI, cmpi, andi, andi_one, ofBool_eq_one, IntOp.cmpi,
    BitVec.sle, BitVec.slt, decide_eq_true_eq, BitVec.toInt, BitVec.toNat_ofNat] at pre
  have := (x2 i).isLt
  have := (x3 i).isLt
  omega

end Cert.Proof.Sum12

namespace Cert.Proof.Sum12

open Cert.Kernel12 Cert.Kernel12.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_0 numel1_S1 inb_S2_S1_1 (tbl m) i
      = ![((chip m).toNat * 2 + (core m).toNat) * 2 + (i 0).val, 0] := by
  unfold cc0_transform_0
  rw [table0, table1]
  have hi : (i 0).val < 2 := (i 0).isLt
  have e : (Scalar.addi (Scalar.muli (Scalar.addi (Scalar.muli 2#32 (chip m)) (core m)) 2#32) (BitVec.ofNat 32 (i 0).val)).toNat
      = ((chip m).toNat * 2 + (core m).toNat) * 2 + (i 0).val := by
    simp only [Scalar.addi, Scalar.muli, IntOp.addi, IntOp.muli, BitVec.toNat_add, BitVec.toNat_mul, BitVec.toNat_ofNat]
    omega
  simp only [e]
  rfl

theorem map2 (m : (ℓ : Loc nD τ sig) → Buf (Elt F) ℓ) (h2 : (core m).toNat < 2) (i : grid0.Coords) :
    cc0_transform_2 inb_S2_S1_1 numel1_S1 (tbl m) i = ![(core m).toNat * 2 + (i 0).val, 0] := by
  unfold cc0_transform_2
  rw [table1]
  have hi : (i 0).val < 2 := (i 0).isLt
  have e : (Scalar.addi (Scalar.muli (core m) 2#32) (BitVec.ofNat 32 (i 0).val)).toNat = (core m).toNat * 2 + (i 0).val := by
    simp only [Scalar.addi, Scalar.muli, IntOp.addi, IntOp.muli, BitVec.toNat_add, BitVec.toNat_mul, BitVec.toNat_ofNat]
    omega
  simp only [e]
  rfl

theorem rows_whole (n : Nat) (hb : ∀ a, ((![n, 0] : Fin 2 → Nat) a + 1) * S176x1024.size a ≤ S2816x1024.size a) :
    (Rect.block (s := S2816x1024) S176x1024.size ![n, 0] hb).WholeWords (EltTy.packing .bf16) := by
  have hn : n < 16 := by
    have : (n + 1) * 176 ≤ 2816 := hb 0
    omega
  refine (Rect.wholeWords_iff_at _ _).mpr ?_
  show Shape.WholeWordsAt S2816x1024 2 (fun a => (![n, 0] : Fin 2 → Nat) a * S176x1024.size a) S176x1024.size (fun _ => 1)
  clear hb
  interval_cases n <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 2 := (i 0).isLt
    rw [map0 m h1 h2 i]
    refine ⟨fun a => ?_, ?_⟩
    · fin_cases a
      · show (((chip m).toNat * 2 + (core m).toNat) * 2 + (i 0).val + 1) * 176 ≤ 2816
        omega
      · show (0 + 1) * 1024 ≤ 1024
        omega
    · right
      exact rows_whole _ _
  · have hi : (i 0).val < 2 := (i 0).isLt
    rw [map2 m h2 i]
    refine ⟨fun a => ?_, .inl rfl⟩
    fin_cases a
    · show ((core m).toNat * 2 + (i 0).val + 1) * 176 ≤ 704
      omega
    · show (0 + 1) * 1024 ≤ 1024
      omega

theorem ok_of_pre (m : (ℓ : Loc nD τ sig) → Buf (Elt Bits) ℓ) (h : Cert.Pre_Kernel12 m) : Ok m := by
  have w := Sum12.words_of_pre _ _ _ _ (h 0) (fun a => a.elim0)
  exact ok m w.1 w.2

end Cert.Proof.Sum12

namespace Cert.Proof.Sum12Ideal

open Cert.Kernel12Ideal Cert.Kernel12Ideal.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_0 numel1_S1 inb_S2_S1_1 (tbl m) i
      = ![((chip m).toNat * 2 + (core m).toNat) * 2 + (i 0).val, 0] := by
  unfold cc0_transform_0
  rw [table0, table1]
  have hi : (i 0).val < 2 := (i 0).isLt
  have e : (Scalar.addi (Scalar.muli (Scalar.addi (Scalar.muli 2#32 (chip m)) (core m)) 2#32) (BitVec.ofNat 32 (i 0).val)).toNat
      = ((chip m).toNat * 2 + (core m).toNat) * 2 + (i 0).val := by
    simp only [Scalar.addi, Scalar.muli, IntOp.addi, IntOp.muli, BitVec.toNat_add, BitVec.toNat_mul, BitVec.toNat_ofNat]
    omega
  simp only [e]
  rfl

theorem map2 (m : (ℓ : Loc nD τ sig) → Buf (Elt F) ℓ) (h2 : (core m).toNat < 2) (i : grid0.Coords) :
    cc0_transform_2 inb_S2_S1_1 numel1_S1 (tbl m) i = ![(core m).toNat * 2 + (i 0).val, 0] := by
  unfold cc0_transform_2
  rw [table1]
  have hi : (i 0).val < 2 := (i 0).isLt
  have e : (Scalar.addi (Scalar.muli (core m) 2#32) (BitVec.ofNat 32 (i 0).val)).toNat = (core m).toNat * 2 + (i 0).val := by
    simp only [Scalar.addi, Scalar.muli, IntOp.addi, IntOp.muli, BitVec.toNat_add, BitVec.toNat_mul, BitVec.toNat_ofNat]
    omega
  simp only [e]
  rfl

theorem rows_whole (n : Nat) (hb : ∀ a, ((![n, 0] : Fin 2 → Nat) a + 1) * S176x1024.size a ≤ S2816x1024.size a) :
    (Rect.block (s := S2816x1024) S176x1024.size ![n, 0] hb).WholeWords (EltTy.packing .bf16) := by
  have hn : n < 16 := by
    have : (n + 1) * 176 ≤ 2816 := hb 0
    omega
  refine (Rect.wholeWords_iff_at _ _).mpr ?_
  show Shape.WholeWordsAt S2816x1024 2 (fun a => (![n, 0] : Fin 2 → Nat) a * S176x1024.size a) S176x1024.size (fun _ => 1)
  clear hb
  interval_cases n <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 2 := (i 0).isLt
    rw [map0 m h1 h2 i]
    refine ⟨fun a => ?_, ?_⟩
    · fin_cases a
      · show (((chip m).toNat * 2 + (core m).toNat) * 2 + (i 0).val + 1) * 176 ≤ 2816
        omega
      · show (0 + 1) * 1024 ≤ 1024
        omega
    · right
      exact rows_whole _ _
  · have hi : (i 0).val < 2 := (i 0).isLt
    rw [map2 m h2 i]
    refine ⟨fun a => ?_, .inl rfl⟩
    fin_cases a
    · show ((core m).toNat * 2 + (i 0).val + 1) * 176 ≤ 704
      omega
    · show (0 + 1) * 1024 ≤ 1024
      omega

theorem ok_of_pre (m : (ℓ : Loc nD τ sig) → Buf (Elt Ideal) ℓ) (h : Cert.Pre_Kernel12Ideal m) : Ok m := by
  have w := Sum12.words_of_pre _ _ _ _ (h 0) (fun a => a.elim0)
  exact ok m w.1 w.2

end Cert.Proof.Sum12Ideal
-- ==== Proof.Sum12Value.lean ====
module

public import proofs.«01_k».proof.Proof.Sum12
public import proofs.«01_k».proof.Proof.Gen.Reference12Ideal.Read
public import proofs.«01_k».proof.Proof.Common
import Idealize.ShloMosaic.Lib.Pipeline.Value
public import Idealize.ShloMosaic.Lib.Pipeline.ValueKit

@[expose] public section

noncomputable section

namespace Cert.Proof.Sum12Ideal

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- One of the seven received parts of a block. -/
abbrev part (x : S7x176x1024.Idx → EReal) (k : Fin 7) (y : S176x1024.Idx) : EReal :=
  x (ix3 k (y 0) (y 1))

/-- The device's own part of a block. -/
abbrev own (hO : Ok m) (c : Dev nD) (t : Fin (cfgM m hO).N) : S176x1024.Idx → EReal := iblk m hO c 0 t
/-- The received parts of a block. -/
abbrev got (hO : Ok m) (c : Dev nD) (t : Fin (cfgM m hO).N) : S7x176x1024.Idx → EReal := iblk m hO c 1 t

theorem slot (x : Vec Ideal S7x176x1024 .bf16) (k : Fin 7) (h) (hc) (y : S176x1024.Idx) :
    (shapeCast S176x1024 (View.ld x (Rect.unit (s := S7x176x1024) ![k.val, 0, 0] ![1, 176, 1024] h)) hc y : EReal) = part x k y := by
  refine (shapeCast_dropUnit_apply (n := 2) ![176, 1024] _ hc y).trans ?_
  refine View.ld_unit_apply_of _ _ _ _ _ _ fun a => ?_
  match a with
  | ⟨0, _⟩ => exact (Nat.add_zero _).symm
  | ⟨1, _⟩ => exact (Nat.zero_add _).symm
  | ⟨2, _⟩ => exact (Nat.zero_add _).symm

theorem after_eq (hO : Ok m) (c : Dev nD) (t : Fin (cfgM m hO).N) (y : S176x1024.Idx) :
    (outsAt0 m hO c t : S176x1024.Idx → EReal) y = own m hO c t y + ∑ k : Fin 7, part (got m hO c t) k y := by
  unfold outsAt0
  frame_out
  have e0 : (ms0_0 m hO t).view.read (Elt Ideal) ((hs0_0 m hO t).unread (iblk m hO c 0 t)) = own m hO c t := (hs0_0 m hO t).read_unread _
  have e1 : (ms0_1 m hO t).view.read (Elt Ideal) ((hs0_1 m hO t).unread (iblk m hO c 1 t)) = got m hO c t := (hs0_1 m hO t).read_unread _
  erw [e0, e1]
  generalize own m hO c t = u
  generalize got m hO c t = x
  unfold k0_pay1
  rw [Fin.sum_univ_seven, ← slot x 0 inb_S7x176x1024_S1x176x1024_0_0_0 shapeCasts_S1x176x1024_S176x1024 y, ← slot x 1 inb_S7x176x1024_S1x176x1024_1_0_0 shapeCasts_S1x176x1024_S176x1024 y,
    ← slot x 2 inb_S7x176x1024_S1x176x1024_2_0_0 shapeCasts_S1x176x1024_S176x1024 y, ← slot x 3 inb_S7x176x1024_S1x176x1024_3_0_0 shapeCasts_S1x176x1024_S176x1024 y,
    ← slot x 4 inb_S7x176x1024_S1x176x1024_4_0_0 shapeCasts_S1x176x1024_S176x1024 y, ← slot x 5 inb_S7x176x1024_S1x176x1024_5_0_0 shapeCasts_S1x176x1024_S176x1024 y,
    ← slot x 6 inb_S7x176x1024_S1x176x1024_6_0_0 shapeCasts_S1x176x1024_S176x1024 y]
  simp only [← add_assoc]
  rfl

theorem coord : ∀ t : Fin grid0.N, (grid0.coords t 0).val = t.val := by decide

theorem index0 (hO : Ok m) (h1 : (chip m).toNat < 4) (h2 : (core m).toNat < 2) (t : Fin (cfgM m hO).N) :
    ((cfgM m hO).win 0).index t = ![((chip m).toNat * 2 + (core m).toNat) * 2 + t.val, 0] :=
  (map0 m h1 h2 (grid0.coords t)).trans (by rw [coord])

theorem index1 (hO : Ok m) (t : Fin (cfgM m hO).N) : ((cfgM m hO).win 1).index t = ![0, t.val, 0] := by
  show cc0_transform_1 (grid0.coords t) = _
  have ht : t.val < 2 := t.isLt
  unfold cc0_transform_1
  simp only [coord, BitVec.toNat_ofNat]
  have e : t.val % 2 ^ 32 = t.val := Nat.mod_eq_of_lt (by omega)
  rw [e]

theorem index2 (hO : Ok m) (h2 : (core m).toNat < 2) (t : Fin (cfgM m hO).N) :
    ((cfgM m hO).win 2).index t = ![(core m).toNat * 2 + t.val, 0] :=
  (map2 m h2 (grid0.coords t)).trans (by rw [coord])

theorem flush2 (hO : Ok m) (h2 : (core m).toNat < 2) (t : Fin (cfgM m hO).N) : ((cfgM m hO).win 2).flush t = true := by
  have ht : t.val < 2 := t.isLt
  unfold Pipeline.Window.flush
  by_cases h : t.val + 1 = grid0.N
  · simp only [Bool.and_eq_true, Bool.or_eq_true, decide_eq_true_eq]
    exact ⟨rfl, .inl h⟩
  · simp only [Bool.and_eq_true, Bool.or_eq_true, decide_eq_true_eq]
    refine ⟨rfl, .inr ⟨by have : t.val + 1 < 2 := Nat.lt_of_le_of_ne ht h; exact this, fun e => ?_⟩⟩
    rw [index2 m hO h2, index2 m hO h2] at e
    have := congrFun e 0
    have : (core m).toNat * 2 + (t.val + 1) = (core m).toNat * 2 + t.val := this
    omega

/-- The arrays the call is given. -/
abbrev A0 : S7x352x1024.Idx → EReal := m (((0 : Dev nD) : Thread nD τ).loc main_arg0)
abbrev A1 : S2816x1024.Idx → EReal := m (((0 : Dev nD) : Thread nD τ).loc main_arg1)

/-- The sum at a row and a column of the device's own part. -/
abbrev total (i : Fin 352) (j : Fin 1024) : EReal :=
  A1 m (ix2 (⟨(((chip m).toNat * 2 + (core m).toNat) * 352 + i.val) % 2816, Nat.mod_lt _ (by decide)⟩ : Fin 2816) j)
    + ∑ k : Fin 7, A0 m (ix3 k i j)

/-- The sum as the whole output, of which the device's own half is written. -/
def G : S704x1024.Idx → EReal := fun i => total m ⟨(i 0).val % 352, Nat.mod_lt _ (by decide)⟩ (i 1)

def cell0 (hO : Ok m) (t : Fin (cfgM m hO).N) (y : S176x1024.Idx) : S2816x1024.Idx := (((cfgM m hO).win 0).blk t).view.emb y

def cell1 (hO : Ok m) (t : Fin (cfgM m hO).N) (y : S7x176x1024.Idx) : S7x352x1024.Idx := (((cfgM m hO).win 1).blk t).view.emb y

def cell2 (hO : Ok m) (t : Fin (cfgM m hO).N) (y : S176x1024.Idx) : S704x1024.Idx := (((cfgM m hO).win 2).blk t).view.emb y

theorem cell0_0 (hO : Ok m) (h1 : (chip m).toNat < 4) (h2 : (core m).toNat < 2) (t : Fin (cfgM m hO).N) (y : S176x1024.Idx) :
    (cell0 m hO t y 0).val = ((chip m).toNat * 2 + (core m).toNat) * 352 + (t.val * 176 + (y 0).val) := by
  unfold cell0
  blk_simp [index0 m hO h1 h2]
  show (((chip m).toNat * 2 + (core m).toNat) * 2 + t.val) * 176 + (y 0).val = _
  omega

theorem cell0_1 (hO : Ok m) (h1 : (chip m).toNat < 4) (h2 : (core m).toNat < 2) (t : Fin (cfgM m hO).N) (y : S176x1024.Idx) :
    (cell0 m hO t y 1).val = (y 1).val := by
  unfold cell0
  blk_simp [index0 m hO h1 h2]

theorem cell1_0 (hO : Ok m) (t : Fin (cfgM m hO).N) (y : S7x176x1024.Idx) : (cell1 m hO t y 0).val = (y 0).val := by
  unfold cell1
  blk_simp [index1 m hO]

theorem cell1_1 (hO : Ok m) (t : Fin (cfgM m hO).N) (y : S7x176x1024.Idx) : (cell1 m hO t y 1).val = t.val * 176 + (y 1).val := by
  unfold cell1
  blk_simp [index1 m hO]

theorem cell1_2 (hO : Ok m) (t : Fin (cfgM m hO).N) (y : S7x176x1024.Idx) : (cell1 m hO t y 2).val = (y 2).val := by
  unfold cell1
  blk_simp [index1 m hO]

theorem cell2_0 (hO : Ok m) (h2 : (core m).toNat < 2) (t : Fin (cfgM m hO).N) (y : S176x1024.Idx) :
    (cell2 m hO t y 0).val = ((core m).toNat * 2 + t.val) * 176 + (y 0).val := by
  unfold cell2
  blk_simp [index2 m hO h2]

theorem cell2_1 (hO : Ok m) (h2 : (core m).toNat < 2) (t : Fin (cfgM m hO).N) (y : S176x1024.Idx) :
    (cell2 m hO t y 1).val = (y 1).val := by
  unfold cell2
  blk_simp [index2 m hO h2]

theorem own_cell (hO : Ok m) (t : Fin (cfgM m hO).N) (y : S176x1024.Idx) : own m hO 0 t y = A1 m (cell0 m hO t y) := by
  have e : own m hO 0 t y = V m 0 main_arg1 (cell0 m hO t y) := by
    blk_simp [iblk]
    rfl
  rw [e, V_main_arg1]

theorem got_cell (hO : Ok m) (t : Fin (cfgM m hO).N) (y : S7x176x1024.Idx) : got m hO 0 t y = A0 m (cell1 m hO t y) := by
  have e : got m hO 0 t y = V m 0 main_arg0 (cell1 m hO t y) := by
    blk_simp [iblk]
    rfl
  rw [e, V_main_arg0]

theorem own_eq (hO : Ok m) (h1 : (chip m).toNat < 4) (h2 : (core m).toNat < 2) (t : Fin (cfgM m hO).N) (y : S176x1024.Idx) (i : S2816x1024.Idx)
    (hi0 : (i 0).val = ((chip m).toNat * 2 + (core m).toNat) * 352 + (t.val * 176 + (y 0).val)) (hi1 : (i 1).val = (y 1).val) :
    own m hO 0 t y = A1 m i := by
  rw [own_cell]
  refine congrArg (A1 m) (funext fun a => Fin.ext ?_)
  fin_cases a
  · exact (cell0_0 m hO h1 h2 t y).trans hi0.symm
  · exact (cell0_1 m hO h1 h2 t y).trans hi1.symm

theorem got_eq (hO : Ok m) (t : Fin (cfgM m hO).N) (y : S7x176x1024.Idx) (i : S7x352x1024.Idx)
    (hi0 : (i 0).val = (y 0).val) (hi1 : (i 1).val = t.val * 176 + (y 1).val) (hi2 : (i 2).val = (y 2).val) :
    got m hO 0 t y = A0 m i := by
  rw [got_cell]
  refine congrArg (A0 m) (funext fun a => Fin.ext ?_)
  fin_cases a
  · exact (cell1_0 m hO t y).trans hi0.symm
  · exact (cell1_1 m hO t y).trans hi1.symm
  · exact (cell1_2 m hO t y).trans hi2.symm

theorem after_cell (hO : Ok m) (h1 : (chip m).toNat < 4) (h2 : (core m).toNat < 2) (t : Fin (cfgM m hO).N) (y : S176x1024.Idx) :
    outsAt0 m hO 0 t y = G m (cell2 m hO t y) := by
  have e0 := cell2_0 m hO h2 t y
  have e1 := cell2_1 m hO h2 t y
  have ht : t.val < 2 := t.isLt
  have hy : (y 0).val < 176 := (y 0).isLt
  rw [after_eq]
  generalize cell2 m hO t y = j at e0 e1
  have ej : (j 0).val % 352 = t.val * 176 + (y 0).val := by omega
  refine congrArg₂ (· + ·) ?_ (Finset.sum_congr rfl fun k _ => ?_)
  · refine own_eq m hO h1 h2 t y _ ?_ ?_
    · show (((chip m).toNat * 2 + (core m).toNat) * 352 + (j 0).val % 352) % 2816 = _
      rw [ej]
      omega
    · exact e1
  · refine got_eq m hO t _ _ rfl ?_ ?_
    · exact ej
    · exact e1

/-- The device's own half of the output, after the last point. -/
theorem final (hO : Ok m) (h1 : (chip m).toNat < 4) (h2 : (core m).toNat < 2) (i : S704x1024.Idx)
    (hi : (i 0).val / 352 = (core m).toNat) : (dats m hO 0 0).arrAt 2 (cfgM m hO).N i = G m i := by
  have h0 : (i 0).val < 704 := (i 0).isLt
  have hlt : (i 0).val % 352 / 176 < 2 := by omega
  refine (dats m hO 0 0).arrAt_forall_of_flushed 2 (fun i v => v = G m i) ?_ _ ⟨(i 0).val % 352 / 176, hlt⟩ i hlt (flush2 m hO h2 _) ?_
  · intro t hf y
    blk_simp
    rw [after0_2]
    exact after_cell m hO h1 h2 t y
  · have e := (((cfgM m hO).win 2).emb_mem_blk_iff ⟨(i 0).val % 352 / 176, hlt⟩ i).mpr
    refine e fun a => ?_
    rw [index2 m hO h2]
    match a with
    | ⟨0, _⟩ =>
      show ((core m).toNat * 2 + (i 0).val % 352 / 176) * 176 ≤ (i 0).val ∧ (i 0).val < ((core m).toNat * 2 + (i 0).val % 352 / 176) * 176 + 176
      omega
    | ⟨1, _⟩ =>
      have : (i 1).val < 1024 := (i 1).isLt
      show 0 * 1024 ≤ (i 1).val ∧ (i 1).val < 0 * 1024 + 1024
      omega

end Cert.Proof.Sum12Ideal

end
-- ==== Proof.Sum12End.lean ====
module

public import proofs.«01_k».proof.Proof.Sum12Value

@[expose] public section

noncomputable section

namespace Cert.Proof.Sum12Ideal

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- What the call leaves in its output, as an array. -/
def W (hO : Ok m) : FVec Ideal S704x1024 .f32 := (dats m hO 0 0).arrAt 2 (cfgM m hO).N

theorem W_final (hO : Ok m) (h1 : (chip m).toNat < 4) (h2 : (core m).toNat < 2) (j : S704x1024.Idx)
    (hj : (j 0).val / 352 = (core m).toNat) (a : Fin 352) (b : Fin 1024) (e0 : (j 0).val % 352 = a.val) (e1 : (j 1).val = b.val) :
    W m hO j = total m a b := by
  unfold W
  rw [final m hO h1 h2 j hj]
  unfold G
  obtain rfl : (⟨(j 0).val % 352, Nat.mod_lt _ (by decide)⟩ : Fin 352) = a := Fin.ext e0
  obtain rfl : (j 1 : Fin 1024) = b := Fin.ext e1
  rfl

/-- The lines after the call pick one half of its output. -/
theorem tail (hO : Ok m) : (Pipeline.afterTail pcfgs (fun _ => adm m hO) (dats m hO) 0 (V0 m) [hostOps1, hostOps1_1] 0 main_v7 : FVec Ideal S352x1024 .f32)
    = select (broadcastInDim S352x1024 ![] bcast_S_S352x1024
        (cmpi .eq (m (((0 : Dev nD) : Thread nD τ).loc main_arg3) : IVec S_ 32) (constantI S_ 32 0#32)))
        (extractStridedSlice S352x1024 ![0, 0] (W m hO) slices_S704x1024_S352x1024_0_0)
        (extractStridedSlice S352x1024 ![352, 0] (W m hO) slices_S704x1024_S352x1024_352_0) := by
  have hinj : Function.Injective (Pipeline.arrRef spec0) := by decide
  have e3 := Pipeline.withArrays_arr spec0 hinj (0 : Dev nD) (V0 m 0) (fun w => (dats m hO 0 0).arrAt w (cfgM m hO).N) 2
  have e2 := (Pipeline.withArrays_of_ne spec0 (0 : Dev nD) (V0 m 0) (fun w => (dats m hO 0 0).arrAt w (cfgM m hO).N) main_arg3 (by decide)).trans (V_main_arg3 m 0)
  show StableHlo.after [_, _, _, _, _] (Pipeline.withArrays spec0 (0 : Dev nD) (V0 m 0) (fun w => (dats m hO 0 0).arrAt w (cfgM m hO).N)) (Proc.devRef .tc main_v7) = _
  generalize Pipeline.withArrays spec0 (0 : Dev nD) (V0 m 0) (fun w => (dats m hO 0 0).arrAt w (cfgM m hO).N) = X at e3 e2 ⊢
  after_results
  have e3' : (X (Proc.devRef .tc main_v3) : FVec Ideal S704x1024 .f32) = W m hO := e3
  have e2' : (X (Proc.devRef .tc main_arg3) : IVec S_ 32) = m (((0 : Dev nD) : Thread nD τ).loc main_arg3) := e2
  show select (broadcastInDim S352x1024 ![] bcast_S_S352x1024 (cmpi .eq (X (Proc.devRef .tc main_arg3) : IVec S_ 32) (constantI S_ 32 0#32)))
    (extractStridedSlice S352x1024 ![0, 0] (X (Proc.devRef .tc main_v3) : FVec Ideal S704x1024 .f32) slices_S704x1024_S352x1024_0_0)
    (extractStridedSlice S352x1024 ![352, 0] (X (Proc.devRef .tc main_v3) : FVec Ideal S704x1024 .f32) slices_S704x1024_S352x1024_352_0) = _
  rw [e3', e2']

/-- One of two halves, picked by a word. -/
theorem pick (b : BitVec 32) (hb : b.toNat < 2) (x : IVec S_ 32) (hx : x = fun _ => b) (w : FVec Ideal S704x1024 .f32) (v : EReal) (i : S352x1024.Idx)
    (hw : ∀ j : S704x1024.Idx, (j 0).val = b.toNat * 352 + (i 0).val → (j 1).val = (i 1).val → w j = v) :
    select (broadcastInDim S352x1024 ![] bcast_S_S352x1024 (cmpi .eq x (constantI S_ 32 0#32)))
      (extractStridedSlice S352x1024 ![0, 0] w slices_S704x1024_S352x1024_0_0)
      (extractStridedSlice S352x1024 ![352, 0] w slices_S704x1024_S352x1024_352_0) i = v := by
  subst hx
  have h0 : (i 0).val < 352 := (i 0).isLt
  have hb' : (broadcastInDim S352x1024 ![] bcast_S_S352x1024 (cmpi .eq (fun _ => b : IVec S_ 32) (constantI S_ 32 0#32)) : IVec S352x1024 1) i
      = IntOp.cmpi .eq b 0#32 := broadcastInDim_apply _ bcast_S_S352x1024 _ i (fun a => a.elim0) (fun a => a.elim0)
  have s0 : extractStridedSlice S352x1024 ![0, 0] w slices_S704x1024_S352x1024_0_0 i = w (ix2 (⟨(i 0).val, by omega⟩ : Fin 704) (i 1)) :=
    extractStridedSlice_apply ![0, 0] w slices_S704x1024_S352x1024_0_0 i (ix2 (⟨(i 0).val, by omega⟩ : Fin 704) (i 1)) (fun a => match a with
      | ⟨0, _⟩ => by show (i 0).val = 0 + (i 0).val; omega
      | ⟨1, _⟩ => by show (i 1).val = 0 + (i 1).val; omega)
  have s1 : extractStridedSlice S352x1024 ![352, 0] w slices_S704x1024_S352x1024_352_0 i = w (ix2 (⟨352 + (i 0).val, by omega⟩ : Fin 704) (i 1)) :=
    extractStridedSlice_apply ![352, 0] w slices_S704x1024_S352x1024_352_0 i (ix2 (⟨352 + (i 0).val, by omega⟩ : Fin 704) (i 1)) (fun a => match a with
      | ⟨0, _⟩ => by show 352 + (i 0).val = 352 + (i 0).val; omega
      | ⟨1, _⟩ => by show (i 1).val = 0 + (i 1).val; omega)
  refine (congrArg₂ (fun p q => Scalar.select ((broadcastInDim S352x1024 ![] bcast_S_S352x1024 (cmpi .eq (fun _ => b : IVec S_ 32) (constantI S_ 32 0#32)) : IVec S352x1024 1) i) p q) s0 s1).trans ?_
  beta_reduce
  rw [hb']
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases eb with rfl | rfl
  · refine (show _ = w (ix2 (⟨(i 0).val, by omega⟩ : Fin 704) (i 1)) from rfl).trans (hw _ ?_ rfl)
    show (i 0).val = 0 * 352 + (i 0).val
    omega
  · refine (show _ = w (ix2 (⟨352 + (i 0).val, by omega⟩ : Fin 704) (i 1)) from rfl).trans (hw _ ?_ rfl)
    show 352 + (i 0).val = 1 * 352 + (i 0).val
    omega

/-- The result is the sum over the devices of the device's own part. -/
theorem value (hO : Ok m) (h1 : (chip m).toNat < 4) (h2 : (core m).toNat < 2) (i : S352x1024.Idx) :
    (Pipeline.afterTail pcfgs (fun _ => adm m hO) (dats m hO) 0 (V0 m) [hostOps1, hostOps1_1] 0 main_v7 : FVec Ideal S352x1024 .f32) i
      = total m (i 0) (i 1) := by
  rw [tail m hO]
  have h0 : (i 0).val < 352 := (i 0).isLt
  refine pick (core m) h2 _ (funext fun k => ?_) (W m hO) _ i fun j e0 e1 => W_final m hO h1 h2 j (by omega) (i 0) (i 1) (by omega) e1
  obtain rfl : k = (fun a => a.elim0) := funext fun a => a.elim0
  rfl

section
open Cert.Reference12Ideal Cert.Reference12Ideal.Read

/-- A part of the gradient chosen by the device's number. -/
theorem chosen (x1 : FVec Ideal Cert.Reference12Ideal.S2816x1024 .bf16) (x2 x3 : IVec Cert.Reference12Ideal.S_ 32) (a b : BitVec 32)
    (ha : x2 = fun _ => a) (hb : x3 = fun _ => b) (h1 : a.toNat < 4) (h2 : b.toNat < 2)
    (i : Cert.Reference12Ideal.S352x1024.Idx) (j : Cert.Reference12Ideal.S2816x1024.Idx)
    (hj0 : (j 0).val = (a.toNat * 2 + b.toNat) * 352 + (i 0).val) (hj1 : (j 1).val = (i 1).val) :
    val_main_v42 (F := Ideal) x1 x2 x3 i = x1 j := by
  subst ha hb
  rw [val_main_v42_apply, val_main_v36_apply, val_main_v30_apply, val_main_v24_apply, val_main_v18_apply, val_main_v12_apply, val_main_v6_apply,
    val_main_v40_apply, val_main_v34_apply, val_main_v28_apply, val_main_v22_apply, val_main_v16_apply, val_main_v10_apply, val_main_v4_apply,
    val_main_v41_apply, val_main_v35_apply, val_main_v29_apply, val_main_v23_apply, val_main_v17_apply, val_main_v11_apply, val_main_v5_apply, val_main_v0_apply]
  have hj : ∀ j' : Cert.Reference12Ideal.S2816x1024.Idx, (j' 0).val = (j 0).val → (j' 1).val = (j 1).val → x1 j' = x1 j := fun j' e0 e1 =>
    congrArg x1 (funext fun k => Fin.ext (by match k with | ⟨0, _⟩ => exact e0 | ⟨1, _⟩ => exact e1))
  have ea : a = 0#32 ∨ a = 1#32 ∨ a = 2#32 ∨ a = 3#32 := by
    have : a.toNat = 0 ∨ a.toNat = 1 ∨ a.toNat = 2 ∨ a.toNat = 3 := by omega
    rcases this with h | h | h | h
    · exact .inl (BitVec.eq_of_toNat_eq h)
    · exact .inr (.inl (BitVec.eq_of_toNat_eq h))
    · exact .inr (.inr (.inl (BitVec.eq_of_toNat_eq h)))
    · exact .inr (.inr (.inr (BitVec.eq_of_toNat_eq h)))
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases ea with rfl | rfl | rfl | rfl <;> rcases eb with rfl | rfl
  · refine (show _ = x1 (idx_main_v0 i) from rfl).trans (hj _ ?_ ?_)
    · rw [hj0]; show (i 0).val = (0 * 2 + 0) * 352 + (i 0).val; omega
    · exact hj1.symm
  · refine (show _ = x1 (idx_main_v5 i) from rfl).trans (hj _ ?_ ?_)
    · rw [hj0]; show 352 + (i 0).val = (0 * 2 + 1) * 352 + (i 0).val; omega
    · exact hj1.symm
  · refine (show _ = x1 (idx_main_v11 i) from rfl).trans (hj _ ?_ ?_)
    · rw [hj0]; show 704 + (i 0).val = (1 * 2 + 0) * 352 + (i 0).val; omega
    · exact hj1.symm
  · refine (show _ = x1 (idx_main_v17 i) from rfl).trans (hj _ ?_ ?_)
    · rw [hj0]; show 1056 + (i 0).val = (1 * 2 + 1) * 352 + (i 0).val; omega
    · exact hj1.symm
  · refine (show _ = x1 (idx_main_v23 i) from rfl).trans (hj _ ?_ ?_)
    · rw [hj0]; show 1408 + (i 0).val = (2 * 2 + 0) * 352 + (i 0).val; omega
    · exact hj1.symm
  · refine (show _ = x1 (idx_main_v29 i) from rfl).trans (hj _ ?_ ?_)
    · rw [hj0]; show 1760 + (i 0).val = (2 * 2 + 1) * 352 + (i 0).val; omega
    · exact hj1.symm
  · refine (show _ = x1 (idx_main_v35 i) from rfl).trans (hj _ ?_ ?_)
    · rw [hj0]; show 2112 + (i 0).val = (3 * 2 + 0) * 352 + (i 0).val; omega
    · exact hj1.symm
  · refine (show _ = x1 (idx_main_v41 i) from rfl).trans (hj _ ?_ ?_)
    · rw [hj0]; show 2464 + (i 0).val = (3 * 2 + 1) * 352 + (i 0).val; omega
    · exact hj1.symm

/-- The reference's result at a row and a column. -/
theorem reference (x0 : FVec Ideal Cert.Reference12Ideal.S7x352x1024 .bf16) (x1 : FVec Ideal Cert.Reference12Ideal.S2816x1024 .bf16)
    (x2 x3 : IVec Cert.Reference12Ideal.S_ 32) (h1 : (x2 (fun a => a.elim0)).toNat < 4) (h2 : (x3 (fun a => a.elim0)).toNat < 2)
    (i : Cert.Reference12Ideal.S352x1024.Idx) :
    val_main_v46 (F := Ideal) x0 x1 x2 x3 i
      = x1 (ix2 (⟨(((x2 (fun a => a.elim0)).toNat * 2 + (x3 (fun a => a.elim0)).toNat) * 352 + (i 0).val) % 2816, Nat.mod_lt _ (by decide)⟩ : Fin 2816) (i 1))
        + ∑ k : Fin 7, x0 (ix3 k (i 0) (i 1)) := by
  have h0 : (i 0).val < 352 := (i 0).isLt
  rw [val_main_v46_apply, val_main_v43_apply, val_main_v45_apply]
  refine congrArg₂ (· + ·) ?_ ?_
  · refine chosen x1 x2 x3 _ _ (funext fun k => ?_) (funext fun k => ?_) h1 h2 i _ ?_ rfl
    · obtain rfl : k = (fun a => a.elim0) := funext fun a => a.elim0
      rfl
    · obtain rfl : k = (fun a => a.elim0) := funext fun a => a.elim0
      rfl
    · show (((x2 (fun a => a.elim0)).toNat * 2 + (x3 (fun a => a.elim0)).toNat) * 352 + (i 0).val) % 2816 = _
      omega
  · rw [val_main_cst_apply]
    refine (congrArg₂ (· + ·) Ideal.ofBits_zero_f32 (Finset.sum_congr rfl fun k _ => ?_)).trans (zero_add _)
    rw [val_main_v44_apply]
    exact congrArg x0 (funext fun a => by match a with | ⟨0, _⟩ => rfl | ⟨1, _⟩ => rfl | ⟨2, _⟩ => rfl)

end

/-- The kernel's run and the reference's end with equal arrays. -/
theorem algebraic : Cert.algebraic_Kernel12Ideal_Reference12Ideal := by
  intro m g m' g' hpre hargs
  have w := Sum12.words_of_pre _ _ _ _ (hpre 0) (fun a => a.elim0)
  have hO := ok m w.1 w.2
  refine ⟨fun c => Pipeline.afterTail pcfgs (fun _ => adm m hO) (dats m hO) 0 (V0 m) [hostOps1, hostOps1_1] c main_v7, ?_, ?_⟩
  · exact (θ_run _ _ _).mono (fun r h c => ⟨(h.1 c).2 main_v7 (by exact (by decide : main_v7 ∈ Pipeline.restRefs sig spec0)), h.2 c⟩)
      (θ_run_and (run_main m g hO) (unchanged m g hO))
  · refine (θ_run _ _ _).mono (fun r h c => ⟨(h c).1.trans ?_, (h c).2⟩) (Cert.Reference12Ideal.Value.run (F := Ideal) m' g')
    rw [Cert.Reference12Ideal.Read.val_main_v46_eq]
    obtain rfl : c = 0 := Subsingleton.elim _ _
    obtain ⟨a0, a1, a2, a3⟩ := hargs 0
    refine funext fun i => ?_
    refine (show _ = Cert.Reference12Ideal.Read.val_main_v46 (F := Ideal) (A0 m) (A1 m)
        (m (((0 : Dev nD) : Thread nD τ).loc main_arg2) : IVec S_ 32) (m (((0 : Dev nD) : Thread nD τ).loc main_arg3) : IVec S_ 32) i from ?_).trans
      ((reference _ _ _ _ w.1 w.2 i).trans (value m hO w.1 w.2 i).symm)
    exact congrFun (congr (congr (congr (congrArg (Cert.Reference12Ideal.Read.val_main_v46 (F := Ideal)) a0) a1) a2) a3) i

end Cert.Proof.Sum12Ideal

end
-- ==== Proof.Sum13.lean ====
module

public import proofs.«01_k».proof.Defs
public import proofs.«01_k».proof.Proof.Gen.Kernel13.Frame
public import proofs.«01_k».proof.Proof.Gen.Kernel13Ideal.Frame
public import proofs.«01_k».proof.Proof.Gen.Pre_device_index_square
import Idealize.ShloMosaic.Lib.Pipeline.Value

/-! The call that adds up one large gradient over the devices: its tables hold the device's own numbers, and under the
    precondition that they are numbers of a device every block of the call lies inside its array. -/

@[expose] public section

namespace Cert.Proof.Sum13

open Idealize.ShloMosaic

/-- The precondition, decoded: the chip is one of four and the core one of two. -/
theorem words_of_pre {F : FTy → Type} [FloatOps F] (x0 : FVec F Cert.Pre_device_index_square.S7x128x1024 .bf16)
    (x1 : FVec F Cert.Pre_device_index_square.S1024x1024 .bf16) (x2 x3 : IVec Cert.Pre_device_index_square.S_ 32)
    (h : Cert.Pre_device_index_square.fn (F := F) x0 x1 x2 x3 = fun _ => 1#1) (i : Cert.Pre_device_index_square.S_.Idx) :
    (x2 i).toNat < 4 ∧ (x3 i).toNat < 2 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h i
  simp only [Cert.Pre_device_index_square.fn, constantI, cmpi, andi, andi_one, ofBool_eq_one, IntOp.cmpi,
    BitVec.sle, BitVec.slt, decide_eq_true_eq, BitVec.toInt, BitVec.toNat_ofNat] at pre
  have := (x2 i).isLt
  have := (x3 i).isLt
  omega

end Cert.Proof.Sum13

namespace Cert.Proof.Sum13

open Cert.Kernel13 Cert.Kernel13.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_0 numel1_S1 inb_S2_S1_1 (tbl m) i
      = ![((chip m).toNat * 2 + (core m).toNat) * 1 + (i 0).val, 0] := by
  unfold cc0_transform_0
  rw [table0, table1]
  have hi : (i 0).val < 1 := (i 0).isLt
  have e : (Scalar.addi (Scalar.muli (Scalar.addi (Scalar.muli 2#32 (chip m)) (core m)) 1#32) (BitVec.ofNat 32 (i 0).val)).toNat
      = ((chip m).toNat * 2 + (core m).toNat) * 1 + (i 0).val := by
    simp only [Scalar.addi, Scalar.muli, IntOp.addi, IntOp.muli, BitVec.toNat_add, BitVec.toNat_mul, BitVec.toNat_ofNat]
    omega
  simp only [e]
  rfl

theorem map2 (m : (ℓ : Loc nD τ sig) → Buf (Elt F) ℓ) (h2 : (core m).toNat < 2) (i : grid0.Coords) :
    cc0_transform_2 inb_S2_S1_1 numel1_S1 (tbl m) i = ![(core m).toNat * 1 + (i 0).val, 0] := by
  unfold cc0_transform_2
  rw [table1]
  have hi : (i 0).val < 1 := (i 0).isLt
  have e : (Scalar.addi (Scalar.muli (core m) 1#32) (BitVec.ofNat 32 (i 0).val)).toNat = (core m).toNat * 1 + (i 0).val := by
    simp only [Scalar.addi, Scalar.muli, IntOp.addi, IntOp.muli, BitVec.toNat_add, BitVec.toNat_mul, BitVec.toNat_ofNat]
    omega
  simp only [e]
  rfl

theorem rows_whole (n : Nat) (hb : ∀ a, ((![n, 0] : Fin 2 → Nat) a + 1) * S128x1024.size a ≤ S1024x1024.size a) :
    (Rect.block (s := S1024x1024) S128x1024.size ![n, 0] hb).WholeWords (EltTy.packing .bf16) := by
  have hn : n < 8 := by
    have : (n + 1) * 128 ≤ 1024 := hb 0
    omega
  refine (Rect.wholeWords_iff_at _ _).mpr ?_
  show Shape.WholeWordsAt S1024x1024 2 (fun a => (![n, 0] : Fin 2 → Nat) a * S128x1024.size a) S128x1024.size (fun _ => 1)
  clear hb
  interval_cases n <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 1 := (i 0).isLt
    rw [map0 m h1 h2 i]
    refine ⟨fun a => ?_, ?_⟩
    · fin_cases a
      · show (((chip m).toNat * 2 + (core m).toNat) * 1 + (i 0).val + 1) * 128 ≤ 1024
        omega
      · show (0 + 1) * 1024 ≤ 1024
        omega
    · right
      exact rows_whole _ _
  · have hi : (i 0).val < 1 := (i 0).isLt
    rw [map2 m h2 i]
    refine ⟨fun a => ?_, .inl rfl⟩
    fin_cases a
    · show ((core m).toNat * 1 + (i 0).val + 1) * 128 ≤ 256
      omega
    · show (0 + 1) * 1024 ≤ 1024
      omega

theorem ok_of_pre (m : (ℓ : Loc nD τ sig) → Buf (Elt Bits) ℓ) (h : Cert.Pre_Kernel13 m) : Ok m := by
  have w := Sum13.words_of_pre _ _ _ _ (h 0) (fun a => a.elim0)
  exact ok m w.1 w.2

end Cert.Proof.Sum13

namespace Cert.Proof.Sum13Ideal

open Cert.Kernel13Ideal Cert.Kernel13Ideal.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_0 numel1_S1 inb_S2_S1_1 (tbl m) i
      = ![((chip m).toNat * 2 + (core m).toNat) * 1 + (i 0).val, 0] := by
  unfold cc0_transform_0
  rw [table0, table1]
  have hi : (i 0).val < 1 := (i 0).isLt
  have e : (Scalar.addi (Scalar.muli (Scalar.addi (Scalar.muli 2#32 (chip m)) (core m)) 1#32) (BitVec.ofNat 32 (i 0).val)).toNat
      = ((chip m).toNat * 2 + (core m).toNat) * 1 + (i 0).val := by
    simp only [Scalar.addi, Scalar.muli, IntOp.addi, IntOp.muli, BitVec.toNat_add, BitVec.toNat_mul, BitVec.toNat_ofNat]
    omega
  simp only [e]
  rfl

theorem map2 (m : (ℓ : Loc nD τ sig) → Buf (Elt F) ℓ) (h2 : (core m).toNat < 2) (i : grid0.Coords) :
    cc0_transform_2 inb_S2_S1_1 numel1_S1 (tbl m) i = ![(core m).toNat * 1 + (i 0).val, 0] := by
  unfold cc0_transform_2
  rw [table1]
  have hi : (i 0).val < 1 := (i 0).isLt
  have e : (Scalar.addi (Scalar.muli (core m) 1#32) (BitVec.ofNat 32 (i 0).val)).toNat = (core m).toNat * 1 + (i 0).val := by
    simp only [Scalar.addi, Scalar.muli, IntOp.addi, IntOp.muli, BitVec.toNat_add, BitVec.toNat_mul, BitVec.toNat_ofNat]
    omega
  simp only [e]
  rfl

theorem rows_whole (n : Nat) (hb : ∀ a, ((![n, 0] : Fin 2 → Nat) a + 1) * S128x1024.size a ≤ S1024x1024.size a) :
    (Rect.block (s := S1024x1024) S128x1024.size ![n, 0] hb).WholeWords (EltTy.packing .bf16) := by
  have hn : n < 8 := by
    have : (n + 1) * 128 ≤ 1024 := hb 0
    omega
  refine (Rect.wholeWords_iff_at _ _).mpr ?_
  show Shape.WholeWordsAt S1024x1024 2 (fun a => (![n, 0] : Fin 2 → Nat) a * S128x1024.size a) S128x1024.size (fun _ => 1)
  clear hb
  interval_cases n <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 1 := (i 0).isLt
    rw [map0 m h1 h2 i]
    refine ⟨fun a => ?_, ?_⟩
    · fin_cases a
      · show (((chip m).toNat * 2 + (core m).toNat) * 1 + (i 0).val + 1) * 128 ≤ 1024
        omega
      · show (0 + 1) * 1024 ≤ 1024
        omega
    · right
      exact rows_whole _ _
  · have hi : (i 0).val < 1 := (i 0).isLt
    rw [map2 m h2 i]
    refine ⟨fun a => ?_, .inl rfl⟩
    fin_cases a
    · show ((core m).toNat * 1 + (i 0).val + 1) * 128 ≤ 256
      omega
    · show (0 + 1) * 1024 ≤ 1024
      omega

theorem ok_of_pre (m : (ℓ : Loc nD τ sig) → Buf (Elt Ideal) ℓ) (h : Cert.Pre_Kernel13Ideal m) : Ok m := by
  have w := Sum13.words_of_pre _ _ _ _ (h 0) (fun a => a.elim0)
  exact ok m w.1 w.2

end Cert.Proof.Sum13Ideal
-- ==== Proof.Sum13Value.lean ====
module

public import proofs.«01_k».proof.Proof.Sum13
public import proofs.«01_k».proof.Proof.Gen.Reference13Ideal.Read
public import proofs.«01_k».proof.Proof.Common
import Idealize.ShloMosaic.Lib.Pipeline.Value
public import Idealize.ShloMosaic.Lib.Pipeline.ValueKit

@[expose] public section

noncomputable section

namespace Cert.Proof.Sum13Ideal

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- One of the seven received parts of a block. -/
abbrev part (x : S7x128x1024.Idx → EReal) (k : Fin 7) (y : S128x1024.Idx) : EReal :=
  x (ix3 k (y 0) (y 1))

/-- The device's own part of a block. -/
abbrev own (hO : Ok m) (c : Dev nD) (t : Fin (cfgM m hO).N) : S128x1024.Idx → EReal := iblk m hO c 0 t
/-- The received parts of a block. -/
abbrev got (hO : Ok m) (c : Dev nD) (t : Fin (cfgM m hO).N) : S7x128x1024.Idx → EReal := iblk m hO c 1 t

theorem slot (x : Vec Ideal S7x128x1024 .bf16) (k : Fin 7) (h) (hc) (y : S128x1024.Idx) :
    (shapeCast S128x1024 (View.ld x (Rect.unit (s := S7x128x1024) ![k.val, 0, 0] ![1, 128, 1024] h)) hc y : EReal) = part x k y := by
  refine (shapeCast_dropUnit_apply (n := 2) ![128, 1024] _ hc y).trans ?_
  refine View.ld_unit_apply_of _ _ _ _ _ _ fun a => ?_
  match a with
  | ⟨0, _⟩ => exact (Nat.add_zero _).symm
  | ⟨1, _⟩ => exact (Nat.zero_add _).symm
  | ⟨2, _⟩ => exact (Nat.zero_add _).symm

theorem after_eq (hO : Ok m) (c : Dev nD) (t : Fin (cfgM m hO).N) (y : S128x1024.Idx) :
    (outsAt0 m hO c t : S128x1024.Idx → EReal) y = own m hO c t y + ∑ k : Fin 7, part (got m hO c t) k y := by
  unfold outsAt0
  frame_out
  have e0 : (ms0_0 m hO t).view.read (Elt Ideal) ((hs0_0 m hO t).unread (iblk m hO c 0 t)) = own m hO c t := (hs0_0 m hO t).read_unread _
  have e1 : (ms0_1 m hO t).view.read (Elt Ideal) ((hs0_1 m hO t).unread (iblk m hO c 1 t)) = got m hO c t := (hs0_1 m hO t).read_unread _
  erw [e0, e1]
  generalize own m hO c t = u
  generalize got m hO c t = x
  unfold k0_pay1
  rw [Fin.sum_univ_seven, ← slot x 0 inb_S7x128x1024_S1x128x1024_0_0_0 shapeCasts_S1x128x1024_S128x1024 y, ← slot x 1 inb_S7x128x1024_S1x128x1024_1_0_0 shapeCasts_S1x128x1024_S128x1024 y,
    ← slot x 2 inb_S7x128x1024_S1x128x1024_2_0_0 shapeCasts_S1x128x1024_S128x1024 y, ← slot x 3 inb_S7x128x1024_S1x128x1024_3_0_0 shapeCasts_S1x128x1024_S128x1024 y,
    ← slot x 4 inb_S7x128x1024_S1x128x1024_4_0_0 shapeCasts_S1x128x1024_S128x1024 y, ← slot x 5 inb_S7x128x1024_S1x128x1024_5_0_0 shapeCasts_S1x128x1024_S128x1024 y,
    ← slot x 6 inb_S7x128x1024_S1x128x1024_6_0_0 shapeCasts_S1x128x1024_S128x1024 y]
  simp only [← add_assoc]
  rfl

theorem coord : ∀ t : Fin grid0.N, (grid0.coords t 0).val = t.val := by decide

theorem index0 (hO : Ok m) (h1 : (chip m).toNat < 4) (h2 : (core m).toNat < 2) (t : Fin (cfgM m hO).N) :
    ((cfgM m hO).win 0).index t = ![((chip m).toNat * 2 + (core m).toNat) * 1 + t.val, 0] :=
  (map0 m h1 h2 (grid0.coords t)).trans (by rw [coord])

theorem index1 (hO : Ok m) (t : Fin (cfgM m hO).N) : ((cfgM m hO).win 1).index t = ![0, t.val, 0] := by
  show cc0_transform_1 (grid0.coords t) = _
  have ht : t.val < 1 := t.isLt
  unfold cc0_transform_1
  simp only [coord, BitVec.toNat_ofNat]
  have e : t.val % 2 ^ 32 = t.val := Nat.mod_eq_of_lt (by omega)
  rw [e]

theorem index2 (hO : Ok m) (h2 : (core m).toNat < 2) (t : Fin (cfgM m hO).N) :
    ((cfgM m hO).win 2).index t = ![(core m).toNat * 1 + t.val, 0] :=
  (map2 m h2 (grid0.coords t)).trans (by rw [coord])

theorem flush2 (hO : Ok m) (h2 : (core m).toNat < 2) (t : Fin (cfgM m hO).N) : ((cfgM m hO).win 2).flush t = true := by
  have ht : t.val < 1 := t.isLt
  unfold Pipeline.Window.flush
  by_cases h : t.val + 1 = grid0.N
  · simp only [Bool.and_eq_true, Bool.or_eq_true, decide_eq_true_eq]
    exact ⟨rfl, .inl h⟩
  · simp only [Bool.and_eq_true, Bool.or_eq_true, decide_eq_true_eq]
    refine ⟨rfl, .inr ⟨by have : t.val + 1 < 1 := Nat.lt_of_le_of_ne ht h; exact this, fun e => ?_⟩⟩
    rw [index2 m hO h2, index2 m hO h2] at e
    have := congrFun e 0
    have : (core m).toNat * 1 + (t.val + 1) = (core m).toNat * 1 + t.val := this
    omega

/-- The arrays the call is given. -/
abbrev A0 : S7x128x1024.Idx → EReal := m (((0 : Dev nD) : Thread nD τ).loc main_arg0)
abbrev A1 : S1024x1024.Idx → EReal := m (((0 : Dev nD) : Thread nD τ).loc main_arg1)

/-- The sum at a row and a column of the device's own part. -/
abbrev total (i : Fin 128) (j : Fin 1024) : EReal :=
  A1 m (ix2 (⟨(((chip m).toNat * 2 + (core m).toNat) * 128 + i.val) % 1024, Nat.mod_lt _ (by decide)⟩ : Fin 1024) j)
    + ∑ k : Fin 7, A0 m (ix3 k i j)

/-- The sum as the whole output, of which the device's own half is written. -/
def G : S256x1024.Idx → EReal := fun i => total m ⟨(i 0).val % 128, Nat.mod_lt _ (by decide)⟩ (i 1)

def cell0 (hO : Ok m) (t : Fin (cfgM m hO).N) (y : S128x1024.Idx) : S1024x1024.Idx := (((cfgM m hO).win 0).blk t).view.emb y

def cell1 (hO : Ok m) (t : Fin (cfgM m hO).N) (y : S7x128x1024.Idx) : S7x128x1024.Idx := (((cfgM m hO).win 1).blk t).view.emb y

def cell2 (hO : Ok m) (t : Fin (cfgM m hO).N) (y : S128x1024.Idx) : S256x1024.Idx := (((cfgM m hO).win 2).blk t).view.emb y

theorem cell0_0 (hO : Ok m) (h1 : (chip m).toNat < 4) (h2 : (core m).toNat < 2) (t : Fin (cfgM m hO).N) (y : S128x1024.Idx) :
    (cell0 m hO t y 0).val = ((chip m).toNat * 2 + (core m).toNat) * 128 + (t.val * 128 + (y 0).val) := by
  unfold cell0
  blk_simp [index0 m hO h1 h2]
  show ((chip m).toNat * 2 + (core m).toNat + t.val) * 128 + (y 0).val = _
  omega

theorem cell0_1 (hO : Ok m) (h1 : (chip m).toNat < 4) (h2 : (core m).toNat < 2) (t : Fin (cfgM m hO).N) (y : S128x1024.Idx) :
    (cell0 m hO t y 1).val = (y 1).val := by
  unfold cell0
  blk_simp [index0 m hO h1 h2]

theorem cell1_0 (hO : Ok m) (t : Fin (cfgM m hO).N) (y : S7x128x1024.Idx) : (cell1 m hO t y 0).val = (y 0).val := by
  unfold cell1
  blk_simp [index1 m hO]

theorem cell1_1 (hO : Ok m) (t : Fin (cfgM m hO).N) (y : S7x128x1024.Idx) : (cell1 m hO t y 1).val = t.val * 128 + (y 1).val := by
  unfold cell1
  blk_simp [index1 m hO]

theorem cell1_2 (hO : Ok m) (t : Fin (cfgM m hO).N) (y : S7x128x1024.Idx) : (cell1 m hO t y 2).val = (y 2).val := by
  unfold cell1
  blk_simp [index1 m hO]

theorem cell2_0 (hO : Ok m) (h2 : (core m).toNat < 2) (t : Fin (cfgM m hO).N) (y : S128x1024.Idx) :
    (cell2 m hO t y 0).val = ((core m).toNat * 1 + t.val) * 128 + (y 0).val := by
  unfold cell2
  blk_simp [index2 m hO h2]

theorem cell2_1 (hO : Ok m) (h2 : (core m).toNat < 2) (t : Fin (cfgM m hO).N) (y : S128x1024.Idx) :
    (cell2 m hO t y 1).val = (y 1).val := by
  unfold cell2
  blk_simp [index2 m hO h2]

theorem own_cell (hO : Ok m) (t : Fin (cfgM m hO).N) (y : S128x1024.Idx) : own m hO 0 t y = A1 m (cell0 m hO t y) := by
  have e : own m hO 0 t y = V m 0 main_arg1 (cell0 m hO t y) := by
    blk_simp [iblk]
    rfl
  rw [e, V_main_arg1]

theorem got_cell (hO : Ok m) (t : Fin (cfgM m hO).N) (y : S7x128x1024.Idx) : got m hO 0 t y = A0 m (cell1 m hO t y) := by
  have e : got m hO 0 t y = V m 0 main_arg0 (cell1 m hO t y) := by
    blk_simp [iblk]
    rfl
  rw [e, V_main_arg0]

theorem own_eq (hO : Ok m) (h1 : (chip m).toNat < 4) (h2 : (core m).toNat < 2) (t : Fin (cfgM m hO).N) (y : S128x1024.Idx) (i : S1024x1024.Idx)
    (hi0 : (i 0).val = ((chip m).toNat * 2 + (core m).toNat) * 128 + (t.val * 128 + (y 0).val)) (hi1 : (i 1).val = (y 1).val) :
    own m hO 0 t y = A1 m i := by
  rw [own_cell]
  refine congrArg (A1 m) (funext fun a => Fin.ext ?_)
  fin_cases a
  · exact (cell0_0 m hO h1 h2 t y).trans hi0.symm
  · exact (cell0_1 m hO h1 h2 t y).trans hi1.symm

theorem got_eq (hO : Ok m) (t : Fin (cfgM m hO).N) (y : S7x128x1024.Idx) (i : S7x128x1024.Idx)
    (hi0 : (i 0).val = (y 0).val) (hi1 : (i 1).val = t.val * 128 + (y 1).val) (hi2 : (i 2).val = (y 2).val) :
    got m hO 0 t y = A0 m i := by
  rw [got_cell]
  refine congrArg (A0 m) (funext fun a => Fin.ext ?_)
  fin_cases a
  · exact (cell1_0 m hO t y).trans hi0.symm
  · exact (cell1_1 m hO t y).trans hi1.symm
  · exact (cell1_2 m hO t y).trans hi2.symm

theorem after_cell (hO : Ok m) (h1 : (chip m).toNat < 4) (h2 : (core m).toNat < 2) (t : Fin (cfgM m hO).N) (y : S128x1024.Idx) :
    outsAt0 m hO 0 t y = G m (cell2 m hO t y) := by
  have e0 := cell2_0 m hO h2 t y
  have e1 := cell2_1 m hO h2 t y
  have ht : t.val < 1 := t.isLt
  have hy : (y 0).val < 128 := (y 0).isLt
  rw [after_eq]
  generalize cell2 m hO t y = j at e0 e1
  have ej : (j 0).val % 128 = t.val * 128 + (y 0).val := by omega
  refine congrArg₂ (· + ·) ?_ (Finset.sum_congr rfl fun k _ => ?_)
  · refine own_eq m hO h1 h2 t y _ ?_ ?_
    · show (((chip m).toNat * 2 + (core m).toNat) * 128 + (j 0).val % 128) % 1024 = _
      rw [ej]
      omega
    · exact e1
  · refine got_eq m hO t _ _ rfl ?_ ?_
    · exact ej
    · exact e1

/-- The device's own half of the output, after the last point. -/
theorem final (hO : Ok m) (h1 : (chip m).toNat < 4) (h2 : (core m).toNat < 2) (i : S256x1024.Idx)
    (hi : (i 0).val / 128 = (core m).toNat) : (dats m hO 0 0).arrAt 2 (cfgM m hO).N i = G m i := by
  have h0 : (i 0).val < 256 := (i 0).isLt
  have hlt : (i 0).val % 128 / 128 < 1 := by omega
  refine (dats m hO 0 0).arrAt_forall_of_flushed 2 (fun i v => v = G m i) ?_ _ ⟨(i 0).val % 128 / 128, hlt⟩ i hlt (flush2 m hO h2 _) ?_
  · intro t hf y
    blk_simp
    rw [after0_2]
    exact after_cell m hO h1 h2 t y
  · have e := (((cfgM m hO).win 2).emb_mem_blk_iff ⟨(i 0).val % 128 / 128, hlt⟩ i).mpr
    refine e fun a => ?_
    rw [index2 m hO h2]
    match a with
    | ⟨0, _⟩ =>
      show ((core m).toNat * 1 + (i 0).val % 128 / 128) * 128 ≤ (i 0).val ∧ (i 0).val < ((core m).toNat * 1 + (i 0).val % 128 / 128) * 128 + 128
      omega
    | ⟨1, _⟩ =>
      have : (i 1).val < 1024 := (i 1).isLt
      show 0 * 1024 ≤ (i 1).val ∧ (i 1).val < 0 * 1024 + 1024
      omega

end Cert.Proof.Sum13Ideal

end
-- ==== Proof.Sum13End.lean ====
module

public import proofs.«01_k».proof.Proof.Sum13Value

@[expose] public section

noncomputable section

namespace Cert.Proof.Sum13Ideal

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- What the call leaves in its output, as an array. -/
def W (hO : Ok m) : FVec Ideal S256x1024 .f32 := (dats m hO 0 0).arrAt 2 (cfgM m hO).N

theorem W_final (hO : Ok m) (h1 : (chip m).toNat < 4) (h2 : (core m).toNat < 2) (j : S256x1024.Idx)
    (hj : (j 0).val / 128 = (core m).toNat) (a : Fin 128) (b : Fin 1024) (e0 : (j 0).val % 128 = a.val) (e1 : (j 1).val = b.val) :
    W m hO j = total m a b := by
  unfold W
  rw [final m hO h1 h2 j hj]
  unfold G
  obtain rfl : (⟨(j 0).val % 128, Nat.mod_lt _ (by decide)⟩ : Fin 128) = a := Fin.ext e0
  obtain rfl : (j 1 : Fin 1024) = b := Fin.ext e1
  rfl

/-- The lines after the call pick one half of its output. -/
theorem tail (hO : Ok m) : (Pipeline.afterTail pcfgs (fun _ => adm m hO) (dats m hO) 0 (V0 m) [hostOps1, hostOps1_1] 0 main_v7 : FVec Ideal S128x1024 .f32)
    = select (broadcastInDim S128x1024 ![] bcast_S_S128x1024
        (cmpi .eq (m (((0 : Dev nD) : Thread nD τ).loc main_arg3) : IVec S_ 32) (constantI S_ 32 0#32)))
        (extractStridedSlice S128x1024 ![0, 0] (W m hO) slices_S256x1024_S128x1024_0_0)
        (extractStridedSlice S128x1024 ![128, 0] (W m hO) slices_S256x1024_S128x1024_128_0) := by
  have hinj : Function.Injective (Pipeline.arrRef spec0) := by decide
  have e3 := Pipeline.withArrays_arr spec0 hinj (0 : Dev nD) (V0 m 0) (fun w => (dats m hO 0 0).arrAt w (cfgM m hO).N) 2
  have e2 := (Pipeline.withArrays_of_ne spec0 (0 : Dev nD) (V0 m 0) (fun w => (dats m hO 0 0).arrAt w (cfgM m hO).N) main_arg3 (by decide)).trans (V_main_arg3 m 0)
  show StableHlo.after [_, _, _, _, _] (Pipeline.withArrays spec0 (0 : Dev nD) (V0 m 0) (fun w => (dats m hO 0 0).arrAt w (cfgM m hO).N)) (Proc.devRef .tc main_v7) = _
  generalize Pipeline.withArrays spec0 (0 : Dev nD) (V0 m 0) (fun w => (dats m hO 0 0).arrAt w (cfgM m hO).N) = X at e3 e2 ⊢
  after_results
  have e3' : (X (Proc.devRef .tc main_v3) : FVec Ideal S256x1024 .f32) = W m hO := e3
  have e2' : (X (Proc.devRef .tc main_arg3) : IVec S_ 32) = m (((0 : Dev nD) : Thread nD τ).loc main_arg3) := e2
  show select (broadcastInDim S128x1024 ![] bcast_S_S128x1024 (cmpi .eq (X (Proc.devRef .tc main_arg3) : IVec S_ 32) (constantI S_ 32 0#32)))
    (extractStridedSlice S128x1024 ![0, 0] (X (Proc.devRef .tc main_v3) : FVec Ideal S256x1024 .f32) slices_S256x1024_S128x1024_0_0)
    (extractStridedSlice S128x1024 ![128, 0] (X (Proc.devRef .tc main_v3) : FVec Ideal S256x1024 .f32) slices_S256x1024_S128x1024_128_0) = _
  rw [e3', e2']

/-- One of two halves, picked by a word. -/
theorem pick (b : BitVec 32) (hb : b.toNat < 2) (x : IVec S_ 32) (hx : x = fun _ => b) (w : FVec Ideal S256x1024 .f32) (v : EReal) (i : S128x1024.Idx)
    (hw : ∀ j : S256x1024.Idx, (j 0).val = b.toNat * 128 + (i 0).val → (j 1).val = (i 1).val → w j = v) :
    select (broadcastInDim S128x1024 ![] bcast_S_S128x1024 (cmpi .eq x (constantI S_ 32 0#32)))
      (extractStridedSlice S128x1024 ![0, 0] w slices_S256x1024_S128x1024_0_0)
      (extractStridedSlice S128x1024 ![128, 0] w slices_S256x1024_S128x1024_128_0) i = v := by
  subst hx
  have h0 : (i 0).val < 128 := (i 0).isLt
  have hb' : (broadcastInDim S128x1024 ![] bcast_S_S128x1024 (cmpi .eq (fun _ => b : IVec S_ 32) (constantI S_ 32 0#32)) : IVec S128x1024 1) i
      = IntOp.cmpi .eq b 0#32 := broadcastInDim_apply _ bcast_S_S128x1024 _ i (fun a => a.elim0) (fun a => a.elim0)
  have s0 : extractStridedSlice S128x1024 ![0, 0] w slices_S256x1024_S128x1024_0_0 i = w (ix2 (⟨(i 0).val, by omega⟩ : Fin 256) (i 1)) :=
    extractStridedSlice_apply ![0, 0] w slices_S256x1024_S128x1024_0_0 i (ix2 (⟨(i 0).val, by omega⟩ : Fin 256) (i 1)) (fun a => match a with
      | ⟨0, _⟩ => by show (i 0).val = 0 + (i 0).val; omega
      | ⟨1, _⟩ => by show (i 1).val = 0 + (i 1).val; omega)
  have s1 : extractStridedSlice S128x1024 ![128, 0] w slices_S256x1024_S128x1024_128_0 i = w (ix2 (⟨128 + (i 0).val, by omega⟩ : Fin 256) (i 1)) :=
    extractStridedSlice_apply ![128, 0] w slices_S256x1024_S128x1024_128_0 i (ix2 (⟨128 + (i 0).val, by omega⟩ : Fin 256) (i 1)) (fun a => match a with
      | ⟨0, _⟩ => by show 128 + (i 0).val = 128 + (i 0).val; omega
      | ⟨1, _⟩ => by show (i 1).val = 0 + (i 1).val; omega)
  refine (congrArg₂ (fun p q => Scalar.select ((broadcastInDim S128x1024 ![] bcast_S_S128x1024 (cmpi .eq (fun _ => b : IVec S_ 32) (constantI S_ 32 0#32)) : IVec S128x1024 1) i) p q) s0 s1).trans ?_
  beta_reduce
  rw [hb']
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases eb with rfl | rfl
  · refine (show _ = w (ix2 (⟨(i 0).val, by omega⟩ : Fin 256) (i 1)) from rfl).trans (hw _ ?_ rfl)
    show (i 0).val = 0 * 128 + (i 0).val
    omega
  · refine (show _ = w (ix2 (⟨128 + (i 0).val, by omega⟩ : Fin 256) (i 1)) from rfl).trans (hw _ ?_ rfl)
    show 128 + (i 0).val = 1 * 128 + (i 0).val
    omega

/-- The result is the sum over the devices of the device's own part. -/
theorem value (hO : Ok m) (h1 : (chip m).toNat < 4) (h2 : (core m).toNat < 2) (i : S128x1024.Idx) :
    (Pipeline.afterTail pcfgs (fun _ => adm m hO) (dats m hO) 0 (V0 m) [hostOps1, hostOps1_1] 0 main_v7 : FVec Ideal S128x1024 .f32) i
      = total m (i 0) (i 1) := by
  rw [tail m hO]
  have h0 : (i 0).val < 128 := (i 0).isLt
  refine pick (core m) h2 _ (funext fun k => ?_) (W m hO) _ i fun j e0 e1 => W_final m hO h1 h2 j (by omega) (i 0) (i 1) (by omega) e1
  obtain rfl : k = (fun a => a.elim0) := funext fun a => a.elim0
  rfl

section
open Cert.Reference13Ideal Cert.Reference13Ideal.Read

/-- A part of the gradient chosen by the device's number. -/
theorem chosen (x1 : FVec Ideal Cert.Reference13Ideal.S1024x1024 .bf16) (x2 x3 : IVec Cert.Reference13Ideal.S_ 32) (a b : BitVec 32)
    (ha : x2 = fun _ => a) (hb : x3 = fun _ => b) (h1 : a.toNat < 4) (h2 : b.toNat < 2)
    (i : Cert.Reference13Ideal.S128x1024.Idx) (j : Cert.Reference13Ideal.S1024x1024.Idx)
    (hj0 : (j 0).val = (a.toNat * 2 + b.toNat) * 128 + (i 0).val) (hj1 : (j 1).val = (i 1).val) :
    val_main_v42 (F := Ideal) x1 x2 x3 i = x1 j := by
  subst ha hb
  rw [val_main_v42_apply, val_main_v36_apply, val_main_v30_apply, val_main_v24_apply, val_main_v18_apply, val_main_v12_apply, val_main_v6_apply,
    val_main_v40_apply, val_main_v34_apply, val_main_v28_apply, val_main_v22_apply, val_main_v16_apply, val_main_v10_apply, val_main_v4_apply,
    val_main_v41_apply, val_main_v35_apply, val_main_v29_apply, val_main_v23_apply, val_main_v17_apply, val_main_v11_apply, val_main_v5_apply, val_main_v0_apply]
  have hj : ∀ j' : Cert.Reference13Ideal.S1024x1024.Idx, (j' 0).val = (j 0).val → (j' 1).val = (j 1).val → x1 j' = x1 j := fun j' e0 e1 =>
    congrArg x1 (funext fun k => Fin.ext (by match k with | ⟨0, _⟩ => exact e0 | ⟨1, _⟩ => exact e1))
  have ea : a = 0#32 ∨ a = 1#32 ∨ a = 2#32 ∨ a = 3#32 := by
    have : a.toNat = 0 ∨ a.toNat = 1 ∨ a.toNat = 2 ∨ a.toNat = 3 := by omega
    rcases this with h | h | h | h
    · exact .inl (BitVec.eq_of_toNat_eq h)
    · exact .inr (.inl (BitVec.eq_of_toNat_eq h))
    · exact .inr (.inr (.inl (BitVec.eq_of_toNat_eq h)))
    · exact .inr (.inr (.inr (BitVec.eq_of_toNat_eq h)))
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases ea with rfl | rfl | rfl | rfl <;> rcases eb with rfl | rfl
  · refine (show _ = x1 (idx_main_v0 i) from rfl).trans (hj _ ?_ ?_)
    · rw [hj0]; show (i 0).val = (0 * 2 + 0) * 128 + (i 0).val; omega
    · exact hj1.symm
  · refine (show _ = x1 (idx_main_v5 i) from rfl).trans (hj _ ?_ ?_)
    · rw [hj0]; show 128 + (i 0).val = (0 * 2 + 1) * 128 + (i 0).val; omega
    · exact hj1.symm
  · refine (show _ = x1 (idx_main_v11 i) from rfl).trans (hj _ ?_ ?_)
    · rw [hj0]; show 256 + (i 0).val = (1 * 2 + 0) * 128 + (i 0).val; omega
    · exact hj1.symm
  · refine (show _ = x1 (idx_main_v17 i) from rfl).trans (hj _ ?_ ?_)
    · rw [hj0]; show 384 + (i 0).val = (1 * 2 + 1) * 128 + (i 0).val; omega
    · exact hj1.symm
  · refine (show _ = x1 (idx_main_v23 i) from rfl).trans (hj _ ?_ ?_)
    · rw [hj0]; show 512 + (i 0).val = (2 * 2 + 0) * 128 + (i 0).val; omega
    · exact hj1.symm
  · refine (show _ = x1 (idx_main_v29 i) from rfl).trans (hj _ ?_ ?_)
    · rw [hj0]; show 640 + (i 0).val = (2 * 2 + 1) * 128 + (i 0).val; omega
    · exact hj1.symm
  · refine (show _ = x1 (idx_main_v35 i) from rfl).trans (hj _ ?_ ?_)
    · rw [hj0]; show 768 + (i 0).val = (3 * 2 + 0) * 128 + (i 0).val; omega
    · exact hj1.symm
  · refine (show _ = x1 (idx_main_v41 i) from rfl).trans (hj _ ?_ ?_)
    · rw [hj0]; show 896 + (i 0).val = (3 * 2 + 1) * 128 + (i 0).val; omega
    · exact hj1.symm

/-- The reference's result at a row and a column. -/
theorem reference (x0 : FVec Ideal Cert.Reference13Ideal.S7x128x1024 .bf16) (x1 : FVec Ideal Cert.Reference13Ideal.S1024x1024 .bf16)
    (x2 x3 : IVec Cert.Reference13Ideal.S_ 32) (h1 : (x2 (fun a => a.elim0)).toNat < 4) (h2 : (x3 (fun a => a.elim0)).toNat < 2)
    (i : Cert.Reference13Ideal.S128x1024.Idx) :
    val_main_v46 (F := Ideal) x0 x1 x2 x3 i
      = x1 (ix2 (⟨(((x2 (fun a => a.elim0)).toNat * 2 + (x3 (fun a => a.elim0)).toNat) * 128 + (i 0).val) % 1024, Nat.mod_lt _ (by decide)⟩ : Fin 1024) (i 1))
        + ∑ k : Fin 7, x0 (ix3 k (i 0) (i 1)) := by
  have h0 : (i 0).val < 128 := (i 0).isLt
  rw [val_main_v46_apply, val_main_v43_apply, val_main_v45_apply]
  refine congrArg₂ (· + ·) ?_ ?_
  · refine chosen x1 x2 x3 _ _ (funext fun k => ?_) (funext fun k => ?_) h1 h2 i _ ?_ rfl
    · obtain rfl : k = (fun a => a.elim0) := funext fun a => a.elim0
      rfl
    · obtain rfl : k = (fun a => a.elim0) := funext fun a => a.elim0
      rfl
    · show (((x2 (fun a => a.elim0)).toNat * 2 + (x3 (fun a => a.elim0)).toNat) * 128 + (i 0).val) % 1024 = _
      omega
  · rw [val_main_cst_apply]
    refine (congrArg₂ (· + ·) Ideal.ofBits_zero_f32 (Finset.sum_congr rfl fun k _ => ?_)).trans (zero_add _)
    rw [val_main_v44_apply]
    exact congrArg x0 (funext fun a => by match a with | ⟨0, _⟩ => rfl | ⟨1, _⟩ => rfl | ⟨2, _⟩ => rfl)

end

/-- The kernel's run and the reference's end with equal arrays. -/
theorem algebraic : Cert.algebraic_Kernel13Ideal_Reference13Ideal := by
  intro m g m' g' hpre hargs
  have w := Sum13.words_of_pre _ _ _ _ (hpre 0) (fun a => a.elim0)
  have hO := ok m w.1 w.2
  refine ⟨fun c => Pipeline.afterTail pcfgs (fun _ => adm m hO) (dats m hO) 0 (V0 m) [hostOps1, hostOps1_1] c main_v7, ?_, ?_⟩
  · exact (θ_run _ _ _).mono (fun r h c => ⟨(h.1 c).2 main_v7 (by exact (by decide : main_v7 ∈ Pipeline.restRefs sig spec0)), h.2 c⟩)
      (θ_run_and (run_main m g hO) (unchanged m g hO))
  · refine (θ_run _ _ _).mono (fun r h c => ⟨(h c).1.trans ?_, (h c).2⟩) (Cert.Reference13Ideal.Value.run (F := Ideal) m' g')
    rw [Cert.Reference13Ideal.Read.val_main_v46_eq]
    obtain rfl : c = 0 := Subsingleton.elim _ _
    obtain ⟨a0, a1, a2, a3⟩ := hargs 0
    refine funext fun i => ?_
    refine (show _ = Cert.Reference13Ideal.Read.val_main_v46 (F := Ideal) (A0 m) (A1 m)
        (m (((0 : Dev nD) : Thread nD τ).loc main_arg2) : IVec S_ 32) (m (((0 : Dev nD) : Thread nD τ).loc main_arg3) : IVec S_ 32) i from ?_).trans
      ((reference _ _ _ _ w.1 w.2 i).trans (value m hO w.1 w.2 i).symm)
    exact congrFun (congr (congr (congr (congrArg (Cert.Reference13Ideal.Read.val_main_v46 (F := Ideal)) a0) a1) a2) a3) i

end Cert.Proof.Sum13Ideal

end
-- ==== Proof.Sum14.lean ====
module

public import proofs.«01_k».proof.Defs
public import proofs.«01_k».proof.Proof.Gen.Kernel14.Frame
public import proofs.«01_k».proof.Proof.Gen.Kernel14Ideal.Frame
public import proofs.«01_k».proof.Proof.Gen.Pre_device_index_ffn
import Idealize.ShloMosaic.Lib.Pipeline.Value

/-! The call that adds up one large gradient over the devices: its tables hold the device's own numbers, and under the
    precondition that they are numbers of a device every block of the call lies inside its array. -/

@[expose] public section

namespace Cert.Proof.Sum14

open Idealize.ShloMosaic

/-- The precondition, decoded: the chip is one of four and the core one of two. -/
theorem words_of_pre {F : FTy → Type} [FloatOps F] (x0 : FVec F Cert.Pre_device_index_ffn.S7x512x1408 .bf16)
    (x1 : FVec F Cert.Pre_device_index_ffn.S1024x5632 .bf16) (x2 x3 : IVec Cert.Pre_device_index_ffn.S_ 32)
    (h : Cert.Pre_device_index_ffn.fn (F := F) x0 x1 x2 x3 = fun _ => 1#1) (i : Cert.Pre_device_index_ffn.S_.Idx) :
    (x2 i).toNat < 4 ∧ (x3 i).toNat < 2 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h i
  simp only [Cert.Pre_device_index_ffn.fn, constantI, cmpi, andi, andi_one, ofBool_eq_one, IntOp.cmpi,
    BitVec.sle, BitVec.slt, decide_eq_true_eq, BitVec.toInt, BitVec.toNat_ofNat] at pre
  have := (x2 i).isLt
  have := (x3 i).isLt
  omega

end Cert.Proof.Sum14

namespace Cert.Proof.Sum14

open Cert.Kernel14 Cert.Kernel14.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_1 numel1_S1 inb_S2_S1_0 (tbl m) i
      = ![(core m).toNat * 2 + (i 0).val, (chip m).toNat] := by
  unfold cc0_transform_0
  rw [table0, table1]
  have hi : (i 0).val < 2 := (i 0).isLt
  have e : (Scalar.addi (Scalar.muli (core m) 2#32) (BitVec.ofNat 32 (i 0).val)).toNat
      = (core m).toNat * 2 + (i 0).val := by
    simp only [Scalar.addi, Scalar.muli, IntOp.addi, IntOp.muli, BitVec.toNat_add, BitVec.toNat_mul, BitVec.toNat_ofNat]
    omega
  simp only [e]

theorem map2 (m : (ℓ : Loc nD τ sig) → Buf (Elt F) ℓ) (h2 : (core m).toNat < 2) (i : grid0.Coords) :
    cc0_transform_2 inb_S2_S1_1 numel1_S1 (tbl m) i = ![(core m).toNat * 2 + (i 0).val, 0] := by
  unfold cc0_transform_2
  rw [table1]
  have hi : (i 0).val < 2 := (i 0).isLt
  have e : (Scalar.addi (Scalar.muli (core m) 2#32) (BitVec.ofNat 32 (i 0).val)).toNat = (core m).toNat * 2 + (i 0).val := by
    simp only [Scalar.addi, Scalar.muli, IntOp.addi, IntOp.muli, BitVec.toNat_add, BitVec.toNat_mul, BitVec.toNat_ofNat]
    omega
  simp only [e]
  rfl

theorem rows_whole (n p : Nat) (hb : ∀ a, ((![n, p] : Fin 2 → Nat) a + 1) * S256x1408.size a ≤ S1024x5632.size a) :
    (Rect.block (s := S1024x5632) S256x1408.size ![n, p] hb).WholeWords (EltTy.packing .bf16) := by
  have hn : n < 4 := by
    have : (n + 1) * 256 ≤ 1024 := hb 0
    omega
  have hp : p < 4 := by
    have : (p + 1) * 1408 ≤ 5632 := hb 1
    omega
  refine (Rect.wholeWords_iff_at _ _).mpr ?_
  show Shape.WholeWordsAt S1024x5632 2 (fun a => (![n, p] : Fin 2 → Nat) a * S256x1408.size a) S256x1408.size (fun _ => 1)
  clear hb
  interval_cases n <;> interval_cases p <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 2 := (i 0).isLt
    rw [map0 m h1 h2 i]
    refine ⟨fun a => ?_, ?_⟩
    · fin_cases a
      · show ((core m).toNat * 2 + (i 0).val + 1) * 256 ≤ 1024
        omega
      · show ((chip m).toNat + 1) * 1408 ≤ 5632
        omega
    · right
      exact rows_whole _ _ _
  · have hi : (i 0).val < 2 := (i 0).isLt
    rw [map2 m h2 i]
    refine ⟨fun a => ?_, .inl rfl⟩
    fin_cases a
    · show ((core m).toNat * 2 + (i 0).val + 1) * 256 ≤ 1024
      omega
    · show (0 + 1) * 1408 ≤ 1408
      omega

theorem ok_of_pre (m : (ℓ : Loc nD τ sig) → Buf (Elt Bits) ℓ) (h : Cert.Pre_Kernel14 m) : Ok m := by
  have w := Sum14.words_of_pre _ _ _ _ (h 0) (fun a => a.elim0)
  exact ok m w.1 w.2

end Cert.Proof.Sum14

namespace Cert.Proof.Sum14Ideal

open Cert.Kernel14Ideal Cert.Kernel14Ideal.Gen
open Idealize.ShloMosaic Idealize.ShloMosaic.TcCoe

variable {F : FTy → Type} [FloatOps F]

/-- The chip's number the call is given. -/
abbrev chip (m : (ℓ : Loc nD τ sig) → Buf (Elt F) ℓ) : BitVec 32 :=
  (m (((0 : Dev nD) : Thread nD τ).loc main_arg2) : IVec S_ 32) (fun a => a.elim0)
/-- The core's number the call is given. -/
abbrev core (m : (ℓ : Loc nD τ sig) → Buf (Elt F) ℓ) : BitVec 32 :=
  (m (((0 : Dev nD) : Thread nD τ).loc main_arg3) : IVec S_ 32) (fun a => a.elim0)

theorem tbl_eq (m : (ℓ : Loc nD τ sig) → Buf (Elt F) ℓ) : (tbl m 0 : IVec S2 32)
    = concatenate S2 0 [⟨S1, broadcastInDim S1 ![] bcast_S_S1 (m (((0 : Dev nD) : Thread nD τ).loc main_arg2))⟩,
        ⟨S1, broadcastInDim S1 ![] bcast_S_S1 (m (((0 : Dev nD) : Thread nD τ).loc main_arg3))⟩] concatenates_S1_S1_S2_d0 := by
  unfold tbl
  show V0 m 0 (Proc.devRef .tc main_v2) = _
  unfold V0
  simp only [List.flatten_cons, List.flatten_nil, List.append_nil]
  after_results

theorem table0 (m : (ℓ : Loc nD τ sig) → Buf (Elt F) ℓ) :
    (tbl m).at 0 (Rect.unit (s := S2) ![0] S1.size inb_S2_S1_0) numel1_S1 = chip m := by
  unfold Pipeline.Prefetch.Contents.at
  refine (congrFun (tbl_eq m) _).trans ?_
  refine (concatenate_pair_apply_left (t := S2) (s₁ := S1) (s₂ := S1) 0 _ _ concatenates_S1_S1_S2_d0 _ rfl (fun a => ⟨0, by fin_cases a; exact Nat.one_pos⟩) (fun b => ?_)).trans ?_
  · obtain rfl : b = 0 := Subsingleton.elim _ _
    rfl
  · exact congrArg (m (((0 : Dev nD) : Thread nD τ).loc main_arg2) : IVec S_ 32) (funext fun a => a.elim0)

theorem table1 (m : (ℓ : Loc nD τ sig) → Buf (Elt F) ℓ) :
    (tbl m).at 0 (Rect.unit (s := S2) ![1] S1.size inb_S2_S1_1) numel1_S1 = core m := by
  unfold Pipeline.Prefetch.Contents.at
  refine (congrFun (tbl_eq m) _).trans ?_
  refine (concatenate_pair_apply_right (t := S2) (s₁ := S1) (s₂ := S1) 0 _ _ concatenates_S1_S1_S2_d0 _ rfl rfl (fun a => ⟨0, by fin_cases a; exact Nat.one_pos⟩) (fun b hb => ?_) ?_).trans ?_
  · exact absurd (Subsingleton.elim (α := Fin 1) _ _) hb
  · rfl
  · exact congrArg (m (((0 : Dev nD) : Thread nD τ).loc main_arg3) : IVec S_ 32) (funext fun a => a.elim0)

theorem map0 (m : (ℓ : Loc nD τ sig) → Buf (Elt F) ℓ) (h1 : (chip m).toNat < 4) (h2 : (core m).toNat < 2) (i : grid0.Coords) :
    cc0_transform_0 inb_S2_S1_1 numel1_S1 inb_S2_S1_0 (tbl m) i
      = ![(core m).toNat * 2 + (i 0).val, (chip m).toNat] := by
  unfold cc0_transform_0
  rw [table0, table1]
  have hi : (i 0).val < 2 := (i 0).isLt
  have e : (Scalar.addi (Scalar.muli (core m) 2#32) (BitVec.ofNat 32 (i 0).val)).toNat
      = (core m).toNat * 2 + (i 0).val := by
    simp only [Scalar.addi, Scalar.muli, IntOp.addi, IntOp.muli, BitVec.toNat_add, BitVec.toNat_mul, BitVec.toNat_ofNat]
    omega
  simp only [e]

theorem map2 (m : (ℓ : Loc nD τ sig) → Buf (Elt F) ℓ) (h2 : (core m).toNat < 2) (i : grid0.Coords) :
    cc0_transform_2 inb_S2_S1_1 numel1_S1 (tbl m) i = ![(core m).toNat * 2 + (i 0).val, 0] := by
  unfold cc0_transform_2
  rw [table1]
  have hi : (i 0).val < 2 := (i 0).isLt
  have e : (Scalar.addi (Scalar.muli (core m) 2#32) (BitVec.ofNat 32 (i 0).val)).toNat = (core m).toNat * 2 + (i 0).val := by
    simp only [Scalar.addi, Scalar.muli, IntOp.addi, IntOp.muli, BitVec.toNat_add, BitVec.toNat_mul, BitVec.toNat_ofNat]
    omega
  simp only [e]
  rfl

theorem rows_whole (n p : Nat) (hb : ∀ a, ((![n, p] : Fin 2 → Nat) a + 1) * S256x1408.size a ≤ S1024x5632.size a) :
    (Rect.block (s := S1024x5632) S256x1408.size ![n, p] hb).WholeWords (EltTy.packing .bf16) := by
  have hn : n < 4 := by
    have : (n + 1) * 256 ≤ 1024 := hb 0
    omega
  have hp : p < 4 := by
    have : (p + 1) * 1408 ≤ 5632 := hb 1
    omega
  refine (Rect.wholeWords_iff_at _ _).mpr ?_
  show Shape.WholeWordsAt S1024x5632 2 (fun a => (![n, p] : Fin 2 → Nat) a * S256x1408.size a) S256x1408.size (fun _ => 1)
  clear hb
  interval_cases n <;> interval_cases p <;> decide

theorem ok (m : (ℓ : Loc nD τ sig) → Buf (Elt F) ℓ) (h1 : (chip m).toNat < 4) (h2 : (core m).toNat < 2) : Ok m := by
  refine ⟨fun i => ?_, fun i => ?_⟩
  · have hi : (i 0).val < 2 := (i 0).isLt
    rw [map0 m h1 h2 i]
    refine ⟨fun a => ?_, ?_⟩
    · fin_cases a
      · show ((core m).toNat * 2 + (i 0).val + 1) * 256 ≤ 1024
        omega
      · show ((chip m).toNat + 1) * 1408 ≤ 5632
        omega
    · right
      exact rows_whole _ _ _
  · have hi : (i 0).val < 2 := (i 0).isLt
    rw [map2 m h2 i]
    refine ⟨fun a => ?_, .inl rfl⟩
    fin_cases a
    · show ((core m).toNat * 2 + (i 0).val + 1) * 256 ≤ 1024
      omega
    · show (0 + 1) * 1408 ≤ 1408
      omega

theorem ok_of_pre (m : (ℓ : Loc nD τ sig) → Buf (Elt Ideal) ℓ) (h : Cert.Pre_Kernel14Ideal m) : Ok m := by
  have w := Sum14.words_of_pre _ _ _ _ (h 0) (fun a => a.elim0)
  exact ok m w.1 w.2

end Cert.Proof.Sum14Ideal
-- ==== Proof.Sum14Value.lean ====
module

public import proofs.«01_k».proof.Proof.Sum14
public import proofs.«01_k».proof.Proof.Gen.Reference14Ideal.Read
public import proofs.«01_k».proof.Proof.Common
import Idealize.ShloMosaic.Lib.Pipeline.Value
public import Idealize.ShloMosaic.Lib.Pipeline.ValueKit

@[expose] public section

noncomputable section

namespace Cert.Proof.Sum14Ideal

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- One of the seven received parts of a block. -/
abbrev part (x : S7x256x1408.Idx → EReal) (k : Fin 7) (y : S256x1408.Idx) : EReal :=
  x (ix3 k (y 0) (y 1))

/-- The device's own part of a block. -/
abbrev own (hO : Ok m) (c : Dev nD) (t : Fin (cfgM m hO).N) : S256x1408.Idx → EReal := iblk m hO c 0 t
/-- The received parts of a block. -/
abbrev got (hO : Ok m) (c : Dev nD) (t : Fin (cfgM m hO).N) : S7x256x1408.Idx → EReal := iblk m hO c 1 t

theorem slot (x : Vec Ideal S7x256x1408 .bf16) (k : Fin 7) (h) (hc) (y : S256x1408.Idx) :
    (shapeCast S256x1408 (View.ld x (Rect.unit (s := S7x256x1408) ![k.val, 0, 0] ![1, 256, 1408] h)) hc y : EReal) = part x k y := by
  refine (shapeCast_dropUnit_apply (n := 2) ![256, 1408] _ hc y).trans ?_
  refine View.ld_unit_apply_of _ _ _ _ _ _ fun a => ?_
  match a with
  | ⟨0, _⟩ => exact (Nat.add_zero _).symm
  | ⟨1, _⟩ => exact (Nat.zero_add _).symm
  | ⟨2, _⟩ => exact (Nat.zero_add _).symm

theorem after_eq (hO : Ok m) (c : Dev nD) (t : Fin (cfgM m hO).N) (y : S256x1408.Idx) :
    (outsAt0 m hO c t : S256x1408.Idx → EReal) y = own m hO c t y + ∑ k : Fin 7, part (got m hO c t) k y := by
  unfold outsAt0
  frame_out
  have e0 : (ms0_0 m hO t).view.read (Elt Ideal) ((hs0_0 m hO t).unread (iblk m hO c 0 t)) = own m hO c t := (hs0_0 m hO t).read_unread _
  have e1 : (ms0_1 m hO t).view.read (Elt Ideal) ((hs0_1 m hO t).unread (iblk m hO c 1 t)) = got m hO c t := (hs0_1 m hO t).read_unread _
  erw [e0, e1]
  generalize own m hO c t = u
  generalize got m hO c t = x
  unfold k0_pay1
  rw [Fin.sum_univ_seven, ← slot x 0 inb_S7x256x1408_S1x256x1408_0_0_0 shapeCasts_S1x256x1408_S256x1408 y, ← slot x 1 inb_S7x256x1408_S1x256x1408_1_0_0 shapeCasts_S1x256x1408_S256x1408 y,
    ← slot x 2 inb_S7x256x1408_S1x256x1408_2_0_0 shapeCasts_S1x256x1408_S256x1408 y, ← slot x 3 inb_S7x256x1408_S1x256x1408_3_0_0 shapeCasts_S1x256x1408_S256x1408 y,
    ← slot x 4 inb_S7x256x1408_S1x256x1408_4_0_0 shapeCasts_S1x256x1408_S256x1408 y, ← slot x 5 inb_S7x256x1408_S1x256x1408_5_0_0 shapeCasts_S1x256x1408_S256x1408 y,
    ← slot x 6 inb_S7x256x1408_S1x256x1408_6_0_0 shapeCasts_S1x256x1408_S256x1408 y]
  simp only [← add_assoc]
  rfl

theorem coord : ∀ t : Fin grid0.N, (grid0.coords t 0).val = t.val := by decide

theorem index0 (hO : Ok m) (h1 : (chip m).toNat < 4) (h2 : (core m).toNat < 2) (t : Fin (cfgM m hO).N) :
    ((cfgM m hO).win 0).index t = ![(core m).toNat * 2 + t.val, (chip m).toNat] :=
  (map0 m h1 h2 (grid0.coords t)).trans (by rw [coord])

theorem index1 (hO : Ok m) (t : Fin (cfgM m hO).N) : ((cfgM m hO).win 1).index t = ![0, t.val, 0] := by
  show cc0_transform_1 (grid0.coords t) = _
  have ht : t.val < 2 := t.isLt
  unfold cc0_transform_1
  simp only [coord, BitVec.toNat_ofNat]
  have e : t.val % 2 ^ 32 = t.val := Nat.mod_eq_of_lt (by omega)
  rw [e]

theorem index2 (hO : Ok m) (h2 : (core m).toNat < 2) (t : Fin (cfgM m hO).N) :
    ((cfgM m hO).win 2).index t = ![(core m).toNat * 2 + t.val, 0] :=
  (map2 m h2 (grid0.coords t)).trans (by rw [coord])

theorem flush2 (hO : Ok m) (h2 : (core m).toNat < 2) (t : Fin (cfgM m hO).N) : ((cfgM m hO).win 2).flush t = true := by
  have ht : t.val < 2 := t.isLt
  unfold Pipeline.Window.flush
  by_cases h : t.val + 1 = grid0.N
  · simp only [Bool.and_eq_true, Bool.or_eq_true, decide_eq_true_eq]
    exact ⟨rfl, .inl h⟩
  · simp only [Bool.and_eq_true, Bool.or_eq_true, decide_eq_true_eq]
    refine ⟨rfl, .inr ⟨by have : t.val + 1 < 2 := Nat.lt_of_le_of_ne ht h; exact this, fun e => ?_⟩⟩
    rw [index2 m hO h2, index2 m hO h2] at e
    have := congrFun e 0
    have : (core m).toNat * 2 + (t.val + 1) = (core m).toNat * 2 + t.val := this
    omega

/-- The arrays the call is given. -/
abbrev A0 : S7x512x1408.Idx → EReal := m (((0 : Dev nD) : Thread nD τ).loc main_arg0)
abbrev A1 : S1024x5632.Idx → EReal := m (((0 : Dev nD) : Thread nD τ).loc main_arg1)

/-- The sum at a row and a column of the device's own part. -/
abbrev total (i : Fin 512) (j : Fin 1408) : EReal :=
  A1 m (ix2 (⟨((core m).toNat * 512 + i.val) % 1024, Nat.mod_lt _ (by decide)⟩ : Fin 1024) (⟨((chip m).toNat * 1408 + j.val) % 5632, Nat.mod_lt _ (by decide)⟩ : Fin 5632))
    + ∑ k : Fin 7, A0 m (ix3 k i j)

/-- The sum as the whole output, of which the device's own half is written. -/
def G : S1024x1408.Idx → EReal := fun i => total m ⟨(i 0).val % 512, Nat.mod_lt _ (by decide)⟩ (i 1)

def cell0 (hO : Ok m) (t : Fin (cfgM m hO).N) (y : S256x1408.Idx) : S1024x5632.Idx := (((cfgM m hO).win 0).blk t).view.emb y

def cell1 (hO : Ok m) (t : Fin (cfgM m hO).N) (y : S7x256x1408.Idx) : S7x512x1408.Idx := (((cfgM m hO).win 1).blk t).view.emb y

def cell2 (hO : Ok m) (t : Fin (cfgM m hO).N) (y : S256x1408.Idx) : S1024x1408.Idx := (((cfgM m hO).win 2).blk t).view.emb y

theorem cell0_0 (hO : Ok m) (h1 : (chip m).toNat < 4) (h2 : (core m).toNat < 2) (t : Fin (cfgM m hO).N) (y : S256x1408.Idx) :
    (cell0 m hO t y 0).val = (core m).toNat * 512 + (t.val * 256 + (y 0).val) := by
  unfold cell0
  blk_simp [index0 m hO h1 h2]
  show ((core m).toNat * 2 + t.val) * 256 + (y 0).val = _
  omega

theorem cell0_1 (hO : Ok m) (h1 : (chip m).toNat < 4) (h2 : (core m).toNat < 2) (t : Fin (cfgM m hO).N) (y : S256x1408.Idx) :
    (cell0 m hO t y 1).val = (chip m).toNat * 1408 + (y 1).val := by
  unfold cell0
  blk_simp [index0 m hO h1 h2]

theorem cell1_0 (hO : Ok m) (t : Fin (cfgM m hO).N) (y : S7x256x1408.Idx) : (cell1 m hO t y 0).val = (y 0).val := by
  unfold cell1
  blk_simp [index1 m hO]

theorem cell1_1 (hO : Ok m) (t : Fin (cfgM m hO).N) (y : S7x256x1408.Idx) : (cell1 m hO t y 1).val = t.val * 256 + (y 1).val := by
  unfold cell1
  blk_simp [index1 m hO]

theorem cell1_2 (hO : Ok m) (t : Fin (cfgM m hO).N) (y : S7x256x1408.Idx) : (cell1 m hO t y 2).val = (y 2).val := by
  unfold cell1
  blk_simp [index1 m hO]

theorem cell2_0 (hO : Ok m) (h2 : (core m).toNat < 2) (t : Fin (cfgM m hO).N) (y : S256x1408.Idx) :
    (cell2 m hO t y 0).val = ((core m).toNat * 2 + t.val) * 256 + (y 0).val := by
  unfold cell2
  blk_simp [index2 m hO h2]

theorem cell2_1 (hO : Ok m) (h2 : (core m).toNat < 2) (t : Fin (cfgM m hO).N) (y : S256x1408.Idx) :
    (cell2 m hO t y 1).val = (y 1).val := by
  unfold cell2
  blk_simp [index2 m hO h2]

theorem own_cell (hO : Ok m) (t : Fin (cfgM m hO).N) (y : S256x1408.Idx) : own m hO 0 t y = A1 m (cell0 m hO t y) := by
  have e : own m hO 0 t y = V m 0 main_arg1 (cell0 m hO t y) := by
    blk_simp [iblk]
    rfl
  rw [e, V_main_arg1]

theorem got_cell (hO : Ok m) (t : Fin (cfgM m hO).N) (y : S7x256x1408.Idx) : got m hO 0 t y = A0 m (cell1 m hO t y) := by
  have e : got m hO 0 t y = V m 0 main_arg0 (cell1 m hO t y) := by
    blk_simp [iblk]
    rfl
  rw [e, V_main_arg0]

theorem own_eq (hO : Ok m) (h1 : (chip m).toNat < 4) (h2 : (core m).toNat < 2) (t : Fin (cfgM m hO).N) (y : S256x1408.Idx) (i : S1024x5632.Idx)
    (hi0 : (i 0).val = (core m).toNat * 512 + (t.val * 256 + (y 0).val)) (hi1 : (i 1).val = (chip m).toNat * 1408 + (y 1).val) :
    own m hO 0 t y = A1 m i := by
  rw [own_cell]
  refine congrArg (A1 m) (funext fun a => Fin.ext ?_)
  fin_cases a
  · exact (cell0_0 m hO h1 h2 t y).trans hi0.symm
  · exact (cell0_1 m hO h1 h2 t y).trans hi1.symm

theorem got_eq (hO : Ok m) (t : Fin (cfgM m hO).N) (y : S7x256x1408.Idx) (i : S7x512x1408.Idx)
    (hi0 : (i 0).val = (y 0).val) (hi1 : (i 1).val = t.val * 256 + (y 1).val) (hi2 : (i 2).val = (y 2).val) :
    got m hO 0 t y = A0 m i := by
  rw [got_cell]
  refine congrArg (A0 m) (funext fun a => Fin.ext ?_)
  fin_cases a
  · exact (cell1_0 m hO t y).trans hi0.symm
  · exact (cell1_1 m hO t y).trans hi1.symm
  · exact (cell1_2 m hO t y).trans hi2.symm

theorem after_cell (hO : Ok m) (h1 : (chip m).toNat < 4) (h2 : (core m).toNat < 2) (t : Fin (cfgM m hO).N) (y : S256x1408.Idx) :
    outsAt0 m hO 0 t y = G m (cell2 m hO t y) := by
  have e0 := cell2_0 m hO h2 t y
  have e1 := cell2_1 m hO h2 t y
  have ht : t.val < 2 := t.isLt
  have hy : (y 0).val < 256 := (y 0).isLt
  rw [after_eq]
  generalize cell2 m hO t y = j at e0 e1
  have ej : (j 0).val % 512 = t.val * 256 + (y 0).val := by omega
  refine congrArg₂ (· + ·) ?_ (Finset.sum_congr rfl fun k _ => ?_)
  · refine own_eq m hO h1 h2 t y _ ?_ ?_
    · show ((core m).toNat * 512 + (j 0).val % 512) % 1024 = _
      rw [ej]
      omega
    · show ((chip m).toNat * 1408 + (j 1).val) % 5632 = _
      have hy1 : (y 1).val < 1408 := (y 1).isLt
      rw [e1]
      omega
  · refine got_eq m hO t _ _ rfl ?_ ?_
    · exact ej
    · exact e1

/-- The device's own half of the output, after the last point. -/
theorem final (hO : Ok m) (h1 : (chip m).toNat < 4) (h2 : (core m).toNat < 2) (i : S1024x1408.Idx)
    (hi : (i 0).val / 512 = (core m).toNat) : (dats m hO 0 0).arrAt 2 (cfgM m hO).N i = G m i := by
  have h0 : (i 0).val < 1024 := (i 0).isLt
  have hlt : (i 0).val % 512 / 256 < 2 := by omega
  refine (dats m hO 0 0).arrAt_forall_of_flushed 2 (fun i v => v = G m i) ?_ _ ⟨(i 0).val % 512 / 256, hlt⟩ i hlt (flush2 m hO h2 _) ?_
  · intro t hf y
    blk_simp
    rw [after0_2]
    exact after_cell m hO h1 h2 t y
  · have e := (((cfgM m hO).win 2).emb_mem_blk_iff ⟨(i 0).val % 512 / 256, hlt⟩ i).mpr
    refine e fun a => ?_
    rw [index2 m hO h2]
    match a with
    | ⟨0, _⟩ =>
      show ((core m).toNat * 2 + (i 0).val % 512 / 256) * 256 ≤ (i 0).val ∧ (i 0).val < ((core m).toNat * 2 + (i 0).val % 512 / 256) * 256 + 256
      omega
    | ⟨1, _⟩ =>
      have : (i 1).val < 1408 := (i 1).isLt
      show 0 * 1408 ≤ (i 1).val ∧ (i 1).val < 0 * 1408 + 1408
      omega

end Cert.Proof.Sum14Ideal

end
-- ==== Proof.Sum14End.lean ====
module

public import proofs.«01_k».proof.Proof.Sum14Value

@[expose] public section

noncomputable section

namespace Cert.Proof.Sum14Ideal

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- What the call leaves in its output, as an array. -/
def W (hO : Ok m) : FVec Ideal S1024x1408 .f32 := (dats m hO 0 0).arrAt 2 (cfgM m hO).N

theorem W_final (hO : Ok m) (h1 : (chip m).toNat < 4) (h2 : (core m).toNat < 2) (j : S1024x1408.Idx)
    (hj : (j 0).val / 512 = (core m).toNat) (a : Fin 512) (b : Fin 1408) (e0 : (j 0).val % 512 = a.val) (e1 : (j 1).val = b.val) :
    W m hO j = total m a b := by
  unfold W
  rw [final m hO h1 h2 j hj]
  unfold G
  obtain rfl : (⟨(j 0).val % 512, Nat.mod_lt _ (by decide)⟩ : Fin 512) = a := Fin.ext e0
  obtain rfl : (j 1 : Fin 1408) = b := Fin.ext e1
  rfl

/-- The lines after the call pick one half of its output. -/
theorem tail (hO : Ok m) : (Pipeline.afterTail pcfgs (fun _ => adm m hO) (dats m hO) 0 (V0 m) [hostOps1, hostOps1_1] 0 main_v7 : FVec Ideal S512x1408 .f32)
    = select (broadcastInDim S512x1408 ![] bcast_S_S512x1408
        (cmpi .eq (m (((0 : Dev nD) : Thread nD τ).loc main_arg3) : IVec S_ 32) (constantI S_ 32 0#32)))
        (extractStridedSlice S512x1408 ![0, 0] (W m hO) slices_S1024x1408_S512x1408_0_0)
        (extractStridedSlice S512x1408 ![512, 0] (W m hO) slices_S1024x1408_S512x1408_512_0) := by
  have hinj : Function.Injective (Pipeline.arrRef spec0) := by decide
  have e3 := Pipeline.withArrays_arr spec0 hinj (0 : Dev nD) (V0 m 0) (fun w => (dats m hO 0 0).arrAt w (cfgM m hO).N) 2
  have e2 := (Pipeline.withArrays_of_ne spec0 (0 : Dev nD) (V0 m 0) (fun w => (dats m hO 0 0).arrAt w (cfgM m hO).N) main_arg3 (by decide)).trans (V_main_arg3 m 0)
  show StableHlo.after [_, _, _, _, _] (Pipeline.withArrays spec0 (0 : Dev nD) (V0 m 0) (fun w => (dats m hO 0 0).arrAt w (cfgM m hO).N)) (Proc.devRef .tc main_v7) = _
  generalize Pipeline.withArrays spec0 (0 : Dev nD) (V0 m 0) (fun w => (dats m hO 0 0).arrAt w (cfgM m hO).N) = X at e3 e2 ⊢
  after_results
  have e3' : (X (Proc.devRef .tc main_v3) : FVec Ideal S1024x1408 .f32) = W m hO := e3
  have e2' : (X (Proc.devRef .tc main_arg3) : IVec S_ 32) = m (((0 : Dev nD) : Thread nD τ).loc main_arg3) := e2
  show select (broadcastInDim S512x1408 ![] bcast_S_S512x1408 (cmpi .eq (X (Proc.devRef .tc main_arg3) : IVec S_ 32) (constantI S_ 32 0#32)))
    (extractStridedSlice S512x1408 ![0, 0] (X (Proc.devRef .tc main_v3) : FVec Ideal S1024x1408 .f32) slices_S1024x1408_S512x1408_0_0)
    (extractStridedSlice S512x1408 ![512, 0] (X (Proc.devRef .tc main_v3) : FVec Ideal S1024x1408 .f32) slices_S1024x1408_S512x1408_512_0) = _
  rw [e3', e2']

/-- One of two halves, picked by a word. -/
theorem pick (b : BitVec 32) (hb : b.toNat < 2) (x : IVec S_ 32) (hx : x = fun _ => b) (w : FVec Ideal S1024x1408 .f32) (v : EReal) (i : S512x1408.Idx)
    (hw : ∀ j : S1024x1408.Idx, (j 0).val = b.toNat * 512 + (i 0).val → (j 1).val = (i 1).val → w j = v) :
    select (broadcastInDim S512x1408 ![] bcast_S_S512x1408 (cmpi .eq x (constantI S_ 32 0#32)))
      (extractStridedSlice S512x1408 ![0, 0] w slices_S1024x1408_S512x1408_0_0)
      (extractStridedSlice S512x1408 ![512, 0] w slices_S1024x1408_S512x1408_512_0) i = v := by
  subst hx
  have h0 : (i 0).val < 512 := (i 0).isLt
  have hb' : (broadcastInDim S512x1408 ![] bcast_S_S512x1408 (cmpi .eq (fun _ => b : IVec S_ 32) (constantI S_ 32 0#32)) : IVec S512x1408 1) i
      = IntOp.cmpi .eq b 0#32 := broadcastInDim_apply _ bcast_S_S512x1408 _ i (fun a => a.elim0) (fun a => a.elim0)
  have s0 : extractStridedSlice S512x1408 ![0, 0] w slices_S1024x1408_S512x1408_0_0 i = w (ix2 (⟨(i 0).val, by omega⟩ : Fin 1024) (i 1)) :=
    extractStridedSlice_apply ![0, 0] w slices_S1024x1408_S512x1408_0_0 i (ix2 (⟨(i 0).val, by omega⟩ : Fin 1024) (i 1)) (fun a => match a with
      | ⟨0, _⟩ => by show (i 0).val = 0 + (i 0).val; omega
      | ⟨1, _⟩ => by show (i 1).val = 0 + (i 1).val; omega)
  have s1 : extractStridedSlice S512x1408 ![512, 0] w slices_S1024x1408_S512x1408_512_0 i = w (ix2 (⟨512 + (i 0).val, by omega⟩ : Fin 1024) (i 1)) :=
    extractStridedSlice_apply ![512, 0] w slices_S1024x1408_S512x1408_512_0 i (ix2 (⟨512 + (i 0).val, by omega⟩ : Fin 1024) (i 1)) (fun a => match a with
      | ⟨0, _⟩ => by show 512 + (i 0).val = 512 + (i 0).val; omega
      | ⟨1, _⟩ => by show (i 1).val = 0 + (i 1).val; omega)
  refine (congrArg₂ (fun p q => Scalar.select ((broadcastInDim S512x1408 ![] bcast_S_S512x1408 (cmpi .eq (fun _ => b : IVec S_ 32) (constantI S_ 32 0#32)) : IVec S512x1408 1) i) p q) s0 s1).trans ?_
  beta_reduce
  rw [hb']
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases eb with rfl | rfl
  · refine (show _ = w (ix2 (⟨(i 0).val, by omega⟩ : Fin 1024) (i 1)) from rfl).trans (hw _ ?_ rfl)
    show (i 0).val = 0 * 512 + (i 0).val
    omega
  · refine (show _ = w (ix2 (⟨512 + (i 0).val, by omega⟩ : Fin 1024) (i 1)) from rfl).trans (hw _ ?_ rfl)
    show 512 + (i 0).val = 1 * 512 + (i 0).val
    omega

/-- The result is the sum over the devices of the device's own part. -/
theorem value (hO : Ok m) (h1 : (chip m).toNat < 4) (h2 : (core m).toNat < 2) (i : S512x1408.Idx) :
    (Pipeline.afterTail pcfgs (fun _ => adm m hO) (dats m hO) 0 (V0 m) [hostOps1, hostOps1_1] 0 main_v7 : FVec Ideal S512x1408 .f32) i
      = total m (i 0) (i 1) := by
  rw [tail m hO]
  have h0 : (i 0).val < 512 := (i 0).isLt
  refine pick (core m) h2 _ (funext fun k => ?_) (W m hO) _ i fun j e0 e1 => W_final m hO h1 h2 j (by omega) (i 0) (i 1) (by omega) e1
  obtain rfl : k = (fun a => a.elim0) := funext fun a => a.elim0
  rfl

section
open Cert.Reference14Ideal Cert.Reference14Ideal.Read

/-- A part of the gradient chosen by the device's number. -/
theorem chosen (x1 : FVec Ideal Cert.Reference14Ideal.S1024x5632 .bf16) (x2 x3 : IVec Cert.Reference14Ideal.S_ 32) (a b : BitVec 32)
    (ha : x2 = fun _ => a) (hb : x3 = fun _ => b) (h1 : a.toNat < 4) (h2 : b.toNat < 2)
    (i : Cert.Reference14Ideal.S512x1408.Idx) (j : Cert.Reference14Ideal.S1024x5632.Idx)
    (hj0 : (j 0).val = b.toNat * 512 + (i 0).val) (hj1 : (j 1).val = a.toNat * 1408 + (i 1).val) :
    val_main_v42 (F := Ideal) x1 x2 x3 i = x1 j := by
  subst ha hb
  rw [val_main_v42_apply, val_main_v36_apply, val_main_v30_apply, val_main_v24_apply, val_main_v18_apply, val_main_v12_apply, val_main_v6_apply,
    val_main_v41_apply, val_main_v35_apply, val_main_v29_apply, val_main_v23_apply, val_main_v17_apply, val_main_v11_apply, val_main_v5_apply,
    val_main_v37_apply, val_main_v31_apply, val_main_v25_apply, val_main_v19_apply, val_main_v13_apply, val_main_v7_apply, val_main_v1_apply, val_main_v0_apply]
  have hj : ∀ j' : Cert.Reference14Ideal.S1024x5632.Idx, (j' 0).val = (j 0).val → (j' 1).val = (j 1).val → x1 j' = x1 j := fun j' e0 e1 =>
    congrArg x1 (funext fun k => Fin.ext (by match k with | ⟨0, _⟩ => exact e0 | ⟨1, _⟩ => exact e1))
  have ea : a = 0#32 ∨ a = 1#32 ∨ a = 2#32 ∨ a = 3#32 := by
    have : a.toNat = 0 ∨ a.toNat = 1 ∨ a.toNat = 2 ∨ a.toNat = 3 := by omega
    rcases this with h | h | h | h
    · exact .inl (BitVec.eq_of_toNat_eq h)
    · exact .inr (.inl (BitVec.eq_of_toNat_eq h))
    · exact .inr (.inr (.inl (BitVec.eq_of_toNat_eq h)))
    · exact .inr (.inr (.inr (BitVec.eq_of_toNat_eq h)))
  have eb : b = 0#32 ∨ b = 1#32 := by
    have : b.toNat = 0 ∨ b.toNat = 1 := by omega
    rcases this with h | h
    · exact .inl (BitVec.eq_of_toNat_eq h)
    · exact .inr (BitVec.eq_of_toNat_eq h)
  rcases ea with rfl | rfl | rfl | rfl <;> rcases eb with rfl | rfl
  · refine (show _ = x1 (idx_main_v0 i) from rfl).trans (hj _ ?_ ?_)
    · rw [hj0]; show (i 0).val = 0 * 512 + (i 0).val; omega
    · rw [hj1]; show (i 1).val = 0 * 1408 + (i 1).val; omega
  · refine (show _ = x1 (idx_main_v1 i) from rfl).trans (hj _ ?_ ?_)
    · rw [hj0]; show 512 + (i 0).val = 1 * 512 + (i 0).val; omega
    · rw [hj1]; show (i 1).val = 0 * 1408 + (i 1).val; omega
  · refine (show _ = x1 (idx_main_v7 i) from rfl).trans (hj _ ?_ ?_)
    · rw [hj0]; show (i 0).val = 0 * 512 + (i 0).val; omega
    · rw [hj1]; show 1408 + (i 1).val = 1 * 1408 + (i 1).val; omega
  · refine (show _ = x1 (idx_main_v13 i) from rfl).trans (hj _ ?_ ?_)
    · rw [hj0]; show 512 + (i 0).val = 1 * 512 + (i 0).val; omega
    · rw [hj1]; show 1408 + (i 1).val = 1 * 1408 + (i 1).val; omega
  · refine (show _ = x1 (idx_main_v19 i) from rfl).trans (hj _ ?_ ?_)
    · rw [hj0]; show (i 0).val = 0 * 512 + (i 0).val; omega
    · rw [hj1]; show 2816 + (i 1).val = 2 * 1408 + (i 1).val; omega
  · refine (show _ = x1 (idx_main_v25 i) from rfl).trans (hj _ ?_ ?_)
    · rw [hj0]; show 512 + (i 0).val = 1 * 512 + (i 0).val; omega
    · rw [hj1]; show 2816 + (i 1).val = 2 * 1408 + (i 1).val; omega
  · refine (show _ = x1 (idx_main_v31 i) from rfl).trans (hj _ ?_ ?_)
    · rw [hj0]; show (i 0).val = 0 * 512 + (i 0).val; omega
    · rw [hj1]; show 4224 + (i 1).val = 3 * 1408 + (i 1).val; omega
  · refine (show _ = x1 (idx_main_v37 i) from rfl).trans (hj _ ?_ ?_)
    · rw [hj0]; show 512 + (i 0).val = 1 * 512 + (i 0).val; omega
    · rw [hj1]; show 4224 + (i 1).val = 3 * 1408 + (i 1).val; omega

/-- The reference's result at a row and a column. -/
theorem reference (x0 : FVec Ideal Cert.Reference14Ideal.S7x512x1408 .bf16) (x1 : FVec Ideal Cert.Reference14Ideal.S1024x5632 .bf16)
    (x2 x3 : IVec Cert.Reference14Ideal.S_ 32) (h1 : (x2 (fun a => a.elim0)).toNat < 4) (h2 : (x3 (fun a => a.elim0)).toNat < 2)
    (i : Cert.Reference14Ideal.S512x1408.Idx) :
    val_main_v46 (F := Ideal) x0 x1 x2 x3 i
      = x1 (ix2 (⟨((x3 (fun a => a.elim0)).toNat * 512 + (i 0).val) % 1024, Nat.mod_lt _ (by decide)⟩ : Fin 1024) (⟨((x2 (fun a => a.elim0)).toNat * 1408 + (i 1).val) % 5632, Nat.mod_lt _ (by decide)⟩ : Fin 5632))
        + ∑ k : Fin 7, x0 (ix3 k (i 0) (i 1)) := by
  have h0 : (i 0).val < 512 := (i 0).isLt
  rw [val_main_v46_apply, val_main_v43_apply, val_main_v45_apply]
  refine congrArg₂ (· + ·) ?_ ?_
  · refine chosen x1 x2 x3 _ _ (funext fun k => ?_) (funext fun k => ?_) h1 h2 i _ ?_ ?_
    · obtain rfl : k = (fun a => a.elim0) := funext fun a => a.elim0
      rfl
    · obtain rfl : k = (fun a => a.elim0) := funext fun a => a.elim0
      rfl
    · show ((x3 (fun a => a.elim0)).toNat * 512 + (i 0).val) % 1024 = _
      omega
    · have hi1 : (i 1).val < 1408 := (i 1).isLt
      show ((x2 (fun a => a.elim0)).toNat * 1408 + (i 1).val) % 5632 = _
      omega
  · rw [val_main_cst_apply]
    refine (congrArg₂ (· + ·) Ideal.ofBits_zero_f32 (Finset.sum_congr rfl fun k _ => ?_)).trans (zero_add _)
    rw [val_main_v44_apply]
    exact congrArg x0 (funext fun a => by match a with | ⟨0, _⟩ => rfl | ⟨1, _⟩ => rfl | ⟨2, _⟩ => rfl)

end

/-- The kernel's run and the reference's end with equal arrays. -/
theorem algebraic : Cert.algebraic_Kernel14Ideal_Reference14Ideal := by
  intro m g m' g' hpre hargs
  have w := Sum14.words_of_pre _ _ _ _ (hpre 0) (fun a => a.elim0)
  have hO := ok m w.1 w.2
  refine ⟨fun c => Pipeline.afterTail pcfgs (fun _ => adm m hO) (dats m hO) 0 (V0 m) [hostOps1, hostOps1_1] c main_v7, ?_, ?_⟩
  · exact (θ_run _ _ _).mono (fun r h c => ⟨(h.1 c).2 main_v7 (by exact (by decide : main_v7 ∈ Pipeline.restRefs sig spec0)), h.2 c⟩)
      (θ_run_and (run_main m g hO) (unchanged m g hO))
  · refine (θ_run _ _ _).mono (fun r h c => ⟨(h c).1.trans ?_, (h c).2⟩) (Cert.Reference14Ideal.Value.run (F := Ideal) m' g')
    rw [Cert.Reference14Ideal.Read.val_main_v46_eq]
    obtain rfl : c = 0 := Subsingleton.elim _ _
    obtain ⟨a0, a1, a2, a3⟩ := hargs 0
    refine funext fun i => ?_
    refine (show _ = Cert.Reference14Ideal.Read.val_main_v46 (F := Ideal) (A0 m) (A1 m)
        (m (((0 : Dev nD) : Thread nD τ).loc main_arg2) : IVec S_ 32) (m (((0 : Dev nD) : Thread nD τ).loc main_arg3) : IVec S_ 32) i from ?_).trans
      ((reference _ _ _ _ w.1 w.2 i).trans (value m hO w.1 w.2 i).symm)
    exact congrFun (congr (congr (congr (congrArg (Cert.Reference14Ideal.Read.val_main_v46 (F := Ideal)) a0) a1) a2) a3) i

end Cert.Proof.Sum14Ideal

end
-- ==== Proof.lean ====
/-  The certificate: the frames of every program, and the equality of each kernel's results with its reference's
    over the extended reals. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Sq
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.SmallBits
public import proofs.«01_k».proof.Proof.Gen.Kernel12.Frame
public import proofs.«01_k».proof.Proof.Gen.Kernel13.Frame
public import proofs.«01_k».proof.Proof.Gen.Kernel14.Frame
public import proofs.«01_k».proof.Proof.Step
public import proofs.«01_k».proof.Proof.Back
public import proofs.«01_k».proof.Proof.Grad3
public import proofs.«01_k».proof.Proof.Grad4
public import proofs.«01_k».proof.Proof.Grad5
public import proofs.«01_k».proof.Proof.Adam6
public import proofs.«01_k».proof.Proof.Adam7
public import proofs.«01_k».proof.Proof.Adam8
public import proofs.«01_k».proof.Proof.Adam9
public import proofs.«01_k».proof.Proof.Adam10
public import proofs.«01_k».proof.Proof.SmallEnd
public import proofs.«01_k».proof.Proof.Sum12End
public import proofs.«01_k».proof.Proof.Sum13End
public import proofs.«01_k».proof.Proof.Sum14End
public import proofs.«01_k».proof.Proof.Gen.Pre_real_step
public import proofs.«01_k».proof.Proof.Gen.Pre_device_index
public import proofs.«01_k».proof.Proof.Gen.Pre_device_index_square
public import proofs.«01_k».proof.Proof.Gen.Pre_device_index_ffn
public import Idealize.ShloMosaic.Adequacy
public import Idealize.ShloMosaic.Init

@[expose] public section

noncomputable section

namespace Cert.Proof

open Idealize.ShloMosaic Idealize.SL.Sem

/-- The frame of the reference of call 1: a host program has no semaphores. -/
theorem frame_reference1 : Cert.quiescent_ReferenceIdeal := fun m ρ _ =>
  (θ_run Cert.ReferenceIdeal.defs _ _).mono (fun r h => ⟨fun c => (h c).2.2.2.2.2.2,
      sem_eq_zero_of_no_sems (by decide) r.2⟩)
    (Cert.ReferenceIdeal.Value.run (F := Ideal) m ρ)

/-- The frame of the reference of call 2: a host program has no semaphores. -/
theorem frame_reference2 : Cert.quiescent_Reference2Ideal := fun m ρ _ =>
  (θ_run Cert.Reference2Ideal.defs _ _).mono (fun r h => ⟨fun c => (h c).2.2,
      sem_eq_zero_of_no_sems (by decide) r.2⟩)
    (Cert.Reference2Ideal.Value.run (F := Ideal) m ρ)

/-- The frame of the reference of call 3: a host program has no semaphores. -/
theorem frame_reference3 : Cert.quiescent_Reference3Ideal := fun m ρ _ =>
  (θ_run Cert.Reference3Ideal.defs _ _).mono (fun r h => ⟨fun c => (h c).2,
      sem_eq_zero_of_no_sems (by decide) r.2⟩)
    (Cert.Reference3Ideal.Value.run (F := Ideal) m ρ)

/-- The frame of the reference of call 4: a host program has no semaphores. -/
theorem frame_reference4 : Cert.quiescent_Reference4Ideal := fun m ρ _ =>
  (θ_run Cert.Reference4Ideal.defs _ _).mono (fun r h => ⟨fun c => (h c).2,
      sem_eq_zero_of_no_sems (by decide) r.2⟩)
    (Cert.Reference4Ideal.Value.run (F := Ideal) m ρ)

/-- The frame of the reference of call 5: a host program has no semaphores. -/
theorem frame_reference5 : Cert.quiescent_Reference5Ideal := fun m ρ _ =>
  (θ_run Cert.Reference5Ideal.defs _ _).mono (fun r h => ⟨fun c => (h c).2,
      sem_eq_zero_of_no_sems (by decide) r.2⟩)
    (Cert.Reference5Ideal.Value.run (F := Ideal) m ρ)

/-- The frame of the reference of call 6: a host program has no semaphores. -/
theorem frame_reference6 : Cert.quiescent_Reference6Ideal := fun m ρ _ =>
  (θ_run Cert.Reference6Ideal.defs _ _).mono (fun r h => ⟨fun c => (h c).2.2.2.2,
      sem_eq_zero_of_no_sems (by decide) r.2⟩)
    (Cert.Reference6Ideal.Value.run (F := Ideal) m ρ)

/-- The frame of the reference of call 7: a host program has no semaphores. -/
theorem frame_reference7 : Cert.quiescent_Reference7Ideal := fun m ρ _ =>
  (θ_run Cert.Reference7Ideal.defs _ _).mono (fun r h => ⟨fun c => (h c).2.2.2.2,
      sem_eq_zero_of_no_sems (by decide) r.2⟩)
    (Cert.Reference7Ideal.Value.run (F := Ideal) m ρ)

/-- The frame of the reference of call 8: a host program has no semaphores. -/
theorem frame_reference8 : Cert.quiescent_Reference8Ideal := fun m ρ _ =>
  (θ_run Cert.Reference8Ideal.defs _ _).mono (fun r h => ⟨fun c => (h c).2.2.2.2,
      sem_eq_zero_of_no_sems (by decide) r.2⟩)
    (Cert.Reference8Ideal.Value.run (F := Ideal) m ρ)

/-- The frame of the reference of call 9: a host program has no semaphores. -/
theorem frame_reference9 : Cert.quiescent_Reference9Ideal := fun m ρ _ =>
  (θ_run Cert.Reference9Ideal.defs _ _).mono (fun r h => ⟨fun c => (h c).2.2.2.2,
      sem_eq_zero_of_no_sems (by decide) r.2⟩)
    (Cert.Reference9Ideal.Value.run (F := Ideal) m ρ)

/-- The frame of the reference of call 10: a host program has no semaphores. -/
theorem frame_reference10 : Cert.quiescent_Reference10Ideal := fun m ρ _ =>
  (θ_run Cert.Reference10Ideal.defs _ _).mono (fun r h => ⟨fun c => (h c).2.2.2.2,
      sem_eq_zero_of_no_sems (by decide) r.2⟩)
    (Cert.Reference10Ideal.Value.run (F := Ideal) m ρ)

/-- The frame of the reference of call 11: a host program has no semaphores. -/
theorem frame_reference11 : Cert.quiescent_Reference11Ideal := fun m ρ _ =>
  (θ_run Cert.Reference11Ideal.defs _ _).mono (fun r h => ⟨fun c => (h c).2.2.2.2.2.2.2.2.2.2.2.2.2.2.2.2.2.2.2.2.2.2.2.2.2.2.2.2.2.2.2.2.2.2.2.2.2,
      sem_eq_zero_of_no_sems (by decide) r.2⟩)
    (Cert.Reference11Ideal.Value.run (F := Ideal) m ρ)

/-- The frame of the reference of call 12: a host program has no semaphores. -/
theorem frame_reference12 : Cert.quiescent_Reference12Ideal := fun m ρ _ =>
  (θ_run Cert.Reference12Ideal.defs _ _).mono (fun r h => ⟨fun c => (h c).2,
      sem_eq_zero_of_no_sems (by decide) r.2⟩)
    (Cert.Reference12Ideal.Value.run (F := Ideal) m ρ)

/-- The frame of the reference of call 13: a host program has no semaphores. -/
theorem frame_reference13 : Cert.quiescent_Reference13Ideal := fun m ρ _ =>
  (θ_run Cert.Reference13Ideal.defs _ _).mono (fun r h => ⟨fun c => (h c).2,
      sem_eq_zero_of_no_sems (by decide) r.2⟩)
    (Cert.Reference13Ideal.Value.run (F := Ideal) m ρ)

/-- The frame of the reference of call 14: a host program has no semaphores. -/
theorem frame_reference14 : Cert.quiescent_Reference14Ideal := fun m ρ _ =>
  (θ_run Cert.Reference14Ideal.defs _ _).mono (fun r h => ⟨fun c => (h c).2,
      sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_real_step.Gen.facts,
    Cert.Pre_device_index.Gen.facts,
    Cert.Pre_device_index_square.Gen.facts,
    Cert.Pre_device_index_ffn.Gen.facts,
    fun m ρ _ => Cert.Kernel.Gen.frame m ρ, fun m ρ _ => Cert.Kernel.Gen.frame m ρ, fun m ρ _ => Cert.KernelIdeal.Gen.frame m ρ, fun m ρ _ => Cert.KernelIdeal.Gen.frame m ρ, frame_reference1, fun m ρ _ => frame_reference1 m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Hand.frame m ρ, fun m ρ _ => Cert.Kernel5Ideal.Hand.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Hand.frame m ρ, fun m ρ _ => Cert.Kernel11Ideal.Hand.frame m ρ, frame_reference11,
    fun m ρ h => Cert.Kernel12.Gen.frame m ρ (Cert.Proof.Sum12.ok_of_pre m h), fun m ρ h => Cert.Kernel12Ideal.Gen.frame m ρ (Cert.Proof.Sum12Ideal.ok_of_pre m h), frame_reference12, fun m ρ _ => frame_reference12 m ρ trivial,
    fun m ρ h => Cert.Kernel13.Gen.frame m ρ (Cert.Proof.Sum13.ok_of_pre m h), fun m ρ h => Cert.Kernel13Ideal.Gen.frame m ρ (Cert.Proof.Sum13Ideal.ok_of_pre m h), frame_reference13, fun m ρ _ => frame_reference13 m ρ trivial,
    fun m ρ h => Cert.Kernel14.Gen.frame m ρ (Cert.Proof.Sum14.ok_of_pre m h), fun m ρ h => Cert.Kernel14Ideal.Gen.frame m ρ (Cert.Proof.Sum14Ideal.ok_of_pre m h), frame_reference14, fun m ρ _ => frame_reference14 m ρ trivial,
    trivial, Step.algebraic,
    trivial, Back.algebraic,
    trivial, Grad3.algebraic,
    trivial, Grad4.algebraic,
    trivial, Grad5.algebraic,
    trivial, Adam6.algebraic,
    trivial, Adam7.algebraic,
    trivial, Adam8.algebraic,
    trivial, Adam9.algebraic,
    trivial, Adam10.algebraic,
    trivial, Small.algebraic,
    trivial, Sum12Ideal.algebraic,
    trivial, Sum13Ideal.algebraic,
    trivial, Sum14Ideal.algebraic⟩

end Cert.Proof

end
